-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_DwFf2 (m : (ℓ : Loc Cert.DwFf2.nD Cert.DwFf2.τ Cert.DwFf2.sig) → Buf (Elt Bits) ℓ) : Prop :=
  True

def Pre_DwFf2Ideal (m : (ℓ : Loc Cert.DwFf2Ideal.nD Cert.DwFf2Ideal.τ Cert.DwFf2Ideal.sig) → Buf (Elt Ideal) ℓ) : Prop :=
  True

def Pre_DwFf2RefIdeal (m : (ℓ : Loc Cert.DwFf2RefIdeal.nD Cert.DwFf2RefIdeal.τ Cert.DwFf2RefIdeal.sig) → Buf (Elt Ideal) ℓ) : Prop :=
  True

def Pre_DwFf1 (m : (ℓ : Loc Cert.DwFf1.nD Cert.DwFf1.τ Cert.DwFf1.sig) → Buf (Elt Bits) ℓ) : Prop :=
  True

def Pre_DwFf1Ideal (m : (ℓ : Loc Cert.DwFf1Ideal.nD Cert.DwFf1Ideal.τ Cert.DwFf1Ideal.sig) → Buf (Elt Ideal) ℓ) : Prop :=
  True

def Pre_DwFf1RefIdeal (m : (ℓ : Loc Cert.DwFf1RefIdeal.nD Cert.DwFf1RefIdeal.τ Cert.DwFf1RefIdeal.sig) → Buf (Elt Ideal) ℓ) : Prop :=
  True

def Pre_DA2 (m : (ℓ : Loc Cert.DA2.nD Cert.DA2.τ Cert.DA2.sig) → Buf (Elt Bits) ℓ) : Prop :=
  True

def Pre_DA2Ideal (m : (ℓ : Loc Cert.DA2Ideal.nD Cert.DA2Ideal.τ Cert.DA2Ideal.sig) → Buf (Elt Ideal) ℓ) : Prop :=
  True

def Pre_DA2RefIdeal (m : (ℓ : Loc Cert.DA2RefIdeal.nD Cert.DA2RefIdeal.τ Cert.DA2RefIdeal.sig) → Buf (Elt Ideal) ℓ) : Prop :=
  True

def Pre_Ff1 (m : (ℓ : Loc Cert.Ff1.nD Cert.Ff1.τ Cert.Ff1.sig) → Buf (Elt Bits) ℓ) : Prop :=
  True

def Pre_Ff1Ideal (m : (ℓ : Loc Cert.Ff1Ideal.nD Cert.Ff1Ideal.τ Cert.Ff1Ideal.sig) → Buf (Elt Ideal) ℓ) : Prop :=
  True

def Pre_Ff1RefIdeal (m : (ℓ : Loc Cert.Ff1RefIdeal.nD Cert.Ff1RefIdeal.τ Cert.Ff1RefIdeal.sig) → Buf (Elt Ideal) ℓ) : Prop :=
  True

def Pre_Ff2 (m : (ℓ : Loc Cert.Ff2.nD Cert.Ff2.τ Cert.Ff2.sig) → Buf (Elt Bits) ℓ) : Prop :=
  True

def Pre_Ff2Ideal (m : (ℓ : Loc Cert.Ff2Ideal.nD Cert.Ff2Ideal.τ Cert.Ff2Ideal.sig) → Buf (Elt Ideal) ℓ) : Prop :=
  True

def Pre_Ff2RefIdeal (m : (ℓ : Loc Cert.Ff2RefIdeal.nD Cert.Ff2RefIdeal.τ Cert.Ff2RefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Xo (m : (ℓ : Loc Cert.Xo.nD Cert.Xo.τ Cert.Xo.sig) → Buf (Elt Bits) ℓ) : Prop :=
  True

def Pre_XoIdeal (m : (ℓ : Loc Cert.XoIdeal.nD Cert.XoIdeal.τ Cert.XoIdeal.sig) → Buf (Elt Ideal) ℓ) : Prop :=
  True

def Pre_XoRefIdeal (m : (ℓ : Loc Cert.XoRefIdeal.nD Cert.XoRefIdeal.τ Cert.XoRefIdeal.sig) → Buf (Elt Ideal) ℓ) : Prop :=
  True

def Pre_Xq (m : (ℓ : Loc Cert.Xq.nD Cert.Xq.τ Cert.Xq.sig) → Buf (Elt Bits) ℓ) : Prop :=
  True

def Pre_XqIdeal (m : (ℓ : Loc Cert.XqIdeal.nD Cert.XqIdeal.τ Cert.XqIdeal.sig) → Buf (Elt Ideal) ℓ) : Prop :=
  True

def Pre_XqRefIdeal (m : (ℓ : Loc Cert.XqRefIdeal.nD Cert.XqRefIdeal.τ Cert.XqRefIdeal.sig) → Buf (Elt Ideal) ℓ) : Prop :=
  True

def Pre_DO2 (m : (ℓ : Loc Cert.DO2.nD Cert.DO2.τ Cert.DO2.sig) → Buf (Elt Bits) ℓ) : Prop :=
  True

def Pre_DO2Ideal (m : (ℓ : Loc Cert.DO2Ideal.nD Cert.DO2Ideal.τ Cert.DO2Ideal.sig) → Buf (Elt Ideal) ℓ) : Prop :=
  True

def Pre_DO2RefIdeal (m : (ℓ : Loc Cert.DO2RefIdeal.nD Cert.DO2RefIdeal.τ Cert.DO2RefIdeal.sig) → Buf (Elt Ideal) ℓ) : Prop :=
  True

def Pre_DMerged (m : (ℓ : Loc Cert.DMerged.nD Cert.DMerged.τ Cert.DMerged.sig) → Buf (Elt Bits) ℓ) : Prop :=
  True

def Pre_DMergedIdeal (m : (ℓ : Loc Cert.DMergedIdeal.nD Cert.DMergedIdeal.τ Cert.DMergedIdeal.sig) → Buf (Elt Ideal) ℓ) : Prop :=
  True

def Pre_DMergedRefIdeal (m : (ℓ : Loc Cert.DMergedRefIdeal.nD Cert.DMergedRefIdeal.τ Cert.DMergedRefIdeal.sig) → Buf (Elt Ideal) ℓ) : Prop :=
  True

def Pre_DwXo (m : (ℓ : Loc Cert.DwXo.nD Cert.DwXo.τ Cert.DwXo.sig) → Buf (Elt Bits) ℓ) : Prop :=
  True

def Pre_DwXoIdeal (m : (ℓ : Loc Cert.DwXoIdeal.nD Cert.DwXoIdeal.τ Cert.DwXoIdeal.sig) → Buf (Elt Ideal) ℓ) : Prop :=
  True

def Pre_DwXoRefIdeal (m : (ℓ : Loc Cert.DwXoRefIdeal.nD Cert.DwXoRefIdeal.τ Cert.DwXoRefIdeal.sig) → Buf (Elt Ideal) ℓ) : Prop :=
  True

def Pre_DwXq (m : (ℓ : Loc Cert.DwXq.nD Cert.DwXq.τ Cert.DwXq.sig) → Buf (Elt Bits) ℓ) : Prop :=
  True

def Pre_DwXqIdeal (m : (ℓ : Loc Cert.DwXqIdeal.nD Cert.DwXqIdeal.τ Cert.DwXqIdeal.sig) → Buf (Elt Ideal) ℓ) : Prop :=
  True

def Pre_DwXqRefIdeal (m : (ℓ : Loc Cert.DwXqRefIdeal.nD Cert.DwXqRefIdeal.τ Cert.DwXqRefIdeal.sig) → Buf (Elt Ideal) ℓ) : Prop :=
  True

def Pre_DwOut (m : (ℓ : Loc Cert.DwOut.nD Cert.DwOut.τ Cert.DwOut.sig) → Buf (Elt Bits) ℓ) : Prop :=
  True

def Pre_DwOutIdeal (m : (ℓ : Loc Cert.DwOutIdeal.nD Cert.DwOutIdeal.τ Cert.DwOutIdeal.sig) → Buf (Elt Ideal) ℓ) : Prop :=
  True

def Pre_DwOutRefIdeal (m : (ℓ : Loc Cert.DwOutRefIdeal.nD Cert.DwOutRefIdeal.τ Cert.DwOutRefIdeal.sig) → Buf (Elt Ideal) ℓ) : Prop :=
  True

def Pre_DHf (m : (ℓ : Loc Cert.DHf.nD Cert.DHf.τ Cert.DHf.sig) → Buf (Elt Bits) ℓ) : Prop :=
  True

def Pre_DHfIdeal (m : (ℓ : Loc Cert.DHfIdeal.nD Cert.DHfIdeal.τ Cert.DHfIdeal.sig) → Buf (Elt Ideal) ℓ) : Prop :=
  True

def Pre_DHfRefIdeal (m : (ℓ : Loc Cert.DHfRefIdeal.nD Cert.DHfRefIdeal.τ Cert.DHfRefIdeal.sig) → Buf (Elt Ideal) ℓ) : Prop :=
  True

def Pre_DH (m : (ℓ : Loc Cert.DH.nD Cert.DH.τ Cert.DH.sig) → Buf (Elt Bits) ℓ) : Prop :=
  True

def Pre_DHIdeal (m : (ℓ : Loc Cert.DHIdeal.nD Cert.DHIdeal.τ Cert.DHIdeal.sig) → Buf (Elt Ideal) ℓ) : Prop :=
  True

def Pre_DHRefIdeal (m : (ℓ : Loc Cert.DHRefIdeal.nD Cert.DHRefIdeal.τ Cert.DHRefIdeal.sig) → Buf (Elt Ideal) ℓ) : Prop :=
  True

def Pre_DHx (m : (ℓ : Loc Cert.DHx.nD Cert.DHx.τ Cert.DHx.sig) → Buf (Elt Bits) ℓ) : Prop :=
  True

def Pre_DHxIdeal (m : (ℓ : Loc Cert.DHxIdeal.nD Cert.DHxIdeal.τ Cert.DHxIdeal.sig) → Buf (Elt Ideal) ℓ) : Prop :=
  True

def Pre_DHxRefIdeal (m : (ℓ : Loc Cert.DHxRefIdeal.nD Cert.DHxRefIdeal.τ Cert.DHxRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_DwFf2 [hDwFf2 : Cert.DwFf2.Facts] : Prop :=
  ∀ (m : (ℓ : Loc Cert.DwFf2.nD Cert.DwFf2.τ Cert.DwFf2.sig) → Buf (Elt Bits) ℓ) (g : Dev Cert.DwFf2.nD → PrngReg), Pre_DwFf2 m →
    θ_run (Cert.DwFf2.defs (F := Bits)) (onTc (τ := Cert.DwFf2.τ) (Cert.DwFf2.main (F := Bits))) ⟨m, fun _ => 0, g⟩ (fun r => (∀ c : Dev Cert.DwFf2.nD,
      r.2.mem ((c.tc : Thread Cert.DwFf2.nD Cert.DwFf2.τ).loc Cert.DwFf2.main_arg0) = m ((c.tc : Thread Cert.DwFf2.nD Cert.DwFf2.τ).loc Cert.DwFf2.main_arg0)
      ∧ r.2.mem ((c.tc : Thread Cert.DwFf2.nD Cert.DwFf2.τ).loc Cert.DwFf2.main_arg1) = m ((c.tc : Thread Cert.DwFf2.nD Cert.DwFf2.τ).loc Cert.DwFf2.main_arg1)
      ∧ r.2.mem ((c.tc : Thread Cert.DwFf2.nD Cert.DwFf2.τ).loc Cert.DwFf2.main_arg2) = m ((c.tc : Thread Cert.DwFf2.nD Cert.DwFf2.τ).loc Cert.DwFf2.main_arg2))
      ∧ r.2.sem = fun _ => 0)

def quiescent_DwFf2Ideal [hDwFf2Ideal : Cert.DwFf2Ideal.Facts] : Prop :=
  ∀ (m : (ℓ : Loc Cert.DwFf2Ideal.nD Cert.DwFf2Ideal.τ Cert.DwFf2Ideal.sig) → Buf (Elt Ideal) ℓ) (g : Dev Cert.DwFf2Ideal.nD → PrngReg), Pre_DwFf2Ideal m →
    θ_run (Cert.DwFf2Ideal.defs (F := Ideal)) (onTc (τ := Cert.DwFf2Ideal.τ) (Cert.DwFf2Ideal.main (F := Ideal))) ⟨m, fun _ => 0, g⟩ (fun r => (∀ c : Dev Cert.DwFf2Ideal.nD,
      r.2.mem ((c.tc : Thread Cert.DwFf2Ideal.nD Cert.DwFf2Ideal.τ).loc Cert.DwFf2Ideal.main_arg0) = m ((c.tc : Thread Cert.DwFf2Ideal.nD Cert.DwFf2Ideal.τ).loc Cert.DwFf2Ideal.main_arg0)
      ∧ r.2.mem ((c.tc : Thread Cert.DwFf2Ideal.nD Cert.DwFf2Ideal.τ).loc Cert.DwFf2Ideal.main_arg1) = m ((c.tc : Thread Cert.DwFf2Ideal.nD Cert.DwFf2Ideal.τ).loc Cert.DwFf2Ideal.main_arg1)
      ∧ r.2.mem ((c.tc : Thread Cert.DwFf2Ideal.nD Cert.DwFf2Ideal.τ).loc Cert.DwFf2Ideal.main_arg2) = m ((c.tc : Thread Cert.DwFf2Ideal.nD Cert.DwFf2Ideal.τ).loc Cert.DwFf2Ideal.main_arg2))
      ∧ r.2.sem = fun _ => 0)

def quiescent_DwFf2RefIdeal [hDwFf2RefIdeal : Cert.DwFf2RefIdeal.Facts] : Prop :=
  ∀ (m : (ℓ : Loc Cert.DwFf2RefIdeal.nD Cert.DwFf2RefIdeal.τ Cert.DwFf2RefIdeal.sig) → Buf (Elt Ideal) ℓ) (g : Dev Cert.DwFf2RefIdeal.nD → PrngReg), Pre_DwFf2RefIdeal m →
    θ_run (Cert.DwFf2RefIdeal.defs (F := Ideal)) (onTc (τ := Cert.DwFf2RefIdeal.τ) (Cert.DwFf2RefIdeal.main (F := Ideal))) ⟨m, fun _ => 0, g⟩ (fun r => (∀ c : Dev Cert.DwFf2RefIdeal.nD,
      r.2.mem ((c.tc : Thread Cert.DwFf2RefIdeal.nD Cert.DwFf2RefIdeal.τ).loc Cert.DwFf2RefIdeal.main_arg0) = m ((c.tc : Thread Cert.DwFf2RefIdeal.nD Cert.DwFf2RefIdeal.τ).loc Cert.DwFf2RefIdeal.main_arg0)
      ∧ r.2.mem ((c.tc : Thread Cert.DwFf2RefIdeal.nD Cert.DwFf2RefIdeal.τ).loc Cert.DwFf2RefIdeal.main_arg1) = m ((c.tc : Thread Cert.DwFf2RefIdeal.nD Cert.DwFf2RefIdeal.τ).loc Cert.DwFf2RefIdeal.main_arg1)
      ∧ r.2.mem ((c.tc : Thread Cert.DwFf2RefIdeal.nD Cert.DwFf2RefIdeal.τ).loc Cert.DwFf2RefIdeal.main_arg2) = m ((c.tc : Thread Cert.DwFf2RefIdeal.nD Cert.DwFf2RefIdeal.τ).loc Cert.DwFf2RefIdeal.main_arg2))
      ∧ r.2.sem = fun _ => 0)

def quiescent_DwFf1 [hDwFf1 : Cert.DwFf1.Facts] : Prop :=
  ∀ (m : (ℓ : Loc Cert.DwFf1.nD Cert.DwFf1.τ Cert.DwFf1.sig) → Buf (Elt Bits) ℓ) (g : Dev Cert.DwFf1.nD → PrngReg), Pre_DwFf1 m →
    θ_run (Cert.DwFf1.defs (F := Bits)) (onTc (τ := Cert.DwFf1.τ) (Cert.DwFf1.main (F := Bits))) ⟨m, fun _ => 0, g⟩ (fun r => (∀ c : Dev Cert.DwFf1.nD,
      r.2.mem ((c.tc : Thread Cert.DwFf1.nD Cert.DwFf1.τ).loc Cert.DwFf1.main_arg0) = m ((c.tc : Thread Cert.DwFf1.nD Cert.DwFf1.τ).loc Cert.DwFf1.main_arg0)
      ∧ r.2.mem ((c.tc : Thread Cert.DwFf1.nD Cert.DwFf1.τ).loc Cert.DwFf1.main_arg1) = m ((c.tc : Thread Cert.DwFf1.nD Cert.DwFf1.τ).loc Cert.DwFf1.main_arg1)
      ∧ r.2.mem ((c.tc : Thread Cert.DwFf1.nD Cert.DwFf1.τ).loc Cert.DwFf1.main_arg2) = m ((c.tc : Thread Cert.DwFf1.nD Cert.DwFf1.τ).loc Cert.DwFf1.main_arg2))
      ∧ r.2.sem = fun _ => 0)

def quiescent_DwFf1Ideal [hDwFf1Ideal : Cert.DwFf1Ideal.Facts] : Prop :=
  ∀ (m : (ℓ : Loc Cert.DwFf1Ideal.nD Cert.DwFf1Ideal.τ Cert.DwFf1Ideal.sig) → Buf (Elt Ideal) ℓ) (g : Dev Cert.DwFf1Ideal.nD → PrngReg), Pre_DwFf1Ideal m →
    θ_run (Cert.DwFf1Ideal.defs (F := Ideal)) (onTc (τ := Cert.DwFf1Ideal.τ) (Cert.DwFf1Ideal.main (F := Ideal))) ⟨m, fun _ => 0, g⟩ (fun r => (∀ c : Dev Cert.DwFf1Ideal.nD,
      r.2.mem ((c.tc : Thread Cert.DwFf1Ideal.nD Cert.DwFf1Ideal.τ).loc Cert.DwFf1Ideal.main_arg0) = m ((c.tc : Thread Cert.DwFf1Ideal.nD Cert.DwFf1Ideal.τ).loc Cert.DwFf1Ideal.main_arg0)
      ∧ r.2.mem ((c.tc : Thread Cert.DwFf1Ideal.nD Cert.DwFf1Ideal.τ).loc Cert.DwFf1Ideal.main_arg1) = m ((c.tc : Thread Cert.DwFf1Ideal.nD Cert.DwFf1Ideal.τ).loc Cert.DwFf1Ideal.main_arg1)
      ∧ r.2.mem ((c.tc : Thread Cert.DwFf1Ideal.nD Cert.DwFf1Ideal.τ).loc Cert.DwFf1Ideal.main_arg2) = m ((c.tc : Thread Cert.DwFf1Ideal.nD Cert.DwFf1Ideal.τ).loc Cert.DwFf1Ideal.main_arg2))
      ∧ r.2.sem = fun _ => 0)

def quiescent_DwFf1RefIdeal [hDwFf1RefIdeal : Cert.DwFf1RefIdeal.Facts] : Prop :=
  ∀ (m : (ℓ : Loc Cert.DwFf1RefIdeal.nD Cert.DwFf1RefIdeal.τ Cert.DwFf1RefIdeal.sig) → Buf (Elt Ideal) ℓ) (g : Dev Cert.DwFf1RefIdeal.nD → PrngReg), Pre_DwFf1RefIdeal m →
    θ_run (Cert.DwFf1RefIdeal.defs (F := Ideal)) (onTc (τ := Cert.DwFf1RefIdeal.τ) (Cert.DwFf1RefIdeal.main (F := Ideal))) ⟨m, fun _ => 0, g⟩ (fun r => (∀ c : Dev Cert.DwFf1RefIdeal.nD,
      r.2.mem ((c.tc : Thread Cert.DwFf1RefIdeal.nD Cert.DwFf1RefIdeal.τ).loc Cert.DwFf1RefIdeal.main_arg0) = m ((c.tc : Thread Cert.DwFf1RefIdeal.nD Cert.DwFf1RefIdeal.τ).loc Cert.DwFf1RefIdeal.main_arg0)
      ∧ r.2.mem ((c.tc : Thread Cert.DwFf1RefIdeal.nD Cert.DwFf1RefIdeal.τ).loc Cert.DwFf1RefIdeal.main_arg1) = m ((c.tc : Thread Cert.DwFf1RefIdeal.nD Cert.DwFf1RefIdeal.τ).loc Cert.DwFf1RefIdeal.main_arg1)
      ∧ r.2.mem ((c.tc : Thread Cert.DwFf1RefIdeal.nD Cert.DwFf1RefIdeal.τ).loc Cert.DwFf1RefIdeal.main_arg2) = m ((c.tc : Thread Cert.DwFf1RefIdeal.nD Cert.DwFf1RefIdeal.τ).loc Cert.DwFf1RefIdeal.main_arg2))
      ∧ r.2.sem = fun _ => 0)

def quiescent_DA2 [hDA2 : Cert.DA2.Facts] : Prop :=
  ∀ (m : (ℓ : Loc Cert.DA2.nD Cert.DA2.τ Cert.DA2.sig) → Buf (Elt Bits) ℓ) (g : Dev Cert.DA2.nD → PrngReg), Pre_DA2 m →
    θ_run (Cert.DA2.defs (F := Bits)) (onTc (τ := Cert.DA2.τ) (Cert.DA2.main (F := Bits))) ⟨m, fun _ => 0, g⟩ (fun r => (∀ c : Dev Cert.DA2.nD,
      r.2.mem ((c.tc : Thread Cert.DA2.nD Cert.DA2.τ).loc Cert.DA2.main_arg0) = m ((c.tc : Thread Cert.DA2.nD Cert.DA2.τ).loc Cert.DA2.main_arg0)
      ∧ r.2.mem ((c.tc : Thread Cert.DA2.nD Cert.DA2.τ).loc Cert.DA2.main_arg1) = m ((c.tc : Thread Cert.DA2.nD Cert.DA2.τ).loc Cert.DA2.main_arg1)
      ∧ r.2.mem ((c.tc : Thread Cert.DA2.nD Cert.DA2.τ).loc Cert.DA2.main_arg2) = m ((c.tc : Thread Cert.DA2.nD Cert.DA2.τ).loc Cert.DA2.main_arg2))
      ∧ r.2.sem = fun _ => 0)

def quiescent_DA2Ideal [hDA2Ideal : Cert.DA2Ideal.Facts] : Prop :=
  ∀ (m : (ℓ : Loc Cert.DA2Ideal.nD Cert.DA2Ideal.τ Cert.DA2Ideal.sig) → Buf (Elt Ideal) ℓ) (g : Dev Cert.DA2Ideal.nD → PrngReg), Pre_DA2Ideal m →
    θ_run (Cert.DA2Ideal.defs (F := Ideal)) (onTc (τ := Cert.DA2Ideal.τ) (Cert.DA2Ideal.main (F := Ideal))) ⟨m, fun _ => 0, g⟩ (fun r => (∀ c : Dev Cert.DA2Ideal.nD,
      r.2.mem ((c.tc : Thread Cert.DA2Ideal.nD Cert.DA2Ideal.τ).loc Cert.DA2Ideal.main_arg0) = m ((c.tc : Thread Cert.DA2Ideal.nD Cert.DA2Ideal.τ).loc Cert.DA2Ideal.main_arg0)
      ∧ r.2.mem ((c.tc : Thread Cert.DA2Ideal.nD Cert.DA2Ideal.τ).loc Cert.DA2Ideal.main_arg1) = m ((c.tc : Thread Cert.DA2Ideal.nD Cert.DA2Ideal.τ).loc Cert.DA2Ideal.main_arg1)
      ∧ r.2.mem ((c.tc : Thread Cert.DA2Ideal.nD Cert.DA2Ideal.τ).loc Cert.DA2Ideal.main_arg2) = m ((c.tc : Thread Cert.DA2Ideal.nD Cert.DA2Ideal.τ).loc Cert.DA2Ideal.main_arg2))
      ∧ r.2.sem = fun _ => 0)

def quiescent_DA2RefIdeal [hDA2RefIdeal : Cert.DA2RefIdeal.Facts] : Prop :=
  ∀ (m : (ℓ : Loc Cert.DA2RefIdeal.nD Cert.DA2RefIdeal.τ Cert.DA2RefIdeal.sig) → Buf (Elt Ideal) ℓ) (g : Dev Cert.DA2RefIdeal.nD → PrngReg), Pre_DA2RefIdeal m →
    θ_run (Cert.DA2RefIdeal.defs (F := Ideal)) (onTc (τ := Cert.DA2RefIdeal.τ) (Cert.DA2RefIdeal.main (F := Ideal))) ⟨m, fun _ => 0, g⟩ (fun r => (∀ c : Dev Cert.DA2RefIdeal.nD,
      r.2.mem ((c.tc : Thread Cert.DA2RefIdeal.nD Cert.DA2RefIdeal.τ).loc Cert.DA2RefIdeal.main_arg0) = m ((c.tc : Thread Cert.DA2RefIdeal.nD Cert.DA2RefIdeal.τ).loc Cert.DA2RefIdeal.main_arg0)
      ∧ r.2.mem ((c.tc : Thread Cert.DA2RefIdeal.nD Cert.DA2RefIdeal.τ).loc Cert.DA2RefIdeal.main_arg1) = m ((c.tc : Thread Cert.DA2RefIdeal.nD Cert.DA2RefIdeal.τ).loc Cert.DA2RefIdeal.main_arg1)
      ∧ r.2.mem ((c.tc : Thread Cert.DA2RefIdeal.nD Cert.DA2RefIdeal.τ).loc Cert.DA2RefIdeal.main_arg2) = m ((c.tc : Thread Cert.DA2RefIdeal.nD Cert.DA2RefIdeal.τ).loc Cert.DA2RefIdeal.main_arg2))
      ∧ r.2.sem = fun _ => 0)

def quiescent_Ff1 [hFf1 : Cert.Ff1.Facts] : Prop :=
  ∀ (m : (ℓ : Loc Cert.Ff1.nD Cert.Ff1.τ Cert.Ff1.sig) → Buf (Elt Bits) ℓ) (g : Dev Cert.Ff1.nD → PrngReg), Pre_Ff1 m →
    θ_run (Cert.Ff1.defs (F := Bits)) (onTc (τ := Cert.Ff1.τ) (Cert.Ff1.main (F := Bits))) ⟨m, fun _ => 0, g⟩ (fun r => (∀ c : Dev Cert.Ff1.nD,
      r.2.mem ((c.tc : Thread Cert.Ff1.nD Cert.Ff1.τ).loc Cert.Ff1.main_arg0) = m ((c.tc : Thread Cert.Ff1.nD Cert.Ff1.τ).loc Cert.Ff1.main_arg0)
      ∧ r.2.mem ((c.tc : Thread Cert.Ff1.nD Cert.Ff1.τ).loc Cert.Ff1.main_arg1) = m ((c.tc : Thread Cert.Ff1.nD Cert.Ff1.τ).loc Cert.Ff1.main_arg1))
      ∧ r.2.sem = fun _ => 0)

def quiescent_Ff1Ideal [hFf1Ideal : Cert.Ff1Ideal.Facts] : Prop :=
  ∀ (m : (ℓ : Loc Cert.Ff1Ideal.nD Cert.Ff1Ideal.τ Cert.Ff1Ideal.sig) → Buf (Elt Ideal) ℓ) (g : Dev Cert.Ff1Ideal.nD → PrngReg), Pre_Ff1Ideal m →
    θ_run (Cert.Ff1Ideal.defs (F := Ideal)) (onTc (τ := Cert.Ff1Ideal.τ) (Cert.Ff1Ideal.main (F := Ideal))) ⟨m, fun _ => 0, g⟩ (fun r => (∀ c : Dev Cert.Ff1Ideal.nD,
      r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
      ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ r.2.sem = fun _ => 0)

def quiescent_Ff1RefIdeal [hFf1RefIdeal : Cert.Ff1RefIdeal.Facts] : Prop :=
  ∀ (m : (ℓ : Loc Cert.Ff1RefIdeal.nD Cert.Ff1RefIdeal.τ Cert.Ff1RefIdeal.sig) → Buf (Elt Ideal) ℓ) (g : Dev Cert.Ff1RefIdeal.nD → PrngReg), Pre_Ff1RefIdeal m →
    θ_run (Cert.Ff1RefIdeal.defs (F := Ideal)) (onTc (τ := Cert.Ff1RefIdeal.τ) (Cert.Ff1RefIdeal.main (F := Ideal))) ⟨m, fun _ => 0, g⟩ (fun r => (∀ c : Dev Cert.Ff1RefIdeal.nD,
      r.2.mem ((c.tc : Thread Cert.Ff1RefIdeal.nD Cert.Ff1RefIdeal.τ).loc Cert.Ff1RefIdeal.main_arg0) = m ((c.tc : Thread Cert.Ff1RefIdeal.nD Cert.Ff1RefIdeal.τ).loc Cert.Ff1RefIdeal.main_arg0)
      ∧ r.2.mem ((c.tc : Thread Cert.Ff1RefIdeal.nD Cert.Ff1RefIdeal.τ).loc Cert.Ff1RefIdeal.main_arg1) = m ((c.tc : Thread Cert.Ff1RefIdeal.nD Cert.Ff1RefIdeal.τ).loc Cert.Ff1RefIdeal.main_arg1))
      ∧ r.2.sem = fun _ => 0)

def quiescent_Ff2 [hFf2 : Cert.Ff2.Facts] : Prop :=
  ∀ (m : (ℓ : Loc Cert.Ff2.nD Cert.Ff2.τ Cert.Ff2.sig) → Buf (Elt Bits) ℓ) (g : Dev Cert.Ff2.nD → PrngReg), Pre_Ff2 m →
    θ_run (Cert.Ff2.defs (F := Bits)) (onTc (τ := Cert.Ff2.τ) (Cert.Ff2.main (F := Bits))) ⟨m, fun _ => 0, g⟩ (fun r => (∀ c : Dev Cert.Ff2.nD,
      r.2.mem ((c.tc : Thread Cert.Ff2.nD Cert.Ff2.τ).loc Cert.Ff2.main_arg0) = m ((c.tc : Thread Cert.Ff2.nD Cert.Ff2.τ).loc Cert.Ff2.main_arg0)
      ∧ r.2.mem ((c.tc : Thread Cert.Ff2.nD Cert.Ff2.τ).loc Cert.Ff2.main_arg1) = m ((c.tc : Thread Cert.Ff2.nD Cert.Ff2.τ).loc Cert.Ff2.main_arg1)
      ∧ r.2.mem ((c.tc : Thread Cert.Ff2.nD Cert.Ff2.τ).loc Cert.Ff2.main_arg2) = m ((c.tc : Thread Cert.Ff2.nD Cert.Ff2.τ).loc Cert.Ff2.main_arg2))
      ∧ r.2.sem = fun _ => 0)

def quiescent_Ff2Ideal [hFf2Ideal : Cert.Ff2Ideal.Facts] : Prop :=
  ∀ (m : (ℓ : Loc Cert.Ff2Ideal.nD Cert.Ff2Ideal.τ Cert.Ff2Ideal.sig) → Buf (Elt Ideal) ℓ) (g : Dev Cert.Ff2Ideal.nD → PrngReg), Pre_Ff2Ideal m →
    θ_run (Cert.Ff2Ideal.defs (F := Ideal)) (onTc (τ := Cert.Ff2Ideal.τ) (Cert.Ff2Ideal.main (F := Ideal))) ⟨m, fun _ => 0, g⟩ (fun r => (∀ c : Dev Cert.Ff2Ideal.nD,
      r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
      ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
      ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2))
      ∧ r.2.sem = fun _ => 0)

def quiescent_Ff2RefIdeal [hFf2RefIdeal : Cert.Ff2RefIdeal.Facts] : Prop :=
  ∀ (m : (ℓ : Loc Cert.Ff2RefIdeal.nD Cert.Ff2RefIdeal.τ Cert.Ff2RefIdeal.sig) → Buf (Elt Ideal) ℓ) (g : Dev Cert.Ff2RefIdeal.nD → PrngReg), Pre_Ff2RefIdeal m →
    θ_run (Cert.Ff2RefIdeal.defs (F := Ideal)) (onTc (τ := Cert.Ff2RefIdeal.τ) (Cert.Ff2RefIdeal.main (F := Ideal))) ⟨m, fun _ => 0, g⟩ (fun r => (∀ c : Dev Cert.Ff2RefIdeal.nD,
      r.2.mem ((c.tc : Thread Cert.Ff2RefIdeal.nD Cert.Ff2RefIdeal.τ).loc Cert.Ff2RefIdeal.main_arg0) = m ((c.tc : Thread Cert.Ff2RefIdeal.nD Cert.Ff2RefIdeal.τ).loc Cert.Ff2RefIdeal.main_arg0)
      ∧ r.2.mem ((c.tc : Thread Cert.Ff2RefIdeal.nD Cert.Ff2RefIdeal.τ).loc Cert.Ff2RefIdeal.main_arg1) = m ((c.tc : Thread Cert.Ff2RefIdeal.nD Cert.Ff2RefIdeal.τ).loc Cert.Ff2RefIdeal.main_arg1)
      ∧ r.2.mem ((c.tc : Thread Cert.Ff2RefIdeal.nD Cert.Ff2RefIdeal.τ).loc Cert.Ff2RefIdeal.main_arg2) = m ((c.tc : Thread Cert.Ff2RefIdeal.nD Cert.Ff2RefIdeal.τ).loc Cert.Ff2RefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2))
      ∧ r.2.sem = fun _ => 0)

def quiescent_Xo [hXo : Cert.Xo.Facts] : Prop :=
  ∀ (m : (ℓ : Loc Cert.Xo.nD Cert.Xo.τ Cert.Xo.sig) → Buf (Elt Bits) ℓ) (g : Dev Cert.Xo.nD → PrngReg), Pre_Xo m →
    θ_run (Cert.Xo.defs (F := Bits)) (onTc (τ := Cert.Xo.τ) (Cert.Xo.main (F := Bits))) ⟨m, fun _ => 0, g⟩ (fun r => (∀ c : Dev Cert.Xo.nD,
      r.2.mem ((c.tc : Thread Cert.Xo.nD Cert.Xo.τ).loc Cert.Xo.main_arg0) = m ((c.tc : Thread Cert.Xo.nD Cert.Xo.τ).loc Cert.Xo.main_arg0)
      ∧ r.2.mem ((c.tc : Thread Cert.Xo.nD Cert.Xo.τ).loc Cert.Xo.main_arg1) = m ((c.tc : Thread Cert.Xo.nD Cert.Xo.τ).loc Cert.Xo.main_arg1)
      ∧ r.2.mem ((c.tc : Thread Cert.Xo.nD Cert.Xo.τ).loc Cert.Xo.main_arg2) = m ((c.tc : Thread Cert.Xo.nD Cert.Xo.τ).loc Cert.Xo.main_arg2))
      ∧ r.2.sem = fun _ => 0)

def quiescent_XoIdeal [hXoIdeal : Cert.XoIdeal.Facts] : Prop :=
  ∀ (m : (ℓ : Loc Cert.XoIdeal.nD Cert.XoIdeal.τ Cert.XoIdeal.sig) → Buf (Elt Ideal) ℓ) (g : Dev Cert.XoIdeal.nD → PrngReg), Pre_XoIdeal m →
    θ_run (Cert.XoIdeal.defs (F := Ideal)) (onTc (τ := Cert.XoIdeal.τ) (Cert.XoIdeal.main (F := Ideal))) ⟨m, fun _ => 0, g⟩ (fun r => (∀ c : Dev Cert.XoIdeal.nD,
      r.2.mem ((c.tc : Thread Cert.XoIdeal.nD Cert.XoIdeal.τ).loc Cert.XoIdeal.main_arg0) = m ((c.tc : Thread Cert.XoIdeal.nD Cert.XoIdeal.τ).loc Cert.XoIdeal.main_arg0)
      ∧ r.2.mem ((c.tc : Thread Cert.XoIdeal.nD Cert.XoIdeal.τ).loc Cert.XoIdeal.main_arg1) = m ((c.tc : Thread Cert.XoIdeal.nD Cert.XoIdeal.τ).loc Cert.XoIdeal.main_arg1)
      ∧ r.2.mem ((c.tc : Thread Cert.XoIdeal.nD Cert.XoIdeal.τ).loc Cert.XoIdeal.main_arg2) = m ((c.tc : Thread Cert.XoIdeal.nD Cert.XoIdeal.τ).loc Cert.XoIdeal.main_arg2))
      ∧ r.2.sem = fun _ => 0)

def quiescent_XoRefIdeal [hXoRefIdeal : Cert.XoRefIdeal.Facts] : Prop :=
  ∀ (m : (ℓ : Loc Cert.XoRefIdeal.nD Cert.XoRefIdeal.τ Cert.XoRefIdeal.sig) → Buf (Elt Ideal) ℓ) (g : Dev Cert.XoRefIdeal.nD → PrngReg), Pre_XoRefIdeal m →
    θ_run (Cert.XoRefIdeal.defs (F := Ideal)) (onTc (τ := Cert.XoRefIdeal.τ) (Cert.XoRefIdeal.main (F := Ideal))) ⟨m, fun _ => 0, g⟩ (fun r => (∀ c : Dev Cert.XoRefIdeal.nD,
      r.2.mem ((c.tc : Thread Cert.XoRefIdeal.nD Cert.XoRefIdeal.τ).loc Cert.XoRefIdeal.main_arg0) = m ((c.tc : Thread Cert.XoRefIdeal.nD Cert.XoRefIdeal.τ).loc Cert.XoRefIdeal.main_arg0)
      ∧ r.2.mem ((c.tc : Thread Cert.XoRefIdeal.nD Cert.XoRefIdeal.τ).loc Cert.XoRefIdeal.main_arg1) = m ((c.tc : Thread Cert.XoRefIdeal.nD Cert.XoRefIdeal.τ).loc Cert.XoRefIdeal.main_arg1)
      ∧ r.2.mem ((c.tc : Thread Cert.XoRefIdeal.nD Cert.XoRefIdeal.τ).loc Cert.XoRefIdeal.main_arg2) = m ((c.tc : Thread Cert.XoRefIdeal.nD Cert.XoRefIdeal.τ).loc Cert.XoRefIdeal.main_arg2))
      ∧ r.2.sem = fun _ => 0)

def quiescent_Xq [hXq : Cert.Xq.Facts] : Prop :=
  ∀ (m : (ℓ : Loc Cert.Xq.nD Cert.Xq.τ Cert.Xq.sig) → Buf (Elt Bits) ℓ) (g : Dev Cert.Xq.nD → PrngReg), Pre_Xq m →
    θ_run (Cert.Xq.defs (F := Bits)) (onTc (τ := Cert.Xq.τ) (Cert.Xq.main (F := Bits))) ⟨m, fun _ => 0, g⟩ (fun r => (∀ c : Dev Cert.Xq.nD,
      r.2.mem ((c.tc : Thread Cert.Xq.nD Cert.Xq.τ).loc Cert.Xq.main_arg0) = m ((c.tc : Thread Cert.Xq.nD Cert.Xq.τ).loc Cert.Xq.main_arg0)
      ∧ r.2.mem ((c.tc : Thread Cert.Xq.nD Cert.Xq.τ).loc Cert.Xq.main_arg1) = m ((c.tc : Thread Cert.Xq.nD Cert.Xq.τ).loc Cert.Xq.main_arg1))
      ∧ r.2.sem = fun _ => 0)

def quiescent_XqIdeal [hXqIdeal : Cert.XqIdeal.Facts] : Prop :=
  ∀ (m : (ℓ : Loc Cert.XqIdeal.nD Cert.XqIdeal.τ Cert.XqIdeal.sig) → Buf (Elt Ideal) ℓ) (g : Dev Cert.XqIdeal.nD → PrngReg), Pre_XqIdeal m →
    θ_run (Cert.XqIdeal.defs (F := Ideal)) (onTc (τ := Cert.XqIdeal.τ) (Cert.XqIdeal.main (F := Ideal))) ⟨m, fun _ => 0, g⟩ (fun r => (∀ c : Dev Cert.XqIdeal.nD,
      r.2.mem ((c.tc : Thread Cert.XqIdeal.nD Cert.XqIdeal.τ).loc Cert.XqIdeal.main_arg0) = m ((c.tc : Thread Cert.XqIdeal.nD Cert.XqIdeal.τ).loc Cert.XqIdeal.main_arg0)
      ∧ r.2.mem ((c.tc : Thread Cert.XqIdeal.nD Cert.XqIdeal.τ).loc Cert.XqIdeal.main_arg1) = m ((c.tc : Thread Cert.XqIdeal.nD Cert.XqIdeal.τ).loc Cert.XqIdeal.main_arg1))
      ∧ r.2.sem = fun _ => 0)

def quiescent_XqRefIdeal [hXqRefIdeal : Cert.XqRefIdeal.Facts] : Prop :=
  ∀ (m : (ℓ : Loc Cert.XqRefIdeal.nD Cert.XqRefIdeal.τ Cert.XqRefIdeal.sig) → Buf (Elt Ideal) ℓ) (g : Dev Cert.XqRefIdeal.nD → PrngReg), Pre_XqRefIdeal m →
    θ_run (Cert.XqRefIdeal.defs (F := Ideal)) (onTc (τ := Cert.XqRefIdeal.τ) (Cert.XqRefIdeal.main (F := Ideal))) ⟨m, fun _ => 0, g⟩ (fun r => (∀ c : Dev Cert.XqRefIdeal.nD,
      r.2.mem ((c.tc : Thread Cert.XqRefIdeal.nD Cert.XqRefIdeal.τ).loc Cert.XqRefIdeal.main_arg0) = m ((c.tc : Thread Cert.XqRefIdeal.nD Cert.XqRefIdeal.τ).loc Cert.XqRefIdeal.main_arg0)
      ∧ r.2.mem ((c.tc : Thread Cert.XqRefIdeal.nD Cert.XqRefIdeal.τ).loc Cert.XqRefIdeal.main_arg1) = m ((c.tc : Thread Cert.XqRefIdeal.nD Cert.XqRefIdeal.τ).loc Cert.XqRefIdeal.main_arg1))
      ∧ r.2.sem = fun _ => 0)

def quiescent_DO2 [hDO2 : Cert.DO2.Facts] : Prop :=
  ∀ (m : (ℓ : Loc Cert.DO2.nD Cert.DO2.τ Cert.DO2.sig) → Buf (Elt Bits) ℓ) (g : Dev Cert.DO2.nD → PrngReg), Pre_DO2 m →
    θ_run (Cert.DO2.defs (F := Bits)) (onTc (τ := Cert.DO2.τ) (Cert.DO2.main (F := Bits))) ⟨m, fun _ => 0, g⟩ (fun r => (∀ c : Dev Cert.DO2.nD,
      r.2.mem ((c.tc : Thread Cert.DO2.nD Cert.DO2.τ).loc Cert.DO2.main_arg0) = m ((c.tc : Thread Cert.DO2.nD Cert.DO2.τ).loc Cert.DO2.main_arg0)
      ∧ r.2.mem ((c.tc : Thread Cert.DO2.nD Cert.DO2.τ).loc Cert.DO2.main_arg1) = m ((c.tc : Thread Cert.DO2.nD Cert.DO2.τ).loc Cert.DO2.main_arg1))
      ∧ r.2.sem = fun _ => 0)

def quiescent_DO2Ideal [hDO2Ideal : Cert.DO2Ideal.Facts] : Prop :=
  ∀ (m : (ℓ : Loc Cert.DO2Ideal.nD Cert.DO2Ideal.τ Cert.DO2Ideal.sig) → Buf (Elt Ideal) ℓ) (g : Dev Cert.DO2Ideal.nD → PrngReg), Pre_DO2Ideal m →
    θ_run (Cert.DO2Ideal.defs (F := Ideal)) (onTc (τ := Cert.DO2Ideal.τ) (Cert.DO2Ideal.main (F := Ideal))) ⟨m, fun _ => 0, g⟩ (fun r => (∀ c : Dev Cert.DO2Ideal.nD,
      r.2.mem ((c.tc : Thread Cert.DO2Ideal.nD Cert.DO2Ideal.τ).loc Cert.DO2Ideal.main_arg0) = m ((c.tc : Thread Cert.DO2Ideal.nD Cert.DO2Ideal.τ).loc Cert.DO2Ideal.main_arg0)
      ∧ r.2.mem ((c.tc : Thread Cert.DO2Ideal.nD Cert.DO2Ideal.τ).loc Cert.DO2Ideal.main_arg1) = m ((c.tc : Thread Cert.DO2Ideal.nD Cert.DO2Ideal.τ).loc Cert.DO2Ideal.main_arg1))
      ∧ r.2.sem = fun _ => 0)

def quiescent_DO2RefIdeal [hDO2RefIdeal : Cert.DO2RefIdeal.Facts] : Prop :=
  ∀ (m : (ℓ : Loc Cert.DO2RefIdeal.nD Cert.DO2RefIdeal.τ Cert.DO2RefIdeal.sig) → Buf (Elt Ideal) ℓ) (g : Dev Cert.DO2RefIdeal.nD → PrngReg), Pre_DO2RefIdeal m →
    θ_run (Cert.DO2RefIdeal.defs (F := Ideal)) (onTc (τ := Cert.DO2RefIdeal.τ) (Cert.DO2RefIdeal.main (F := Ideal))) ⟨m, fun _ => 0, g⟩ (fun r => (∀ c : Dev Cert.DO2RefIdeal.nD,
      r.2.mem ((c.tc : Thread Cert.DO2RefIdeal.nD Cert.DO2RefIdeal.τ).loc Cert.DO2RefIdeal.main_arg0) = m ((c.tc : Thread Cert.DO2RefIdeal.nD Cert.DO2RefIdeal.τ).loc Cert.DO2RefIdeal.main_arg0)
      ∧ r.2.mem ((c.tc : Thread Cert.DO2RefIdeal.nD Cert.DO2RefIdeal.τ).loc Cert.DO2RefIdeal.main_arg1) = m ((c.tc : Thread Cert.DO2RefIdeal.nD Cert.DO2RefIdeal.τ).loc Cert.DO2RefIdeal.main_arg1))
      ∧ r.2.sem = fun _ => 0)

def quiescent_DMerged [hDMerged : Cert.DMerged.Facts] : Prop :=
  ∀ (m : (ℓ : Loc Cert.DMerged.nD Cert.DMerged.τ Cert.DMerged.sig) → Buf (Elt Bits) ℓ) (g : Dev Cert.DMerged.nD → PrngReg), Pre_DMerged m →
    θ_run (Cert.DMerged.defs (F := Bits)) (onTc (τ := Cert.DMerged.τ) (Cert.DMerged.main (F := Bits))) ⟨m, fun _ => 0, g⟩ (fun r => (∀ c : Dev Cert.DMerged.nD,
      r.2.mem ((c.tc : Thread Cert.DMerged.nD Cert.DMerged.τ).loc Cert.DMerged.main_arg0) = m ((c.tc : Thread Cert.DMerged.nD Cert.DMerged.τ).loc Cert.DMerged.main_arg0)
      ∧ r.2.mem ((c.tc : Thread Cert.DMerged.nD Cert.DMerged.τ).loc Cert.DMerged.main_arg1) = m ((c.tc : Thread Cert.DMerged.nD Cert.DMerged.τ).loc Cert.DMerged.main_arg1))
      ∧ r.2.sem = fun _ => 0)

def quiescent_DMergedIdeal [hDMergedIdeal : Cert.DMergedIdeal.Facts] : Prop :=
  ∀ (m : (ℓ : Loc Cert.DMergedIdeal.nD Cert.DMergedIdeal.τ Cert.DMergedIdeal.sig) → Buf (Elt Ideal) ℓ) (g : Dev Cert.DMergedIdeal.nD → PrngReg), Pre_DMergedIdeal m →
    θ_run (Cert.DMergedIdeal.defs (F := Ideal)) (onTc (τ := Cert.DMergedIdeal.τ) (Cert.DMergedIdeal.main (F := Ideal))) ⟨m, fun _ => 0, g⟩ (fun r => (∀ c : Dev Cert.DMergedIdeal.nD,
      r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
      ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1))
      ∧ r.2.sem = fun _ => 0)

def quiescent_DMergedRefIdeal [hDMergedRefIdeal : Cert.DMergedRefIdeal.Facts] : Prop :=
  ∀ (m : (ℓ : Loc Cert.DMergedRefIdeal.nD Cert.DMergedRefIdeal.τ Cert.DMergedRefIdeal.sig) → Buf (Elt Ideal) ℓ) (g : Dev Cert.DMergedRefIdeal.nD → PrngReg), Pre_DMergedRefIdeal m →
    θ_run (Cert.DMergedRefIdeal.defs (F := Ideal)) (onTc (τ := Cert.DMergedRefIdeal.τ) (Cert.DMergedRefIdeal.main (F := Ideal))) ⟨m, fun _ => 0, g⟩ (fun r => (∀ c : Dev Cert.DMergedRefIdeal.nD,
      r.2.mem ((c.tc : Thread Cert.DMergedRefIdeal.nD Cert.DMergedRefIdeal.τ).loc Cert.DMergedRefIdeal.main_arg0) = m ((c.tc : Thread Cert.DMergedRefIdeal.nD Cert.DMergedRefIdeal.τ).loc Cert.DMergedRefIdeal.main_arg0)
      ∧ r.2.mem ((c.tc : Thread Cert.DMergedRefIdeal.nD Cert.DMergedRefIdeal.τ).loc Cert.DMergedRefIdeal.main_arg1) = m ((c.tc : Thread Cert.DMergedRefIdeal.nD Cert.DMergedRefIdeal.τ).loc Cert.DMergedRefIdeal.main_arg1))
      ∧ r.2.sem = fun _ => 0)

def quiescent_DwXo [hDwXo : Cert.DwXo.Facts] : Prop :=
  ∀ (m : (ℓ : Loc Cert.DwXo.nD Cert.DwXo.τ Cert.DwXo.sig) → Buf (Elt Bits) ℓ) (g : Dev Cert.DwXo.nD → PrngReg), Pre_DwXo m →
    θ_run (Cert.DwXo.defs (F := Bits)) (onTc (τ := Cert.DwXo.τ) (Cert.DwXo.main (F := Bits))) ⟨m, fun _ => 0, g⟩ (fun r => (∀ c : Dev Cert.DwXo.nD,
      r.2.mem ((c.tc : Thread Cert.DwXo.nD Cert.DwXo.τ).loc Cert.DwXo.main_arg0) = m ((c.tc : Thread Cert.DwXo.nD Cert.DwXo.τ).loc Cert.DwXo.main_arg0)
      ∧ r.2.mem ((c.tc : Thread Cert.DwXo.nD Cert.DwXo.τ).loc Cert.DwXo.main_arg1) = m ((c.tc : Thread Cert.DwXo.nD Cert.DwXo.τ).loc Cert.DwXo.main_arg1)
      ∧ r.2.mem ((c.tc : Thread Cert.DwXo.nD Cert.DwXo.τ).loc Cert.DwXo.main_arg2) = m ((c.tc : Thread Cert.DwXo.nD Cert.DwXo.τ).loc Cert.DwXo.main_arg2))
      ∧ r.2.sem = fun _ => 0)

def quiescent_DwXoIdeal [hDwXoIdeal : Cert.DwXoIdeal.Facts] : Prop :=
  ∀ (m : (ℓ : Loc Cert.DwXoIdeal.nD Cert.DwXoIdeal.τ Cert.DwXoIdeal.sig) → Buf (Elt Ideal) ℓ) (g : Dev Cert.DwXoIdeal.nD → PrngReg), Pre_DwXoIdeal m →
    θ_run (Cert.DwXoIdeal.defs (F := Ideal)) (onTc (τ := Cert.DwXoIdeal.τ) (Cert.DwXoIdeal.main (F := Ideal))) ⟨m, fun _ => 0, g⟩ (fun r => (∀ c : Dev Cert.DwXoIdeal.nD,
      r.2.mem ((c.tc : Thread Cert.DwXoIdeal.nD Cert.DwXoIdeal.τ).loc Cert.DwXoIdeal.main_arg0) = m ((c.tc : Thread Cert.DwXoIdeal.nD Cert.DwXoIdeal.τ).loc Cert.DwXoIdeal.main_arg0)
      ∧ r.2.mem ((c.tc : Thread Cert.DwXoIdeal.nD Cert.DwXoIdeal.τ).loc Cert.DwXoIdeal.main_arg1) = m ((c.tc : Thread Cert.DwXoIdeal.nD Cert.DwXoIdeal.τ).loc Cert.DwXoIdeal.main_arg1)
      ∧ r.2.mem ((c.tc : Thread Cert.DwXoIdeal.nD Cert.DwXoIdeal.τ).loc Cert.DwXoIdeal.main_arg2) = m ((c.tc : Thread Cert.DwXoIdeal.nD Cert.DwXoIdeal.τ).loc Cert.DwXoIdeal.main_arg2))
      ∧ r.2.sem = fun _ => 0)

def quiescent_DwXoRefIdeal [hDwXoRefIdeal : Cert.DwXoRefIdeal.Facts] : Prop :=
  ∀ (m : (ℓ : Loc Cert.DwXoRefIdeal.nD Cert.DwXoRefIdeal.τ Cert.DwXoRefIdeal.sig) → Buf (Elt Ideal) ℓ) (g : Dev Cert.DwXoRefIdeal.nD → PrngReg), Pre_DwXoRefIdeal m →
    θ_run (Cert.DwXoRefIdeal.defs (F := Ideal)) (onTc (τ := Cert.DwXoRefIdeal.τ) (Cert.DwXoRefIdeal.main (F := Ideal))) ⟨m, fun _ => 0, g⟩ (fun r => (∀ c : Dev Cert.DwXoRefIdeal.nD,
      r.2.mem ((c.tc : Thread Cert.DwXoRefIdeal.nD Cert.DwXoRefIdeal.τ).loc Cert.DwXoRefIdeal.main_arg0) = m ((c.tc : Thread Cert.DwXoRefIdeal.nD Cert.DwXoRefIdeal.τ).loc Cert.DwXoRefIdeal.main_arg0)
      ∧ r.2.mem ((c.tc : Thread Cert.DwXoRefIdeal.nD Cert.DwXoRefIdeal.τ).loc Cert.DwXoRefIdeal.main_arg1) = m ((c.tc : Thread Cert.DwXoRefIdeal.nD Cert.DwXoRefIdeal.τ).loc Cert.DwXoRefIdeal.main_arg1)
      ∧ r.2.mem ((c.tc : Thread Cert.DwXoRefIdeal.nD Cert.DwXoRefIdeal.τ).loc Cert.DwXoRefIdeal.main_arg2) = m ((c.tc : Thread Cert.DwXoRefIdeal.nD Cert.DwXoRefIdeal.τ).loc Cert.DwXoRefIdeal.main_arg2))
      ∧ r.2.sem = fun _ => 0)

def quiescent_DwXq [hDwXq : Cert.DwXq.Facts] : Prop :=
  ∀ (m : (ℓ : Loc Cert.DwXq.nD Cert.DwXq.τ Cert.DwXq.sig) → Buf (Elt Bits) ℓ) (g : Dev Cert.DwXq.nD → PrngReg), Pre_DwXq m →
    θ_run (Cert.DwXq.defs (F := Bits)) (onTc (τ := Cert.DwXq.τ) (Cert.DwXq.main (F := Bits))) ⟨m, fun _ => 0, g⟩ (fun r => (∀ c : Dev Cert.DwXq.nD,
      r.2.mem ((c.tc : Thread Cert.DwXq.nD Cert.DwXq.τ).loc Cert.DwXq.main_arg0) = m ((c.tc : Thread Cert.DwXq.nD Cert.DwXq.τ).loc Cert.DwXq.main_arg0)
      ∧ r.2.mem ((c.tc : Thread Cert.DwXq.nD Cert.DwXq.τ).loc Cert.DwXq.main_arg1) = m ((c.tc : Thread Cert.DwXq.nD Cert.DwXq.τ).loc Cert.DwXq.main_arg1)
      ∧ r.2.mem ((c.tc : Thread Cert.DwXq.nD Cert.DwXq.τ).loc Cert.DwXq.main_arg2) = m ((c.tc : Thread Cert.DwXq.nD Cert.DwXq.τ).loc Cert.DwXq.main_arg2))
      ∧ r.2.sem = fun _ => 0)

def quiescent_DwXqIdeal [hDwXqIdeal : Cert.DwXqIdeal.Facts] : Prop :=
  ∀ (m : (ℓ : Loc Cert.DwXqIdeal.nD Cert.DwXqIdeal.τ Cert.DwXqIdeal.sig) → Buf (Elt Ideal) ℓ) (g : Dev Cert.DwXqIdeal.nD → PrngReg), Pre_DwXqIdeal m →
    θ_run (Cert.DwXqIdeal.defs (F := Ideal)) (onTc (τ := Cert.DwXqIdeal.τ) (Cert.DwXqIdeal.main (F := Ideal))) ⟨m, fun _ => 0, g⟩ (fun r => (∀ c : Dev Cert.DwXqIdeal.nD,
      r.2.mem ((c.tc : Thread Cert.DwXqIdeal.nD Cert.DwXqIdeal.τ).loc Cert.DwXqIdeal.main_arg0) = m ((c.tc : Thread Cert.DwXqIdeal.nD Cert.DwXqIdeal.τ).loc Cert.DwXqIdeal.main_arg0)
      ∧ r.2.mem ((c.tc : Thread Cert.DwXqIdeal.nD Cert.DwXqIdeal.τ).loc Cert.DwXqIdeal.main_arg1) = m ((c.tc : Thread Cert.DwXqIdeal.nD Cert.DwXqIdeal.τ).loc Cert.DwXqIdeal.main_arg1)
      ∧ r.2.mem ((c.tc : Thread Cert.DwXqIdeal.nD Cert.DwXqIdeal.τ).loc Cert.DwXqIdeal.main_arg2) = m ((c.tc : Thread Cert.DwXqIdeal.nD Cert.DwXqIdeal.τ).loc Cert.DwXqIdeal.main_arg2))
      ∧ r.2.sem = fun _ => 0)

def quiescent_DwXqRefIdeal [hDwXqRefIdeal : Cert.DwXqRefIdeal.Facts] : Prop :=
  ∀ (m : (ℓ : Loc Cert.DwXqRefIdeal.nD Cert.DwXqRefIdeal.τ Cert.DwXqRefIdeal.sig) → Buf (Elt Ideal) ℓ) (g : Dev Cert.DwXqRefIdeal.nD → PrngReg), Pre_DwXqRefIdeal m →
    θ_run (Cert.DwXqRefIdeal.defs (F := Ideal)) (onTc (τ := Cert.DwXqRefIdeal.τ) (Cert.DwXqRefIdeal.main (F := Ideal))) ⟨m, fun _ => 0, g⟩ (fun r => (∀ c : Dev Cert.DwXqRefIdeal.nD,
      r.2.mem ((c.tc : Thread Cert.DwXqRefIdeal.nD Cert.DwXqRefIdeal.τ).loc Cert.DwXqRefIdeal.main_arg0) = m ((c.tc : Thread Cert.DwXqRefIdeal.nD Cert.DwXqRefIdeal.τ).loc Cert.DwXqRefIdeal.main_arg0)
      ∧ r.2.mem ((c.tc : Thread Cert.DwXqRefIdeal.nD Cert.DwXqRefIdeal.τ).loc Cert.DwXqRefIdeal.main_arg1) = m ((c.tc : Thread Cert.DwXqRefIdeal.nD Cert.DwXqRefIdeal.τ).loc Cert.DwXqRefIdeal.main_arg1)
      ∧ r.2.mem ((c.tc : Thread Cert.DwXqRefIdeal.nD Cert.DwXqRefIdeal.τ).loc Cert.DwXqRefIdeal.main_arg2) = m ((c.tc : Thread Cert.DwXqRefIdeal.nD Cert.DwXqRefIdeal.τ).loc Cert.DwXqRefIdeal.main_arg2))
      ∧ r.2.sem = fun _ => 0)

def quiescent_DwOut [hDwOut : Cert.DwOut.Facts] : Prop :=
  ∀ (m : (ℓ : Loc Cert.DwOut.nD Cert.DwOut.τ Cert.DwOut.sig) → Buf (Elt Bits) ℓ) (g : Dev Cert.DwOut.nD → PrngReg), Pre_DwOut m →
    θ_run (Cert.DwOut.defs (F := Bits)) (onTc (τ := Cert.DwOut.τ) (Cert.DwOut.main (F := Bits))) ⟨m, fun _ => 0, g⟩ (fun r => (∀ c : Dev Cert.DwOut.nD,
      r.2.mem ((c.tc : Thread Cert.DwOut.nD Cert.DwOut.τ).loc Cert.DwOut.main_arg0) = m ((c.tc : Thread Cert.DwOut.nD Cert.DwOut.τ).loc Cert.DwOut.main_arg0)
      ∧ r.2.mem ((c.tc : Thread Cert.DwOut.nD Cert.DwOut.τ).loc Cert.DwOut.main_arg1) = m ((c.tc : Thread Cert.DwOut.nD Cert.DwOut.τ).loc Cert.DwOut.main_arg1)
      ∧ r.2.mem ((c.tc : Thread Cert.DwOut.nD Cert.DwOut.τ).loc Cert.DwOut.main_arg2) = m ((c.tc : Thread Cert.DwOut.nD Cert.DwOut.τ).loc Cert.DwOut.main_arg2))
      ∧ r.2.sem = fun _ => 0)

def quiescent_DwOutIdeal [hDwOutIdeal : Cert.DwOutIdeal.Facts] : Prop :=
  ∀ (m : (ℓ : Loc Cert.DwOutIdeal.nD Cert.DwOutIdeal.τ Cert.DwOutIdeal.sig) → Buf (Elt Ideal) ℓ) (g : Dev Cert.DwOutIdeal.nD → PrngReg), Pre_DwOutIdeal m →
    θ_run (Cert.DwOutIdeal.defs (F := Ideal)) (onTc (τ := Cert.DwOutIdeal.τ) (Cert.DwOutIdeal.main (F := Ideal))) ⟨m, fun _ => 0, g⟩ (fun r => (∀ c : Dev Cert.DwOutIdeal.nD,
      r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
      ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
      ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2))
      ∧ r.2.sem = fun _ => 0)

def quiescent_DwOutRefIdeal [hDwOutRefIdeal : Cert.DwOutRefIdeal.Facts] : Prop :=
  ∀ (m : (ℓ : Loc Cert.DwOutRefIdeal.nD Cert.DwOutRefIdeal.τ Cert.DwOutRefIdeal.sig) → Buf (Elt Ideal) ℓ) (g : Dev Cert.DwOutRefIdeal.nD → PrngReg), Pre_DwOutRefIdeal m →
    θ_run (Cert.DwOutRefIdeal.defs (F := Ideal)) (onTc (τ := Cert.DwOutRefIdeal.τ) (Cert.DwOutRefIdeal.main (F := Ideal))) ⟨m, fun _ => 0, g⟩ (fun r => (∀ c : Dev Cert.DwOutRefIdeal.nD,
      r.2.mem ((c.tc : Thread Cert.DwOutRefIdeal.nD Cert.DwOutRefIdeal.τ).loc Cert.DwOutRefIdeal.main_arg0) = m ((c.tc : Thread Cert.DwOutRefIdeal.nD Cert.DwOutRefIdeal.τ).loc Cert.DwOutRefIdeal.main_arg0)
      ∧ r.2.mem ((c.tc : Thread Cert.DwOutRefIdeal.nD Cert.DwOutRefIdeal.τ).loc Cert.DwOutRefIdeal.main_arg1) = m ((c.tc : Thread Cert.DwOutRefIdeal.nD Cert.DwOutRefIdeal.τ).loc Cert.DwOutRefIdeal.main_arg1)
      ∧ r.2.mem ((c.tc : Thread Cert.DwOutRefIdeal.nD Cert.DwOutRefIdeal.τ).loc Cert.DwOutRefIdeal.main_arg2) = m ((c.tc : Thread Cert.DwOutRefIdeal.nD Cert.DwOutRefIdeal.τ).loc Cert.DwOutRefIdeal.main_arg2))
      ∧ r.2.sem = fun _ => 0)

def quiescent_DHf [hDHf : Cert.DHf.Facts] : Prop :=
  ∀ (m : (ℓ : Loc Cert.DHf.nD Cert.DHf.τ Cert.DHf.sig) → Buf (Elt Bits) ℓ) (g : Dev Cert.DHf.nD → PrngReg), Pre_DHf m →
    θ_run (Cert.DHf.defs (F := Bits)) (onTc (τ := Cert.DHf.τ) (Cert.DHf.main (F := Bits))) ⟨m, fun _ => 0, g⟩ (fun r => (∀ c : Dev Cert.DHf.nD,
      r.2.mem ((c.tc : Thread Cert.DHf.nD Cert.DHf.τ).loc Cert.DHf.main_arg0) = m ((c.tc : Thread Cert.DHf.nD Cert.DHf.τ).loc Cert.DHf.main_arg0)
      ∧ r.2.mem ((c.tc : Thread Cert.DHf.nD Cert.DHf.τ).loc Cert.DHf.main_arg1) = m ((c.tc : Thread Cert.DHf.nD Cert.DHf.τ).loc Cert.DHf.main_arg1)
      ∧ r.2.mem ((c.tc : Thread Cert.DHf.nD Cert.DHf.τ).loc Cert.DHf.main_arg2) = m ((c.tc : Thread Cert.DHf.nD Cert.DHf.τ).loc Cert.DHf.main_arg2)
      ∧ r.2.mem ((c.tc : Thread Cert.DHf.nD Cert.DHf.τ).loc Cert.DHf.main_arg3) = m ((c.tc : Thread Cert.DHf.nD Cert.DHf.τ).loc Cert.DHf.main_arg3)
      ∧ r.2.mem ((c.tc : Thread Cert.DHf.nD Cert.DHf.τ).loc Cert.DHf.main_arg4) = m ((c.tc : Thread Cert.DHf.nD Cert.DHf.τ).loc Cert.DHf.main_arg4))
      ∧ r.2.sem = fun _ => 0)

def quiescent_DHfIdeal [hDHfIdeal : Cert.DHfIdeal.Facts] : Prop :=
  ∀ (m : (ℓ : Loc Cert.DHfIdeal.nD Cert.DHfIdeal.τ Cert.DHfIdeal.sig) → Buf (Elt Ideal) ℓ) (g : Dev Cert.DHfIdeal.nD → PrngReg), Pre_DHfIdeal m →
    θ_run (Cert.DHfIdeal.defs (F := Ideal)) (onTc (τ := Cert.DHfIdeal.τ) (Cert.DHfIdeal.main (F := Ideal))) ⟨m, fun _ => 0, g⟩ (fun r => (∀ c : Dev Cert.DHfIdeal.nD,
      r.2.mem ((c.tc : Thread Cert.DHfIdeal.nD Cert.DHfIdeal.τ).loc Cert.DHfIdeal.main_arg0) = m ((c.tc : Thread Cert.DHfIdeal.nD Cert.DHfIdeal.τ).loc Cert.DHfIdeal.main_arg0)
      ∧ r.2.mem ((c.tc : Thread Cert.DHfIdeal.nD Cert.DHfIdeal.τ).loc Cert.DHfIdeal.main_arg1) = m ((c.tc : Thread Cert.DHfIdeal.nD Cert.DHfIdeal.τ).loc Cert.DHfIdeal.main_arg1)
      ∧ r.2.mem ((c.tc : Thread Cert.DHfIdeal.nD Cert.DHfIdeal.τ).loc Cert.DHfIdeal.main_arg2) = m ((c.tc : Thread Cert.DHfIdeal.nD Cert.DHfIdeal.τ).loc Cert.DHfIdeal.main_arg2)
      ∧ r.2.mem ((c.tc : Thread Cert.DHfIdeal.nD Cert.DHfIdeal.τ).loc Cert.DHfIdeal.main_arg3) = m ((c.tc : Thread Cert.DHfIdeal.nD Cert.DHfIdeal.τ).loc Cert.DHfIdeal.main_arg3)
      ∧ r.2.mem ((c.tc : Thread Cert.DHfIdeal.nD Cert.DHfIdeal.τ).loc Cert.DHfIdeal.main_arg4) = m ((c.tc : Thread Cert.DHfIdeal.nD Cert.DHfIdeal.τ).loc Cert.DHfIdeal.main_arg4))
      ∧ r.2.sem = fun _ => 0)

def quiescent_DHfRefIdeal [hDHfRefIdeal : Cert.DHfRefIdeal.Facts] : Prop :=
  ∀ (m : (ℓ : Loc Cert.DHfRefIdeal.nD Cert.DHfRefIdeal.τ Cert.DHfRefIdeal.sig) → Buf (Elt Ideal) ℓ) (g : Dev Cert.DHfRefIdeal.nD → PrngReg), Pre_DHfRefIdeal m →
    θ_run (Cert.DHfRefIdeal.defs (F := Ideal)) (onTc (τ := Cert.DHfRefIdeal.τ) (Cert.DHfRefIdeal.main (F := Ideal))) ⟨m, fun _ => 0, g⟩ (fun r => (∀ c : Dev Cert.DHfRefIdeal.nD,
      r.2.mem ((c.tc : Thread Cert.DHfRefIdeal.nD Cert.DHfRefIdeal.τ).loc Cert.DHfRefIdeal.main_arg0) = m ((c.tc : Thread Cert.DHfRefIdeal.nD Cert.DHfRefIdeal.τ).loc Cert.DHfRefIdeal.main_arg0)
      ∧ r.2.mem ((c.tc : Thread Cert.DHfRefIdeal.nD Cert.DHfRefIdeal.τ).loc Cert.DHfRefIdeal.main_arg1) = m ((c.tc : Thread Cert.DHfRefIdeal.nD Cert.DHfRefIdeal.τ).loc Cert.DHfRefIdeal.main_arg1)
      ∧ r.2.mem ((c.tc : Thread Cert.DHfRefIdeal.nD Cert.DHfRefIdeal.τ).loc Cert.DHfRefIdeal.main_arg2) = m ((c.tc : Thread Cert.DHfRefIdeal.nD Cert.DHfRefIdeal.τ).loc Cert.DHfRefIdeal.main_arg2)
      ∧ r.2.mem ((c.tc : Thread Cert.DHfRefIdeal.nD Cert.DHfRefIdeal.τ).loc Cert.DHfRefIdeal.main_arg3) = m ((c.tc : Thread Cert.DHfRefIdeal.nD Cert.DHfRefIdeal.τ).loc Cert.DHfRefIdeal.main_arg3)
      ∧ r.2.mem ((c.tc : Thread Cert.DHfRefIdeal.nD Cert.DHfRefIdeal.τ).loc Cert.DHfRefIdeal.main_arg4) = m ((c.tc : Thread Cert.DHfRefIdeal.nD Cert.DHfRefIdeal.τ).loc Cert.DHfRefIdeal.main_arg4))
      ∧ r.2.sem = fun _ => 0)

def quiescent_DH [hDH : Cert.DH.Facts] : Prop :=
  ∀ (m : (ℓ : Loc Cert.DH.nD Cert.DH.τ Cert.DH.sig) → Buf (Elt Bits) ℓ) (g : Dev Cert.DH.nD → PrngReg), Pre_DH m →
    θ_run (Cert.DH.defs (F := Bits)) (onTc (τ := Cert.DH.τ) (Cert.DH.main (F := Bits))) ⟨m, fun _ => 0, g⟩ (fun r => (∀ c : Dev Cert.DH.nD,
      r.2.mem ((c.tc : Thread Cert.DH.nD Cert.DH.τ).loc Cert.DH.main_arg0) = m ((c.tc : Thread Cert.DH.nD Cert.DH.τ).loc Cert.DH.main_arg0)
      ∧ r.2.mem ((c.tc : Thread Cert.DH.nD Cert.DH.τ).loc Cert.DH.main_arg1) = m ((c.tc : Thread Cert.DH.nD Cert.DH.τ).loc Cert.DH.main_arg1)
      ∧ r.2.mem ((c.tc : Thread Cert.DH.nD Cert.DH.τ).loc Cert.DH.main_arg2) = m ((c.tc : Thread Cert.DH.nD Cert.DH.τ).loc Cert.DH.main_arg2)
      ∧ r.2.mem ((c.tc : Thread Cert.DH.nD Cert.DH.τ).loc Cert.DH.main_arg3) = m ((c.tc : Thread Cert.DH.nD Cert.DH.τ).loc Cert.DH.main_arg3)
      ∧ r.2.mem ((c.tc : Thread Cert.DH.nD Cert.DH.τ).loc Cert.DH.main_arg4) = m ((c.tc : Thread Cert.DH.nD Cert.DH.τ).loc Cert.DH.main_arg4))
      ∧ r.2.sem = fun _ => 0)

def quiescent_DHIdeal [hDHIdeal : Cert.DHIdeal.Facts] : Prop :=
  ∀ (m : (ℓ : Loc Cert.DHIdeal.nD Cert.DHIdeal.τ Cert.DHIdeal.sig) → Buf (Elt Ideal) ℓ) (g : Dev Cert.DHIdeal.nD → PrngReg), Pre_DHIdeal m →
    θ_run (Cert.DHIdeal.defs (F := Ideal)) (onTc (τ := Cert.DHIdeal.τ) (Cert.DHIdeal.main (F := Ideal))) ⟨m, fun _ => 0, g⟩ (fun r => (∀ c : Dev Cert.DHIdeal.nD,
      r.2.mem ((c.tc : Thread Cert.DHIdeal.nD Cert.DHIdeal.τ).loc Cert.DHIdeal.main_arg0) = m ((c.tc : Thread Cert.DHIdeal.nD Cert.DHIdeal.τ).loc Cert.DHIdeal.main_arg0)
      ∧ r.2.mem ((c.tc : Thread Cert.DHIdeal.nD Cert.DHIdeal.τ).loc Cert.DHIdeal.main_arg1) = m ((c.tc : Thread Cert.DHIdeal.nD Cert.DHIdeal.τ).loc Cert.DHIdeal.main_arg1)
      ∧ r.2.mem ((c.tc : Thread Cert.DHIdeal.nD Cert.DHIdeal.τ).loc Cert.DHIdeal.main_arg2) = m ((c.tc : Thread Cert.DHIdeal.nD Cert.DHIdeal.τ).loc Cert.DHIdeal.main_arg2)
      ∧ r.2.mem ((c.tc : Thread Cert.DHIdeal.nD Cert.DHIdeal.τ).loc Cert.DHIdeal.main_arg3) = m ((c.tc : Thread Cert.DHIdeal.nD Cert.DHIdeal.τ).loc Cert.DHIdeal.main_arg3)
      ∧ r.2.mem ((c.tc : Thread Cert.DHIdeal.nD Cert.DHIdeal.τ).loc Cert.DHIdeal.main_arg4) = m ((c.tc : Thread Cert.DHIdeal.nD Cert.DHIdeal.τ).loc Cert.DHIdeal.main_arg4))
      ∧ r.2.sem = fun _ => 0)

def quiescent_DHRefIdeal [hDHRefIdeal : Cert.DHRefIdeal.Facts] : Prop :=
  ∀ (m : (ℓ : Loc Cert.DHRefIdeal.nD Cert.DHRefIdeal.τ Cert.DHRefIdeal.sig) → Buf (Elt Ideal) ℓ) (g : Dev Cert.DHRefIdeal.nD → PrngReg), Pre_DHRefIdeal m →
    θ_run (Cert.DHRefIdeal.defs (F := Ideal)) (onTc (τ := Cert.DHRefIdeal.τ) (Cert.DHRefIdeal.main (F := Ideal))) ⟨m, fun _ => 0, g⟩ (fun r => (∀ c : Dev Cert.DHRefIdeal.nD,
      r.2.mem ((c.tc : Thread Cert.DHRefIdeal.nD Cert.DHRefIdeal.τ).loc Cert.DHRefIdeal.main_arg0) = m ((c.tc : Thread Cert.DHRefIdeal.nD Cert.DHRefIdeal.τ).loc Cert.DHRefIdeal.main_arg0)
      ∧ r.2.mem ((c.tc : Thread Cert.DHRefIdeal.nD Cert.DHRefIdeal.τ).loc Cert.DHRefIdeal.main_arg1) = m ((c.tc : Thread Cert.DHRefIdeal.nD Cert.DHRefIdeal.τ).loc Cert.DHRefIdeal.main_arg1)
      ∧ r.2.mem ((c.tc : Thread Cert.DHRefIdeal.nD Cert.DHRefIdeal.τ).loc Cert.DHRefIdeal.main_arg2) = m ((c.tc : Thread Cert.DHRefIdeal.nD Cert.DHRefIdeal.τ).loc Cert.DHRefIdeal.main_arg2)
      ∧ r.2.mem ((c.tc : Thread Cert.DHRefIdeal.nD Cert.DHRefIdeal.τ).loc Cert.DHRefIdeal.main_arg3) = m ((c.tc : Thread Cert.DHRefIdeal.nD Cert.DHRefIdeal.τ).loc Cert.DHRefIdeal.main_arg3)
      ∧ r.2.mem ((c.tc : Thread Cert.DHRefIdeal.nD Cert.DHRefIdeal.τ).loc Cert.DHRefIdeal.main_arg4) = m ((c.tc : Thread Cert.DHRefIdeal.nD Cert.DHRefIdeal.τ).loc Cert.DHRefIdeal.main_arg4))
      ∧ r.2.sem = fun _ => 0)

def quiescent_DHx [hDHx : Cert.DHx.Facts] : Prop :=
  ∀ (m : (ℓ : Loc Cert.DHx.nD Cert.DHx.τ Cert.DHx.sig) → Buf (Elt Bits) ℓ) (g : Dev Cert.DHx.nD → PrngReg), Pre_DHx m →
    θ_run (Cert.DHx.defs (F := Bits)) (onTc (τ := Cert.DHx.τ) (Cert.DHx.main (F := Bits))) ⟨m, fun _ => 0, g⟩ (fun r => (∀ c : Dev Cert.DHx.nD,
      r.2.mem ((c.tc : Thread Cert.DHx.nD Cert.DHx.τ).loc Cert.DHx.main_arg0) = m ((c.tc : Thread Cert.DHx.nD Cert.DHx.τ).loc Cert.DHx.main_arg0)
      ∧ r.2.mem ((c.tc : Thread Cert.DHx.nD Cert.DHx.τ).loc Cert.DHx.main_arg1) = m ((c.tc : Thread Cert.DHx.nD Cert.DHx.τ).loc Cert.DHx.main_arg1)
      ∧ r.2.mem ((c.tc : Thread Cert.DHx.nD Cert.DHx.τ).loc Cert.DHx.main_arg2) = m ((c.tc : Thread Cert.DHx.nD Cert.DHx.τ).loc Cert.DHx.main_arg2)
      ∧ r.2.mem ((c.tc : Thread Cert.DHx.nD Cert.DHx.τ).loc Cert.DHx.main_arg3) = m ((c.tc : Thread Cert.DHx.nD Cert.DHx.τ).loc Cert.DHx.main_arg3)
      ∧ r.2.mem ((c.tc : Thread Cert.DHx.nD Cert.DHx.τ).loc Cert.DHx.main_arg4) = m ((c.tc : Thread Cert.DHx.nD Cert.DHx.τ).loc Cert.DHx.main_arg4))
      ∧ r.2.sem = fun _ => 0)

def quiescent_DHxIdeal [hDHxIdeal : Cert.DHxIdeal.Facts] : Prop :=
  ∀ (m : (ℓ : Loc Cert.DHxIdeal.nD Cert.DHxIdeal.τ Cert.DHxIdeal.sig) → Buf (Elt Ideal) ℓ) (g : Dev Cert.DHxIdeal.nD → PrngReg), Pre_DHxIdeal m →
    θ_run (Cert.DHxIdeal.defs (F := Ideal)) (onTc (τ := Cert.DHxIdeal.τ) (Cert.DHxIdeal.main (F := Ideal))) ⟨m, fun _ => 0, g⟩ (fun r => (∀ c : Dev Cert.DHxIdeal.nD,
      r.2.mem ((c.tc : Thread Cert.DHxIdeal.nD Cert.DHxIdeal.τ).loc Cert.DHxIdeal.main_arg0) = m ((c.tc : Thread Cert.DHxIdeal.nD Cert.DHxIdeal.τ).loc Cert.DHxIdeal.main_arg0)
      ∧ r.2.mem ((c.tc : Thread Cert.DHxIdeal.nD Cert.DHxIdeal.τ).loc Cert.DHxIdeal.main_arg1) = m ((c.tc : Thread Cert.DHxIdeal.nD Cert.DHxIdeal.τ).loc Cert.DHxIdeal.main_arg1)
      ∧ r.2.mem ((c.tc : Thread Cert.DHxIdeal.nD Cert.DHxIdeal.τ).loc Cert.DHxIdeal.main_arg2) = m ((c.tc : Thread Cert.DHxIdeal.nD Cert.DHxIdeal.τ).loc Cert.DHxIdeal.main_arg2)
      ∧ r.2.mem ((c.tc : Thread Cert.DHxIdeal.nD Cert.DHxIdeal.τ).loc Cert.DHxIdeal.main_arg3) = m ((c.tc : Thread Cert.DHxIdeal.nD Cert.DHxIdeal.τ).loc Cert.DHxIdeal.main_arg3)
      ∧ r.2.mem ((c.tc : Thread Cert.DHxIdeal.nD Cert.DHxIdeal.τ).loc Cert.DHxIdeal.main_arg4) = m ((c.tc : Thread Cert.DHxIdeal.nD Cert.DHxIdeal.τ).loc Cert.DHxIdeal.main_arg4))
      ∧ r.2.sem = fun _ => 0)

def quiescent_DHxRefIdeal [hDHxRefIdeal : Cert.DHxRefIdeal.Facts] : Prop :=
  ∀ (m : (ℓ : Loc Cert.DHxRefIdeal.nD Cert.DHxRefIdeal.τ Cert.DHxRefIdeal.sig) → Buf (Elt Ideal) ℓ) (g : Dev Cert.DHxRefIdeal.nD → PrngReg), Pre_DHxRefIdeal m →
    θ_run (Cert.DHxRefIdeal.defs (F := Ideal)) (onTc (τ := Cert.DHxRefIdeal.τ) (Cert.DHxRefIdeal.main (F := Ideal))) ⟨m, fun _ => 0, g⟩ (fun r => (∀ c : Dev Cert.DHxRefIdeal.nD,
      r.2.mem ((c.tc : Thread Cert.DHxRefIdeal.nD Cert.DHxRefIdeal.τ).loc Cert.DHxRefIdeal.main_arg0) = m ((c.tc : Thread Cert.DHxRefIdeal.nD Cert.DHxRefIdeal.τ).loc Cert.DHxRefIdeal.main_arg0)
      ∧ r.2.mem ((c.tc : Thread Cert.DHxRefIdeal.nD Cert.DHxRefIdeal.τ).loc Cert.DHxRefIdeal.main_arg1) = m ((c.tc : Thread Cert.DHxRefIdeal.nD Cert.DHxRefIdeal.τ).loc Cert.DHxRefIdeal.main_arg1)
      ∧ r.2.mem ((c.tc : Thread Cert.DHxRefIdeal.nD Cert.DHxRefIdeal.τ).loc Cert.DHxRefIdeal.main_arg2) = m ((c.tc : Thread Cert.DHxRefIdeal.nD Cert.DHxRefIdeal.τ).loc Cert.DHxRefIdeal.main_arg2)
      ∧ r.2.mem ((c.tc : Thread Cert.DHxRefIdeal.nD Cert.DHxRefIdeal.τ).loc Cert.DHxRefIdeal.main_arg3) = m ((c.tc : Thread Cert.DHxRefIdeal.nD Cert.DHxRefIdeal.τ).loc Cert.DHxRefIdeal.main_arg3)
      ∧ r.2.mem ((c.tc : Thread Cert.DHxRefIdeal.nD Cert.DHxRefIdeal.τ).loc Cert.DHxRefIdeal.main_arg4) = m ((c.tc : Thread Cert.DHxRefIdeal.nD Cert.DHxRefIdeal.τ).loc Cert.DHxRefIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v48_0)) (v1 : (c : Dev Cert.KernelIdeal.nD) → Buf (Elt Ideal) ((c.tc : Thread Cert.KernelIdeal.nD Cert.KernelIdeal.τ).loc Cert.KernelIdeal.main_v48_1)) (v2 : (c : Dev Cert.KernelIdeal.nD) → Buf (Elt Ideal) ((c.tc : Thread Cert.KernelIdeal.nD Cert.KernelIdeal.τ).loc Cert.KernelIdeal.main_v48_2)) (v3 : (c : Dev Cert.KernelIdeal.nD) → Buf (Elt Ideal) ((c.tc : Thread Cert.KernelIdeal.nD Cert.KernelIdeal.τ).loc Cert.KernelIdeal.main_v48_3)) (v4 : (c : Dev Cert.KernelIdeal.nD) → Buf (Elt Ideal) ((c.tc : Thread Cert.KernelIdeal.nD Cert.KernelIdeal.τ).loc Cert.KernelIdeal.main_v48_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48_0) = v0 c
          ∧ r.2.mem ((c.tc : Thread Cert.KernelIdeal.nD Cert.KernelIdeal.τ).loc Cert.KernelIdeal.main_v48_1) = v1 c
          ∧ r.2.mem ((c.tc : Thread Cert.KernelIdeal.nD Cert.KernelIdeal.τ).loc Cert.KernelIdeal.main_v48_2) = v2 c
          ∧ r.2.mem ((c.tc : Thread Cert.KernelIdeal.nD Cert.KernelIdeal.τ).loc Cert.KernelIdeal.main_v48_3) = v3 c
          ∧ r.2.mem ((c.tc : Thread Cert.KernelIdeal.nD Cert.KernelIdeal.τ).loc Cert.KernelIdeal.main_v48_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v96) = v2 c
          ∧ r.2.mem ((c.tc : Thread Cert.ReferenceIdeal.nD Cert.ReferenceIdeal.τ).loc Cert.ReferenceIdeal.main_v98) = v3 c
          ∧ r.2.mem ((c.tc : Thread Cert.ReferenceIdeal.nD Cert.ReferenceIdeal.τ).loc Cert.ReferenceIdeal.main_v100) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v0)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v0) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v7) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_DwFf2_DwFf2Ideal : Prop :=
  True

def algebraic_DwFf2Ideal_DwFf2RefIdeal [hDwFf2Ideal : Cert.DwFf2Ideal.Facts] [hDwFf2RefIdeal : Cert.DwFf2RefIdeal.Facts] : Prop :=
  ∀ (m : (ℓ : Loc Cert.DwFf2Ideal.nD Cert.DwFf2Ideal.τ Cert.DwFf2Ideal.sig) → Buf (Elt Ideal) ℓ) (g : Dev Cert.DwFf2Ideal.nD → PrngReg)
    (m' : (ℓ : Loc Cert.DwFf2RefIdeal.nD Cert.DwFf2RefIdeal.τ Cert.DwFf2RefIdeal.sig) → Buf (Elt Ideal) ℓ) (g' : Dev Cert.DwFf2RefIdeal.nD → PrngReg), Pre_DwFf2Ideal m →
    (∀ c : Dev Cert.DwFf2Ideal.nD,
      m' ((c.tc : Thread Cert.DwFf2RefIdeal.nD Cert.DwFf2RefIdeal.τ).loc Cert.DwFf2RefIdeal.main_arg0) = m ((c.tc : Thread Cert.DwFf2Ideal.nD Cert.DwFf2Ideal.τ).loc Cert.DwFf2Ideal.main_arg0)
      ∧ m' ((c.tc : Thread Cert.DwFf2RefIdeal.nD Cert.DwFf2RefIdeal.τ).loc Cert.DwFf2RefIdeal.main_arg1) = m ((c.tc : Thread Cert.DwFf2Ideal.nD Cert.DwFf2Ideal.τ).loc Cert.DwFf2Ideal.main_arg1)
      ∧ m' ((c.tc : Thread Cert.DwFf2RefIdeal.nD Cert.DwFf2RefIdeal.τ).loc Cert.DwFf2RefIdeal.main_arg2) = m ((c.tc : Thread Cert.DwFf2Ideal.nD Cert.DwFf2Ideal.τ).loc Cert.DwFf2Ideal.main_arg2)) →
    ∃ (v0 : (c : Dev Cert.DwFf2Ideal.nD) → Buf (Elt Ideal) ((c.tc : Thread Cert.DwFf2Ideal.nD Cert.DwFf2Ideal.τ).loc Cert.DwFf2Ideal.main_v0)),
      θ_run (Cert.DwFf2Ideal.defs (F := Ideal)) (onTc (τ := Cert.DwFf2Ideal.τ) (Cert.DwFf2Ideal.main (F := Ideal))) ⟨m, fun _ => 0, g⟩ (fun r => ∀ c : Dev Cert.DwFf2Ideal.nD,
          r.2.mem ((c.tc : Thread Cert.DwFf2Ideal.nD Cert.DwFf2Ideal.τ).loc Cert.DwFf2Ideal.main_v0) = v0 c
          ∧ r.2.mem ((c.tc : Thread Cert.DwFf2Ideal.nD Cert.DwFf2Ideal.τ).loc Cert.DwFf2Ideal.main_arg0) = m ((c.tc : Thread Cert.DwFf2Ideal.nD Cert.DwFf2Ideal.τ).loc Cert.DwFf2Ideal.main_arg0)
          ∧ r.2.mem ((c.tc : Thread Cert.DwFf2Ideal.nD Cert.DwFf2Ideal.τ).loc Cert.DwFf2Ideal.main_arg1) = m ((c.tc : Thread Cert.DwFf2Ideal.nD Cert.DwFf2Ideal.τ).loc Cert.DwFf2Ideal.main_arg1)
          ∧ r.2.mem ((c.tc : Thread Cert.DwFf2Ideal.nD Cert.DwFf2Ideal.τ).loc Cert.DwFf2Ideal.main_arg2) = m ((c.tc : Thread Cert.DwFf2Ideal.nD Cert.DwFf2Ideal.τ).loc Cert.DwFf2Ideal.main_arg2))
      ∧ θ_run (Cert.DwFf2RefIdeal.defs (F := Ideal)) (onTc (τ := Cert.DwFf2RefIdeal.τ) (Cert.DwFf2RefIdeal.main (F := Ideal))) ⟨m', fun _ => 0, g'⟩ (fun r => ∀ c : Dev Cert.DwFf2RefIdeal.nD,
          r.2.mem ((c.tc : Thread Cert.DwFf2RefIdeal.nD Cert.DwFf2RefIdeal.τ).loc Cert.DwFf2RefIdeal.main_v9) = v0 c
          ∧ r.2.mem ((c.tc : Thread Cert.DwFf2RefIdeal.nD Cert.DwFf2RefIdeal.τ).loc Cert.DwFf2RefIdeal.main_arg0) = m' ((c.tc : Thread Cert.DwFf2RefIdeal.nD Cert.DwFf2RefIdeal.τ).loc Cert.DwFf2RefIdeal.main_arg0)
          ∧ r.2.mem ((c.tc : Thread Cert.DwFf2RefIdeal.nD Cert.DwFf2RefIdeal.τ).loc Cert.DwFf2RefIdeal.main_arg1) = m' ((c.tc : Thread Cert.DwFf2RefIdeal.nD Cert.DwFf2RefIdeal.τ).loc Cert.DwFf2RefIdeal.main_arg1)
          ∧ r.2.mem ((c.tc : Thread Cert.DwFf2RefIdeal.nD Cert.DwFf2RefIdeal.τ).loc Cert.DwFf2RefIdeal.main_arg2) = m' ((c.tc : Thread Cert.DwFf2RefIdeal.nD Cert.DwFf2RefIdeal.τ).loc Cert.DwFf2RefIdeal.main_arg2))

def preserves_DwFf1_DwFf1Ideal : Prop :=
  True

def algebraic_DwFf1Ideal_DwFf1RefIdeal [hDwFf1Ideal : Cert.DwFf1Ideal.Facts] [hDwFf1RefIdeal : Cert.DwFf1RefIdeal.Facts] : Prop :=
  ∀ (m : (ℓ : Loc Cert.DwFf1Ideal.nD Cert.DwFf1Ideal.τ Cert.DwFf1Ideal.sig) → Buf (Elt Ideal) ℓ) (g : Dev Cert.DwFf1Ideal.nD → PrngReg)
    (m' : (ℓ : Loc Cert.DwFf1RefIdeal.nD Cert.DwFf1RefIdeal.τ Cert.DwFf1RefIdeal.sig) → Buf (Elt Ideal) ℓ) (g' : Dev Cert.DwFf1RefIdeal.nD → PrngReg), Pre_DwFf1Ideal m →
    (∀ c : Dev Cert.DwFf1Ideal.nD,
      m' ((c.tc : Thread Cert.DwFf1RefIdeal.nD Cert.DwFf1RefIdeal.τ).loc Cert.DwFf1RefIdeal.main_arg0) = m ((c.tc : Thread Cert.DwFf1Ideal.nD Cert.DwFf1Ideal.τ).loc Cert.DwFf1Ideal.main_arg0)
      ∧ m' ((c.tc : Thread Cert.DwFf1RefIdeal.nD Cert.DwFf1RefIdeal.τ).loc Cert.DwFf1RefIdeal.main_arg1) = m ((c.tc : Thread Cert.DwFf1Ideal.nD Cert.DwFf1Ideal.τ).loc Cert.DwFf1Ideal.main_arg1)
      ∧ m' ((c.tc : Thread Cert.DwFf1RefIdeal.nD Cert.DwFf1RefIdeal.τ).loc Cert.DwFf1RefIdeal.main_arg2) = m ((c.tc : Thread Cert.DwFf1Ideal.nD Cert.DwFf1Ideal.τ).loc Cert.DwFf1Ideal.main_arg2)) →
    ∃ (v0 : (c : Dev Cert.DwFf1Ideal.nD) → Buf (Elt Ideal) ((c.tc : Thread Cert.DwFf1Ideal.nD Cert.DwFf1Ideal.τ).loc Cert.DwFf1Ideal.main_v0)),
      θ_run (Cert.DwFf1Ideal.defs (F := Ideal)) (onTc (τ := Cert.DwFf1Ideal.τ) (Cert.DwFf1Ideal.main (F := Ideal))) ⟨m, fun _ => 0, g⟩ (fun r => ∀ c : Dev Cert.DwFf1Ideal.nD,
          r.2.mem ((c.tc : Thread Cert.DwFf1Ideal.nD Cert.DwFf1Ideal.τ).loc Cert.DwFf1Ideal.main_v0) = v0 c
          ∧ r.2.mem ((c.tc : Thread Cert.DwFf1Ideal.nD Cert.DwFf1Ideal.τ).loc Cert.DwFf1Ideal.main_arg0) = m ((c.tc : Thread Cert.DwFf1Ideal.nD Cert.DwFf1Ideal.τ).loc Cert.DwFf1Ideal.main_arg0)
          ∧ r.2.mem ((c.tc : Thread Cert.DwFf1Ideal.nD Cert.DwFf1Ideal.τ).loc Cert.DwFf1Ideal.main_arg1) = m ((c.tc : Thread Cert.DwFf1Ideal.nD Cert.DwFf1Ideal.τ).loc Cert.DwFf1Ideal.main_arg1)
          ∧ r.2.mem ((c.tc : Thread Cert.DwFf1Ideal.nD Cert.DwFf1Ideal.τ).loc Cert.DwFf1Ideal.main_arg2) = m ((c.tc : Thread Cert.DwFf1Ideal.nD Cert.DwFf1Ideal.τ).loc Cert.DwFf1Ideal.main_arg2))
      ∧ θ_run (Cert.DwFf1RefIdeal.defs (F := Ideal)) (onTc (τ := Cert.DwFf1RefIdeal.τ) (Cert.DwFf1RefIdeal.main (F := Ideal))) ⟨m', fun _ => 0, g'⟩ (fun r => ∀ c : Dev Cert.DwFf1RefIdeal.nD,
          r.2.mem ((c.tc : Thread Cert.DwFf1RefIdeal.nD Cert.DwFf1RefIdeal.τ).loc Cert.DwFf1RefIdeal.main_v9) = v0 c
          ∧ r.2.mem ((c.tc : Thread Cert.DwFf1RefIdeal.nD Cert.DwFf1RefIdeal.τ).loc Cert.DwFf1RefIdeal.main_arg0) = m' ((c.tc : Thread Cert.DwFf1RefIdeal.nD Cert.DwFf1RefIdeal.τ).loc Cert.DwFf1RefIdeal.main_arg0)
          ∧ r.2.mem ((c.tc : Thread Cert.DwFf1RefIdeal.nD Cert.DwFf1RefIdeal.τ).loc Cert.DwFf1RefIdeal.main_arg1) = m' ((c.tc : Thread Cert.DwFf1RefIdeal.nD Cert.DwFf1RefIdeal.τ).loc Cert.DwFf1RefIdeal.main_arg1)
          ∧ r.2.mem ((c.tc : Thread Cert.DwFf1RefIdeal.nD Cert.DwFf1RefIdeal.τ).loc Cert.DwFf1RefIdeal.main_arg2) = m' ((c.tc : Thread Cert.DwFf1RefIdeal.nD Cert.DwFf1RefIdeal.τ).loc Cert.DwFf1RefIdeal.main_arg2))

def preserves_DA2_DA2Ideal : Prop :=
  True

def algebraic_DA2Ideal_DA2RefIdeal [hDA2Ideal : Cert.DA2Ideal.Facts] [hDA2RefIdeal : Cert.DA2RefIdeal.Facts] : Prop :=
  ∀ (m : (ℓ : Loc Cert.DA2Ideal.nD Cert.DA2Ideal.τ Cert.DA2Ideal.sig) → Buf (Elt Ideal) ℓ) (g : Dev Cert.DA2Ideal.nD → PrngReg)
    (m' : (ℓ : Loc Cert.DA2RefIdeal.nD Cert.DA2RefIdeal.τ Cert.DA2RefIdeal.sig) → Buf (Elt Ideal) ℓ) (g' : Dev Cert.DA2RefIdeal.nD → PrngReg), Pre_DA2Ideal m →
    (∀ c : Dev Cert.DA2Ideal.nD,
      m' ((c.tc : Thread Cert.DA2RefIdeal.nD Cert.DA2RefIdeal.τ).loc Cert.DA2RefIdeal.main_arg0) = m ((c.tc : Thread Cert.DA2Ideal.nD Cert.DA2Ideal.τ).loc Cert.DA2Ideal.main_arg0)
      ∧ m' ((c.tc : Thread Cert.DA2RefIdeal.nD Cert.DA2RefIdeal.τ).loc Cert.DA2RefIdeal.main_arg1) = m ((c.tc : Thread Cert.DA2Ideal.nD Cert.DA2Ideal.τ).loc Cert.DA2Ideal.main_arg1)
      ∧ m' ((c.tc : Thread Cert.DA2RefIdeal.nD Cert.DA2RefIdeal.τ).loc Cert.DA2RefIdeal.main_arg2) = m ((c.tc : Thread Cert.DA2Ideal.nD Cert.DA2Ideal.τ).loc Cert.DA2Ideal.main_arg2)) →
    ∃ (v0 : (c : Dev Cert.DA2Ideal.nD) → Buf (Elt Ideal) ((c.tc : Thread Cert.DA2Ideal.nD Cert.DA2Ideal.τ).loc Cert.DA2Ideal.main_v0)),
      θ_run (Cert.DA2Ideal.defs (F := Ideal)) (onTc (τ := Cert.DA2Ideal.τ) (Cert.DA2Ideal.main (F := Ideal))) ⟨m, fun _ => 0, g⟩ (fun r => ∀ c : Dev Cert.DA2Ideal.nD,
          r.2.mem ((c.tc : Thread Cert.DA2Ideal.nD Cert.DA2Ideal.τ).loc Cert.DA2Ideal.main_v0) = v0 c
          ∧ r.2.mem ((c.tc : Thread Cert.DA2Ideal.nD Cert.DA2Ideal.τ).loc Cert.DA2Ideal.main_arg0) = m ((c.tc : Thread Cert.DA2Ideal.nD Cert.DA2Ideal.τ).loc Cert.DA2Ideal.main_arg0)
          ∧ r.2.mem ((c.tc : Thread Cert.DA2Ideal.nD Cert.DA2Ideal.τ).loc Cert.DA2Ideal.main_arg1) = m ((c.tc : Thread Cert.DA2Ideal.nD Cert.DA2Ideal.τ).loc Cert.DA2Ideal.main_arg1)
          ∧ r.2.mem ((c.tc : Thread Cert.DA2Ideal.nD Cert.DA2Ideal.τ).loc Cert.DA2Ideal.main_arg2) = m ((c.tc : Thread Cert.DA2Ideal.nD Cert.DA2Ideal.τ).loc Cert.DA2Ideal.main_arg2))
      ∧ θ_run (Cert.DA2RefIdeal.defs (F := Ideal)) (onTc (τ := Cert.DA2RefIdeal.τ) (Cert.DA2RefIdeal.main (F := Ideal))) ⟨m', fun _ => 0, g'⟩ (fun r => ∀ c : Dev Cert.DA2RefIdeal.nD,
          r.2.mem ((c.tc : Thread Cert.DA2RefIdeal.nD Cert.DA2RefIdeal.τ).loc Cert.DA2RefIdeal.main_v16) = v0 c
          ∧ r.2.mem ((c.tc : Thread Cert.DA2RefIdeal.nD Cert.DA2RefIdeal.τ).loc Cert.DA2RefIdeal.main_arg0) = m' ((c.tc : Thread Cert.DA2RefIdeal.nD Cert.DA2RefIdeal.τ).loc Cert.DA2RefIdeal.main_arg0)
          ∧ r.2.mem ((c.tc : Thread Cert.DA2RefIdeal.nD Cert.DA2RefIdeal.τ).loc Cert.DA2RefIdeal.main_arg1) = m' ((c.tc : Thread Cert.DA2RefIdeal.nD Cert.DA2RefIdeal.τ).loc Cert.DA2RefIdeal.main_arg1)
          ∧ r.2.mem ((c.tc : Thread Cert.DA2RefIdeal.nD Cert.DA2RefIdeal.τ).loc Cert.DA2RefIdeal.main_arg2) = m' ((c.tc : Thread Cert.DA2RefIdeal.nD Cert.DA2RefIdeal.τ).loc Cert.DA2RefIdeal.main_arg2))

def preserves_Ff1_Ff1Ideal : Prop :=
  True

def algebraic_Ff1Ideal_Ff1RefIdeal [hFf1Ideal : Cert.Ff1Ideal.Facts] [hFf1RefIdeal : Cert.Ff1RefIdeal.Facts] : Prop :=
  ∀ (m : (ℓ : Loc Cert.Ff1Ideal.nD Cert.Ff1Ideal.τ Cert.Ff1Ideal.sig) → Buf (Elt Ideal) ℓ) (g : Dev Cert.Ff1Ideal.nD → PrngReg)
    (m' : (ℓ : Loc Cert.Ff1RefIdeal.nD Cert.Ff1RefIdeal.τ Cert.Ff1RefIdeal.sig) → Buf (Elt Ideal) ℓ) (g' : Dev Cert.Ff1RefIdeal.nD → PrngReg), Pre_Ff1Ideal m →
    (∀ c : Dev Cert.Ff1Ideal.nD,
      m' ((c.tc : Thread Cert.Ff1RefIdeal.nD Cert.Ff1RefIdeal.τ).loc Cert.Ff1RefIdeal.main_arg0) = m ((c.tc : Thread Cert.Ff1Ideal.nD Cert.Ff1Ideal.τ).loc Cert.Ff1Ideal.main_arg0)
      ∧ m' ((c.tc : Thread Cert.Ff1RefIdeal.nD Cert.Ff1RefIdeal.τ).loc Cert.Ff1RefIdeal.main_arg1) = m ((c.tc : Thread Cert.Ff1Ideal.nD Cert.Ff1Ideal.τ).loc Cert.Ff1Ideal.main_arg1)) →
    ∃ (v0 : (c : Dev Cert.Ff1Ideal.nD) → Buf (Elt Ideal) ((c.tc : Thread Cert.Ff1Ideal.nD Cert.Ff1Ideal.τ).loc Cert.Ff1Ideal.main_v0)),
      θ_run (Cert.Ff1Ideal.defs (F := Ideal)) (onTc (τ := Cert.Ff1Ideal.τ) (Cert.Ff1Ideal.main (F := Ideal))) ⟨m, fun _ => 0, g⟩ (fun r => ∀ c : Dev Cert.Ff1Ideal.nD,
          r.2.mem ((c.tc : Thread Cert.Ff1Ideal.nD Cert.Ff1Ideal.τ).loc Cert.Ff1Ideal.main_v0) = v0 c
          ∧ r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
          ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1))
      ∧ θ_run (Cert.Ff1RefIdeal.defs (F := Ideal)) (onTc (τ := Cert.Ff1RefIdeal.τ) (Cert.Ff1RefIdeal.main (F := Ideal))) ⟨m', fun _ => 0, g'⟩ (fun r => ∀ c : Dev Cert.Ff1RefIdeal.nD,
          r.2.mem ((c.tc : Thread Cert.Ff1RefIdeal.nD Cert.Ff1RefIdeal.τ).loc Cert.Ff1RefIdeal.main_v6) = v0 c
          ∧ r.2.mem ((c.tc : Thread Cert.Ff1RefIdeal.nD Cert.Ff1RefIdeal.τ).loc Cert.Ff1RefIdeal.main_arg0) = m' ((c.tc : Thread Cert.Ff1RefIdeal.nD Cert.Ff1RefIdeal.τ).loc Cert.Ff1RefIdeal.main_arg0)
          ∧ r.2.mem ((c.tc : Thread Cert.Ff1RefIdeal.nD Cert.Ff1RefIdeal.τ).loc Cert.Ff1RefIdeal.main_arg1) = m' ((c.tc : Thread Cert.Ff1RefIdeal.nD Cert.Ff1RefIdeal.τ).loc Cert.Ff1RefIdeal.main_arg1))

def preserves_Ff2_Ff2Ideal : Prop :=
  True

def algebraic_Ff2Ideal_Ff2RefIdeal [hFf2Ideal : Cert.Ff2Ideal.Facts] [hFf2RefIdeal : Cert.Ff2RefIdeal.Facts] : Prop :=
  ∀ (m : (ℓ : Loc Cert.Ff2Ideal.nD Cert.Ff2Ideal.τ Cert.Ff2Ideal.sig) → Buf (Elt Ideal) ℓ) (g : Dev Cert.Ff2Ideal.nD → PrngReg)
    (m' : (ℓ : Loc Cert.Ff2RefIdeal.nD Cert.Ff2RefIdeal.τ Cert.Ff2RefIdeal.sig) → Buf (Elt Ideal) ℓ) (g' : Dev Cert.Ff2RefIdeal.nD → PrngReg), Pre_Ff2Ideal m →
    (∀ c : Dev Cert.Ff2Ideal.nD,
      m' ((c.tc : Thread Cert.Ff2RefIdeal.nD Cert.Ff2RefIdeal.τ).loc Cert.Ff2RefIdeal.main_arg0) = m ((c.tc : Thread Cert.Ff2Ideal.nD Cert.Ff2Ideal.τ).loc Cert.Ff2Ideal.main_arg0)
      ∧ m' ((c.tc : Thread Cert.Ff2RefIdeal.nD Cert.Ff2RefIdeal.τ).loc Cert.Ff2RefIdeal.main_arg1) = m ((c.tc : Thread Cert.Ff2Ideal.nD Cert.Ff2Ideal.τ).loc Cert.Ff2Ideal.main_arg1)
      ∧ m' ((c.tc : Thread Cert.Ff2RefIdeal.nD Cert.Ff2RefIdeal.τ).loc Cert.Ff2RefIdeal.main_arg2) = m ((c.tc : Thread Cert.Ff2Ideal.nD Cert.Ff2Ideal.τ).loc Cert.Ff2Ideal.main_arg2)) →
    ∃ (v0 : (c : Dev Cert.Ff2Ideal.nD) → Buf (Elt Ideal) ((c.tc : Thread Cert.Ff2Ideal.nD Cert.Ff2Ideal.τ).loc Cert.Ff2Ideal.main_v0)),
      θ_run (Cert.Ff2Ideal.defs (F := Ideal)) (onTc (τ := Cert.Ff2Ideal.τ) (Cert.Ff2Ideal.main (F := Ideal))) ⟨m, fun _ => 0, g⟩ (fun r => ∀ c : Dev Cert.Ff2Ideal.nD,
          r.2.mem ((c.tc : Thread Cert.Ff2Ideal.nD Cert.Ff2Ideal.τ).loc Cert.Ff2Ideal.main_v0) = v0 c
          ∧ r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
          ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
          ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2))
      ∧ θ_run (Cert.Ff2RefIdeal.defs (F := Ideal)) (onTc (τ := Cert.Ff2RefIdeal.τ) (Cert.Ff2RefIdeal.main (F := Ideal))) ⟨m', fun _ => 0, g'⟩ (fun r => ∀ c : Dev Cert.Ff2RefIdeal.nD,
          r.2.mem ((c.tc : Thread Cert.Ff2RefIdeal.nD Cert.Ff2RefIdeal.τ).loc Cert.Ff2RefIdeal.main_v7) = v0 c
          ∧ r.2.mem ((c.tc : Thread Cert.Ff2RefIdeal.nD Cert.Ff2RefIdeal.τ).loc Cert.Ff2RefIdeal.main_arg0) = m' ((c.tc : Thread Cert.Ff2RefIdeal.nD Cert.Ff2RefIdeal.τ).loc Cert.Ff2RefIdeal.main_arg0)
          ∧ r.2.mem ((c.tc : Thread Cert.Ff2RefIdeal.nD Cert.Ff2RefIdeal.τ).loc Cert.Ff2RefIdeal.main_arg1) = m' ((c.tc : Thread Cert.Ff2RefIdeal.nD Cert.Ff2RefIdeal.τ).loc Cert.Ff2RefIdeal.main_arg1)
          ∧ r.2.mem ((c.tc : Thread Cert.Ff2RefIdeal.nD Cert.Ff2RefIdeal.τ).loc Cert.Ff2RefIdeal.main_arg2) = m' ((c.tc : Thread Cert.Ff2RefIdeal.nD Cert.Ff2RefIdeal.τ).loc Cert.Ff2RefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)) →
    ∃ (v0 : (c : Dev Cert.OutIdeal.nD) → Buf (Elt Ideal) ((c.tc : Thread Cert.OutIdeal.nD Cert.OutIdeal.τ).loc Cert.OutIdeal.main_v0)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v0) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v5) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2))

def preserves_Xo_XoIdeal : Prop :=
  True

def algebraic_XoIdeal_XoRefIdeal [hXoIdeal : Cert.XoIdeal.Facts] [hXoRefIdeal : Cert.XoRefIdeal.Facts] : Prop :=
  ∀ (m : (ℓ : Loc Cert.XoIdeal.nD Cert.XoIdeal.τ Cert.XoIdeal.sig) → Buf (Elt Ideal) ℓ) (g : Dev Cert.XoIdeal.nD → PrngReg)
    (m' : (ℓ : Loc Cert.XoRefIdeal.nD Cert.XoRefIdeal.τ Cert.XoRefIdeal.sig) → Buf (Elt Ideal) ℓ) (g' : Dev Cert.XoRefIdeal.nD → PrngReg), Pre_XoIdeal m →
    (∀ c : Dev Cert.XoIdeal.nD,
      m' ((c.tc : Thread Cert.XoRefIdeal.nD Cert.XoRefIdeal.τ).loc Cert.XoRefIdeal.main_arg0) = m ((c.tc : Thread Cert.XoIdeal.nD Cert.XoIdeal.τ).loc Cert.XoIdeal.main_arg0)
      ∧ m' ((c.tc : Thread Cert.XoRefIdeal.nD Cert.XoRefIdeal.τ).loc Cert.XoRefIdeal.main_arg1) = m ((c.tc : Thread Cert.XoIdeal.nD Cert.XoIdeal.τ).loc Cert.XoIdeal.main_arg1)
      ∧ m' ((c.tc : Thread Cert.XoRefIdeal.nD Cert.XoRefIdeal.τ).loc Cert.XoRefIdeal.main_arg2) = m ((c.tc : Thread Cert.XoIdeal.nD Cert.XoIdeal.τ).loc Cert.XoIdeal.main_arg2)) →
    ∃ (v0 : (c : Dev Cert.XoIdeal.nD) → Buf (Elt Ideal) ((c.tc : Thread Cert.XoIdeal.nD Cert.XoIdeal.τ).loc Cert.XoIdeal.main_v0)),
      θ_run (Cert.XoIdeal.defs (F := Ideal)) (onTc (τ := Cert.XoIdeal.τ) (Cert.XoIdeal.main (F := Ideal))) ⟨m, fun _ => 0, g⟩ (fun r => ∀ c : Dev Cert.XoIdeal.nD,
          r.2.mem ((c.tc : Thread Cert.XoIdeal.nD Cert.XoIdeal.τ).loc Cert.XoIdeal.main_v0) = v0 c
          ∧ r.2.mem ((c.tc : Thread Cert.XoIdeal.nD Cert.XoIdeal.τ).loc Cert.XoIdeal.main_arg0) = m ((c.tc : Thread Cert.XoIdeal.nD Cert.XoIdeal.τ).loc Cert.XoIdeal.main_arg0)
          ∧ r.2.mem ((c.tc : Thread Cert.XoIdeal.nD Cert.XoIdeal.τ).loc Cert.XoIdeal.main_arg1) = m ((c.tc : Thread Cert.XoIdeal.nD Cert.XoIdeal.τ).loc Cert.XoIdeal.main_arg1)
          ∧ r.2.mem ((c.tc : Thread Cert.XoIdeal.nD Cert.XoIdeal.τ).loc Cert.XoIdeal.main_arg2) = m ((c.tc : Thread Cert.XoIdeal.nD Cert.XoIdeal.τ).loc Cert.XoIdeal.main_arg2))
      ∧ θ_run (Cert.XoRefIdeal.defs (F := Ideal)) (onTc (τ := Cert.XoRefIdeal.τ) (Cert.XoRefIdeal.main (F := Ideal))) ⟨m', fun _ => 0, g'⟩ (fun r => ∀ c : Dev Cert.XoRefIdeal.nD,
          r.2.mem ((c.tc : Thread Cert.XoRefIdeal.nD Cert.XoRefIdeal.τ).loc Cert.XoRefIdeal.main_v5) = v0 c
          ∧ r.2.mem ((c.tc : Thread Cert.XoRefIdeal.nD Cert.XoRefIdeal.τ).loc Cert.XoRefIdeal.main_arg0) = m' ((c.tc : Thread Cert.XoRefIdeal.nD Cert.XoRefIdeal.τ).loc Cert.XoRefIdeal.main_arg0)
          ∧ r.2.mem ((c.tc : Thread Cert.XoRefIdeal.nD Cert.XoRefIdeal.τ).loc Cert.XoRefIdeal.main_arg1) = m' ((c.tc : Thread Cert.XoRefIdeal.nD Cert.XoRefIdeal.τ).loc Cert.XoRefIdeal.main_arg1)
          ∧ r.2.mem ((c.tc : Thread Cert.XoRefIdeal.nD Cert.XoRefIdeal.τ).loc Cert.XoRefIdeal.main_arg2) = m' ((c.tc : Thread Cert.XoRefIdeal.nD Cert.XoRefIdeal.τ).loc Cert.XoRefIdeal.main_arg2))

def preserves_Xq_XqIdeal : Prop :=
  True

def algebraic_XqIdeal_XqRefIdeal [hXqIdeal : Cert.XqIdeal.Facts] [hXqRefIdeal : Cert.XqRefIdeal.Facts] : Prop :=
  ∀ (m : (ℓ : Loc Cert.XqIdeal.nD Cert.XqIdeal.τ Cert.XqIdeal.sig) → Buf (Elt Ideal) ℓ) (g : Dev Cert.XqIdeal.nD → PrngReg)
    (m' : (ℓ : Loc Cert.XqRefIdeal.nD Cert.XqRefIdeal.τ Cert.XqRefIdeal.sig) → Buf (Elt Ideal) ℓ) (g' : Dev Cert.XqRefIdeal.nD → PrngReg), Pre_XqIdeal m →
    (∀ c : Dev Cert.XqIdeal.nD,
      m' ((c.tc : Thread Cert.XqRefIdeal.nD Cert.XqRefIdeal.τ).loc Cert.XqRefIdeal.main_arg0) = m ((c.tc : Thread Cert.XqIdeal.nD Cert.XqIdeal.τ).loc Cert.XqIdeal.main_arg0)
      ∧ m' ((c.tc : Thread Cert.XqRefIdeal.nD Cert.XqRefIdeal.τ).loc Cert.XqRefIdeal.main_arg1) = m ((c.tc : Thread Cert.XqIdeal.nD Cert.XqIdeal.τ).loc Cert.XqIdeal.main_arg1)) →
    ∃ (v0 : (c : Dev Cert.XqIdeal.nD) → Buf (Elt Ideal) ((c.tc : Thread Cert.XqIdeal.nD Cert.XqIdeal.τ).loc Cert.XqIdeal.main_v0)),
      θ_run (Cert.XqIdeal.defs (F := Ideal)) (onTc (τ := Cert.XqIdeal.τ) (Cert.XqIdeal.main (F := Ideal))) ⟨m, fun _ => 0, g⟩ (fun r => ∀ c : Dev Cert.XqIdeal.nD,
          r.2.mem ((c.tc : Thread Cert.XqIdeal.nD Cert.XqIdeal.τ).loc Cert.XqIdeal.main_v0) = v0 c
          ∧ r.2.mem ((c.tc : Thread Cert.XqIdeal.nD Cert.XqIdeal.τ).loc Cert.XqIdeal.main_arg0) = m ((c.tc : Thread Cert.XqIdeal.nD Cert.XqIdeal.τ).loc Cert.XqIdeal.main_arg0)
          ∧ r.2.mem ((c.tc : Thread Cert.XqIdeal.nD Cert.XqIdeal.τ).loc Cert.XqIdeal.main_arg1) = m ((c.tc : Thread Cert.XqIdeal.nD Cert.XqIdeal.τ).loc Cert.XqIdeal.main_arg1))
      ∧ θ_run (Cert.XqRefIdeal.defs (F := Ideal)) (onTc (τ := Cert.XqRefIdeal.τ) (Cert.XqRefIdeal.main (F := Ideal))) ⟨m', fun _ => 0, g'⟩ (fun r => ∀ c : Dev Cert.XqRefIdeal.nD,
          r.2.mem ((c.tc : Thread Cert.XqRefIdeal.nD Cert.XqRefIdeal.τ).loc Cert.XqRefIdeal.main_v5) = v0 c
          ∧ r.2.mem ((c.tc : Thread Cert.XqRefIdeal.nD Cert.XqRefIdeal.τ).loc Cert.XqRefIdeal.main_arg0) = m' ((c.tc : Thread Cert.XqRefIdeal.nD Cert.XqRefIdeal.τ).loc Cert.XqRefIdeal.main_arg0)
          ∧ r.2.mem ((c.tc : Thread Cert.XqRefIdeal.nD Cert.XqRefIdeal.τ).loc Cert.XqRefIdeal.main_arg1) = m' ((c.tc : Thread Cert.XqRefIdeal.nD Cert.XqRefIdeal.τ).loc Cert.XqRefIdeal.main_arg1))

def preserves_DO2_DO2Ideal : Prop :=
  True

def algebraic_DO2Ideal_DO2RefIdeal [hDO2Ideal : Cert.DO2Ideal.Facts] [hDO2RefIdeal : Cert.DO2RefIdeal.Facts] : Prop :=
  ∀ (m : (ℓ : Loc Cert.DO2Ideal.nD Cert.DO2Ideal.τ Cert.DO2Ideal.sig) → Buf (Elt Ideal) ℓ) (g : Dev Cert.DO2Ideal.nD → PrngReg)
    (m' : (ℓ : Loc Cert.DO2RefIdeal.nD Cert.DO2RefIdeal.τ Cert.DO2RefIdeal.sig) → Buf (Elt Ideal) ℓ) (g' : Dev Cert.DO2RefIdeal.nD → PrngReg), Pre_DO2Ideal m →
    (∀ c : Dev Cert.DO2Ideal.nD,
      m' ((c.tc : Thread Cert.DO2RefIdeal.nD Cert.DO2RefIdeal.τ).loc Cert.DO2RefIdeal.main_arg0) = m ((c.tc : Thread Cert.DO2Ideal.nD Cert.DO2Ideal.τ).loc Cert.DO2Ideal.main_arg0)
      ∧ m' ((c.tc : Thread Cert.DO2RefIdeal.nD Cert.DO2RefIdeal.τ).loc Cert.DO2RefIdeal.main_arg1) = m ((c.tc : Thread Cert.DO2Ideal.nD Cert.DO2Ideal.τ).loc Cert.DO2Ideal.main_arg1)) →
    ∃ (v0 : (c : Dev Cert.DO2Ideal.nD) → Buf (Elt Ideal) ((c.tc : Thread Cert.DO2Ideal.nD Cert.DO2Ideal.τ).loc Cert.DO2Ideal.main_v0)),
      θ_run (Cert.DO2Ideal.defs (F := Ideal)) (onTc (τ := Cert.DO2Ideal.τ) (Cert.DO2Ideal.main (F := Ideal))) ⟨m, fun _ => 0, g⟩ (fun r => ∀ c : Dev Cert.DO2Ideal.nD,
          r.2.mem ((c.tc : Thread Cert.DO2Ideal.nD Cert.DO2Ideal.τ).loc Cert.DO2Ideal.main_v0) = v0 c
          ∧ r.2.mem ((c.tc : Thread Cert.DO2Ideal.nD Cert.DO2Ideal.τ).loc Cert.DO2Ideal.main_arg0) = m ((c.tc : Thread Cert.DO2Ideal.nD Cert.DO2Ideal.τ).loc Cert.DO2Ideal.main_arg0)
          ∧ r.2.mem ((c.tc : Thread Cert.DO2Ideal.nD Cert.DO2Ideal.τ).loc Cert.DO2Ideal.main_arg1) = m ((c.tc : Thread Cert.DO2Ideal.nD Cert.DO2Ideal.τ).loc Cert.DO2Ideal.main_arg1))
      ∧ θ_run (Cert.DO2RefIdeal.defs (F := Ideal)) (onTc (τ := Cert.DO2RefIdeal.τ) (Cert.DO2RefIdeal.main (F := Ideal))) ⟨m', fun _ => 0, g'⟩ (fun r => ∀ c : Dev Cert.DO2RefIdeal.nD,
          r.2.mem ((c.tc : Thread Cert.DO2RefIdeal.nD Cert.DO2RefIdeal.τ).loc Cert.DO2RefIdeal.main_v6) = v0 c
          ∧ r.2.mem ((c.tc : Thread Cert.DO2RefIdeal.nD Cert.DO2RefIdeal.τ).loc Cert.DO2RefIdeal.main_arg0) = m' ((c.tc : Thread Cert.DO2RefIdeal.nD Cert.DO2RefIdeal.τ).loc Cert.DO2RefIdeal.main_arg0)
          ∧ r.2.mem ((c.tc : Thread Cert.DO2RefIdeal.nD Cert.DO2RefIdeal.τ).loc Cert.DO2RefIdeal.main_arg1) = m' ((c.tc : Thread Cert.DO2RefIdeal.nD Cert.DO2RefIdeal.τ).loc Cert.DO2RefIdeal.main_arg1))

def preserves_DMerged_DMergedIdeal : Prop :=
  True

def algebraic_DMergedIdeal_DMergedRefIdeal [hDMergedIdeal : Cert.DMergedIdeal.Facts] [hDMergedRefIdeal : Cert.DMergedRefIdeal.Facts] : Prop :=
  ∀ (m : (ℓ : Loc Cert.DMergedIdeal.nD Cert.DMergedIdeal.τ Cert.DMergedIdeal.sig) → Buf (Elt Ideal) ℓ) (g : Dev Cert.DMergedIdeal.nD → PrngReg)
    (m' : (ℓ : Loc Cert.DMergedRefIdeal.nD Cert.DMergedRefIdeal.τ Cert.DMergedRefIdeal.sig) → Buf (Elt Ideal) ℓ) (g' : Dev Cert.DMergedRefIdeal.nD → PrngReg), Pre_DMergedIdeal m →
    (∀ c : Dev Cert.DMergedIdeal.nD,
      m' ((c.tc : Thread Cert.DMergedRefIdeal.nD Cert.DMergedRefIdeal.τ).loc Cert.DMergedRefIdeal.main_arg0) = m ((c.tc : Thread Cert.DMergedIdeal.nD Cert.DMergedIdeal.τ).loc Cert.DMergedIdeal.main_arg0)
      ∧ m' ((c.tc : Thread Cert.DMergedRefIdeal.nD Cert.DMergedRefIdeal.τ).loc Cert.DMergedRefIdeal.main_arg1) = m ((c.tc : Thread Cert.DMergedIdeal.nD Cert.DMergedIdeal.τ).loc Cert.DMergedIdeal.main_arg1)) →
    ∃ (v0 : (c : Dev Cert.DMergedIdeal.nD) → Buf (Elt Ideal) ((c.tc : Thread Cert.DMergedIdeal.nD Cert.DMergedIdeal.τ).loc Cert.DMergedIdeal.main_v0)),
      θ_run (Cert.DMergedIdeal.defs (F := Ideal)) (onTc (τ := Cert.DMergedIdeal.τ) (Cert.DMergedIdeal.main (F := Ideal))) ⟨m, fun _ => 0, g⟩ (fun r => ∀ c : Dev Cert.DMergedIdeal.nD,
          r.2.mem ((c.tc : Thread Cert.DMergedIdeal.nD Cert.DMergedIdeal.τ).loc Cert.DMergedIdeal.main_v0) = v0 c
          ∧ r.2.mem ((c.tc : Thread Cert.DMergedIdeal.nD Cert.DMergedIdeal.τ).loc Cert.DMergedIdeal.main_arg0) = m ((c.tc : Thread Cert.DMergedIdeal.nD Cert.DMergedIdeal.τ).loc Cert.DMergedIdeal.main_arg0)
          ∧ r.2.mem ((c.tc : Thread Cert.DMergedIdeal.nD Cert.DMergedIdeal.τ).loc Cert.DMergedIdeal.main_arg1) = m ((c.tc : Thread Cert.DMergedIdeal.nD Cert.DMergedIdeal.τ).loc Cert.DMergedIdeal.main_arg1))
      ∧ θ_run (Cert.DMergedRefIdeal.defs (F := Ideal)) (onTc (τ := Cert.DMergedRefIdeal.τ) (Cert.DMergedRefIdeal.main (F := Ideal))) ⟨m', fun _ => 0, g'⟩ (fun r => ∀ c : Dev Cert.DMergedRefIdeal.nD,
          r.2.mem ((c.tc : Thread Cert.DMergedRefIdeal.nD Cert.DMergedRefIdeal.τ).loc Cert.DMergedRefIdeal.main_v5) = v0 c
          ∧ r.2.mem ((c.tc : Thread Cert.DMergedRefIdeal.nD Cert.DMergedRefIdeal.τ).loc Cert.DMergedRefIdeal.main_arg0) = m' ((c.tc : Thread Cert.DMergedRefIdeal.nD Cert.DMergedRefIdeal.τ).loc Cert.DMergedRefIdeal.main_arg0)
          ∧ r.2.mem ((c.tc : Thread Cert.DMergedRefIdeal.nD Cert.DMergedRefIdeal.τ).loc Cert.DMergedRefIdeal.main_arg1) = m' ((c.tc : Thread Cert.DMergedRefIdeal.nD Cert.DMergedRefIdeal.τ).loc Cert.DMergedRefIdeal.main_arg1))

def preserves_DwXo_DwXoIdeal : Prop :=
  True

def algebraic_DwXoIdeal_DwXoRefIdeal [hDwXoIdeal : Cert.DwXoIdeal.Facts] [hDwXoRefIdeal : Cert.DwXoRefIdeal.Facts] : Prop :=
  ∀ (m : (ℓ : Loc Cert.DwXoIdeal.nD Cert.DwXoIdeal.τ Cert.DwXoIdeal.sig) → Buf (Elt Ideal) ℓ) (g : Dev Cert.DwXoIdeal.nD → PrngReg)
    (m' : (ℓ : Loc Cert.DwXoRefIdeal.nD Cert.DwXoRefIdeal.τ Cert.DwXoRefIdeal.sig) → Buf (Elt Ideal) ℓ) (g' : Dev Cert.DwXoRefIdeal.nD → PrngReg), Pre_DwXoIdeal m →
    (∀ c : Dev Cert.DwXoIdeal.nD,
      m' ((c.tc : Thread Cert.DwXoRefIdeal.nD Cert.DwXoRefIdeal.τ).loc Cert.DwXoRefIdeal.main_arg0) = m ((c.tc : Thread Cert.DwXoIdeal.nD Cert.DwXoIdeal.τ).loc Cert.DwXoIdeal.main_arg0)
      ∧ m' ((c.tc : Thread Cert.DwXoRefIdeal.nD Cert.DwXoRefIdeal.τ).loc Cert.DwXoRefIdeal.main_arg1) = m ((c.tc : Thread Cert.DwXoIdeal.nD Cert.DwXoIdeal.τ).loc Cert.DwXoIdeal.main_arg1)
      ∧ m' ((c.tc : Thread Cert.DwXoRefIdeal.nD Cert.DwXoRefIdeal.τ).loc Cert.DwXoRefIdeal.main_arg2) = m ((c.tc : Thread Cert.DwXoIdeal.nD Cert.DwXoIdeal.τ).loc Cert.DwXoIdeal.main_arg2)) →
    ∃ (v0 : (c : Dev Cert.DwXoIdeal.nD) → Buf (Elt Ideal) ((c.tc : Thread Cert.DwXoIdeal.nD Cert.DwXoIdeal.τ).loc Cert.DwXoIdeal.main_v0)),
      θ_run (Cert.DwXoIdeal.defs (F := Ideal)) (onTc (τ := Cert.DwXoIdeal.τ) (Cert.DwXoIdeal.main (F := Ideal))) ⟨m, fun _ => 0, g⟩ (fun r => ∀ c : Dev Cert.DwXoIdeal.nD,
          r.2.mem ((c.tc : Thread Cert.DwXoIdeal.nD Cert.DwXoIdeal.τ).loc Cert.DwXoIdeal.main_v0) = v0 c
          ∧ r.2.mem ((c.tc : Thread Cert.DwXoIdeal.nD Cert.DwXoIdeal.τ).loc Cert.DwXoIdeal.main_arg0) = m ((c.tc : Thread Cert.DwXoIdeal.nD Cert.DwXoIdeal.τ).loc Cert.DwXoIdeal.main_arg0)
          ∧ r.2.mem ((c.tc : Thread Cert.DwXoIdeal.nD Cert.DwXoIdeal.τ).loc Cert.DwXoIdeal.main_arg1) = m ((c.tc : Thread Cert.DwXoIdeal.nD Cert.DwXoIdeal.τ).loc Cert.DwXoIdeal.main_arg1)
          ∧ r.2.mem ((c.tc : Thread Cert.DwXoIdeal.nD Cert.DwXoIdeal.τ).loc Cert.DwXoIdeal.main_arg2) = m ((c.tc : Thread Cert.DwXoIdeal.nD Cert.DwXoIdeal.τ).loc Cert.DwXoIdeal.main_arg2))
      ∧ θ_run (Cert.DwXoRefIdeal.defs (F := Ideal)) (onTc (τ := Cert.DwXoRefIdeal.τ) (Cert.DwXoRefIdeal.main (F := Ideal))) ⟨m', fun _ => 0, g'⟩ (fun r => ∀ c : Dev Cert.DwXoRefIdeal.nD,
          r.2.mem ((c.tc : Thread Cert.DwXoRefIdeal.nD Cert.DwXoRefIdeal.τ).loc Cert.DwXoRefIdeal.main_v7) = v0 c
          ∧ r.2.mem ((c.tc : Thread Cert.DwXoRefIdeal.nD Cert.DwXoRefIdeal.τ).loc Cert.DwXoRefIdeal.main_arg0) = m' ((c.tc : Thread Cert.DwXoRefIdeal.nD Cert.DwXoRefIdeal.τ).loc Cert.DwXoRefIdeal.main_arg0)
          ∧ r.2.mem ((c.tc : Thread Cert.DwXoRefIdeal.nD Cert.DwXoRefIdeal.τ).loc Cert.DwXoRefIdeal.main_arg1) = m' ((c.tc : Thread Cert.DwXoRefIdeal.nD Cert.DwXoRefIdeal.τ).loc Cert.DwXoRefIdeal.main_arg1)
          ∧ r.2.mem ((c.tc : Thread Cert.DwXoRefIdeal.nD Cert.DwXoRefIdeal.τ).loc Cert.DwXoRefIdeal.main_arg2) = m' ((c.tc : Thread Cert.DwXoRefIdeal.nD Cert.DwXoRefIdeal.τ).loc Cert.DwXoRefIdeal.main_arg2))

def preserves_DwXq_DwXqIdeal : Prop :=
  True

def algebraic_DwXqIdeal_DwXqRefIdeal [hDwXqIdeal : Cert.DwXqIdeal.Facts] [hDwXqRefIdeal : Cert.DwXqRefIdeal.Facts] : Prop :=
  ∀ (m : (ℓ : Loc Cert.DwXqIdeal.nD Cert.DwXqIdeal.τ Cert.DwXqIdeal.sig) → Buf (Elt Ideal) ℓ) (g : Dev Cert.DwXqIdeal.nD → PrngReg)
    (m' : (ℓ : Loc Cert.DwXqRefIdeal.nD Cert.DwXqRefIdeal.τ Cert.DwXqRefIdeal.sig) → Buf (Elt Ideal) ℓ) (g' : Dev Cert.DwXqRefIdeal.nD → PrngReg), Pre_DwXqIdeal m →
    (∀ c : Dev Cert.DwXqIdeal.nD,
      m' ((c.tc : Thread Cert.DwXqRefIdeal.nD Cert.DwXqRefIdeal.τ).loc Cert.DwXqRefIdeal.main_arg0) = m ((c.tc : Thread Cert.DwXqIdeal.nD Cert.DwXqIdeal.τ).loc Cert.DwXqIdeal.main_arg0)
      ∧ m' ((c.tc : Thread Cert.DwXqRefIdeal.nD Cert.DwXqRefIdeal.τ).loc Cert.DwXqRefIdeal.main_arg1) = m ((c.tc : Thread Cert.DwXqIdeal.nD Cert.DwXqIdeal.τ).loc Cert.DwXqIdeal.main_arg1)
      ∧ m' ((c.tc : Thread Cert.DwXqRefIdeal.nD Cert.DwXqRefIdeal.τ).loc Cert.DwXqRefIdeal.main_arg2) = m ((c.tc : Thread Cert.DwXqIdeal.nD Cert.DwXqIdeal.τ).loc Cert.DwXqIdeal.main_arg2)) →
    ∃ (v0 : (c : Dev Cert.DwXqIdeal.nD) → Buf (Elt Ideal) ((c.tc : Thread Cert.DwXqIdeal.nD Cert.DwXqIdeal.τ).loc Cert.DwXqIdeal.main_v0)),
      θ_run (Cert.DwXqIdeal.defs (F := Ideal)) (onTc (τ := Cert.DwXqIdeal.τ) (Cert.DwXqIdeal.main (F := Ideal))) ⟨m, fun _ => 0, g⟩ (fun r => ∀ c : Dev Cert.DwXqIdeal.nD,
          r.2.mem ((c.tc : Thread Cert.DwXqIdeal.nD Cert.DwXqIdeal.τ).loc Cert.DwXqIdeal.main_v0) = v0 c
          ∧ r.2.mem ((c.tc : Thread Cert.DwXqIdeal.nD Cert.DwXqIdeal.τ).loc Cert.DwXqIdeal.main_arg0) = m ((c.tc : Thread Cert.DwXqIdeal.nD Cert.DwXqIdeal.τ).loc Cert.DwXqIdeal.main_arg0)
          ∧ r.2.mem ((c.tc : Thread Cert.DwXqIdeal.nD Cert.DwXqIdeal.τ).loc Cert.DwXqIdeal.main_arg1) = m ((c.tc : Thread Cert.DwXqIdeal.nD Cert.DwXqIdeal.τ).loc Cert.DwXqIdeal.main_arg1)
          ∧ r.2.mem ((c.tc : Thread Cert.DwXqIdeal.nD Cert.DwXqIdeal.τ).loc Cert.DwXqIdeal.main_arg2) = m ((c.tc : Thread Cert.DwXqIdeal.nD Cert.DwXqIdeal.τ).loc Cert.DwXqIdeal.main_arg2))
      ∧ θ_run (Cert.DwXqRefIdeal.defs (F := Ideal)) (onTc (τ := Cert.DwXqRefIdeal.τ) (Cert.DwXqRefIdeal.main (F := Ideal))) ⟨m', fun _ => 0, g'⟩ (fun r => ∀ c : Dev Cert.DwXqRefIdeal.nD,
          r.2.mem ((c.tc : Thread Cert.DwXqRefIdeal.nD Cert.DwXqRefIdeal.τ).loc Cert.DwXqRefIdeal.main_v8) = v0 c
          ∧ r.2.mem ((c.tc : Thread Cert.DwXqRefIdeal.nD Cert.DwXqRefIdeal.τ).loc Cert.DwXqRefIdeal.main_arg0) = m' ((c.tc : Thread Cert.DwXqRefIdeal.nD Cert.DwXqRefIdeal.τ).loc Cert.DwXqRefIdeal.main_arg0)
          ∧ r.2.mem ((c.tc : Thread Cert.DwXqRefIdeal.nD Cert.DwXqRefIdeal.τ).loc Cert.DwXqRefIdeal.main_arg1) = m' ((c.tc : Thread Cert.DwXqRefIdeal.nD Cert.DwXqRefIdeal.τ).loc Cert.DwXqRefIdeal.main_arg1)
          ∧ r.2.mem ((c.tc : Thread Cert.DwXqRefIdeal.nD Cert.DwXqRefIdeal.τ).loc Cert.DwXqRefIdeal.main_arg2) = m' ((c.tc : Thread Cert.DwXqRefIdeal.nD Cert.DwXqRefIdeal.τ).loc Cert.DwXqRefIdeal.main_arg2))

def preserves_DwOut_DwOutIdeal : Prop :=
  True

def algebraic_DwOutIdeal_DwOutRefIdeal [hDwOutIdeal : Cert.DwOutIdeal.Facts] [hDwOutRefIdeal : Cert.DwOutRefIdeal.Facts] : Prop :=
  ∀ (m : (ℓ : Loc Cert.DwOutIdeal.nD Cert.DwOutIdeal.τ Cert.DwOutIdeal.sig) → Buf (Elt Ideal) ℓ) (g : Dev Cert.DwOutIdeal.nD → PrngReg)
    (m' : (ℓ : Loc Cert.DwOutRefIdeal.nD Cert.DwOutRefIdeal.τ Cert.DwOutRefIdeal.sig) → Buf (Elt Ideal) ℓ) (g' : Dev Cert.DwOutRefIdeal.nD → PrngReg), Pre_DwOutIdeal m →
    (∀ c : Dev Cert.DwOutIdeal.nD,
      m' ((c.tc : Thread Cert.DwOutRefIdeal.nD Cert.DwOutRefIdeal.τ).loc Cert.DwOutRefIdeal.main_arg0) = m ((c.tc : Thread Cert.DwOutIdeal.nD Cert.DwOutIdeal.τ).loc Cert.DwOutIdeal.main_arg0)
      ∧ m' ((c.tc : Thread Cert.DwOutRefIdeal.nD Cert.DwOutRefIdeal.τ).loc Cert.DwOutRefIdeal.main_arg1) = m ((c.tc : Thread Cert.DwOutIdeal.nD Cert.DwOutIdeal.τ).loc Cert.DwOutIdeal.main_arg1)
      ∧ m' ((c.tc : Thread Cert.DwOutRefIdeal.nD Cert.DwOutRefIdeal.τ).loc Cert.DwOutRefIdeal.main_arg2) = m ((c.tc : Thread Cert.DwOutIdeal.nD Cert.DwOutIdeal.τ).loc Cert.DwOutIdeal.main_arg2)) →
    ∃ (v0 : (c : Dev Cert.DwOutIdeal.nD) → Buf (Elt Ideal) ((c.tc : Thread Cert.DwOutIdeal.nD Cert.DwOutIdeal.τ).loc Cert.DwOutIdeal.main_v0)),
      θ_run (Cert.DwOutIdeal.defs (F := Ideal)) (onTc (τ := Cert.DwOutIdeal.τ) (Cert.DwOutIdeal.main (F := Ideal))) ⟨m, fun _ => 0, g⟩ (fun r => ∀ c : Dev Cert.DwOutIdeal.nD,
          r.2.mem ((c.tc : Thread Cert.DwOutIdeal.nD Cert.DwOutIdeal.τ).loc Cert.DwOutIdeal.main_v0) = v0 c
          ∧ r.2.mem ((c.tc : Thread Cert.DwOutIdeal.nD Cert.DwOutIdeal.τ).loc Cert.DwOutIdeal.main_arg0) = m ((c.tc : Thread Cert.DwOutIdeal.nD Cert.DwOutIdeal.τ).loc Cert.DwOutIdeal.main_arg0)
          ∧ r.2.mem ((c.tc : Thread Cert.DwOutIdeal.nD Cert.DwOutIdeal.τ).loc Cert.DwOutIdeal.main_arg1) = m ((c.tc : Thread Cert.DwOutIdeal.nD Cert.DwOutIdeal.τ).loc Cert.DwOutIdeal.main_arg1)
          ∧ r.2.mem ((c.tc : Thread Cert.DwOutIdeal.nD Cert.DwOutIdeal.τ).loc Cert.DwOutIdeal.main_arg2) = m ((c.tc : Thread Cert.DwOutIdeal.nD Cert.DwOutIdeal.τ).loc Cert.DwOutIdeal.main_arg2))
      ∧ θ_run (Cert.DwOutRefIdeal.defs (F := Ideal)) (onTc (τ := Cert.DwOutRefIdeal.τ) (Cert.DwOutRefIdeal.main (F := Ideal))) ⟨m', fun _ => 0, g'⟩ (fun r => ∀ c : Dev Cert.DwOutRefIdeal.nD,
          r.2.mem ((c.tc : Thread Cert.DwOutRefIdeal.nD Cert.DwOutRefIdeal.τ).loc Cert.DwOutRefIdeal.main_v7) = v0 c
          ∧ r.2.mem ((c.tc : Thread Cert.DwOutRefIdeal.nD Cert.DwOutRefIdeal.τ).loc Cert.DwOutRefIdeal.main_arg0) = m' ((c.tc : Thread Cert.DwOutRefIdeal.nD Cert.DwOutRefIdeal.τ).loc Cert.DwOutRefIdeal.main_arg0)
          ∧ r.2.mem ((c.tc : Thread Cert.DwOutRefIdeal.nD Cert.DwOutRefIdeal.τ).loc Cert.DwOutRefIdeal.main_arg1) = m' ((c.tc : Thread Cert.DwOutRefIdeal.nD Cert.DwOutRefIdeal.τ).loc Cert.DwOutRefIdeal.main_arg1)
          ∧ r.2.mem ((c.tc : Thread Cert.DwOutRefIdeal.nD Cert.DwOutRefIdeal.τ).loc Cert.DwOutRefIdeal.main_arg2) = m' ((c.tc : Thread Cert.DwOutRefIdeal.nD Cert.DwOutRefIdeal.τ).loc Cert.DwOutRefIdeal.main_arg2))

def preserves_DHf_DHfIdeal : Prop :=
  True

def algebraic_DHfIdeal_DHfRefIdeal [hDHfIdeal : Cert.DHfIdeal.Facts] [hDHfRefIdeal : Cert.DHfRefIdeal.Facts] : Prop :=
  ∀ (m : (ℓ : Loc Cert.DHfIdeal.nD Cert.DHfIdeal.τ Cert.DHfIdeal.sig) → Buf (Elt Ideal) ℓ) (g : Dev Cert.DHfIdeal.nD → PrngReg)
    (m' : (ℓ : Loc Cert.DHfRefIdeal.nD Cert.DHfRefIdeal.τ Cert.DHfRefIdeal.sig) → Buf (Elt Ideal) ℓ) (g' : Dev Cert.DHfRefIdeal.nD → PrngReg), Pre_DHfIdeal m →
    (∀ c : Dev Cert.DHfIdeal.nD,
      m' ((c.tc : Thread Cert.DHfRefIdeal.nD Cert.DHfRefIdeal.τ).loc Cert.DHfRefIdeal.main_arg0) = m ((c.tc : Thread Cert.DHfIdeal.nD Cert.DHfIdeal.τ).loc Cert.DHfIdeal.main_arg0)
      ∧ m' ((c.tc : Thread Cert.DHfRefIdeal.nD Cert.DHfRefIdeal.τ).loc Cert.DHfRefIdeal.main_arg1) = m ((c.tc : Thread Cert.DHfIdeal.nD Cert.DHfIdeal.τ).loc Cert.DHfIdeal.main_arg1)
      ∧ m' ((c.tc : Thread Cert.DHfRefIdeal.nD Cert.DHfRefIdeal.τ).loc Cert.DHfRefIdeal.main_arg2) = m ((c.tc : Thread Cert.DHfIdeal.nD Cert.DHfIdeal.τ).loc Cert.DHfIdeal.main_arg2)
      ∧ m' ((c.tc : Thread Cert.DHfRefIdeal.nD Cert.DHfRefIdeal.τ).loc Cert.DHfRefIdeal.main_arg3) = m ((c.tc : Thread Cert.DHfIdeal.nD Cert.DHfIdeal.τ).loc Cert.DHfIdeal.main_arg3)
      ∧ m' ((c.tc : Thread Cert.DHfRefIdeal.nD Cert.DHfRefIdeal.τ).loc Cert.DHfRefIdeal.main_arg4) = m ((c.tc : Thread Cert.DHfIdeal.nD Cert.DHfIdeal.τ).loc Cert.DHfIdeal.main_arg4)) →
    ∃ (v0 : (c : Dev Cert.DHfIdeal.nD) → Buf (Elt Ideal) ((c.tc : Thread Cert.DHfIdeal.nD Cert.DHfIdeal.τ).loc Cert.DHfIdeal.main_v0_0)) (v1 : (c : Dev Cert.DHfIdeal.nD) → Buf (Elt Ideal) ((c.tc : Thread Cert.DHfIdeal.nD Cert.DHfIdeal.τ).loc Cert.DHfIdeal.main_v0_1)),
      θ_run (Cert.DHfIdeal.defs (F := Ideal)) (onTc (τ := Cert.DHfIdeal.τ) (Cert.DHfIdeal.main (F := Ideal))) ⟨m, fun _ => 0, g⟩ (fun r => ∀ c : Dev Cert.DHfIdeal.nD,
          r.2.mem ((c.tc : Thread Cert.DHfIdeal.nD Cert.DHfIdeal.τ).loc Cert.DHfIdeal.main_v0_0) = v0 c
          ∧ r.2.mem ((c.tc : Thread Cert.DHfIdeal.nD Cert.DHfIdeal.τ).loc Cert.DHfIdeal.main_v0_1) = v1 c
          ∧ r.2.mem ((c.tc : Thread Cert.DHfIdeal.nD Cert.DHfIdeal.τ).loc Cert.DHfIdeal.main_arg0) = m ((c.tc : Thread Cert.DHfIdeal.nD Cert.DHfIdeal.τ).loc Cert.DHfIdeal.main_arg0)
          ∧ r.2.mem ((c.tc : Thread Cert.DHfIdeal.nD Cert.DHfIdeal.τ).loc Cert.DHfIdeal.main_arg1) = m ((c.tc : Thread Cert.DHfIdeal.nD Cert.DHfIdeal.τ).loc Cert.DHfIdeal.main_arg1)
          ∧ r.2.mem ((c.tc : Thread Cert.DHfIdeal.nD Cert.DHfIdeal.τ).loc Cert.DHfIdeal.main_arg2) = m ((c.tc : Thread Cert.DHfIdeal.nD Cert.DHfIdeal.τ).loc Cert.DHfIdeal.main_arg2)
          ∧ r.2.mem ((c.tc : Thread Cert.DHfIdeal.nD Cert.DHfIdeal.τ).loc Cert.DHfIdeal.main_arg3) = m ((c.tc : Thread Cert.DHfIdeal.nD Cert.DHfIdeal.τ).loc Cert.DHfIdeal.main_arg3)
          ∧ r.2.mem ((c.tc : Thread Cert.DHfIdeal.nD Cert.DHfIdeal.τ).loc Cert.DHfIdeal.main_arg4) = m ((c.tc : Thread Cert.DHfIdeal.nD Cert.DHfIdeal.τ).loc Cert.DHfIdeal.main_arg4))
      ∧ θ_run (Cert.DHfRefIdeal.defs (F := Ideal)) (onTc (τ := Cert.DHfRefIdeal.τ) (Cert.DHfRefIdeal.main (F := Ideal))) ⟨m', fun _ => 0, g'⟩ (fun r => ∀ c : Dev Cert.DHfRefIdeal.nD,
          r.2.mem ((c.tc : Thread Cert.DHfRefIdeal.nD Cert.DHfRefIdeal.τ).loc Cert.DHfRefIdeal.main_v41) = v0 c
          ∧ r.2.mem ((c.tc : Thread Cert.DHfRefIdeal.nD Cert.DHfRefIdeal.τ).loc Cert.DHfRefIdeal.main_v24) = v1 c
          ∧ r.2.mem ((c.tc : Thread Cert.DHfRefIdeal.nD Cert.DHfRefIdeal.τ).loc Cert.DHfRefIdeal.main_arg0) = m' ((c.tc : Thread Cert.DHfRefIdeal.nD Cert.DHfRefIdeal.τ).loc Cert.DHfRefIdeal.main_arg0)
          ∧ r.2.mem ((c.tc : Thread Cert.DHfRefIdeal.nD Cert.DHfRefIdeal.τ).loc Cert.DHfRefIdeal.main_arg1) = m' ((c.tc : Thread Cert.DHfRefIdeal.nD Cert.DHfRefIdeal.τ).loc Cert.DHfRefIdeal.main_arg1)
          ∧ r.2.mem ((c.tc : Thread Cert.DHfRefIdeal.nD Cert.DHfRefIdeal.τ).loc Cert.DHfRefIdeal.main_arg2) = m' ((c.tc : Thread Cert.DHfRefIdeal.nD Cert.DHfRefIdeal.τ).loc Cert.DHfRefIdeal.main_arg2)
          ∧ r.2.mem ((c.tc : Thread Cert.DHfRefIdeal.nD Cert.DHfRefIdeal.τ).loc Cert.DHfRefIdeal.main_arg3) = m' ((c.tc : Thread Cert.DHfRefIdeal.nD Cert.DHfRefIdeal.τ).loc Cert.DHfRefIdeal.main_arg3)
          ∧ r.2.mem ((c.tc : Thread Cert.DHfRefIdeal.nD Cert.DHfRefIdeal.τ).loc Cert.DHfRefIdeal.main_arg4) = m' ((c.tc : Thread Cert.DHfRefIdeal.nD Cert.DHfRefIdeal.τ).loc Cert.DHfRefIdeal.main_arg4))

def preserves_DH_DHIdeal : Prop :=
  True

def algebraic_DHIdeal_DHRefIdeal [hDHIdeal : Cert.DHIdeal.Facts] [hDHRefIdeal : Cert.DHRefIdeal.Facts] : Prop :=
  ∀ (m : (ℓ : Loc Cert.DHIdeal.nD Cert.DHIdeal.τ Cert.DHIdeal.sig) → Buf (Elt Ideal) ℓ) (g : Dev Cert.DHIdeal.nD → PrngReg)
    (m' : (ℓ : Loc Cert.DHRefIdeal.nD Cert.DHRefIdeal.τ Cert.DHRefIdeal.sig) → Buf (Elt Ideal) ℓ) (g' : Dev Cert.DHRefIdeal.nD → PrngReg), Pre_DHIdeal m →
    (∀ c : Dev Cert.DHIdeal.nD,
      m' ((c.tc : Thread Cert.DHRefIdeal.nD Cert.DHRefIdeal.τ).loc Cert.DHRefIdeal.main_arg0) = m ((c.tc : Thread Cert.DHIdeal.nD Cert.DHIdeal.τ).loc Cert.DHIdeal.main_arg0)
      ∧ m' ((c.tc : Thread Cert.DHRefIdeal.nD Cert.DHRefIdeal.τ).loc Cert.DHRefIdeal.main_arg1) = m ((c.tc : Thread Cert.DHIdeal.nD Cert.DHIdeal.τ).loc Cert.DHIdeal.main_arg1)
      ∧ m' ((c.tc : Thread Cert.DHRefIdeal.nD Cert.DHRefIdeal.τ).loc Cert.DHRefIdeal.main_arg2) = m ((c.tc : Thread Cert.DHIdeal.nD Cert.DHIdeal.τ).loc Cert.DHIdeal.main_arg2)
      ∧ m' ((c.tc : Thread Cert.DHRefIdeal.nD Cert.DHRefIdeal.τ).loc Cert.DHRefIdeal.main_arg3) = m ((c.tc : Thread Cert.DHIdeal.nD Cert.DHIdeal.τ).loc Cert.DHIdeal.main_arg3)
      ∧ m' ((c.tc : Thread Cert.DHRefIdeal.nD Cert.DHRefIdeal.τ).loc Cert.DHRefIdeal.main_arg4) = m ((c.tc : Thread Cert.DHIdeal.nD Cert.DHIdeal.τ).loc Cert.DHIdeal.main_arg4)) →
    ∃ (v0 : (c : Dev Cert.DHIdeal.nD) → Buf (Elt Ideal) ((c.tc : Thread Cert.DHIdeal.nD Cert.DHIdeal.τ).loc Cert.DHIdeal.main_v0_0)) (v1 : (c : Dev Cert.DHIdeal.nD) → Buf (Elt Ideal) ((c.tc : Thread Cert.DHIdeal.nD Cert.DHIdeal.τ).loc Cert.DHIdeal.main_v0_1)),
      θ_run (Cert.DHIdeal.defs (F := Ideal)) (onTc (τ := Cert.DHIdeal.τ) (Cert.DHIdeal.main (F := Ideal))) ⟨m, fun _ => 0, g⟩ (fun r => ∀ c : Dev Cert.DHIdeal.nD,
          r.2.mem ((c.tc : Thread Cert.DHIdeal.nD Cert.DHIdeal.τ).loc Cert.DHIdeal.main_v0_0) = v0 c
          ∧ r.2.mem ((c.tc : Thread Cert.DHIdeal.nD Cert.DHIdeal.τ).loc Cert.DHIdeal.main_v0_1) = v1 c
          ∧ r.2.mem ((c.tc : Thread Cert.DHIdeal.nD Cert.DHIdeal.τ).loc Cert.DHIdeal.main_arg0) = m ((c.tc : Thread Cert.DHIdeal.nD Cert.DHIdeal.τ).loc Cert.DHIdeal.main_arg0)
          ∧ r.2.mem ((c.tc : Thread Cert.DHIdeal.nD Cert.DHIdeal.τ).loc Cert.DHIdeal.main_arg1) = m ((c.tc : Thread Cert.DHIdeal.nD Cert.DHIdeal.τ).loc Cert.DHIdeal.main_arg1)
          ∧ r.2.mem ((c.tc : Thread Cert.DHIdeal.nD Cert.DHIdeal.τ).loc Cert.DHIdeal.main_arg2) = m ((c.tc : Thread Cert.DHIdeal.nD Cert.DHIdeal.τ).loc Cert.DHIdeal.main_arg2)
          ∧ r.2.mem ((c.tc : Thread Cert.DHIdeal.nD Cert.DHIdeal.τ).loc Cert.DHIdeal.main_arg3) = m ((c.tc : Thread Cert.DHIdeal.nD Cert.DHIdeal.τ).loc Cert.DHIdeal.main_arg3)
          ∧ r.2.mem ((c.tc : Thread Cert.DHIdeal.nD Cert.DHIdeal.τ).loc Cert.DHIdeal.main_arg4) = m ((c.tc : Thread Cert.DHIdeal.nD Cert.DHIdeal.τ).loc Cert.DHIdeal.main_arg4))
      ∧ θ_run (Cert.DHRefIdeal.defs (F := Ideal)) (onTc (τ := Cert.DHRefIdeal.τ) (Cert.DHRefIdeal.main (F := Ideal))) ⟨m', fun _ => 0, g'⟩ (fun r => ∀ c : Dev Cert.DHRefIdeal.nD,
          r.2.mem ((c.tc : Thread Cert.DHRefIdeal.nD Cert.DHRefIdeal.τ).loc Cert.DHRefIdeal.main_v39) = v0 c
          ∧ r.2.mem ((c.tc : Thread Cert.DHRefIdeal.nD Cert.DHRefIdeal.τ).loc Cert.DHRefIdeal.main_v22) = v1 c
          ∧ r.2.mem ((c.tc : Thread Cert.DHRefIdeal.nD Cert.DHRefIdeal.τ).loc Cert.DHRefIdeal.main_arg0) = m' ((c.tc : Thread Cert.DHRefIdeal.nD Cert.DHRefIdeal.τ).loc Cert.DHRefIdeal.main_arg0)
          ∧ r.2.mem ((c.tc : Thread Cert.DHRefIdeal.nD Cert.DHRefIdeal.τ).loc Cert.DHRefIdeal.main_arg1) = m' ((c.tc : Thread Cert.DHRefIdeal.nD Cert.DHRefIdeal.τ).loc Cert.DHRefIdeal.main_arg1)
          ∧ r.2.mem ((c.tc : Thread Cert.DHRefIdeal.nD Cert.DHRefIdeal.τ).loc Cert.DHRefIdeal.main_arg2) = m' ((c.tc : Thread Cert.DHRefIdeal.nD Cert.DHRefIdeal.τ).loc Cert.DHRefIdeal.main_arg2)
          ∧ r.2.mem ((c.tc : Thread Cert.DHRefIdeal.nD Cert.DHRefIdeal.τ).loc Cert.DHRefIdeal.main_arg3) = m' ((c.tc : Thread Cert.DHRefIdeal.nD Cert.DHRefIdeal.τ).loc Cert.DHRefIdeal.main_arg3)
          ∧ r.2.mem ((c.tc : Thread Cert.DHRefIdeal.nD Cert.DHRefIdeal.τ).loc Cert.DHRefIdeal.main_arg4) = m' ((c.tc : Thread Cert.DHRefIdeal.nD Cert.DHRefIdeal.τ).loc Cert.DHRefIdeal.main_arg4))

def preserves_DHx_DHxIdeal : Prop :=
  True

def algebraic_DHxIdeal_DHxRefIdeal [hDHxIdeal : Cert.DHxIdeal.Facts] [hDHxRefIdeal : Cert.DHxRefIdeal.Facts] : Prop :=
  ∀ (m : (ℓ : Loc Cert.DHxIdeal.nD Cert.DHxIdeal.τ Cert.DHxIdeal.sig) → Buf (Elt Ideal) ℓ) (g : Dev Cert.DHxIdeal.nD → PrngReg)
    (m' : (ℓ : Loc Cert.DHxRefIdeal.nD Cert.DHxRefIdeal.τ Cert.DHxRefIdeal.sig) → Buf (Elt Ideal) ℓ) (g' : Dev Cert.DHxRefIdeal.nD → PrngReg), Pre_DHxIdeal m →
    (∀ c : Dev Cert.DHxIdeal.nD,
      m' ((c.tc : Thread Cert.DHxRefIdeal.nD Cert.DHxRefIdeal.τ).loc Cert.DHxRefIdeal.main_arg0) = m ((c.tc : Thread Cert.DHxIdeal.nD Cert.DHxIdeal.τ).loc Cert.DHxIdeal.main_arg0)
      ∧ m' ((c.tc : Thread Cert.DHxRefIdeal.nD Cert.DHxRefIdeal.τ).loc Cert.DHxRefIdeal.main_arg1) = m ((c.tc : Thread Cert.DHxIdeal.nD Cert.DHxIdeal.τ).loc Cert.DHxIdeal.main_arg1)
      ∧ m' ((c.tc : Thread Cert.DHxRefIdeal.nD Cert.DHxRefIdeal.τ).loc Cert.DHxRefIdeal.main_arg2) = m ((c.tc : Thread Cert.DHxIdeal.nD Cert.DHxIdeal.τ).loc Cert.DHxIdeal.main_arg2)
      ∧ m' ((c.tc : Thread Cert.DHxRefIdeal.nD Cert.DHxRefIdeal.τ).loc Cert.DHxRefIdeal.main_arg3) = m ((c.tc : Thread Cert.DHxIdeal.nD Cert.DHxIdeal.τ).loc Cert.DHxIdeal.main_arg3)
      ∧ m' ((c.tc : Thread Cert.DHxRefIdeal.nD Cert.DHxRefIdeal.τ).loc Cert.DHxRefIdeal.main_arg4) = m ((c.tc : Thread Cert.DHxIdeal.nD Cert.DHxIdeal.τ).loc Cert.DHxIdeal.main_arg4)) →
    ∃ (v0 : (c : Dev Cert.DHxIdeal.nD) → Buf (Elt Ideal) ((c.tc : Thread Cert.DHxIdeal.nD Cert.DHxIdeal.τ).loc Cert.DHxIdeal.main_v0_0)) (v1 : (c : Dev Cert.DHxIdeal.nD) → Buf (Elt Ideal) ((c.tc : Thread Cert.DHxIdeal.nD Cert.DHxIdeal.τ).loc Cert.DHxIdeal.main_v0_1)),
      θ_run (Cert.DHxIdeal.defs (F := Ideal)) (onTc (τ := Cert.DHxIdeal.τ) (Cert.DHxIdeal.main (F := Ideal))) ⟨m, fun _ => 0, g⟩ (fun r => ∀ c : Dev Cert.DHxIdeal.nD,
          r.2.mem ((c.tc : Thread Cert.DHxIdeal.nD Cert.DHxIdeal.τ).loc Cert.DHxIdeal.main_v0_0) = v0 c
          ∧ r.2.mem ((c.tc : Thread Cert.DHxIdeal.nD Cert.DHxIdeal.τ).loc Cert.DHxIdeal.main_v0_1) = v1 c
          ∧ r.2.mem ((c.tc : Thread Cert.DHxIdeal.nD Cert.DHxIdeal.τ).loc Cert.DHxIdeal.main_arg0) = m ((c.tc : Thread Cert.DHxIdeal.nD Cert.DHxIdeal.τ).loc Cert.DHxIdeal.main_arg0)
          ∧ r.2.mem ((c.tc : Thread Cert.DHxIdeal.nD Cert.DHxIdeal.τ).loc Cert.DHxIdeal.main_arg1) = m ((c.tc : Thread Cert.DHxIdeal.nD Cert.DHxIdeal.τ).loc Cert.DHxIdeal.main_arg1)
          ∧ r.2.mem ((c.tc : Thread Cert.DHxIdeal.nD Cert.DHxIdeal.τ).loc Cert.DHxIdeal.main_arg2) = m ((c.tc : Thread Cert.DHxIdeal.nD Cert.DHxIdeal.τ).loc Cert.DHxIdeal.main_arg2)
          ∧ r.2.mem ((c.tc : Thread Cert.DHxIdeal.nD Cert.DHxIdeal.τ).loc Cert.DHxIdeal.main_arg3) = m ((c.tc : Thread Cert.DHxIdeal.nD Cert.DHxIdeal.τ).loc Cert.DHxIdeal.main_arg3)
          ∧ r.2.mem ((c.tc : Thread Cert.DHxIdeal.nD Cert.DHxIdeal.τ).loc Cert.DHxIdeal.main_arg4) = m ((c.tc : Thread Cert.DHxIdeal.nD Cert.DHxIdeal.τ).loc Cert.DHxIdeal.main_arg4))
      ∧ θ_run (Cert.DHxRefIdeal.defs (F := Ideal)) (onTc (τ := Cert.DHxRefIdeal.τ) (Cert.DHxRefIdeal.main (F := Ideal))) ⟨m', fun _ => 0, g'⟩ (fun r => ∀ c : Dev Cert.DHxRefIdeal.nD,
          r.2.mem ((c.tc : Thread Cert.DHxRefIdeal.nD Cert.DHxRefIdeal.τ).loc Cert.DHxRefIdeal.main_v40) = v0 c
          ∧ r.2.mem ((c.tc : Thread Cert.DHxRefIdeal.nD Cert.DHxRefIdeal.τ).loc Cert.DHxRefIdeal.main_v23) = v1 c
          ∧ r.2.mem ((c.tc : Thread Cert.DHxRefIdeal.nD Cert.DHxRefIdeal.τ).loc Cert.DHxRefIdeal.main_arg0) = m' ((c.tc : Thread Cert.DHxRefIdeal.nD Cert.DHxRefIdeal.τ).loc Cert.DHxRefIdeal.main_arg0)
          ∧ r.2.mem ((c.tc : Thread Cert.DHxRefIdeal.nD Cert.DHxRefIdeal.τ).loc Cert.DHxRefIdeal.main_arg1) = m' ((c.tc : Thread Cert.DHxRefIdeal.nD Cert.DHxRefIdeal.τ).loc Cert.DHxRefIdeal.main_arg1)
          ∧ r.2.mem ((c.tc : Thread Cert.DHxRefIdeal.nD Cert.DHxRefIdeal.τ).loc Cert.DHxRefIdeal.main_arg2) = m' ((c.tc : Thread Cert.DHxRefIdeal.nD Cert.DHxRefIdeal.τ).loc Cert.DHxRefIdeal.main_arg2)
          ∧ r.2.mem ((c.tc : Thread Cert.DHxRefIdeal.nD Cert.DHxRefIdeal.τ).loc Cert.DHxRefIdeal.main_arg3) = m' ((c.tc : Thread Cert.DHxRefIdeal.nD Cert.DHxRefIdeal.τ).loc Cert.DHxRefIdeal.main_arg3)
          ∧ r.2.mem ((c.tc : Thread Cert.DHxRefIdeal.nD Cert.DHxRefIdeal.τ).loc Cert.DHxRefIdeal.main_arg4) = m' ((c.tc : Thread Cert.DHxRefIdeal.nD Cert.DHxRefIdeal.τ).loc Cert.DHxRefIdeal.main_arg4))

def Claim : Prop :=
  ∃ (hKernel : Cert.Kernel.Facts) (hKernelIdeal : Cert.KernelIdeal.Facts) (hReferenceIdeal : Cert.ReferenceIdeal.Facts) (hDwIn : Cert.DwIn.Facts) (hDwInIdeal : Cert.DwInIdeal.Facts) (hDwInRefIdeal : Cert.DwInRefIdeal.Facts) (hDwFf2 : Cert.DwFf2.Facts) (hDwFf2Ideal : Cert.DwFf2Ideal.Facts) (hDwFf2RefIdeal : Cert.DwFf2RefIdeal.Facts) (hDwFf1 : Cert.DwFf1.Facts) (hDwFf1Ideal : Cert.DwFf1Ideal.Facts) (hDwFf1RefIdeal : Cert.DwFf1RefIdeal.Facts) (hDA2 : Cert.DA2.Facts) (hDA2Ideal : Cert.DA2Ideal.Facts) (hDA2RefIdeal : Cert.DA2RefIdeal.Facts) (hFf1 : Cert.Ff1.Facts) (hFf1Ideal : Cert.Ff1Ideal.Facts) (hFf1RefIdeal : Cert.Ff1RefIdeal.Facts) (hFf2 : Cert.Ff2.Facts) (hFf2Ideal : Cert.Ff2Ideal.Facts) (hFf2RefIdeal : Cert.Ff2RefIdeal.Facts) (hProj : Cert.Proj.Facts) (hProjIdeal : Cert.ProjIdeal.Facts) (hProjRefIdeal : Cert.ProjRefIdeal.Facts) (hOut : Cert.Out.Facts) (hOutIdeal : Cert.OutIdeal.Facts) (hOutRefIdeal : Cert.OutRefIdeal.Facts) (hXo : Cert.Xo.Facts) (hXoIdeal : Cert.XoIdeal.Facts) (hXoRefIdeal : Cert.XoRefIdeal.Facts) (hXq : Cert.Xq.Facts) (hXqIdeal : Cert.XqIdeal.Facts) (hXqRefIdeal : Cert.XqRefIdeal.Facts) (hDO2 : Cert.DO2.Facts) (hDO2Ideal : Cert.DO2Ideal.Facts) (hDO2RefIdeal : Cert.DO2RefIdeal.Facts) (hDMerged : Cert.DMerged.Facts) (hDMergedIdeal : Cert.DMergedIdeal.Facts) (hDMergedRefIdeal : Cert.DMergedRefIdeal.Facts) (hDwXo : Cert.DwXo.Facts) (hDwXoIdeal : Cert.DwXoIdeal.Facts) (hDwXoRefIdeal : Cert.DwXoRefIdeal.Facts) (hDwXq : Cert.DwXq.Facts) (hDwXqIdeal : Cert.DwXqIdeal.Facts) (hDwXqRefIdeal : Cert.DwXqRefIdeal.Facts) (hDwOut : Cert.DwOut.Facts) (hDwOutIdeal : Cert.DwOutIdeal.Facts) (hDwOutRefIdeal : Cert.DwOutRefIdeal.Facts) (hDHf : Cert.DHf.Facts) (hDHfIdeal : Cert.DHfIdeal.Facts) (hDHfRefIdeal : Cert.DHfRefIdeal.Facts) (hDH : Cert.DH.Facts) (hDHIdeal : Cert.DHIdeal.Facts) (hDHRefIdeal : Cert.DHRefIdeal.Facts) (hDHx : Cert.DHx.Facts) (hDHxIdeal : Cert.DHxIdeal.Facts) (hDHxRefIdeal : Cert.DHxRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DwIn (hDwIn := hDwIn)
    ∧ quiescent_DwInIdeal (hDwInIdeal := hDwInIdeal)
    ∧ quiescent_DwInRefIdeal (hDwInRefIdeal := hDwInRefIdeal)
    ∧ quiescent_DwFf2 (hDwFf2 := hDwFf2)
    ∧ quiescent_DwFf2Ideal (hDwFf2Ideal := hDwFf2Ideal)
    ∧ quiescent_DwFf2RefIdeal (hDwFf2RefIdeal := hDwFf2RefIdeal)
    ∧ quiescent_DwFf1 (hDwFf1 := hDwFf1)
    ∧ quiescent_DwFf1Ideal (hDwFf1Ideal := hDwFf1Ideal)
    ∧ quiescent_DwFf1RefIdeal (hDwFf1RefIdeal := hDwFf1RefIdeal)
    ∧ quiescent_DA2 (hDA2 := hDA2)
    ∧ quiescent_DA2Ideal (hDA2Ideal := hDA2Ideal)
    ∧ quiescent_DA2RefIdeal (hDA2RefIdeal := hDA2RefIdeal)
    ∧ quiescent_Ff1 (hFf1 := hFf1)
    ∧ quiescent_Ff1Ideal (hFf1Ideal := hFf1Ideal)
    ∧ quiescent_Ff1RefIdeal (hFf1RefIdeal := hFf1RefIdeal)
    ∧ quiescent_Ff2 (hFf2 := hFf2)
    ∧ quiescent_Ff2Ideal (hFf2Ideal := hFf2Ideal)
    ∧ quiescent_Ff2RefIdeal (hFf2RefIdeal := hFf2RefIdeal)
    ∧ quiescent_Proj (hProj := hProj)
    ∧ quiescent_ProjIdeal (hProjIdeal := hProjIdeal)
    ∧ quiescent_ProjRefIdeal (hProjRefIdeal := hProjRefIdeal)
    ∧ quiescent_Out (hOut := hOut)
    ∧ quiescent_OutIdeal (hOutIdeal := hOutIdeal)
    ∧ quiescent_OutRefIdeal (hOutRefIdeal := hOutRefIdeal)
    ∧ quiescent_Xo (hXo := hXo)
    ∧ quiescent_XoIdeal (hXoIdeal := hXoIdeal)
    ∧ quiescent_XoRefIdeal (hXoRefIdeal := hXoRefIdeal)
    ∧ quiescent_Xq (hXq := hXq)
    ∧ quiescent_XqIdeal (hXqIdeal := hXqIdeal)
    ∧ quiescent_XqRefIdeal (hXqRefIdeal := hXqRefIdeal)
    ∧ quiescent_DO2 (hDO2 := hDO2)
    ∧ quiescent_DO2Ideal (hDO2Ideal := hDO2Ideal)
    ∧ quiescent_DO2RefIdeal (hDO2RefIdeal := hDO2RefIdeal)
    ∧ quiescent_DMerged (hDMerged := hDMerged)
    ∧ quiescent_DMergedIdeal (hDMergedIdeal := hDMergedIdeal)
    ∧ quiescent_DMergedRefIdeal (hDMergedRefIdeal := hDMergedRefIdeal)
    ∧ quiescent_DwXo (hDwXo := hDwXo)
    ∧ quiescent_DwXoIdeal (hDwXoIdeal := hDwXoIdeal)
    ∧ quiescent_DwXoRefIdeal (hDwXoRefIdeal := hDwXoRefIdeal)
    ∧ quiescent_DwXq (hDwXq := hDwXq)
    ∧ quiescent_DwXqIdeal (hDwXqIdeal := hDwXqIdeal)
    ∧ quiescent_DwXqRefIdeal (hDwXqRefIdeal := hDwXqRefIdeal)
    ∧ quiescent_DwOut (hDwOut := hDwOut)
    ∧ quiescent_DwOutIdeal (hDwOutIdeal := hDwOutIdeal)
    ∧ quiescent_DwOutRefIdeal (hDwOutRefIdeal := hDwOutRefIdeal)
    ∧ quiescent_DHf (hDHf := hDHf)
    ∧ quiescent_DHfIdeal (hDHfIdeal := hDHfIdeal)
    ∧ quiescent_DHfRefIdeal (hDHfRefIdeal := hDHfRefIdeal)
    ∧ quiescent_DH (hDH := hDH)
    ∧ quiescent_DHIdeal (hDHIdeal := hDHIdeal)
    ∧ quiescent_DHRefIdeal (hDHRefIdeal := hDHRefIdeal)
    ∧ quiescent_DHx (hDHx := hDHx)
    ∧ quiescent_DHxIdeal (hDHxIdeal := hDHxIdeal)
    ∧ quiescent_DHxRefIdeal (hDHxRefIdeal := hDHxRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DwIn_DwInIdeal
    ∧ algebraic_DwInIdeal_DwInRefIdeal (hDwInIdeal := hDwInIdeal) (hDwInRefIdeal := hDwInRefIdeal)
    ∧ preserves_DwFf2_DwFf2Ideal
    ∧ algebraic_DwFf2Ideal_DwFf2RefIdeal (hDwFf2Ideal := hDwFf2Ideal) (hDwFf2RefIdeal := hDwFf2RefIdeal)
    ∧ preserves_DwFf1_DwFf1Ideal
    ∧ algebraic_DwFf1Ideal_DwFf1RefIdeal (hDwFf1Ideal := hDwFf1Ideal) (hDwFf1RefIdeal := hDwFf1RefIdeal)
    ∧ preserves_DA2_DA2Ideal
    ∧ algebraic_DA2Ideal_DA2RefIdeal (hDA2Ideal := hDA2Ideal) (hDA2RefIdeal := hDA2RefIdeal)
    ∧ preserves_Ff1_Ff1Ideal
    ∧ algebraic_Ff1Ideal_Ff1RefIdeal (hFf1Ideal := hFf1Ideal) (hFf1RefIdeal := hFf1RefIdeal)
    ∧ preserves_Ff2_Ff2Ideal
    ∧ algebraic_Ff2Ideal_Ff2RefIdeal (hFf2Ideal := hFf2Ideal) (hFf2RefIdeal := hFf2RefIdeal)
    ∧ preserves_Proj_ProjIdeal
    ∧ algebraic_ProjIdeal_ProjRefIdeal (hProjIdeal := hProjIdeal) (hProjRefIdeal := hProjRefIdeal)
    ∧ preserves_Out_OutIdeal
    ∧ algebraic_OutIdeal_OutRefIdeal (hOutIdeal := hOutIdeal) (hOutRefIdeal := hOutRefIdeal)
    ∧ preserves_Xo_XoIdeal
    ∧ algebraic_XoIdeal_XoRefIdeal (hXoIdeal := hXoIdeal) (hXoRefIdeal := hXoRefIdeal)
    ∧ preserves_Xq_XqIdeal
    ∧ algebraic_XqIdeal_XqRefIdeal (hXqIdeal := hXqIdeal) (hXqRefIdeal := hXqRefIdeal)
    ∧ preserves_DO2_DO2Ideal
    ∧ algebraic_DO2Ideal_DO2RefIdeal (hDO2Ideal := hDO2Ideal) (hDO2RefIdeal := hDO2RefIdeal)
    ∧ preserves_DMerged_DMergedIdeal
    ∧ algebraic_DMergedIdeal_DMergedRefIdeal (hDMergedIdeal := hDMergedIdeal) (hDMergedRefIdeal := hDMergedRefIdeal)
    ∧ preserves_DwXo_DwXoIdeal
    ∧ algebraic_DwXoIdeal_DwXoRefIdeal (hDwXoIdeal := hDwXoIdeal) (hDwXoRefIdeal := hDwXoRefIdeal)
    ∧ preserves_DwXq_DwXqIdeal
    ∧ algebraic_DwXqIdeal_DwXqRefIdeal (hDwXqIdeal := hDwXqIdeal) (hDwXqRefIdeal := hDwXqRefIdeal)
    ∧ preserves_DwOut_DwOutIdeal
    ∧ algebraic_DwOutIdeal_DwOutRefIdeal (hDwOutIdeal := hDwOutIdeal) (hDwOutRefIdeal := hDwOutRefIdeal)
    ∧ preserves_DHf_DHfIdeal
    ∧ algebraic_DHfIdeal_DHfRefIdeal (hDHfIdeal := hDHfIdeal) (hDHfRefIdeal := hDHfRefIdeal)
    ∧ preserves_DH_DHIdeal
    ∧ algebraic_DHIdeal_DHRefIdeal (hDHIdeal := hDHIdeal) (hDHRefIdeal := hDHRefIdeal)
    ∧ preserves_DHx_DHxIdeal
    ∧ algebraic_DHxIdeal_DHxRefIdeal (hDHxIdeal := hDHxIdeal) (hDHxRefIdeal := hDHxRefIdeal)
-- ==== Pre_finite.lean ====
abbrev S2048x1536 : Shape := ⟨2, ![2048, 1536]⟩
abbrev S2048x8 : Shape := ⟨2, ![2048, 8]⟩
abbrev S2048x512 : Shape := ⟨2, ![2048, 512]⟩
abbrev S_ : Shape := ⟨0, ![]⟩

class Facts : Prop where
  bitsLt_bf16_f32 : FTy.bits .bf16 < FTy.bits .f32
  bcast_S_S2048x1536 : S_.BroadcastsInDim S2048x1536 (![] : Fin 0 → Fin S2048x1536.rank)
  reducesTo_S2048x1536_S_d0_1 : S2048x1536.ReducesTo [0, 1] S_
  h_S_ : 0 < S_.numel
  bcast_S_S2048x8 : S_.BroadcastsInDim S2048x8 (![] : Fin 0 → Fin S2048x8.rank)
  reducesTo_S2048x8_S_d0_1 : S2048x8.ReducesTo [0, 1] S_
  bcast_S_S2048x512 : S_.BroadcastsInDim S2048x512 (![] : Fin 0 → Fin S2048x512.rank)
  reducesTo_S2048x512_S_d0_1 : S2048x512.ReducesTo [0, 1] S_

variable [Facts]

def fn {F : FTy → Type} [FloatOps F] (main_arg0 : FVec F S2048x1536 .bf16) (main_arg1 : FVec F S2048x8 .f32) (main_arg2 : FVec F S2048x512 .f32) : IVec S_ 1 :=
  let main_v0 : FVec F S2048x1536 .f32 := (extf .f32 · bitsLt_bf16_f32) main_arg0
  let main_v1 : FVec F S2048x1536 .f32 := Host.absf main_v0
  let main_cst : FVec F S_ .f32 := constant S_ .f32 0x7F800000#32
  let main_v2 : FVec F S2048x1536 .f32 := broadcastInDim S2048x1536 ![] bcast_S_S2048x1536 main_cst
  let main_v3 : IVec S2048x1536 1 := cmpf .olt main_v1 main_v2
  let main_c : IVec S_ 1 := constantI S_ 1 1#1
  let main_v4 : IVec S_ 1 := (fun x v => Host.reduce IntOp.andi x v reducesTo_S2048x1536_S_d0_1 h_S_) main_v3 main_c
  let main_v5 : FVec F S2048x8 .f32 := Host.absf main_arg1
  let main_cst_0 : FVec F S_ .f32 := constant S_ .f32 0x7F800000#32
  let main_v6 : FVec F S2048x8 .f32 := broadcastInDim S2048x8 ![] bcast_S_S2048x8 main_cst_0
  let main_v7 : IVec S2048x8 1 := cmpf .olt main_v5 main_v6
  let main_c_1 : IVec S_ 1 := constantI S_ 1 1#1
  let main_v8 : IVec S_ 1 := (fun x v => Host.reduce IntOp.andi x v reducesTo_S2048x8_S_d0_1 h_S_) main_v7 main_c_1
  let main_v9 : IVec S_ 1 := andi main_v4 main_v8
  let main_v10 : FVec F S2048x512 .f32 := Host.absf main_arg2
  let main_cst_2 : FVec F S_ .f32 := constant S_ .f32 0x7F800000#32
  let main_v11 : FVec F S2048x512 .f32 := broadcastInDim S2048x512 ![] bcast_S_S2048x512 main_cst_2
  let main_v12 : IVec S2048x512 1 := cmpf .olt main_v10 main_v11
  let main_c_3 : IVec S_ 1 := constantI S_ 1 1#1
  let main_v13 : IVec S_ 1 := (fun x v => Host.reduce IntOp.andi x v reducesTo_S2048x512_S_d0_1 h_S_) main_v12 main_c_3
  let main_v14 : IVec S_ 1 := andi main_v9 main_v13
  main_v14
-- ==== Kernel.lean ====
abbrev S2048x1536 : Shape := ⟨2, ![2048, 1536]⟩
abbrev S2048x8 : Shape := ⟨2, ![2048, 8]⟩
abbrev S2048x512 : Shape := ⟨2, ![2048, 512]⟩
abbrev S2048x8x64 : Shape := ⟨3, ![2048, 8, 64]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x64x2048 : Shape := ⟨3, ![8, 64, 2048]⟩
abbrev S4x2x2048 : Shape := ⟨3, ![4, 2, 2048]⟩
abbrev S4x2048x2 : Shape := ⟨3, ![4, 2048, 2]⟩
abbrev S2048x4x2 : Shape := ⟨3, ![2048, 4, 2]⟩
abbrev S2048x128 : Shape := ⟨2, ![2048, 128]⟩
abbrev S1x2048x2 : Shape := ⟨3, ![1, 2048, 2]⟩
abbrev S1x2x2048 : Shape := ⟨3, ![1, 2, 2048]⟩
abbrev S512x128 : Shape := ⟨2, ![512, 128]⟩
abbrev S512 : Shape := ⟨1, ![512]⟩
abbrev S512x1 : Shape := ⟨2, ![512, 1]⟩
abbrev S1x512x1 : Shape := ⟨3, ![1, 512, 1]⟩
abbrev S1x1x512 : Shape := ⟨3, ![1, 1, 512]⟩
abbrev S1x512 : Shape := ⟨2, ![1, 512]⟩
abbrev S512x512 : Shape := ⟨2, ![512, 512]⟩

abbrev nBuf : Space → Nat
  | .hbm => 63
  | .vmem => 28
  | .smem => 0
  | _ => 0

abbrev bufTy : (tb : Table) → Fin (tcTables nBuf tb) → BufTy
  | .hbm, ⟨0, _⟩ => ⟨S2048x1536, .bf16⟩
  | .hbm, ⟨1, _⟩ => ⟨S2048x8, .f32⟩
  | .hbm, ⟨2, _⟩ => ⟨S2048x512, .f32⟩
  | .hbm, ⟨3, _⟩ => ⟨S2048x512, .bf16⟩
  | .hbm, ⟨4, _⟩ => ⟨S2048x8x64, .bf16⟩
  | .hbm, ⟨5, _⟩ => ⟨S2048x8x64, .f32⟩
  | .hbm, ⟨6, _⟩ => ⟨S2048x512, .bf16⟩
  | .hbm, ⟨7, _⟩ => ⟨S2048x8x64, .bf16⟩
  | .hbm, ⟨8, _⟩ => ⟨S2048x8x64, .f32⟩
  | .hbm, ⟨9, _⟩ => ⟨S2048x512, .bf16⟩
  | .hbm, ⟨10, _⟩ => ⟨S2048x8x64, .bf16⟩
  | .hbm, ⟨11, _⟩ => ⟨S2048x8x64, .f32⟩
  | .hbm, ⟨12, _⟩ => ⟨S8x2048x2048, .f32⟩
  | .hbm, ⟨13, _⟩ => ⟨S_, .f32⟩
  | .hbm, ⟨14, _⟩ => ⟨S8x2048x2048, .f32⟩
  | .hbm, ⟨15, _⟩ => ⟨S8x2048x2048, .f32⟩
  | .hbm, ⟨16, _⟩ => ⟨S8x2048, .f32⟩
  | .hbm, ⟨17, _⟩ => ⟨S8x2048x1, .f32⟩
  | .hbm, ⟨18, _⟩ => ⟨S8x2048x2048, .f32⟩
  | .hbm, ⟨19, _⟩ => ⟨S8x2048x2048, .f32⟩
  | .hbm, ⟨20, _⟩ => ⟨S8x2048, .f32⟩
  | .hbm, ⟨21, _⟩ => ⟨S8x1x2048, .f32⟩
  | .hbm, ⟨22, _⟩ => ⟨S8x2048x2048, .f32⟩
  | .hbm, ⟨23, _⟩ => ⟨S8x2048x2048, .f32⟩
  | .hbm, ⟨24, _⟩ => ⟨S2048, .i32⟩
  | .hbm, ⟨25, _⟩ => ⟨S2048x1, .i32⟩
  | .hbm, ⟨26, _⟩ => ⟨S2048, .i32⟩
  | .hbm, ⟨27, _⟩ => ⟨S1x2048, .i32⟩
  | .hbm, ⟨28, _⟩ => ⟨S2048x2048, .i32⟩
  | .hbm, ⟨29, _⟩ => ⟨S2048x2048, .i32⟩
  | .hbm, ⟨30, _⟩ => ⟨S2048x2048, .i1⟩
  | .hbm, ⟨31, _⟩ => ⟨S_, .f32⟩
  | .hbm, ⟨32, _⟩ => ⟨S_, .f32⟩
  | .hbm, ⟨33, _⟩ => ⟨S8x2048x2048, .i1⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S8x2048x2048, .f32⟩
  | .hbm, ⟨40, _⟩ => ⟨S8x2048x2048, .f32⟩
  | .hbm, ⟨41, _⟩ => ⟨S8x2048x2048, .f32⟩
  | .hbm, ⟨42, _⟩ => ⟨S_, .f32⟩
  | .hbm, ⟨43, _⟩ => ⟨S8x2048, .f32⟩
  | .hbm, ⟨44, _⟩ => ⟨S8x2048x1, .f32⟩
  | .hbm, ⟨45, _⟩ => ⟨S8x2048x2048, .f32⟩
  | .hbm, ⟨46, _⟩ => ⟨S8x2048x2048, .f32⟩
  | .hbm, ⟨47, _⟩ => ⟨S8x64x2048, .f32⟩
  | .hbm, ⟨48, _⟩ => ⟨S2048x8x64, .f32⟩
  | .hbm, ⟨49, _⟩ => ⟨S2048x512, .f32⟩
  | .hbm, ⟨50, _⟩ => ⟨S8x2048x1, .f32⟩
  | .hbm, ⟨51, _⟩ => ⟨S8x2048x1, .f32⟩
  | .hbm, ⟨52, _⟩ => ⟨S4x2x2048, .f32⟩
  | .hbm, ⟨53, _⟩ => ⟨S4x2048x2, .f32⟩
  | .hbm, ⟨54, _⟩ => ⟨S2048x4x2, .f32⟩
  | .hbm, ⟨55, _⟩ => ⟨S4x2048x2, .f32⟩
  | .hbm, ⟨56, _⟩ => ⟨S8x2048, .f32⟩
  | .hbm, ⟨57, _⟩ => ⟨S4x2x2048, .f32⟩
  | .hbm, ⟨58, _⟩ => ⟨S2048x512, .bf16⟩
  | .hbm, ⟨59, _⟩ => ⟨S2048x512, .bf16⟩
  | .hbm, ⟨60, _⟩ => ⟨S2048x512, .bf16⟩
  | .hbm, ⟨61, _⟩ => ⟨S4x2x2048, .f32⟩
  | .hbm, ⟨62, _⟩ => ⟨S4x2048x2, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S1x2048x2, .f32⟩
  | .local _ .vmem, ⟨11, _⟩ => ⟨S1x2048x2, .f32⟩
  | .local _ .vmem, ⟨12, _⟩ => ⟨S1x2048x2, .f32⟩
  | .local _ .vmem, ⟨13, _⟩ => ⟨S1x2048x2, .f32⟩
  | .local _ .vmem, ⟨14, _⟩ => ⟨S1x2x2048, .f32⟩
  | .local _ .vmem, ⟨15, _⟩ => ⟨S1x2x2048, .f32⟩
  | .local _ .vmem, ⟨16, _⟩ => ⟨S2048x128, .bf16⟩
  | .local _ .vmem, ⟨17, _⟩ => ⟨S2048x128, .bf16⟩
  | .local _ .vmem, ⟨18, _⟩ => ⟨S2048x128, .bf16⟩
  | .local _ .vmem, ⟨19, _⟩ => ⟨S2048x128, .bf16⟩
  | .local _ .vmem, ⟨20, _⟩ => ⟨S2048x128, .bf16⟩
  | .local _ .vmem, ⟨21, _⟩ => ⟨S2048x128, .bf16⟩
  | .local _ .vmem, ⟨22, _⟩ => ⟨S1x2x2048, .f32⟩
  | .local _ .vmem, ⟨23, _⟩ => ⟨S1x2x2048, .f32⟩
  | .local _ .vmem, ⟨24, _⟩ => ⟨S1x2048x2, .f32⟩
  | .local _ .vmem, ⟨25, _⟩ => ⟨S1x2048x2, .f32⟩
  | .local _ .vmem, ⟨26, _⟩ => ⟨S2048x128, .f32⟩
  | .local _ .vmem, ⟨27, _⟩ => ⟨S2048x128, .f32⟩
  | _, _ => ⟨S2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_0 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v27 : Ref sig .tc := ⟨.hbm, 35, rfl⟩
abbrev main_cst_1 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_2 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48_0 : Ref sig .tc := ⟨.hbm, 58, rfl⟩
abbrev main_v48_1 : Ref sig .tc := ⟨.hbm, 59, rfl⟩
abbrev main_v48_2 : Ref sig .tc := ⟨.hbm, 60, rfl⟩
abbrev main_v48_3 : Ref sig .tc := ⟨.hbm, 61, rfl⟩
abbrev main_v48_4 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_12 : BitVec 32 := 0#32
  let c4_i32 : BitVec 32 := 4#32
  let v35 : BitVec 32 := Scalar.addi c0_i32_12 c4_i32
  let c1_i32_13 : BitVec 32 := 1#32
  ⟨c0_i32_12, v35, c1_i32_13⟩
def k0_mult1 (k0_t1 : Fin k0_t1_loop.trips) : BitVec 32 :=
  let c0_i32_12 : BitVec 32 := 0#32
  let c1_i32_13 : BitVec 32 := 1#32
  let arg16 : BitVec 32 := Scf.iv c0_i32_12 c1_i32_13 k0_t1
  let c512_i32 : BitVec 32 := 512#32
  let v42 : BitVec 32 := Scalar.muli arg16 c512_i32
  v42
def k0_off1 (k0_t1 : Fin k0_t1_loop.trips) : Fin 2 → Nat :=
  let c0_i32_12 : BitVec 32 := 0#32
  let c1_i32_13 : BitVec 32 := 1#32
  let arg16 : BitVec 32 := Scf.iv c0_i32_12 c1_i32_13 k0_t1
  let c512_i32 : BitVec 32 := 512#32
  let v42 : BitVec 32 := Scalar.muli arg16 c512_i32
  let v43 : BitVec 32 := v42
  let v44 : Index := Scalar.indexCast v43
  let c0_23 : Index := 0#32
  ![v44.toNat, 0]
def k0_off2 (k0_t1 : Fin k0_t1_loop.trips) : Fin 3 → Nat :=
  let c0_40 : Index := 0#32
  let c0_i32_12 : BitVec 32 := 0#32
  let c1_i32_13 : BitVec 32 := 1#32
  let arg16 : BitVec 32 := Scf.iv c0_i32_12 c1_i32_13 k0_t1
  let c512_i32 : BitVec 32 := 512#32
  let v42 : BitVec 32 := Scalar.muli arg16 c512_i32
  let v43 : BitVec 32 := v42
  let v82 : Index := Scalar.indexCast v43
  let c0_41 : Index := 0#32
  ![0, v82.toNat, 0]
def k0_off3 (k0_t1 : Fin k0_t1_loop.trips) : Fin 3 → Nat :=
  let c0_42 : Index := 0#32
  let c0_i32_12 : BitVec 32 := 0#32
  let c1_i32_13 : BitVec 32 := 1#32
  let arg16 : BitVec 32 := Scf.iv c0_i32_12 c1_i32_13 k0_t1
  let c512_i32 : BitVec 32 := 512#32
  let v42 : BitVec 32 := Scalar.muli arg16 c512_i32
  let v43 : BitVec 32 := v42
  let v85 : Index := Scalar.indexCast v43
  let c1 : Index := 1#32
  ![0, v85.toNat, 1]
@[reducible] def k0_t2_loop (k0_t1 : Fin k0_t1_loop.trips) : Scf.Loop 32 :=
  let c0_i32_56 : BitVec 32 := 0#32
  let c0_i32_12 : BitVec 32 := 0#32
  let c1_i32_13 : BitVec 32 := 1#32
  let arg16 : BitVec 32 := Scf.iv c0_i32_12 c1_i32_13 k0_t1
  let c512_i32 : BitVec 32 := 512#32
  let v42 : BitVec 32 := Scalar.muli arg16 c512_i32
  let v43 : BitVec 32 := v42
  let c0_i32_50 : BitVec 32 := 0#32
  let v97 : BitVec 1 := Scalar.cmpi .sgt v43 c0_i32_50
  let v98 : BitVec 32 := Scalar.extui v97
  let c0_i32_51 : BitVec 32 := 0#32
  let v99 : BitVec 1 := Scalar.cmpi .slt v43 c0_i32_51
  let v100 : BitVec 32 := Scalar.extui v99
  let v101 : BitVec 32 := Scalar.subi v98 v100
  let c512_i32_49 : BitVec 32 := 512#32
  let c0_i32_52 : BitVec 32 := 0#32
  let v102 : BitVec 1 := Scalar.cmpi .sgt c512_i32_49 c0_i32_52
  let v103 : BitVec 32 := Scalar.extui v102
  let c0_i32_53 : BitVec 32 := 0#32
  let v104 : BitVec 1 := Scalar.cmpi .slt c512_i32_49 c0_i32_53
  let v105 : BitVec 32 := Scalar.extui v104
  let v106 : BitVec 32 := Scalar.subi v103 v105
  let v107 : BitVec 1 := Scalar.cmpi .ne v101 v106
  let v108 : BitVec 32 := Scalar.remsi v43 c512_i32_49
  let c0_i32_54 : BitVec 32 := 0#32
  let v109 : BitVec 1 := Scalar.cmpi .ne v108 c0_i32_54
  let v110 : BitVec 1 := Scalar.andi v107 v109
  let v96 : BitVec 32 := Scalar.divsi v43 c512_i32_49
  let c1_i32_55 : BitVec 32 := 1#32
  let v111 : BitVec 32 := Scalar.subi v96 c1_i32_55
  let v112 : BitVec 32 := Scalar.select v110 v111 v96
  let v113 : BitVec 32 := Scalar.subi v112 c0_i32_56
  let c1_i32_57 : BitVec 32 := 1#32
  let v115 : BitVec 32 := Scalar.divsi v113 c1_i32_57
  let v116 : BitVec 32 := Scalar.muli v115 c1_i32_57
  let v117 : BitVec 32 := Scalar.addi c0_i32_56 v116
  let c1_i32_58 : BitVec 32 := 1#32
  ⟨c0_i32_56, v117, c1_i32_58⟩
def k0_mult2 (k0_t1 : Fin k0_t1_loop.trips) (k0_t2 : Fin (k0_t2_loop k0_t1).trips) : BitVec 32 :=
  let c0_i32_56 : BitVec 32 := 0#32
  let c1_i32_58 : BitVec 32 := 1#32
  let arg17 : BitVec 32 := Scf.iv c0_i32_56 c1_i32_58 k0_t2
  let c512_i32_114 : BitVec 32 := 512#32
  let v279 : BitVec 32 := Scalar.muli arg17 c512_i32_114
  v279
def k0_off4 (k0_t1 : Fin k0_t1_loop.trips) (k0_t2 : Fin (k0_t2_loop k0_t1).trips) : Fin 2 → Nat :=
  let c0_i32_56 : BitVec 32 := 0#32
  let c1_i32_58 : BitVec 32 := 1#32
  let arg17 : BitVec 32 := Scf.iv c0_i32_56 c1_i32_58 k0_t2
  let c512_i32_114 : BitVec 32 := 512#32
  let v279 : BitVec 32 := Scalar.muli arg17 c512_i32_114
  let v280 : BitVec 32 := v279
  let v281 : Index := Scalar.indexCast v280
  let c0_115 : Index := 0#32
  ![v281.toNat, 0]
def k0_off5 (k0_t1 : Fin k0_t1_loop.trips) (k0_t2 : Fin (k0_t2_loop k0_t1).trips) : Fin 3 → Nat :=
  let c0_117 : Index := 0#32
  let c0_118 : Index := 0#32
  let c0_i32_56 : BitVec 32 := 0#32
  let c1_i32_58 : BitVec 32 := 1#32
  let arg17 : BitVec 32 := Scf.iv c0_i32_56 c1_i32_58 k0_t2
  let c512_i32_114 : BitVec 32 := 512#32
  let v279 : BitVec 32 := Scalar.muli arg17 c512_i32_114
  let v280 : BitVec 32 := v279
  let v285 : Index := Scalar.indexCast v280
  ![0, 0, v285.toNat]
def k0_off6 (k0_t1 : Fin k0_t1_loop.trips) (k0_t2 : Fin (k0_t2_loop k0_t1).trips) : Fin 3 → Nat :=
  let c0_132 : Index := 0#32
  let c1_133 : Index := 1#32
  let c0_i32_56 : BitVec 32 := 0#32
  let c1_i32_58 : BitVec 32 := 1#32
  let arg17 : BitVec 32 := Scf.iv c0_i32_56 c1_i32_58 k0_t2
  let c512_i32_114 : BitVec 32 := 512#32
  let v279 : BitVec 32 := Scalar.muli arg17 c512_i32_114
  let v280 : BitVec 32 := v279
  let v323 : Index := Scalar.indexCast v280
  ![0, 1, v323.toNat]
@[reducible] def k0_t3_loop (k0_t1 : Fin k0_t1_loop.trips) : Scf.Loop 32 :=
  let c0_i32_56 : BitVec 32 := 0#32
  let c0_i32_12 : BitVec 32 := 0#32
  let c1_i32_13 : BitVec 32 := 1#32
  let arg16 : BitVec 32 := Scf.iv c0_i32_12 c1_i32_13 k0_t1
  let c512_i32 : BitVec 32 := 512#32
  let v42 : BitVec 32 := Scalar.muli arg16 c512_i32
  let v43 : BitVec 32 := v42
  let c0_i32_50 : BitVec 32 := 0#32
  let v97 : BitVec 1 := Scalar.cmpi .sgt v43 c0_i32_50
  let v98 : BitVec 32 := Scalar.extui v97
  let c0_i32_51 : BitVec 32 := 0#32
  let v99 : BitVec 1 := Scalar.cmpi .slt v43 c0_i32_51
  let v100 : BitVec 32 := Scalar.extui v99
  let v101 : BitVec 32 := Scalar.subi v98 v100
  let c512_i32_49 : BitVec 32 := 512#32
  let c0_i32_52 : BitVec 32 := 0#32
  let v102 : BitVec 1 := Scalar.cmpi .sgt c512_i32_49 c0_i32_52
  let v103 : BitVec 32 := Scalar.extui v102
  let c0_i32_53 : BitVec 32 := 0#32
  let v104 : BitVec 1 := Scalar.cmpi .slt c512_i32_49 c0_i32_53
  let v105 : BitVec 32 := Scalar.extui v104
  let v106 : BitVec 32 := Scalar.subi v103 v105
  let v107 : BitVec 1 := Scalar.cmpi .ne v101 v106
  let v108 : BitVec 32 := Scalar.remsi v43 c512_i32_49
  let c0_i32_54 : BitVec 32 := 0#32
  let v109 : BitVec 1 := Scalar.cmpi .ne v108 c0_i32_54
  let v110 : BitVec 1 := Scalar.andi v107 v109
  let v96 : BitVec 32 := Scalar.divsi v43 c512_i32_49
  let c1_i32_55 : BitVec 32 := 1#32
  let v111 : BitVec 32 := Scalar.subi v96 c1_i32_55
  let v112 : BitVec 32 := Scalar.select v110 v111 v96
  let v113 : BitVec 32 := Scalar.subi v112 c0_i32_56
  let c1_i32_57 : BitVec 32 := 1#32
  let v115 : BitVec 32 := Scalar.divsi v113 c1_i32_57
  let v116 : BitVec 32 := Scalar.muli v115 c1_i32_57
  let v117 : BitVec 32 := Scalar.addi c0_i32_56 v116
  let v114 : BitVec 32 := Scalar.addi c0_i32_56 v113
  let c1_i32_59 : BitVec 32 := 1#32
  ⟨v117, v114, c1_i32_59⟩
def k0_mult3 (k0_t1 : Fin k0_t1_loop.trips) (k0_t3 : Fin (k0_t3_loop k0_t1).trips) : BitVec 32 :=
  let c0_i32_56 : BitVec 32 := 0#32
  let c0_i32_12 : BitVec 32 := 0#32
  let c1_i32_13 : BitVec 32 := 1#32
  let arg16 : BitVec 32 := Scf.iv c0_i32_12 c1_i32_13 k0_t1
  let c512_i32 : BitVec 32 := 512#32
  let v42 : BitVec 32 := Scalar.muli arg16 c512_i32
  let v43 : BitVec 32 := v42
  let c0_i32_50 : BitVec 32 := 0#32
  let v97 : BitVec 1 := Scalar.cmpi .sgt v43 c0_i32_50
  let v98 : BitVec 32 := Scalar.extui v97
  let c0_i32_51 : BitVec 32 := 0#32
  let v99 : BitVec 1 := Scalar.cmpi .slt v43 c0_i32_51
  let v100 : BitVec 32 := Scalar.extui v99
  let v101 : BitVec 32 := Scalar.subi v98 v100
  let c512_i32_49 : BitVec 32 := 512#32
  let c0_i32_52 : BitVec 32 := 0#32
  let v102 : BitVec 1 := Scalar.cmpi .sgt c512_i32_49 c0_i32_52
  let v103 : BitVec 32 := Scalar.extui v102
  let c0_i32_53 : BitVec 32 := 0#32
  let v104 : BitVec 1 := Scalar.cmpi .slt c512_i32_49 c0_i32_53
  let v105 : BitVec 32 := Scalar.extui v104
  let v106 : BitVec 32 := Scalar.subi v103 v105
  let v107 : BitVec 1 := Scalar.cmpi .ne v101 v106
  let v108 : BitVec 32 := Scalar.remsi v43 c512_i32_49
  let c0_i32_54 : BitVec 32 := 0#32
  let v109 : BitVec 1 := Scalar.cmpi .ne v108 c0_i32_54
  let v110 : BitVec 1 := Scalar.andi v107 v109
  let v96 : BitVec 32 := Scalar.divsi v43 c512_i32_49
  let c1_i32_55 : BitVec 32 := 1#32
  let v111 : BitVec 32 := Scalar.subi v96 c1_i32_55
  let v112 : BitVec 32 := Scalar.select v110 v111 v96
  let v113 : BitVec 32 := Scalar.subi v112 c0_i32_56
  let c1_i32_57 : BitVec 32 := 1#32
  let v115 : BitVec 32 := Scalar.divsi v113 c1_i32_57
  let v116 : BitVec 32 := Scalar.muli v115 c1_i32_57
  let v117 : BitVec 32 := Scalar.addi c0_i32_56 v116
  let c1_i32_59 : BitVec 32 := 1#32
  let arg17 : BitVec 32 := Scf.iv v117 c1_i32_59 k0_t3
  let c512_i32_114 : BitVec 32 := 512#32
  let v279 : BitVec 32 := Scalar.muli arg17 c512_i32_114
  v279
def k0_off7 (k0_t1 : Fin k0_t1_loop.trips) (k0_t3 : Fin (k0_t3_loop k0_t1).trips) : Fin 2 → Nat :=
  let c0_i32_56 : BitVec 32 := 0#32
  let c0_i32_12 : BitVec 32 := 0#32
  let c1_i32_13 : BitVec 32 := 1#32
  let arg16 : BitVec 32 := Scf.iv c0_i32_12 c1_i32_13 k0_t1
  let c512_i32 : BitVec 32 := 512#32
  let v42 : BitVec 32 := Scalar.muli arg16 c512_i32
  let v43 : BitVec 32 := v42
  let c0_i32_50 : BitVec 32 := 0#32
  let v97 : BitVec 1 := Scalar.cmpi .sgt v43 c0_i32_50
  let v98 : BitVec 32 := Scalar.extui v97
  let c0_i32_51 : BitVec 32 := 0#32
  let v99 : BitVec 1 := Scalar.cmpi .slt v43 c0_i32_51
  let v100 : BitVec 32 := Scalar.extui v99
  let v101 : BitVec 32 := Scalar.subi v98 v100
  let c512_i32_49 : BitVec 32 := 512#32
  let c0_i32_52 : BitVec 32 := 0#32
  let v102 : BitVec 1 := Scalar.cmpi .sgt c512_i32_49 c0_i32_52
  let v103 : BitVec 32 := Scalar.extui v102
  let c0_i32_53 : BitVec 32 := 0#32
  let v104 : BitVec 1 := Scalar.cmpi .slt c512_i32_49 c0_i32_53
  let v105 : BitVec 32 := Scalar.extui v104
  let v106 : BitVec 32 := Scalar.subi v103 v105
  let v107 : BitVec 1 := Scalar.cmpi .ne v101 v106
  let v108 : BitVec 32 := Scalar.remsi v43 c512_i32_49
  let c0_i32_54 : BitVec 32 := 0#32
  let v109 : BitVec 1 := Scalar.cmpi .ne v108 c0_i32_54
  let v110 : BitVec 1 := Scalar.andi v107 v109
  let v96 : BitVec 32 := Scalar.divsi v43 c512_i32_49
  let c1_i32_55 : BitVec 32 := 1#32
  let v111 : BitVec 32 := Scalar.subi v96 c1_i32_55
  let v112 : BitVec 32 := Scalar.select v110 v111 v96
  let v113 : BitVec 32 := Scalar.subi v112 c0_i32_56
  let c1_i32_57 : BitVec 32 := 1#32
  let v115 : BitVec 32 := Scalar.divsi v113 c1_i32_57
  let v116 : BitVec 32 := Scalar.muli v115 c1_i32_57
  let v117 : BitVec 32 := Scalar.addi c0_i32_56 v116
  let c1_i32_59 : BitVec 32 := 1#32
  let arg17 : BitVec 32 := Scf.iv v117 c1_i32_59 k0_t3
  let c512_i32_114 : BitVec 32 := 512#32
  let v279 : BitVec 32 := Scalar.muli arg17 c512_i32_114
  let v280 : BitVec 32 := v279
  let v281 : Index := Scalar.indexCast v280
  let c0_115 : Index := 0#32
  ![v281.toNat, 0]
def k0_off8 (k0_t1 : Fin k0_t1_loop.trips) (k0_t3 : Fin (k0_t3_loop k0_t1).trips) : Fin 3 → Nat :=
  let c0_117 : Index := 0#32
  let c0_118 : Index := 0#32
  let c0_i32_56 : BitVec 32 := 0#32
  let c0_i32_12 : BitVec 32 := 0#32
  let c1_i32_13 : BitVec 32 := 1#32
  let arg16 : BitVec 32 := Scf.iv c0_i32_12 c1_i32_13 k0_t1
  let c512_i32 : BitVec 32 := 512#32
  let v42 : BitVec 32 := Scalar.muli arg16 c512_i32
  let v43 : BitVec 32 := v42
  let c0_i32_50 : BitVec 32 := 0#32
  let v97 : BitVec 1 := Scalar.cmpi .sgt v43 c0_i32_50
  let v98 : BitVec 32 := Scalar.extui v97
  let c0_i32_51 : BitVec 32 := 0#32
  let v99 : BitVec 1 := Scalar.cmpi .slt v43 c0_i32_51
  let v100 : BitVec 32 := Scalar.extui v99
  let v101 : BitVec 32 := Scalar.subi v98 v100
  let c512_i32_49 : BitVec 32 := 512#32
  let c0_i32_52 : BitVec 32 := 0#32
  let v102 : BitVec 1 := Scalar.cmpi .sgt c512_i32_49 c0_i32_52
  let v103 : BitVec 32 := Scalar.extui v102
  let c0_i32_53 : BitVec 32 := 0#32
  let v104 : BitVec 1 := Scalar.cmpi .slt c512_i32_49 c0_i32_53
  let v105 : BitVec 32 := Scalar.extui v104
  let v106 : BitVec 32 := Scalar.subi v103 v105
  let v107 : BitVec 1 := Scalar.cmpi .ne v101 v106
  let v108 : BitVec 32 := Scalar.remsi v43 c512_i32_49
  let c0_i32_54 : BitVec 32 := 0#32
  let v109 : BitVec 1 := Scalar.cmpi .ne v108 c0_i32_54
  let v110 : BitVec 1 := Scalar.andi v107 v109
  let v96 : BitVec 32 := Scalar.divsi v43 c512_i32_49
  let c1_i32_55 : BitVec 32 := 1#32
  let v111 : BitVec 32 := Scalar.subi v96 c1_i32_55
  let v112 : BitVec 32 := Scalar.select v110 v111 v96
  let v113 : BitVec 32 := Scalar.subi v112 c0_i32_56
  let c1_i32_57 : BitVec 32 := 1#32
  let v115 : BitVec 32 := Scalar.divsi v113 c1_i32_57
  let v116 : BitVec 32 := Scalar.muli v115 c1_i32_57
  let v117 : BitVec 32 := Scalar.addi c0_i32_56 v116
  let c1_i32_59 : BitVec 32 := 1#32
  let arg17 : BitVec 32 := Scf.iv v117 c1_i32_59 k0_t3
  let c512_i32_114 : BitVec 32 := 512#32
  let v279 : BitVec 32 := Scalar.muli arg17 c512_i32_114
  let v280 : BitVec 32 := v279
  let v285 : Index := Scalar.indexCast v280
  ![0, 0, v285.toNat]
def k0_off9 (k0_t1 : Fin k0_t1_loop.trips) (k0_t3 : Fin (k0_t3_loop k0_t1).trips) : Fin 3 → Nat :=
  let c0_132 : Index := 0#32
  let c1_133 : Index := 1#32
  let c0_i32_56 : BitVec 32 := 0#32
  let c0_i32_12 : BitVec 32 := 0#32
  let c1_i32_13 : BitVec 32 := 1#32
  let arg16 : BitVec 32 := Scf.iv c0_i32_12 c1_i32_13 k0_t1
  let c512_i32 : BitVec 32 := 512#32
  let v42 : BitVec 32 := Scalar.muli arg16 c512_i32
  let v43 : BitVec 32 := v42
  let c0_i32_50 : BitVec 32 := 0#32
  let v97 : BitVec 1 := Scalar.cmpi .sgt v43 c0_i32_50
  let v98 : BitVec 32 := Scalar.extui v97
  let c0_i32_51 : BitVec 32 := 0#32
  let v99 : BitVec 1 := Scalar.cmpi .slt v43 c0_i32_51
  let v100 : BitVec 32 := Scalar.extui v99
  let v101 : BitVec 32 := Scalar.subi v98 v100
  let c512_i32_49 : BitVec 32 := 512#32
  let c0_i32_52 : BitVec 32 := 0#32
  let v102 : BitVec 1 := Scalar.cmpi .sgt c512_i32_49 c0_i32_52
  let v103 : BitVec 32 := Scalar.extui v102
  let c0_i32_53 : BitVec 32 := 0#32
  let v104 : BitVec 1 := Scalar.cmpi .slt c512_i32_49 c0_i32_53
  let v105 : BitVec 32 := Scalar.extui v104
  let v106 : BitVec 32 := Scalar.subi v103 v105
  let v107 : BitVec 1 := Scalar.cmpi .ne v101 v106
  let v108 : BitVec 32 := Scalar.remsi v43 c512_i32_49
  let c0_i32_54 : BitVec 32 := 0#32
  let v109 : BitVec 1 := Scalar.cmpi .ne v108 c0_i32_54
  let v110 : BitVec 1 := Scalar.andi v107 v109
  let v96 : BitVec 32 := Scalar.divsi v43 c512_i32_49
  let c1_i32_55 : BitVec 32 := 1#32
  let v111 : BitVec 32 := Scalar.subi v96 c1_i32_55
  let v112 : BitVec 32 := Scalar.select v110 v111 v96
  let v113 : BitVec 32 := Scalar.subi v112 c0_i32_56
  let c1_i32_57 : BitVec 32 := 1#32
  let v115 : BitVec 32 := Scalar.divsi v113 c1_i32_57
  let v116 : BitVec 32 := Scalar.muli v115 c1_i32_57
  let v117 : BitVec 32 := Scalar.addi c0_i32_56 v116
  let c1_i32_59 : BitVec 32 := 1#32
  let arg17 : BitVec 32 := Scf.iv v117 c1_i32_59 k0_t3
  let c512_i32_114 : BitVec 32 := 512#32
  let v279 : BitVec 32 := Scalar.muli arg17 c512_i32_114
  let v280 : BitVec 32 := v279
  let v323 : Index := Scalar.indexCast v280
  ![0, 1, v323.toNat]
def k0_mult4 (k0_t1 : Fin k0_t1_loop.trips) : BitVec 32 :=
  let c0_i32_12 : BitVec 32 := 0#32
  let c1_i32_13 : BitVec 32 := 1#32
  let arg16 : BitVec 32 := Scf.iv c0_i32_12 c1_i32_13 k0_t1
  let c512_i32 : BitVec 32 := 512#32
  let v42 : BitVec 32 := Scalar.muli arg16 c512_i32
  let v43 : BitVec 32 := v42
  let c0_i32_50 : BitVec 32 := 0#32
  let v97 : BitVec 1 := Scalar.cmpi .sgt v43 c0_i32_50
  let v98 : BitVec 32 := Scalar.extui v97
  let c0_i32_51 : BitVec 32 := 0#32
  let v99 : BitVec 1 := Scalar.cmpi .slt v43 c0_i32_51
  let v100 : BitVec 32 := Scalar.extui v99
  let v101 : BitVec 32 := Scalar.subi v98 v100
  let c512_i32_49 : BitVec 32 := 512#32
  let c0_i32_52 : BitVec 32 := 0#32
  let v102 : BitVec 1 := Scalar.cmpi .sgt c512_i32_49 c0_i32_52
  let v103 : BitVec 32 := Scalar.extui v102
  let c0_i32_53 : BitVec 32 := 0#32
  let v104 : BitVec 1 := Scalar.cmpi .slt c512_i32_49 c0_i32_53
  let v105 : BitVec 32 := Scalar.extui v104
  let v106 : BitVec 32 := Scalar.subi v103 v105
  let v107 : BitVec 1 := Scalar.cmpi .ne v101 v106
  let v108 : BitVec 32 := Scalar.remsi v43 c512_i32_49
  let c0_i32_54 : BitVec 32 := 0#32
  let v109 : BitVec 1 := Scalar.cmpi .ne v108 c0_i32_54
  let v110 : BitVec 1 := Scalar.andi v107 v109
  let v96 : BitVec 32 := Scalar.divsi v43 c512_i32_49
  let c1_i32_55 : BitVec 32 := 1#32
  let v111 : BitVec 32 := Scalar.subi v96 c1_i32_55
  let v112 : BitVec 32 := Scalar.select v110 v111 v96
  let c512_i32_60 : BitVec 32 := 512#32
  let v120 : BitVec 32 := Scalar.muli v112 c512_i32_60
  v120
def k0_off10 (k0_t1 : Fin k0_t1_loop.trips) : Fin 2 → Nat :=
  let c0_i32_12 : BitVec 32 := 0#32
  let c1_i32_13 : BitVec 32 := 1#32
  let arg16 : BitVec 32 := Scf.iv c0_i32_12 c1_i32_13 k0_t1
  let c512_i32 : BitVec 32 := 512#32
  let v42 : BitVec 32 := Scalar.muli arg16 c512_i32
  let v43 : BitVec 32 := v42
  let c0_i32_50 : BitVec 32 := 0#32
  let v97 : BitVec 1 := Scalar.cmpi .sgt v43 c0_i32_50
  let v98 : BitVec 32 := Scalar.extui v97
  let c0_i32_51 : BitVec 32 := 0#32
  let v99 : BitVec 1 := Scalar.cmpi .slt v43 c0_i32_51
  let v100 : BitVec 32 := Scalar.extui v99
  let v101 : BitVec 32 := Scalar.subi v98 v100
  let c512_i32_49 : BitVec 32 := 512#32
  let c0_i32_52 : BitVec 32 := 0#32
  let v102 : BitVec 1 := Scalar.cmpi .sgt c512_i32_49 c0_i32_52
  let v103 : BitVec 32 := Scalar.extui v102
  let c0_i32_53 : BitVec 32 := 0#32
  let v104 : BitVec 1 := Scalar.cmpi .slt c512_i32_49 c0_i32_53
  let v105 : BitVec 32 := Scalar.extui v104
  let v106 : BitVec 32 := Scalar.subi v103 v105
  let v107 : BitVec 1 := Scalar.cmpi .ne v101 v106
  let v108 : BitVec 32 := Scalar.remsi v43 c512_i32_49
  let c0_i32_54 : BitVec 32 := 0#32
  let v109 : BitVec 1 := Scalar.cmpi .ne v108 c0_i32_54
  let v110 : BitVec 1 := Scalar.andi v107 v109
  let v96 : BitVec 32 := Scalar.divsi v43 c512_i32_49
  let c1_i32_55 : BitVec 32 := 1#32
  let v111 : BitVec 32 := Scalar.subi v96 c1_i32_55
  let v112 : BitVec 32 := Scalar.select v110 v111 v96
  let c512_i32_60 : BitVec 32 := 512#32
  let v120 : BitVec 32 := Scalar.muli v112 c512_i32_60
  let v121 : BitVec 32 := v120
  let v122 : Index := Scalar.indexCast v121
  let c0_61 : Index := 0#32
  ![v122.toNat, 0]
def k0_off11 (k0_t1 : Fin k0_t1_loop.trips) : Fin 3 → Nat :=
  let c0_63 : Index := 0#32
  let c0_64 : Index := 0#32
  let c0_i32_12 : BitVec 32 := 0#32
  let c1_i32_13 : BitVec 32 := 1#32
  let arg16 : BitVec 32 := Scf.iv c0_i32_12 c1_i32_13 k0_t1
  let c512_i32 : BitVec 32 := 512#32
  let v42 : BitVec 32 := Scalar.muli arg16 c512_i32
  let v43 : BitVec 32 := v42
  let c0_i32_50 : BitVec 32 := 0#32
  let v97 : BitVec 1 := Scalar.cmpi .sgt v43 c0_i32_50
  let v98 : BitVec 32 := Scalar.extui v97
  let c0_i32_51 : BitVec 32 := 0#32
  let v99 : BitVec 1 := Scalar.cmpi .slt v43 c0_i32_51
  let v100 : BitVec 32 := Scalar.extui v99
  let v101 : BitVec 32 := Scalar.subi v98 v100
  let c512_i32_49 : BitVec 32 := 512#32
  let c0_i32_52 : BitVec 32 := 0#32
  let v102 : BitVec 1 := Scalar.cmpi .sgt c512_i32_49 c0_i32_52
  let v103 : BitVec 32 := Scalar.extui v102
  let c0_i32_53 : BitVec 32 := 0#32
  let v104 : BitVec 1 := Scalar.cmpi .slt c512_i32_49 c0_i32_53
  let v105 : BitVec 32 := Scalar.extui v104
  let v106 : BitVec 32 := Scalar.subi v103 v105
  let v107 : BitVec 1 := Scalar.cmpi .ne v101 v106
  let v108 : BitVec 32 := Scalar.remsi v43 c512_i32_49
  let c0_i32_54 : BitVec 32 := 0#32
  let v109 : BitVec 1 := Scalar.cmpi .ne v108 c0_i32_54
  let v110 : BitVec 1 := Scalar.andi v107 v109
  let v96 : BitVec 32 := Scalar.divsi v43 c512_i32_49
  let c1_i32_55 : BitVec 32 := 1#32
  let v111 : BitVec 32 := Scalar.subi v96 c1_i32_55
  let v112 : BitVec 32 := Scalar.select v110 v111 v96
  let c512_i32_60 : BitVec 32 := 512#32
  let v120 : BitVec 32 := Scalar.muli v112 c512_i32_60
  let v121 : BitVec 32 := v120
  let v126 : Index := Scalar.indexCast v121
  ![0, 0, v126.toNat]
def k0_off12 (k0_t1 : Fin k0_t1_loop.trips) : Fin 3 → Nat :=
  let c0_79 : Index := 0#32
  let c1_80 : Index := 1#32
  let c0_i32_12 : BitVec 32 := 0#32
  let c1_i32_13 : BitVec 32 := 1#32
  let arg16 : BitVec 32 := Scf.iv c0_i32_12 c1_i32_13 k0_t1
  let c512_i32 : BitVec 32 := 512#32
  let v42 : BitVec 32 := Scalar.muli arg16 c512_i32
  let v43 : BitVec 32 := v42
  let c0_i32_50 : BitVec 32 := 0#32
  let v97 : BitVec 1 := Scalar.cmpi .sgt v43 c0_i32_50
  let v98 : BitVec 32 := Scalar.extui v97
  let c0_i32_51 : BitVec 32 := 0#32
  let v99 : BitVec 1 := Scalar.cmpi .slt v43 c0_i32_51
  let v100 : BitVec 32 := Scalar.extui v99
  let v101 : BitVec 32 := Scalar.subi v98 v100
  let c512_i32_49 : BitVec 32 := 512#32
  let c0_i32_52 : BitVec 32 := 0#32
  let v102 : BitVec 1 := Scalar.cmpi .sgt c512_i32_49 c0_i32_52
  let v103 : BitVec 32 := Scalar.extui v102
  let c0_i32_53 : BitVec 32 := 0#32
  let v104 : BitVec 1 := Scalar.cmpi .slt c512_i32_49 c0_i32_53
  let v105 : BitVec 32 := Scalar.extui v104
  let v106 : BitVec 32 := Scalar.subi v103 v105
  let v107 : BitVec 1 := Scalar.cmpi .ne v101 v106
  let v108 : BitVec 32 := Scalar.remsi v43 c512_i32_49
  let c0_i32_54 : BitVec 32 := 0#32
  let v109 : BitVec 1 := Scalar.cmpi .ne v108 c0_i32_54
  let v110 : BitVec 1 := Scalar.andi v107 v109
  let v96 : BitVec 32 := Scalar.divsi v43 c512_i32_49
  let c1_i32_55 : BitVec 32 := 1#32
  let v111 : BitVec 32 := Scalar.subi v96 c1_i32_55
  let v112 : BitVec 32 := Scalar.select v110 v111 v96
  let c512_i32_60 : BitVec 32 := 512#32
  let v120 : BitVec 32 := Scalar.muli v112 c512_i32_60
  let v121 : BitVec 32 := v120
  let v173 : Index := Scalar.indexCast v121
  ![0, 1, v173.toNat]
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_10 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x2 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2048x2 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x2048x2 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S2048x1536 : Shape := ⟨2, ![2048, 1536]⟩
abbrev S2048x8 : Shape := ⟨2, ![2048, 8]⟩
abbrev S2048x512 : Shape := ⟨2, ![2048, 512]⟩
abbrev S2048x8x64 : Shape := ⟨3, ![2048, 8, 64]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S8x1x2048 : Shape := ⟨3, ![8, 1, 2048]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S8x64x2048 : Shape := ⟨3, ![8, 64, 2048]⟩
abbrev S8x2048x64 : Shape := ⟨3, ![8, 2048, 64]⟩
abbrev S4x2x2048 : Shape := ⟨3, ![4, 2, 2048]⟩
abbrev S2048x4x2 : Shape := ⟨3, ![2048, 4, 2]⟩
abbrev S4x2048x2 : Shape := ⟨3, ![4, 2048, 2]⟩

abbrev nBuf : Space → Nat
  | .hbm => 130
  | .vmem => 0
  | .smem => 0
  | _ => 0

abbrev hbmTy0_0 (i : Nat) : BufTy := match i % 128 with
  | 0 => ⟨S2048x1536, .bf16⟩
  | 1 => ⟨S2048x8, .f32⟩
  | 2 => ⟨S2048x512, .f32⟩
  | 3 => ⟨S2048x512, .bf16⟩
  | 4 => ⟨S2048x8x64, .bf16⟩
  | 5 => ⟨S2048x8x64, .f32⟩
  | 6 => ⟨S2048x512, .bf16⟩
  | 7 => ⟨S2048x8x64, .bf16⟩
  | 8 => ⟨S2048x8x64, .f32⟩
  | 9 => ⟨S2048x512, .bf16⟩
  | 10 => ⟨S2048x8x64, .bf16⟩
  | 11 => ⟨S2048x8x64, .f32⟩
  | 12 => ⟨S8x2048x2048, .f32⟩
  | 13 => ⟨S_, .f32⟩
  | 14 => ⟨S8x2048x2048, .f32⟩
  | 15 => ⟨S8x2048x2048, .f32⟩
  | 16 => ⟨S8x2048, .f32⟩
  | 17 => ⟨S8x2048x1, .f32⟩
  | 18 => ⟨S8x2048x2048, .f32⟩
  | 19 => ⟨S8x2048x2048, .f32⟩
  | 20 => ⟨S8x2048, .f32⟩
  | 21 => ⟨S8x1x2048, .f32⟩
  | 22 => ⟨S8x2048x2048, .f32⟩
  | 23 => ⟨S8x2048x2048, .f32⟩
  | 24 => ⟨S2048, .i32⟩
  | 25 => ⟨S2048x1, .i32⟩
  | 26 => ⟨S2048, .i32⟩
  | 27 => ⟨S1x2048, .i32⟩
  | 28 => ⟨S2048x2048, .i32⟩
  | 29 => ⟨S2048x2048, .i32⟩
  | 30 => ⟨S2048x2048, .i1⟩
  | 31 => ⟨S_, .f32⟩
  | 32 => ⟨S_, .f32⟩
  | 33 => ⟨S8x2048x2048, .i1⟩
  | 34 => ⟨S8x2048x2048, .f32⟩
  | 35 => ⟨S8x2048x2048, .f32⟩
  | 36 => ⟨S_, .f32⟩
  | 37 => ⟨S8x2048x2048, .f32⟩
  | 38 => ⟨S_, .f32⟩
  | 39 => ⟨S8x2048, .f32⟩
  | 40 => ⟨S8x2048x1, .f32⟩
  | 41 => ⟨S8x2048x2048, .f32⟩
  | 42 => ⟨S8x2048x2048, .i1⟩
  | 43 => ⟨S8x2048x2048, .f32⟩
  | 44 => ⟨S_, .f32⟩
  | 45 => ⟨S8x2048, .f32⟩
  | 46 => ⟨S_, .f32⟩
  | 47 => ⟨S8x2048, .f32⟩
  | 48 => ⟨S8x2048, .f32⟩
  | 49 => ⟨S_, .f32⟩
  | 50 => ⟨S8x2048, .f32⟩
  | 51 => ⟨S8x2048, .i1⟩
  | 52 => ⟨S_, .f32⟩
  | 53 => ⟨S8x2048, .f32⟩
  | 54 => ⟨S8x2048, .i1⟩
  | 55 => ⟨S_, .f32⟩
  | 56 => ⟨S8x2048, .f32⟩
  | 57 => ⟨S_, .f32⟩
  | 58 => ⟨S8x2048, .f32⟩
  | 59 => ⟨S_, .f32⟩
  | 60 => ⟨S8x2048, .f32⟩
  | 61 => ⟨S8x2048, .f32⟩
  | 62 => ⟨S8x2048, .f32⟩
  | 63 => ⟨S8x2048x1, .f32⟩
  | 64 => ⟨S8x2048x2048, .f32⟩
  | 65 => ⟨S8x2048x2048, .f32⟩
  | 66 => ⟨S8x2048x2048, .f32⟩
  | 67 => ⟨S_, .f32⟩
  | 68 => ⟨S8x2048, .f32⟩
  | 69 => ⟨S8x2048x1, .f32⟩
  | 70 => ⟨S8x2048x2048, .f32⟩
  | 71 => ⟨S8x2048x2048, .f32⟩
  | 72 => ⟨S8x2048x1, .f32⟩
  | 73 => ⟨S_, .f32⟩
  | 74 => ⟨S8x2048x1, .f32⟩
  | 75 => ⟨S8x2048x1, .f32⟩
  | 76 => ⟨S8x64x2048, .f32⟩
  | 77 => ⟨S2048x8x64, .f32⟩
  | 78 => ⟨S2048x8x64, .f32⟩
  | 79 => ⟨S8x64x2048, .f32⟩
  | 80 => ⟨S8x2048x2048, .f32⟩
  | 81 => ⟨S8x64x2048, .f32⟩
  | 82 => ⟨S2048x8x64, .f32⟩
  | 83 => ⟨S8x2048x2048, .f32⟩
  | 84 => ⟨S8x2048x2048, .f32⟩
  | 85 => ⟨S8x2048x2048, .f32⟩
  | 86 => ⟨S_, .f32⟩
  | 87 => ⟨S8x2048, .f32⟩
  | 88 => ⟨S8x2048x1, .f32⟩
  | 89 => ⟨S8x2048x1, .f32⟩
  | 90 => ⟨S8x2048x2048, .f32⟩
  | 91 => ⟨S8x2048x2048, .f32⟩
  | 92 => ⟨S_, .f32⟩
  | 93 => ⟨S8x2048, .f32⟩
  | 94 => ⟨S8x2048x2048, .f32⟩
  | 95 => ⟨S8x2048x2048, .f32⟩
  | 96 => ⟨S8x2048x2048, .f32⟩
  | 97 => ⟨S_, .f32⟩
  | 98 => ⟨S8x2048x2048, .f32⟩
  | 99 => ⟨S8x2048x2048, .f32⟩
  | 100 => ⟨S8x2048x2048, .f32⟩
  | 101 => ⟨S_, .f32⟩
  | 102 => ⟨S8x2048, .f32⟩
  | 103 => ⟨S8x1x2048, .f32⟩
  | 104 => ⟨S_, .f32⟩
  | 105 => ⟨S8x2048, .f32⟩
  | 106 => ⟨S2048x8, .f32⟩
  | 107 => ⟨S_, .f32⟩
  | 108 => ⟨S8x2048, .f32⟩
  | 109 => ⟨S8x2048x1, .f32⟩
  | 110 => ⟨S_, .f32⟩
  | 111 => ⟨S8x2048, .f32⟩
  | 112 => ⟨S2048x8, .f32⟩
  | 113 => ⟨S_, .f32⟩
  | 114 => ⟨S8x2048x2048, .f32⟩
  | 115 => ⟨S8x2048x2048, .f32⟩
  | 116 => ⟨S8x2048x64, .f32⟩
  | 117 => ⟨S2048x8x64, .f32⟩
  | 118 => ⟨S8x2048x64, .f32⟩
  | 119 => ⟨S2048x8x64, .f32⟩
  | 120 => ⟨S2048x512, .f32⟩
  | 121 => ⟨S2048x512, .bf16⟩
  | 122 => ⟨S2048x512, .f32⟩
  | 123 => ⟨S2048x512, .bf16⟩
  | 124 => ⟨S2048x512, .f32⟩
  | 125 => ⟨S2048x512, .bf16⟩
  | 126 => ⟨S8x2048, .f32⟩
  | 127 => ⟨S4x2x2048, .f32⟩
  | _ => ⟨S2048x1536, .bf16⟩

abbrev hbmTy0_1 (i : Nat) : BufTy := match i % 128 with
  | 0 => ⟨S2048x4x2, .f32⟩
  | 1 => ⟨S4x2048x2, .f32⟩
  | _ => ⟨S2048x1536, .bf16⟩

abbrev hbmTy (i : Nat) : BufTy := match i / 128 with
  | 0 => hbmTy0_0 i
  | 1 => hbmTy0_1 i
  | _ => ⟨S2048x1536, .bf16⟩

abbrev bufTy : (tb : Table) → Fin (tcTables nBuf tb) → BufTy
  | .hbm, ⟨i, _⟩ => hbmTy i
  | _, _ => ⟨S2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_cst_0 : Ref sig .tc := ⟨.hbm, 31, rfl⟩
abbrev main_call0_v0 : Ref sig .tc := ⟨.hbm, 32, rfl⟩
abbrev main_v27_1 : Ref sig .tc := ⟨.hbm, 33, rfl⟩
abbrev main_call0_v2 : Ref sig .tc := ⟨.hbm, 34, rfl⟩
abbrev main_v27_0 : Ref sig .tc := ⟨.hbm, 35, rfl⟩
abbrev main_call0_cst : Ref sig .tc := ⟨.hbm, 36, rfl⟩
abbrev main_v27_2 : Ref sig .tc := ⟨.hbm, 37, rfl⟩
abbrev main_cst_1 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_11 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_12 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_call1_cst : Ref sig .tc := ⟨.hbm, 97, rfl⟩
abbrev main_call1_v0 : Ref sig .tc := ⟨.hbm, 98, rfl⟩
abbrev main_v75 : Ref sig .tc := ⟨.hbm, 99, rfl⟩
abbrev main_v76 : Ref sig .tc := ⟨.hbm, 100, rfl⟩
abbrev main_cst_13 : Ref sig .tc := ⟨.hbm, 101, rfl⟩
abbrev main_v77 : Ref sig .tc := ⟨.hbm, 102, rfl⟩
abbrev main_v78 : Ref sig .tc := ⟨.hbm, 103, rfl⟩
abbrev main_cst_14 : Ref sig .tc := ⟨.hbm, 104, rfl⟩
abbrev main_v79 : Ref sig .tc := ⟨.hbm, 105, rfl⟩
abbrev main_v80 : Ref sig .tc := ⟨.hbm, 106, rfl⟩
abbrev main_cst_15 : Ref sig .tc := ⟨.hbm, 107, rfl⟩
abbrev main_v81 : Ref sig .tc := ⟨.hbm, 108, rfl⟩
abbrev main_v82 : Ref sig .tc := ⟨.hbm, 109, rfl⟩
abbrev main_cst_16 : Ref sig .tc := ⟨.hbm, 110, rfl⟩
abbrev main_v83 : Ref sig .tc := ⟨.hbm, 111, rfl⟩
abbrev main_v84 : Ref sig .tc := ⟨.hbm, 112, rfl⟩
abbrev main_cst_17 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩

abbrev nD : Nat := 1
abbrev τ : Topo := Topo.v7x

variable {F : FTy → Type} [FloatOps F]

def κ : String → Option EReal := fun
  | "mask" => some ⊥
  | _ => none
-- ==== DwIn.lean ====
abbrev S2048x5632 : Shape := ⟨2, ![2048, 5632]⟩
abbrev S2048x1024 : Shape := ⟨2, ![2048, 1024]⟩
abbrev S5632x1024 : Shape := ⟨2, ![5632, 1024]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5632, .bf16⟩
  | .hbm, ⟨1, _⟩ => ⟨S2048x1024, .bf16⟩
  | .hbm, ⟨2, _⟩ => ⟨S5632x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwInRefIdeal.lean ====
abbrev S2048x5632 : Shape := ⟨2, ![2048, 5632]⟩
abbrev S2048x1024 : Shape := ⟨2, ![2048, 1024]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x1024, .bf16⟩
  | .hbm, ⟨2, _⟩ => ⟨S_, .f32⟩
  | .hbm, ⟨3, _⟩ => ⟨S1024x5632, .f32⟩
  | .hbm, ⟨4, _⟩ => ⟨S2048x1024, .f32⟩
  | .hbm, ⟨5, _⟩ => ⟨S2048x5632, .f32⟩
  | .hbm, ⟨6, _⟩ => ⟨S2048x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S5632x1024, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DwFf2.lean ====
abbrev S2048x4096 : Shape := ⟨2, ![2048, 4096]⟩
abbrev S2048x1024 : Shape := ⟨2, ![2048, 1024]⟩
abbrev S4x3072x1024 : Shape := ⟨3, ![4, 3072, 1024]⟩
abbrev S1024x1024 : Shape := ⟨2, ![1024, 1024]⟩
abbrev S1x1024x1024 : Shape := ⟨3, ![1, 1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .f32⟩
  | .hbm, ⟨2, _⟩ => ⟨S4x3072x1024, .bf16⟩
  | .hbm, ⟨3, _⟩ => ⟨S4x3072x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v17 : BitVec 1 := Scalar.cmpi .eq arg2 c1_i32
  let v18 : BitVec 32 := Scalar.extui v17
  let c0_i32_9 : BitVec 32 := 0#32
  let v19 : BitVec 1 := Scalar.cmpi .ne v18 c0_i32_9
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg0.toNat, c1_i32.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== DwFf2RefIdeal.lean ====
abbrev S2048x4096 : Shape := ⟨2, ![2048, 4096]⟩
abbrev S2048x1024 : Shape := ⟨2, ![2048, 1024]⟩
abbrev S4x3072x1024 : Shape := ⟨3, ![4, 3072, 1024]⟩
abbrev S_ : Shape := ⟨0, ![]⟩
abbrev S4096x1024 : Shape := ⟨2, ![4096, 1024]⟩
abbrev S1024x4096 : Shape := ⟨2, ![1024, 4096]⟩
abbrev S4x1024x1024 : Shape := ⟨3, ![4, 1024, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S2048x1024, .f32⟩
  | .hbm, ⟨2, _⟩ => ⟨S4x3072x1024, .bf16⟩
  | .hbm, ⟨3, _⟩ => ⟨S_, .f32⟩
  | .hbm, ⟨4, _⟩ => ⟨S4096x1024, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .f32⟩
  | .hbm, ⟨9, _⟩ => ⟨S2048x4096, .f32⟩
  | .hbm, ⟨10, _⟩ => ⟨S2048x1024, .f32⟩
  | .hbm, ⟨11, _⟩ => ⟨S1024x4096, .f32⟩
  | .hbm, ⟨12, _⟩ => ⟨S4096x1024, .f32⟩
  | .hbm, ⟨13, _⟩ => ⟨S4096x1024, .bf16⟩
  | .hbm, ⟨14, _⟩ => ⟨S4x1024x1024, .bf16⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S4x3072x1024, .bf16⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_c_0 : Ref sig .tc := ⟨.hbm, 16, rfl⟩
abbrev main_c_1 : Ref sig .tc := ⟨.hbm, 17, rfl⟩
abbrev main_v9 : Ref sig .tc := ⟨.hbm, 18, rfl⟩

abbrev nD : Nat := 1
abbrev τ : Topo := Topo.v7x

variable {F : FTy → Type} [FloatOps F]
-- ==== DwFf1.lean ====
abbrev S2048x1024 : Shape := ⟨2, ![2048, 1024]⟩
abbrev S2048x4096 : Shape := ⟨2, ![2048, 4096]⟩
abbrev S4x3072x1024 : Shape := ⟨3, ![4, 3072, 1024]⟩
abbrev S1024x1024 : Shape := ⟨2, ![1024, 1024]⟩
abbrev S1x1024x1024 : Shape := ⟨3, ![1, 1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S4x3072x1024, .bf16⟩
  | .hbm, ⟨3, _⟩ => ⟨S4x3072x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== DwFf1RefIdeal.lean ====
abbrev S2048x1024 : Shape := ⟨2, ![2048, 1024]⟩
abbrev S2048x4096 : Shape := ⟨2, ![2048, 4096]⟩
abbrev S4x3072x1024 : Shape := ⟨3, ![4, 3072, 1024]⟩
abbrev S_ : Shape := ⟨0, ![]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 17
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x4096, .bf16⟩
  | .hbm, ⟨2, _⟩ => ⟨S4x3072x1024, .bf16⟩
  | .hbm, ⟨3, _⟩ => ⟨S_, .f32⟩
  | .hbm, ⟨4, _⟩ => ⟨S1024x4096, .f32⟩
  | .hbm, ⟨5, _⟩ => ⟨S2048x1024, .f32⟩
  | .hbm, ⟨6, _⟩ => ⟨S2048x4096, .f32⟩
  | .hbm, ⟨7, _⟩ => ⟨S2048x4096, .f32⟩
  | .hbm, ⟨8, _⟩ => ⟨S4096x1024, .f32⟩
  | .hbm, ⟨9, _⟩ => ⟨S1024x4096, .f32⟩
  | .hbm, ⟨10, _⟩ => ⟨S1024x4096, .bf16⟩
  | .hbm, ⟨11, _⟩ => ⟨S1024x4x1024, .bf16⟩
  | .hbm, ⟨12, _⟩ => ⟨S4x1024x1024, .bf16⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S4x3072x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_c_0 : Ref sig .tc := ⟨.hbm, 14, rfl⟩
abbrev main_c_1 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== DA2.lean ====
abbrev S2048x1024 : Shape := ⟨2, ![2048, 1024]⟩
abbrev S4x3072x1024 : Shape := ⟨3, ![4, 3072, 1024]⟩
abbrev S2048x4096 : Shape := ⟨2, ![2048, 4096]⟩
abbrev S1024x1024 : Shape := ⟨2, ![1024, 1024]⟩
abbrev S1x1024x1024 : Shape := ⟨3, ![1, 1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S4x3072x1024, .bf16⟩
  | .hbm, ⟨2, _⟩ => ⟨S2048x4096, .bf16⟩
  | .hbm, ⟨3, _⟩ => ⟨S2048x4096, .bf16⟩
  | .local _ .vmem, ⟨0, _⟩ => ⟨S1024x1024, .f32⟩
  | .local _ .vmem, ⟨1, _⟩ => ⟨S1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg1.toNat, c1_i32.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DA2RefIdeal.lean ====
abbrev S2048x1024 : Shape := ⟨2, ![2048, 1024]⟩
abbrev S4x3072x1024 : Shape := ⟨3, ![4, 3072, 1024]⟩
abbrev S2048x4096 : Shape := ⟨2, ![2048, 4096]⟩
abbrev S4x1024x1024 : Shape := ⟨3, ![4, 1024, 1024]⟩
abbrev S4096x1024 : Shape := ⟨2, ![4096, 1024]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4x3072x1024, .bf16⟩
  | .hbm, ⟨2, _⟩ => ⟨S2048x4096, .bf16⟩
  | .hbm, ⟨3, _⟩ => ⟨S4x1024x1024, .bf16⟩
  | .hbm, ⟨4, _⟩ => ⟨S4096x1024, .bf16⟩
  | .hbm, ⟨5, _⟩ => ⟨S4096x1024, .f32⟩
  | .hbm, ⟨6, _⟩ => ⟨S2048x4096, .f32⟩
  | .hbm, ⟨7, _⟩ => ⟨S_, .f32⟩
  | .hbm, ⟨8, _⟩ => ⟨S2048x4096, .f32⟩
  | .hbm, ⟨9, _⟩ => ⟨S2048x4096, .f32⟩
  | .hbm, ⟨10, _⟩ => ⟨S_, .f32⟩
  | .hbm, ⟨11, _⟩ => ⟨S2048x4096, .f32⟩
  | .hbm, ⟨12, _⟩ => ⟨S2048x4096, .i1⟩
  | .hbm, ⟨13, _⟩ => ⟨S_, .f32⟩
  | .hbm, ⟨14, _⟩ => ⟨S2048x4096, .f32⟩
  | .hbm, ⟨15, _⟩ => ⟨S2048x4096, .f32⟩
  | .hbm, ⟨16, _⟩ => ⟨S_, .f32⟩
  | .hbm, ⟨17, _⟩ => ⟨S2048x4096, .f32⟩
  | .hbm, ⟨18, _⟩ => ⟨S2048x4096, .f32⟩
  | .hbm, ⟨19, _⟩ => ⟨S2048x1024, .f32⟩
  | .hbm, ⟨20, _⟩ => ⟨S2048x4096, .f32⟩
  | .hbm, ⟨21, _⟩ => ⟨S2048x4096, .f32⟩
  | .hbm, ⟨22, _⟩ => ⟨S_, .f32⟩
  | .hbm, ⟨23, _⟩ => ⟨S2048x4096, .f32⟩
  | .hbm, ⟨24, _⟩ => ⟨S2048x4096, .f32⟩
  | .hbm, ⟨25, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Ff1.lean ====
abbrev S2048x1024 : Shape := ⟨2, ![2048, 1024]⟩
abbrev S4x3072x1024 : Shape := ⟨3, ![4, 3072, 1024]⟩
abbrev S2048x4096 : Shape := ⟨2, ![2048, 4096]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S4x3072x1024, .bf16⟩
  | .hbm, ⟨2, _⟩ => ⟨S2048x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff1RefIdeal.lean ====
abbrev S2048x1024 : Shape := ⟨2, ![2048, 1024]⟩
abbrev S4x3072x1024 : Shape := ⟨3, ![4, 3072, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S2048x4096 : Shape := ⟨2, ![2048, 4096]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x3072x1024, .bf16⟩
  | .hbm, ⟨2, _⟩ => ⟨S4x1024x1024, .bf16⟩
  | .hbm, ⟨3, _⟩ => ⟨S1024x4x1024, .bf16⟩
  | .hbm, ⟨4, _⟩ => ⟨S1024x4096, .bf16⟩
  | .hbm, ⟨5, _⟩ => ⟨S1024x4096, .f32⟩
  | .hbm, ⟨6, _⟩ => ⟨S2048x1024, .f32⟩
  | .hbm, ⟨7, _⟩ => ⟨S2048x4096, .f32⟩
  | .hbm, ⟨8, _⟩ => ⟨S2048x4096, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Ff2.lean ====
abbrev S2048x4096 : Shape := ⟨2, ![2048, 4096]⟩
abbrev S4x3072x1024 : Shape := ⟨3, ![4, 3072, 1024]⟩
abbrev S2048x1024 : Shape := ⟨2, ![2048, 1024]⟩
abbrev S1024x1024 : Shape := ⟨2, ![1024, 1024]⟩
abbrev S1x1024x1024 : Shape := ⟨3, ![1, 1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S2048x4096, .bf16⟩
  | .hbm, ⟨1, _⟩ => ⟨S4x3072x1024, .bf16⟩
  | .hbm, ⟨2, _⟩ => ⟨S2048x1024, .f32⟩
  | .hbm, ⟨3, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v17 : BitVec 1 := Scalar.cmpi .eq arg2 c3_i32
  let v18 : BitVec 32 := Scalar.extui v17
  let c0_i32_10 : BitVec 32 := 0#32
  let v19 : BitVec 1 := Scalar.cmpi .ne v18 c0_i32_10
  v19

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg2.toNat, c1_i32.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Ff2RefIdeal.lean ====
abbrev S2048x4096 : Shape := ⟨2, ![2048, 4096]⟩
abbrev S4x3072x1024 : Shape := ⟨3, ![4, 3072, 1024]⟩
abbrev S2048x1024 : Shape := ⟨2, ![2048, 1024]⟩
abbrev S4x1024x1024 : Shape := ⟨3, ![4, 1024, 1024]⟩
abbrev S4096x1024 : Shape := ⟨2, ![4096, 1024]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4x3072x1024, .bf16⟩
  | .hbm, ⟨2, _⟩ => ⟨S2048x1024, .f32⟩
  | .hbm, ⟨3, _⟩ => ⟨S4x1024x1024, .bf16⟩
  | .hbm, ⟨4, _⟩ => ⟨S4096x1024, .bf16⟩
  | .hbm, ⟨5, _⟩ => ⟨S4096x1024, .f32⟩
  | .hbm, ⟨6, _⟩ => ⟨S2048x4096, .f32⟩
  | .hbm, ⟨7, _⟩ => ⟨S_, .f32⟩
  | .hbm, ⟨8, _⟩ => ⟨S2048x4096, .f32⟩
  | .hbm, ⟨9, _⟩ => ⟨S2048x4096, .f32⟩
  | .hbm, ⟨10, _⟩ => ⟨S2048x4096, .f32⟩
  | .hbm, ⟨11, _⟩ => ⟨S2048x1024, .f32⟩
  | .hbm, ⟨12, _⟩ => ⟨S2048x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Proj.lean ====
abbrev S2048x1024 : Shape := ⟨2, ![2048, 1024]⟩
abbrev S5632x1024 : Shape := ⟨2, ![5632, 1024]⟩
abbrev S2048x5632 : Shape := ⟨2, ![2048, 5632]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S5632x1024, .bf16⟩
  | .hbm, ⟨2, _⟩ => ⟨S2048x5632, .f32⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S2048x1024 : Shape := ⟨2, ![2048, 1024]⟩
abbrev S5632x1024 : Shape := ⟨2, ![5632, 1024]⟩
abbrev S1024x5632 : Shape := ⟨2, ![1024, 5632]⟩
abbrev S2048x5632 : Shape := ⟨2, ![2048, 5632]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S5632x1024, .bf16⟩
  | .hbm, ⟨2, _⟩ => ⟨S2048x1024, .f32⟩
  | .hbm, ⟨3, _⟩ => ⟨S1024x5632, .bf16⟩
  | .hbm, ⟨4, _⟩ => ⟨S1024x5632, .f32⟩
  | .hbm, ⟨5, _⟩ => ⟨S2048x5632, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Out.lean ====
abbrev S2048x1024 : Shape := ⟨2, ![2048, 1024]⟩
abbrev S4x1888x1024 : Shape := ⟨3, ![4, 1888, 1024]⟩
abbrev S1024x1024 : Shape := ⟨2, ![1024, 1024]⟩
abbrev S4x256x1024 : Shape := ⟨3, ![4, 256, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S4x1888x1024, .bf16⟩
  | .hbm, ⟨2, _⟩ => ⟨S2048x1024, .f32⟩
  | .hbm, ⟨3, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S4x256x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutRefIdeal.lean ====
abbrev S2048x1024 : Shape := ⟨2, ![2048, 1024]⟩
abbrev S4x1888x1024 : Shape := ⟨3, ![4, 1888, 1024]⟩
abbrev S4x256x1024 : Shape := ⟨3, ![4, 256, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x1888x1024, .bf16⟩
  | .hbm, ⟨2, _⟩ => ⟨S2048x1024, .f32⟩
  | .hbm, ⟨3, _⟩ => ⟨S2048x1024, .f32⟩
  | .hbm, ⟨4, _⟩ => ⟨S4x256x1024, .bf16⟩
  | .hbm, ⟨5, _⟩ => ⟨S1024x1024, .bf16⟩
  | .hbm, ⟨6, _⟩ => ⟨S1024x1024, .f32⟩
  | .hbm, ⟨7, _⟩ => ⟨S2048x1024, .f32⟩
  | .hbm, ⟨8, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Xo.lean ====
abbrev S2048x1024 : Shape := ⟨2, ![2048, 1024]⟩
abbrev S4x3072x1024 : Shape := ⟨3, ![4, 3072, 1024]⟩
abbrev S1024x1024 : Shape := ⟨2, ![1024, 1024]⟩
abbrev S4x256x1024 : Shape := ⟨3, ![4, 256, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x1024, .bf16⟩
  | .hbm, ⟨1, _⟩ => ⟨S4x3072x1024, .bf16⟩
  | .hbm, ⟨2, _⟩ => ⟨S2048x1024, .f32⟩
  | .hbm, ⟨3, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S4x256x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c11_i32 : BitVec 32 := 11#32
  let c0_i32_0 : BitVec 32 := 0#32
  let c0_i32_1 : BitVec 32 := 0#32
  ![c0_i32.toNat, c11_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== XoRefIdeal.lean ====
abbrev S2048x1024 : Shape := ⟨2, ![2048, 1024]⟩
abbrev S4x3072x1024 : Shape := ⟨3, ![4, 3072, 1024]⟩
abbrev S4x256x1024 : Shape := ⟨3, ![4, 256, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x3072x1024, .bf16⟩
  | .hbm, ⟨2, _⟩ => ⟨S2048x1024, .f32⟩
  | .hbm, ⟨3, _⟩ => ⟨S2048x1024, .f32⟩
  | .hbm, ⟨4, _⟩ => ⟨S4x256x1024, .bf16⟩
  | .hbm, ⟨5, _⟩ => ⟨S1024x1024, .bf16⟩
  | .hbm, ⟨6, _⟩ => ⟨S1024x1024, .f32⟩
  | .hbm, ⟨7, _⟩ => ⟨S2048x1024, .f32⟩
  | .hbm, ⟨8, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Xq.lean ====
abbrev S2048x1024 : Shape := ⟨2, ![2048, 1024]⟩
abbrev S4x3072x1024 : Shape := ⟨3, ![4, 3072, 1024]⟩
abbrev S1024x1024 : Shape := ⟨2, ![1024, 1024]⟩
abbrev S4x256x1024 : Shape := ⟨3, ![4, 256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S4x3072x1024, .bf16⟩
  | .hbm, ⟨2, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S4x256x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_9 : BitVec 32 := 0#32
  let v12 : BitVec 1 := Scalar.cmpi .eq arg2 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c10_i32 : BitVec 32 := 10#32
  let c0_i32_0 : BitVec 32 := 0#32
  let c0_i32_1 : BitVec 32 := 0#32
  ![c0_i32.toNat, c10_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== XqRefIdeal.lean ====
abbrev S2048x1024 : Shape := ⟨2, ![2048, 1024]⟩
abbrev S4x3072x1024 : Shape := ⟨3, ![4, 3072, 1024]⟩
abbrev S4x256x1024 : Shape := ⟨3, ![4, 256, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x3072x1024, .bf16⟩
  | .hbm, ⟨2, _⟩ => ⟨S2048x1024, .f32⟩
  | .hbm, ⟨3, _⟩ => ⟨S4x256x1024, .bf16⟩
  | .hbm, ⟨4, _⟩ => ⟨S1024x1024, .bf16⟩
  | .hbm, ⟨5, _⟩ => ⟨S1024x1024, .f32⟩
  | .hbm, ⟨6, _⟩ => ⟨S2048x1024, .f32⟩
  | .hbm, ⟨7, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== DO2.lean ====
abbrev S2048x1024 : Shape := ⟨2, ![2048, 1024]⟩
abbrev S4x3072x1024 : Shape := ⟨3, ![4, 3072, 1024]⟩
abbrev S1024x1024 : Shape := ⟨2, ![1024, 1024]⟩
abbrev S4x256x1024 : Shape := ⟨3, ![4, 256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S4x3072x1024, .bf16⟩
  | .hbm, ⟨2, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S4x256x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c11_i32 : BitVec 32 := 11#32
  let c0_i32_0 : BitVec 32 := 0#32
  let c0_i32_1 : BitVec 32 := 0#32
  ![c0_i32.toNat, c11_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DO2RefIdeal.lean ====
abbrev S2048x1024 : Shape := ⟨2, ![2048, 1024]⟩
abbrev S4x3072x1024 : Shape := ⟨3, ![4, 3072, 1024]⟩
abbrev S_ : Shape := ⟨0, ![]⟩
abbrev S4x256x1024 : Shape := ⟨3, ![4, 256, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4x3072x1024, .bf16⟩
  | .hbm, ⟨2, _⟩ => ⟨S_, .f32⟩
  | .hbm, ⟨3, _⟩ => ⟨S2048x1024, .f32⟩
  | .hbm, ⟨4, _⟩ => ⟨S4x256x1024, .bf16⟩
  | .hbm, ⟨5, _⟩ => ⟨S1024x1024, .bf16⟩
  | .hbm, ⟨6, _⟩ => ⟨S1024x1024, .f32⟩
  | .hbm, ⟨7, _⟩ => ⟨S2048x1024, .f32⟩
  | .hbm, ⟨8, _⟩ => ⟨S2048x1024, .f32⟩
  | .hbm, ⟨9, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DMerged.lean ====
abbrev S2048x1024 : Shape := ⟨2, ![2048, 1024]⟩
abbrev S4x1888x1024 : Shape := ⟨3, ![4, 1888, 1024]⟩
abbrev S1024x1024 : Shape := ⟨2, ![1024, 1024]⟩
abbrev S4x256x1024 : Shape := ⟨3, ![4, 256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S4x1888x1024, .bf16⟩
  | .hbm, ⟨2, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S4x256x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMergedRefIdeal.lean ====
abbrev S2048x1024 : Shape := ⟨2, ![2048, 1024]⟩
abbrev S4x1888x1024 : Shape := ⟨3, ![4, 1888, 1024]⟩
abbrev S_ : Shape := ⟨0, ![]⟩
abbrev S4x256x1024 : Shape := ⟨3, ![4, 256, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S4x1888x1024, .bf16⟩
  | .hbm, ⟨2, _⟩ => ⟨S_, .f32⟩
  | .hbm, ⟨3, _⟩ => ⟨S2048x1024, .f32⟩
  | .hbm, ⟨4, _⟩ => ⟨S4x256x1024, .bf16⟩
  | .hbm, ⟨5, _⟩ => ⟨S1024x1024, .bf16⟩
  | .hbm, ⟨6, _⟩ => ⟨S1024x1024, .f32⟩
  | .hbm, ⟨7, _⟩ => ⟨S2048x1024, .f32⟩
  | .hbm, ⟨8, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DwXo.lean ====
abbrev S2048x1024 : Shape := ⟨2, ![2048, 1024]⟩
abbrev S4x3072x1024 : Shape := ⟨3, ![4, 3072, 1024]⟩
abbrev S1024x1024 : Shape := ⟨2, ![1024, 1024]⟩
abbrev S1024x512 : Shape := ⟨2, ![1024, 512]⟩
abbrev S4x256x512 : Shape := ⟨3, ![4, 256, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S4x3072x1024, .bf16⟩
  | .hbm, ⟨3, _⟩ => ⟨S4x3072x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .f32⟩
  | .local _ .vmem, ⟨3, _⟩ => ⟨S1024x512, .f32⟩
  | .local _ .vmem, ⟨4, _⟩ => ⟨S4x256x512, .bf16⟩
  | .local _ .vmem, ⟨5, _⟩ => ⟨S4x256x512, .bf16⟩
  | .local _ .vmem, ⟨6, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c11_i32 : BitVec 32 := 11#32
  let c0_i32_0 : BitVec 32 := 0#32
  ![c0_i32.toNat, c11_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== DwXoRefIdeal.lean ====
abbrev S2048x1024 : Shape := ⟨2, ![2048, 1024]⟩
abbrev S4x3072x1024 : Shape := ⟨3, ![4, 3072, 1024]⟩
abbrev S_ : Shape := ⟨0, ![]⟩
abbrev S1024x1024 : Shape := ⟨2, ![1024, 1024]⟩
abbrev S4x256x1024 : Shape := ⟨3, ![4, 256, 1024]⟩

abbrev nBuf : Space → Nat
  | .hbm => 15
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S4x3072x1024, .bf16⟩
  | .hbm, ⟨3, _⟩ => ⟨S_, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S4x256x1024, .bf16⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S4x3072x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_c_0 : Ref sig .tc := ⟨.hbm, 12, rfl⟩
abbrev main_c_1 : Ref sig .tc := ⟨.hbm, 13, rfl⟩
abbrev main_v7 : Ref sig .tc := ⟨.hbm, 14, rfl⟩

abbrev nD : Nat := 1
abbrev τ : Topo := Topo.v7x

variable {F : FTy → Type} [FloatOps F]
-- ==== DwXq.lean ====
abbrev S2048x1024 : Shape := ⟨2, ![2048, 1024]⟩
abbrev S4x3072x1024 : Shape := ⟨3, ![4, 3072, 1024]⟩
abbrev S1024x1024 : Shape := ⟨2, ![1024, 1024]⟩
abbrev S1024x512 : Shape := ⟨2, ![1024, 512]⟩
abbrev S4x256x512 : Shape := ⟨3, ![4, 256, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S4x3072x1024, .bf16⟩
  | .hbm, ⟨3, _⟩ => ⟨S4x3072x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S4x256x512, .bf16⟩
  | .local _ .vmem, ⟨5, _⟩ => ⟨S4x256x512, .bf16⟩
  | .local _ .vmem, ⟨6, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c10_i32 : BitVec 32 := 10#32
  let c0_i32_0 : BitVec 32 := 0#32
  ![c0_i32.toNat, c10_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== DwXqRefIdeal.lean ====
abbrev S2048x1024 : Shape := ⟨2, ![2048, 1024]⟩
abbrev S4x3072x1024 : Shape := ⟨3, ![4, 3072, 1024]⟩
abbrev S_ : Shape := ⟨0, ![]⟩
abbrev S1024x1024 : Shape := ⟨2, ![1024, 1024]⟩
abbrev S4x256x1024 : Shape := ⟨3, ![4, 256, 1024]⟩

abbrev nBuf : Space → Nat
  | .hbm => 16
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S4x3072x1024, .bf16⟩
  | .hbm, ⟨3, _⟩ => ⟨S_, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S4x256x1024, .bf16⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S4x3072x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_c_0 : Ref sig .tc := ⟨.hbm, 13, rfl⟩
abbrev main_c_1 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== DwOut.lean ====
abbrev S2048x1024 : Shape := ⟨2, ![2048, 1024]⟩
abbrev S4x1888x1024 : Shape := ⟨3, ![4, 1888, 1024]⟩
abbrev S1024x1024 : Shape := ⟨2, ![1024, 1024]⟩
abbrev S1024x512 : Shape := ⟨2, ![1024, 512]⟩
abbrev S4x256x512 : Shape := ⟨3, ![4, 256, 512]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S4x1888x1024, .bf16⟩
  | .hbm, ⟨3, _⟩ => ⟨S4x1888x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .f32⟩
  | .local _ .vmem, ⟨3, _⟩ => ⟨S1024x512, .f32⟩
  | .local _ .vmem, ⟨4, _⟩ => ⟨S4x256x512, .bf16⟩
  | .local _ .vmem, ⟨5, _⟩ => ⟨S4x256x512, .bf16⟩
  | .local _ .vmem, ⟨6, _⟩ => ⟨S1024x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c1_i32 : BitVec 32 := 1#32
  let c0_i32_0 : BitVec 32 := 0#32
  ![c0_i32.toNat, c1_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== DwOutRefIdeal.lean ====
abbrev S2048x1024 : Shape := ⟨2, ![2048, 1024]⟩
abbrev S4x1888x1024 : Shape := ⟨3, ![4, 1888, 1024]⟩
abbrev S_ : Shape := ⟨0, ![]⟩
abbrev S1024x1024 : Shape := ⟨2, ![1024, 1024]⟩
abbrev S4x256x1024 : Shape := ⟨3, ![4, 256, 1024]⟩

abbrev nBuf : Space → Nat
  | .hbm => 15
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S4x1888x1024, .bf16⟩
  | .hbm, ⟨3, _⟩ => ⟨S_, .f32⟩
  | .hbm, ⟨4, _⟩ => ⟨S1024x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | .hbm, ⟨10, _⟩ => ⟨S4x256x1024, .bf16⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S4x1888x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_c_0 : Ref sig .tc := ⟨.hbm, 12, rfl⟩
abbrev main_c_1 : Ref sig .tc := ⟨.hbm, 13, rfl⟩
abbrev main_v7 : Ref sig .tc := ⟨.hbm, 14, rfl⟩

abbrev nD : Nat := 1
abbrev τ : Topo := Topo.v7x

variable {F : FTy → Type} [FloatOps F]
-- ==== DHf.lean ====
abbrev S2048x4096 : Shape := ⟨2, ![2048, 4096]⟩
abbrev S4x3072x1024 : Shape := ⟨3, ![4, 3072, 1024]⟩
abbrev S2048x1024 : Shape := ⟨2, ![2048, 1024]⟩
abbrev S1x1024 : Shape := ⟨2, ![1, 1024]⟩
abbrev S1024x1024 : Shape := ⟨2, ![1024, 1024]⟩
abbrev S1x1024x1024 : Shape := ⟨3, ![1, 1024, 1024]⟩
abbrev S1024 : Shape := ⟨1, ![1024]⟩
abbrev S1024x1 : Shape := ⟨2, ![1024, 1]⟩

abbrev nBuf : Space → Nat
  | .hbm => 7
  | .vmem => 13
  | .smem => 0
  | _ => 0

abbrev bufTy : (tb : Table) → Fin (tcTables nBuf tb) → BufTy
  | .hbm, ⟨0, _⟩ => ⟨S2048x4096, .bf16⟩
  | .hbm, ⟨1, _⟩ => ⟨S4x3072x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_10 : BitVec 32 := 0#32
  let v15 : BitVec 1 := Scalar.cmpi .ne v14 c0_i32_10
  v15

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v28 : BitVec 32 := Scalar.extui v0
  let c0_i32_18 : BitVec 32 := 0#32
  let v29 : BitVec 1 := Scalar.cmpi .ne v28 c0_i32_18
  v29

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== DHfRefIdeal.lean ====
abbrev S2048x4096 : Shape := ⟨2, ![2048, 4096]⟩
abbrev S4x3072x1024 : Shape := ⟨3, ![4, 3072, 1024]⟩
abbrev S2048x1024 : Shape := ⟨2, ![2048, 1024]⟩
abbrev S1x1024 : Shape := ⟨2, ![1, 1024]⟩
abbrev S4x1024x1024 : Shape := ⟨3, ![4, 1024, 1024]⟩
abbrev S1024x4x1024 : Shape := ⟨3, ![1024, 4, 1024]⟩
abbrev S1024x4096 : Shape := ⟨2, ![1024, 4096]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S2048x4096, .bf16⟩
  | .hbm, ⟨1, _⟩ => ⟨S4x3072x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S4x1024x1024, .bf16⟩
  | .hbm, ⟨6, _⟩ => ⟨S1024x4x1024, .bf16⟩
  | .hbm, ⟨7, _⟩ => ⟨S1024x4096, .bf16⟩
  | .hbm, ⟨8, _⟩ => ⟨S1024x4096, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x4096, .f32⟩
  | .hbm, ⟨29, _⟩ => ⟨S2048x4096, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048, .f32⟩
  | .hbm, ⟨40, _⟩ => ⟨S2048x1, .f32⟩
  | .hbm, ⟨41, _⟩ => ⟨S2048x1024, .f32⟩
  | .hbm, ⟨42, _⟩ => ⟨S2048x1024, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | _, _ => ⟨S2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== DH.lean ====
abbrev S2048x5632 : Shape := ⟨2, ![2048, 5632]⟩
abbrev S5632x1024 : Shape := ⟨2, ![5632, 1024]⟩
abbrev S2048x1024 : Shape := ⟨2, ![2048, 1024]⟩
abbrev S1x1024 : Shape := ⟨2, ![1, 1024]⟩
abbrev S1024x512 : Shape := ⟨2, ![1024, 512]⟩
abbrev S512x1024 : Shape := ⟨2, ![512, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 7
  | .vmem => 13
  | .smem => 0
  | _ => 0

abbrev bufTy : (tb : Table) → Fin (tcTables nBuf tb) → BufTy
  | .hbm, ⟨0, _⟩ => ⟨S2048x5632, .bf16⟩
  | .hbm, ⟨1, _⟩ => ⟨S5632x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S1x1024, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![2, 1, 11], ![false, false, false]⟩

def k0_cond2 (i : grid0.Coords) : BitVec 1 :=
  let arg2 : BitVec 32 := BitVec.ofNat 32 (i 2).val
  let c10_i32 : BitVec 32 := 10#32
  let v12 : BitVec 1 := Scalar.cmpi .eq arg2 c10_i32
  let v13 : BitVec 32 := Scalar.extui v12
  let c0_i32_9 : BitVec 32 := 0#32
  let v14 : BitVec 1 := Scalar.cmpi .ne v13 c0_i32_9
  v14

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v27 : BitVec 32 := Scalar.extui v0
  let c0_i32_17 : BitVec 32 := 0#32
  let v28 : BitVec 1 := Scalar.cmpi .ne v27 c0_i32_17
  v28

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== DHRefIdeal.lean ====
abbrev S2048x5632 : Shape := ⟨2, ![2048, 5632]⟩
abbrev S5632x1024 : Shape := ⟨2, ![5632, 1024]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024x5632 : Shape := ⟨2, ![1024, 5632]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S5632x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S1024x5632, .bf16⟩
  | .hbm, ⟨25, _⟩ => ⟨S1024x5632, .f32⟩
  | .hbm, ⟨26, _⟩ => ⟨S2048x5632, .f32⟩
  | .hbm, ⟨27, _⟩ => ⟨S2048x5632, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== DHx.lean ====
abbrev S2048x1024 : Shape := ⟨2, ![2048, 1024]⟩
abbrev S4x3072x1024 : Shape := ⟨3, ![4, 3072, 1024]⟩
abbrev S1x1024 : Shape := ⟨2, ![1, 1024]⟩
abbrev S512x1024 : Shape := ⟨2, ![512, 1024]⟩
abbrev S4x256x1024 : Shape := ⟨3, ![4, 256, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S2048x1024, .bf16⟩
  | .hbm, ⟨1, _⟩ => ⟨S4x3072x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S4x256x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_10 : BitVec 32 := 0#32
  let v13 : BitVec 1 := Scalar.cmpi .eq arg2 c0_i32_10
  let v14 : BitVec 32 := Scalar.extui v13
  let c0_i32_11 : BitVec 32 := 0#32
  let v15 : BitVec 1 := Scalar.cmpi .ne v14 c0_i32_11
  v15

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v28 : BitVec 32 := Scalar.extui v0
  let c0_i32_19 : BitVec 32 := 0#32
  let v29 : BitVec 1 := Scalar.cmpi .ne v28 c0_i32_19
  v29

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c10_i32 : BitVec 32 := 10#32
  let c0_i32_0 : BitVec 32 := 0#32
  let c0_i32_1 : BitVec 32 := 0#32
  ![c0_i32.toNat, c10_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== DHxRefIdeal.lean ====
abbrev S2048x1024 : Shape := ⟨2, ![2048, 1024]⟩
abbrev S4x3072x1024 : Shape := ⟨3, ![4, 3072, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S4x256x1024 : Shape := ⟨3, ![4, 256, 1024]⟩
abbrev S1024x1024 : Shape := ⟨2, ![1024, 1024]⟩
abbrev S1024 : Shape := ⟨1, ![1024]⟩

abbrev nBuf : Space → Nat
  | .hbm => 54
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S4x3072x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S4x256x1024, .bf16⟩
  | .hbm, ⟨25, _⟩ => ⟨S1024x1024, .bf16⟩
  | .hbm, ⟨26, _⟩ => ⟨S1024x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048, .f32⟩
  | .hbm, ⟨39, _⟩ => ⟨S2048x1, .f32⟩
  | .hbm, ⟨40, _⟩ => ⟨S2048x1024, .f32⟩
  | .hbm, ⟨41, _⟩ => ⟨S2048x1024, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Proof.FrameKernel.lean ====
/-
  `Kernel`'s frame: the backward pass of the forgetting attention as a pipeline of four grid points, the contents of the
  five results FORGOTTEN. The outer loop over the row blocks keeps the eight input blocks at their contents and the
  results' and the scratch blocks at some contents; the inner loop over the column blocks is gone through by its
  generated invariant. The body's run hands the staging memrefs back, and the launch for windows that share an array
  among inputs ends every execution with the arguments unchanged and every counter at zero.
-/
module

public import proofs.«01_k».proof.Proof.Gen.Kernel.Frame
public import proofs.«01_k».proof.Proof.Gen.Kernel.Skeleton
public import proofs.«01_k».proof.Proof.Gen.Kernel.Loops
public import Idealize.ShloMosaic.Lib.Pipeline.Frame
public import Idealize.ShloMosaic.Lib.Tactic

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-! ## The loop over the row blocks -/

/-- Before a row block: the eight inputs as they were, the blocks the loop writes at some contents. -/
@[sl_loop] noncomputable def loopInv_k0_t1 (c : Dev nD) (i : grid0.Coords)
    (arg1 : Memref sig .tc .vmem S2048x128 .bf16) (harg1 : arg1.IsWhole)
    (arg2 : Memref sig .tc .vmem S2048x128 .bf16) (harg2 : arg2.IsWhole)
    (arg3 : Memref sig .tc .vmem S2048x128 .bf16) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S1x2048x2 .f32) (harg6 : arg6.IsWhole)
    (arg7 : Memref sig .tc .vmem S1x2048x2 .f32) (harg7 : arg7.IsWhole)
    (arg8 : Memref sig .tc .vmem S1x2x2048 .f32) (harg8 : arg8.IsWhole)
    (arg9 : Memref sig .tc .vmem S2048x128 .bf16) (harg9 : arg9.IsWhole)
    (arg10 : Memref sig .tc .vmem S2048x128 .bf16) (harg10 : arg10.IsWhole)
    (arg11 : Memref sig .tc .vmem S2048x128 .bf16) (harg11 : arg11.IsWhole)
    (arg12 : Memref sig .tc .vmem S1x2x2048 .f32) (harg12 : arg12.IsWhole)
    (arg13 : Memref sig .tc .vmem S1x2048x2 .f32) (harg13 : arg13.IsWhole)
    (arg14 : Memref sig .tc .vmem S2048x128 .f32) (harg14 : arg14.IsWhole)
    (arg15 : Memref sig .tc .vmem S2048x128 .f32) (harg15 : arg15.IsWhole)
    (v34 : IVec S512x128 32) (c0_i32_12 : BitVec 32) (c1_i32_13 : BitVec 32)
    (X1 : Buf (Elt F) (arg1.view.loc (c : Thread nD τ))) (X2 : Buf (Elt F) (arg2.view.loc (c : Thread nD τ))) (X3 : Buf (Elt F) (arg3.view.loc (c : Thread nD τ))) (X4 : Buf (Elt F) (arg4.view.loc (c : Thread nD τ))) (X5 : Buf (Elt F) (arg5.view.loc (c : Thread nD τ))) (X6 : Buf (Elt F) (arg6.view.loc (c : Thread nD τ))) (X7 : Buf (Elt F) (arg7.view.loc (c : Thread nD τ))) (X8 : Buf (Elt F) (arg8.view.loc (c : Thread nD τ))) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 v34 c0_i32_12 c1_i32_13 where
  inv := fun _ _ => iprop((arg1.view.loc (c : Thread nD τ) ↦[arg1.view.set]{fullShare} X1)
      ∗ (arg2.view.loc (c : Thread nD τ) ↦[arg2.view.set]{fullShare} X2)
      ∗ (arg3.view.loc (c : Thread nD τ) ↦[arg3.view.set]{fullShare} X3)
      ∗ (arg4.view.loc (c : Thread nD τ) ↦[arg4.view.set]{fullShare} X4)
      ∗ (arg5.view.loc (c : Thread nD τ) ↦[arg5.view.set]{fullShare} X5)
      ∗ (arg6.view.loc (c : Thread nD τ) ↦[arg6.view.set]{fullShare} X6)
      ∗ (arg7.view.loc (c : Thread nD τ) ↦[arg7.view.set]{fullShare} X7)
      ∗ (arg8.view.loc (c : Thread nD τ) ↦[arg8.view.set]{fullShare} X8)
      ∗ (∃ f : Buf (Elt F) (arg9.view.loc (c : Thread nD τ)), arg9.view.loc (c : Thread nD τ) ↦[arg9.view.set]{fullShare} f)
      ∗ (∃ f : Buf (Elt F) (arg12.view.loc (c : Thread nD τ)), arg12.view.loc (c : Thread nD τ) ↦[arg12.view.set]{fullShare} f)
      ∗ (∃ f : Buf (Elt F) (arg13.view.loc (c : Thread nD τ)), arg13.view.loc (c : Thread nD τ) ↦[arg13.view.set]{fullShare} f)
      ∗ (∃ f : Buf (Elt F) (arg14.view.loc (c : Thread nD τ)), arg14.view.loc (c : Thread nD τ) ↦[arg14.view.set]{fullShare} f)
      ∗ (∃ f : Buf (Elt F) (arg15.view.loc (c : Thread nD τ)), arg15.view.loc (c : Thread nD τ) ↦[arg15.view.set]{fullShare} f))
  step := fun k acc => by
    unfold k0_t1_body
    iintro ⟨H1, H2, H3, H4, H5, H6, H7, H8, ⟨%f9, H9⟩, ⟨%f12, H12⟩, ⟨%f13, H13⟩, ⟨%f14, H14⟩, ⟨%f15, H15⟩⟩
    sl_exec_parts
    sl_step
    sl_close

/-! ## The body, run once -/

/-- The body's triple, for any continuation: the inputs' blocks handed back as they were, the results' and the scratch
    blocks at some contents. -/
theorem kernelRun (c : Dev nD) (i : grid0.Coords)
    (arg1 : Memref sig .tc .vmem S2048x128 .bf16) (harg1 : arg1.IsWhole)
    (arg2 : Memref sig .tc .vmem S2048x128 .bf16) (harg2 : arg2.IsWhole)
    (arg3 : Memref sig .tc .vmem S2048x128 .bf16) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S1x2048x2 .f32) (harg6 : arg6.IsWhole)
    (arg7 : Memref sig .tc .vmem S1x2048x2 .f32) (harg7 : arg7.IsWhole)
    (arg8 : Memref sig .tc .vmem S1x2x2048 .f32) (harg8 : arg8.IsWhole)
    (arg9 : Memref sig .tc .vmem S2048x128 .bf16) (harg9 : arg9.IsWhole)
    (arg10 : Memref sig .tc .vmem S2048x128 .bf16) (harg10 : arg10.IsWhole)
    (arg11 : Memref sig .tc .vmem S2048x128 .bf16) (harg11 : arg11.IsWhole)
    (arg12 : Memref sig .tc .vmem S1x2x2048 .f32) (harg12 : arg12.IsWhole)
    (arg13 : Memref sig .tc .vmem S1x2048x2 .f32) (harg13 : arg13.IsWhole)
    (arg14 : Memref sig .tc .vmem S2048x128 .f32) (harg14 : arg14.IsWhole)
    (arg15 : Memref sig .tc .vmem S2048x128 .f32) (harg15 : arg15.IsWhole)
    (d1 : Vec F S2048x128 .bf16) (d2 : Vec F S2048x128 .bf16) (d3 : Vec F S2048x128 .bf16) (d4 : Vec F S2048x128 .f32) (d5 : Vec F S2048x128 .f32) (d6 : Vec F S1x2048x2 .f32) (d7 : Vec F S1x2048x2 .f32) (d8 : Vec F S1x2x2048 .f32) (K : PUnit → sProp 𝕄) :
    iprop(owns (c : Thread nD τ) arg1 fullShare d1
        ∗ owns (c : Thread nD τ) arg2 fullShare d2
        ∗ owns (c : Thread nD τ) arg3 fullShare d3
        ∗ owns (c : Thread nD τ) arg4 fullShare d4
        ∗ owns (c : Thread nD τ) arg5 fullShare d5
        ∗ owns (c : Thread nD τ) arg6 fullShare d6
        ∗ owns (c : Thread nD τ) arg7 fullShare d7
        ∗ owns (c : Thread nD τ) arg8 fullShare d8
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg15 fullShare d)
        ∗ (iprop(owns (c : Thread nD τ) arg1 fullShare d1
        ∗ owns (c : Thread nD τ) arg2 fullShare d2
        ∗ owns (c : Thread nD τ) arg3 fullShare d3
        ∗ owns (c : Thread nD τ) arg4 fullShare d4
        ∗ owns (c : Thread nD τ) arg5 fullShare d5
        ∗ owns (c : Thread nD τ) arg6 fullShare d6
        ∗ owns (c : Thread nD τ) arg7 fullShare d7
        ∗ owns (c : Thread nD τ) arg8 fullShare d8
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg15 fullShare d)) -∗ K ⟨⟩))
      ⊢ wp frame (wpE (defs₀ (F := F)) Variants.none c none) Set.univ (cc0_fox_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_fox_bwd_eq_skeleton]; unfold cc0_fox_bwd_skel
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  sl_exec_parts
  sl_step
  iapply Hk
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists f7; isplitr; · ipureintro; exact h7
    iexact H7
  isplitl [H8]
  · iexists f8; isplitr; · ipureintro; exact h8
    iexact H8
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  · iexists _, _; isplitr; swap; · iexact H15
    ipureintro; rfl

/-! ## The proof data and the body obligation -/

variable (m : (ℓ : Loc nD τ sig) → Buf (Elt F) ℓ) (ρ : Dev nD → PrngReg)

abbrev ms0_0 (t : Fin cfg0.N) : Memref sig .tc .vmem S2048x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048x2 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048x2 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2048x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2048x128 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2048x128 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x2x2048 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x2048x2 .f32 := win0_12.stage (cfg0.slots t 12)
abbrev hs0_12 (t : Fin cfg0.N) : (ms0_12 t).IsWhole := hstage0_12 ((cfg0.slots t 12).cast nbuf0_12)
abbrev sc0_0 : Memref sig .tc .vmem S2048x128 .f32 := Memref.whole cc0_scratch0
abbrev sc0_1 : Memref sig .tc .vmem S2048x128 .f32 := Memref.whole cc0_scratch1

/-- The five results are forgotten: nothing here reads what the kernel leaves in them. -/
def forgets0 : Fin 13 → Bool := fun w => decide (8 ≤ w.val)

/-- The proof data on core `c`: the arrays as the region finds them, the inputs' blocks left in place, the results' unnamed,
    the scratch at anything, each array's share dealt among the windows on it, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => Pipeline.Dat.unnamed (cfg := cfg0) 8 t
    | ⟨9, _⟩ => Pipeline.Dat.unnamed (cfg := cfg0) 9 t
    | ⟨10, _⟩ => Pipeline.Dat.unnamed (cfg := cfg0) 10 t
    | ⟨11, _⟩ => Pipeline.Dat.unnamed (cfg := cfg0) 11 t
    | ⟨12, _⟩ => Pipeline.Dat.unnamed (cfg := cfg0) 12 t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  before0_7_of m (dats m 0 c) (A_eq m c 7) (after0_7 m c) t d

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare d)
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d))

/-- The body at the point: the two scratch blocks taken out of the invariant, `kernelRun`, the invariant closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, after0_0, after0_1, after0_2, after0_3, after0_4, after0_5, after0_6, after0_7]
  simp only [before0_0, before0_1, before0_2, before0_3, before0_4, before0_5, before0_6, before0_7]
  unfold Pipeline.ΦA
  rw [scopedRest0_eq]
  iintro ⟨⟨⟨HS0, HS1⟩, Hg⟩, HO, ⟨%e0, H0⟩, ⟨%e1, H1⟩, ⟨%e2, H2⟩, ⟨%e3, H3⟩, ⟨%e4, H4⟩, ⟨%e5, H5⟩, ⟨%e6, H6⟩, ⟨%e7, H7⟩, H8, H9, H10, H11, H12⟩
  iapply (kernelRun c _ (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) sc0_0 (Memref.isWhole_whole _) sc0_1 (Memref.isWhole_whole _) (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]
  · icases HS0 with ⟨%f, HS0⟩; iexists f; simp only [sc0_0, owns_whole]; iexact HS0
  isplitl [HS1]
  · icases HS1 with ⟨%f, HS1⟩; iexists f; simp only [sc0_1, owns_whole]; iexact HS1
  iintro ⟨H0, H1, H2, H3, H4, H5, H6, H7, H8, H9, H10, H11, H12, ⟨%g0, HS0⟩, ⟨%g1, HS1⟩⟩
  isplitl [HS0 HS1 Hg]
  · isplitl [HS0 HS1]
    · isplitl [HS0]
      · iexists g0; simp only [sc0_0, owns_whole]; iexact HS0
      iexists g1; simp only [sc0_1, owns_whole]; iexact HS1
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the results forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

-- the launch theorem's implicit arguments are found by unifying its conclusion with this statement, which unifies only
-- when unification may unfold plain definitions in a metavariable's type
set_option backward.isDefEq.respectTransparency.types false in
/-- From any memory with zero counters every weakly fair execution terminates, the inputs' arrays and every buffer no
    window is on at what the region found there, every counter at zero; nothing is said of the forgotten results. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

variable {m ρ}

/-- After the run an input window's array holds what the region found there. -/
theorem final_in {r : PUnit × MemSt nD τ sig (Elt F)}
    (h : Pipeline.RDat.FramePost (cfgs 0) (fun c => (dats (F := F) m 0 c).toRForget forgets0) (V m) r) (c : Dev nD)
    (w : Fin 13) (hw : forgets0 w = false) (ho : (cfg0.win w).isOut = false) :
    r.2.mem ((spec0 w).arr.view.loc (c : Thread nD τ)) = V m c (Pipeline.arrRef spec0 w) :=
  (((dats (F := F) m 0 c).toRForget_arrAt_iff hw cfg0.N _).mp ((h c).1 w)).trans
    (((dats (F := F) m 0 c).arrAt_in w ho cfg0.N).trans (A_eq m c w))

/-- THE FRAME: every execution terminates, the arguments unchanged and every counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(final_in h.1 c 0 rfl rfl).trans (V_main_arg0 m c),
      ((h.1 c).2 main_arg1 (Pipeline.mem_restRefs_of main_arg1 (by decide) (by decide))).trans (V_main_arg1 m c),
      (final_in h.1 c 4 rfl rfl).trans (V_main_arg2 m c)⟩, h.2⟩) (run_main m ρ)

end Cert.Proof.Kernel

end
-- ==== Proof.Trip.lean ====
/-
  The loop over the row blocks at exact values: one trip run at a symbolic block, the pieces it writes found by the run.
-/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.Pipeline.Frame
public import Idealize.ShloMosaic.Lib.Tactic

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

/-- The generated invariant of the inner loop at its one unread word. -/
@[sl_loop, instance_reducible] def inner_k0_t2 (c : Dev nD) (i : grid0.Coords)
    (arg1 : Memref sig .tc .vmem S2048x128 .bf16) (harg1 : arg1.IsWhole)
    (arg2 : Memref sig .tc .vmem S2048x128 .bf16) (harg2 : arg2.IsWhole)
    (arg3 : Memref sig .tc .vmem S2048x128 .bf16) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S1x2048x2 .f32) (harg6 : arg6.IsWhole)
    (arg7 : Memref sig .tc .vmem S1x2048x2 .f32) (harg7 : arg7.IsWhole)
    (arg8 : Memref sig .tc .vmem S1x2x2048 .f32) (harg8 : arg8.IsWhole)
    (arg9 : Memref sig .tc .vmem S2048x128 .bf16) (harg9 : arg9.IsWhole)
    (arg10 : Memref sig .tc .vmem S2048x128 .bf16) (harg10 : arg10.IsWhole)
    (arg11 : Memref sig .tc .vmem S2048x128 .bf16) (harg11 : arg11.IsWhole)
    (arg12 : Memref sig .tc .vmem S1x2x2048 .f32) (harg12 : arg12.IsWhole)
    (arg13 : Memref sig .tc .vmem S1x2048x2 .f32) (harg13 : arg13.IsWhole)
    (arg14 : Memref sig .tc .vmem S2048x128 .f32) (harg14 : arg14.IsWhole)
    (arg15 : Memref sig .tc .vmem S2048x128 .f32) (harg15 : arg15.IsWhole)
    (k0_t1 : Fin k0_t1_loop.trips) (v45 : Vec Ideal S512x128 .bf16) (v48 : FVec Ideal S512x128 .bf16) (v57 : Vec Ideal S512x128 .bf16) (v61 : Vec Ideal S512x128 .bf16) (v65 : FVec Ideal S512x128 .bf16) (v69 : FVec Ideal S512x128 .bf16) (v75 : FVec Ideal S512x1 .f32) (v81 : FVec Ideal S512x1 .f32) (v83 : Vec Ideal S1x512x1 .f32) (v86 : Vec Ideal S1x512x1 .f32) (v89 : Vec Ideal S1x512x1 .f32) (v92 : Vec Ideal S1x512x1 .f32) (X2 : BufTy.Contents (Elt Ideal) arg2.view.ty) (X3 : BufTy.Contents (Elt Ideal) arg3.view.ty) (X8 : BufTy.Contents (Elt Ideal) arg8.view.ty) (G12 : BufTy.Contents (Elt Ideal) arg12.view.ty) (G14 : BufTy.Contents (Elt Ideal) arg14.view.ty) (G15 : BufTy.Contents (Elt Ideal) arg15.view.ty) (init : FVec Ideal S512x128 .f32 × FVec Ideal S512x128 .f32 × FVec Ideal S512x1 .f32 × FVec Ideal S512x1 .f32) :=
  loopInv_k0_t2 Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 k0_t1 0#32 v45 v48 v57 v61 v65 v69 v75 v81 v83 v86 v89 v92 X2 X3 X8 G12 G14 G15 init

/-- The generated invariant of the inner loop at its one unread word. -/
@[sl_loop, instance_reducible] def inner_k0_t3 (c : Dev nD) (i : grid0.Coords)
    (arg1 : Memref sig .tc .vmem S2048x128 .bf16) (harg1 : arg1.IsWhole)
    (arg2 : Memref sig .tc .vmem S2048x128 .bf16) (harg2 : arg2.IsWhole)
    (arg3 : Memref sig .tc .vmem S2048x128 .bf16) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S1x2048x2 .f32) (harg6 : arg6.IsWhole)
    (arg7 : Memref sig .tc .vmem S1x2048x2 .f32) (harg7 : arg7.IsWhole)
    (arg8 : Memref sig .tc .vmem S1x2x2048 .f32) (harg8 : arg8.IsWhole)
    (arg9 : Memref sig .tc .vmem S2048x128 .bf16) (harg9 : arg9.IsWhole)
    (arg10 : Memref sig .tc .vmem S2048x128 .bf16) (harg10 : arg10.IsWhole)
    (arg11 : Memref sig .tc .vmem S2048x128 .bf16) (harg11 : arg11.IsWhole)
    (arg12 : Memref sig .tc .vmem S1x2x2048 .f32) (harg12 : arg12.IsWhole)
    (arg13 : Memref sig .tc .vmem S1x2048x2 .f32) (harg13 : arg13.IsWhole)
    (arg14 : Memref sig .tc .vmem S2048x128 .f32) (harg14 : arg14.IsWhole)
    (arg15 : Memref sig .tc .vmem S2048x128 .f32) (harg15 : arg15.IsWhole)
    (k0_t1 : Fin k0_t1_loop.trips) (v45 : Vec Ideal S512x128 .bf16) (v48 : FVec Ideal S512x128 .bf16) (v57 : Vec Ideal S512x128 .bf16) (v61 : Vec Ideal S512x128 .bf16) (v65 : FVec Ideal S512x128 .bf16) (v69 : FVec Ideal S512x128 .bf16) (v75 : FVec Ideal S512x1 .f32) (v81 : FVec Ideal S512x1 .f32) (v83 : Vec Ideal S1x512x1 .f32) (v86 : Vec Ideal S1x512x1 .f32) (v89 : Vec Ideal S1x512x1 .f32) (v92 : Vec Ideal S1x512x1 .f32) (v117 : BitVec 32) (X2 : BufTy.Contents (Elt Ideal) arg2.view.ty) (X3 : BufTy.Contents (Elt Ideal) arg3.view.ty) (X8 : BufTy.Contents (Elt Ideal) arg8.view.ty) (G12 : BufTy.Contents (Elt Ideal) arg12.view.ty) (G14 : BufTy.Contents (Elt Ideal) arg14.view.ty) (G15 : BufTy.Contents (Elt Ideal) arg15.view.ty) (init : FVec Ideal S512x128 .f32 × FVec Ideal S512x128 .f32 × FVec Ideal S512x1 .f32 × FVec Ideal S512x1 .f32) :=
  loopInv_k0_t3 Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 k0_t1 0#32 v45 v48 v57 v61 v65 v69 v75 v81 v83 v86 v89 v92 v117 X2 X3 X8 G12 G14 G15 init

set_option maxHeartbeats 4000000 in
/-- One trip of the loop over the row blocks, from any contents of the five blocks it writes: the pieces it leaves. -/
def trip (c : Dev nD) (i : grid0.Coords)
    (arg1 : Memref sig .tc .vmem S2048x128 .bf16) (harg1 : arg1.IsWhole)
    (arg2 : Memref sig .tc .vmem S2048x128 .bf16) (harg2 : arg2.IsWhole)
    (arg3 : Memref sig .tc .vmem S2048x128 .bf16) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S1x2048x2 .f32) (harg6 : arg6.IsWhole)
    (arg7 : Memref sig .tc .vmem S1x2048x2 .f32) (harg7 : arg7.IsWhole)
    (arg8 : Memref sig .tc .vmem S1x2x2048 .f32) (harg8 : arg8.IsWhole)
    (arg9 : Memref sig .tc .vmem S2048x128 .bf16) (harg9 : arg9.IsWhole)
    (arg10 : Memref sig .tc .vmem S2048x128 .bf16) (harg10 : arg10.IsWhole)
    (arg11 : Memref sig .tc .vmem S2048x128 .bf16) (harg11 : arg11.IsWhole)
    (arg12 : Memref sig .tc .vmem S1x2x2048 .f32) (harg12 : arg12.IsWhole)
    (arg13 : Memref sig .tc .vmem S1x2048x2 .f32) (harg13 : arg13.IsWhole)
    (arg14 : Memref sig .tc .vmem S2048x128 .f32) (harg14 : arg14.IsWhole)
    (arg15 : Memref sig .tc .vmem S2048x128 .f32) (harg15 : arg15.IsWhole)
    (v34 : IVec S512x128 32) (c0_i32_12 : BitVec 32) (c1_i32_13 : BitVec 32)
    (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty) (k : Fin k0_t1_loop.trips) :
    Σ' (L9 : BufTy.Contents (Elt Ideal) arg9.view.ty → BufTy.Contents (Elt Ideal) arg12.view.ty → BufTy.Contents (Elt Ideal) arg13.view.ty → BufTy.Contents (Elt Ideal) arg14.view.ty → BufTy.Contents (Elt Ideal) arg15.view.ty → List (View.Piece (Elt Ideal) S2048x128 .bf16)) (L12 : BufTy.Contents (Elt Ideal) arg9.view.ty → BufTy.Contents (Elt Ideal) arg12.view.ty → BufTy.Contents (Elt Ideal) arg13.view.ty → BufTy.Contents (Elt Ideal) arg14.view.ty → BufTy.Contents (Elt Ideal) arg15.view.ty → List (View.Piece (Elt Ideal) S1x2x2048 .f32)) (L13 : BufTy.Contents (Elt Ideal) arg9.view.ty → BufTy.Contents (Elt Ideal) arg12.view.ty → BufTy.Contents (Elt Ideal) arg13.view.ty → BufTy.Contents (Elt Ideal) arg14.view.ty → BufTy.Contents (Elt Ideal) arg15.view.ty → List (View.Piece (Elt Ideal) S1x2048x2 .f32)) (L14 : BufTy.Contents (Elt Ideal) arg9.view.ty → BufTy.Contents (Elt Ideal) arg12.view.ty → BufTy.Contents (Elt Ideal) arg13.view.ty → BufTy.Contents (Elt Ideal) arg14.view.ty → BufTy.Contents (Elt Ideal) arg15.view.ty → List (View.Piece (Elt Ideal) S2048x128 .f32)), { L15 : BufTy.Contents (Elt Ideal) arg9.view.ty → BufTy.Contents (Elt Ideal) arg12.view.ty → BufTy.Contents (Elt Ideal) arg13.view.ty → BufTy.Contents (Elt Ideal) arg14.view.ty → BufTy.Contents (Elt Ideal) arg15.view.ty → List (View.Piece (Elt Ideal) S2048x128 .f32) //
      ∀ (f9 : BufTy.Contents (Elt Ideal) arg9.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty), (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} f9) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15)) : sProp 𝕄)
      ⊢ wp frame (wpE (defs₀ (F := Ideal)) Variants.none (c : Thread nD τ) none) Set.univ (k0_t1_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 v34 c0_i32_12 c1_i32_13 k ())
          (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} (arg9.view.writes (Elt Ideal) f9 (L9 f9 f12 f13 f14 f15))) ∗ (arg12.view.loc (c : Thread nD τ) ↦[arg12.view.set]{fullShare} (arg12.view.writes (Elt Ideal) f12 (L12 f9 f12 f13 f14 f15))) ∗ (arg13.view.loc (c : Thread nD τ) ↦[arg13.view.set]{fullShare} (arg13.view.writes (Elt Ideal) f13 (L13 f9 f12 f13 f14 f15))) ∗ (arg14.view.loc (c : Thread nD τ) ↦[arg14.view.set]{fullShare} (arg14.view.writes (Elt Ideal) f14 (L14 f9 f12 f13 f14 f15))) ∗ (arg15.view.loc (c : Thread nD τ) ↦[arg15.view.set]{fullShare} (arg15.view.writes (Elt Ideal) f15 (L15 f9 f12 f13 f14 f15))))) } := by
  refine ⟨?_, ?_, ?_, ?_, ?_, fun f9 f12 f13 f14 f15 => ?run⟩
  case run =>
    unfold k0_t1_body
    iintro ⟨H1, H2, H3, H4, H5, H6, H7, H8, H9, H12, H13, H14, H15⟩
    sl_exec_parts
    sl_step
    sl_close

end Cert.Proof.KernelIdeal

end
-- ==== Proof.Spec.lean ====
/-
  What the kernel's blocks compute, entry by entry, over the nine operands of one grid point read at natural-number coordinates.
-/
module

public import proofs.«01_k».proof.Proof.Gen.KernelIdeal.Skeleton
public import Idealize.ShloMosaic.Lib.Pointwise

@[expose] public section

noncomputable section

namespace Cert.Proof.Value

open Cert.KernelIdeal Cert.KernelIdeal.Gen
open Idealize.ShloMosaic

/-! ## The loops' trips and the rectangles' offsets -/

theorem t1_trips : k0_t1_loop.trips = 4 := by decide
theorem t2_trips : ∀ i, (k0_t2_loop i).trips = i.val := by decide +kernel
theorem t3_trips : ∀ i, (k0_t3_loop i).trips = 0 := by decide +kernel
theorem off1 : ∀ i, k0_off1 i = ![512 * i.val, 0] := by decide +kernel
theorem off2 : ∀ i, k0_off2 i = ![0, 512 * i.val, 0] := by decide +kernel
theorem off3 : ∀ i, k0_off3 i = ![0, 512 * i.val, 1] := by decide +kernel
theorem off4 : ∀ i j, k0_off4 i j = ![512 * j.val, 0] := by decide +kernel
theorem off5 : ∀ i j, k0_off5 i j = ![0, 0, 512 * j.val] := by decide +kernel
theorem off6 : ∀ i j, k0_off6 i j = ![0, 1, 512 * j.val] := by decide +kernel
theorem off10 : ∀ i, k0_off10 i = ![512 * i.val, 0] := by decide +kernel
theorem off11 : ∀ i, k0_off11 i = ![0, 0, 512 * i.val] := by decide +kernel
theorem off12 : ∀ i, k0_off12 i = ![0, 1, 512 * i.val] := by decide +kernel
theorem mult1 : ∀ i, k0_mult1 i = BitVec.ofNat 32 (512 * i.val) := by decide +kernel
theorem mult4 : ∀ i, k0_mult4 i = BitVec.ofNat 32 (512 * i.val) := by decide +kernel

/-! ## The halves of the lanes -/

/-- The head of the pair a lane belongs to: 0 in the first 64 lanes, 1 in the others. -/
def half (l : Fin 128) : ℕ := l.val / 64

theorem half_cases (l : Fin 128) : half l = 0 ∨ half l = 1 := by unfold half; omega

theorem half_word : ∀ l : Fin 128, Scalar.select
      (IntOp.andi
        (IntOp.cmpi CmpIPredicate.ne
          (IntOp.subi (BitVec.setWidth 32 (IntOp.cmpi CmpIPredicate.sgt (BitVec.ofNat 32 l.val) 0#32))
            (BitVec.setWidth 32 (IntOp.cmpi CmpIPredicate.slt (BitVec.ofNat 32 l.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 l.val) 64#32) 0#32))
      (IntOp.subi (IntOp.divsi ArithUnit.vector (BitVec.ofNat 32 l.val) 64#32) 1#32)
      (IntOp.divsi ArithUnit.vector (BitVec.ofNat 32 l.val) 64#32) = BitVec.ofNat 32 (half l) := by decide +kernel

/-- The printed floor division of a lane's number by 64 is its half. -/
theorem pay76_at (r : Fin 512) (l : Fin 128) : k0_pay76 (ix2 r l) = BitVec.ofNat 32 (half l) := by
  unfold k0_pay76; pointwise; exact half_word l
theorem pay81_at (r : Fin 512) (l : Fin 128) : k0_pay81 (ix2 r l) = BitVec.ofNat 32 (half l) := by
  unfold k0_pay81; pointwise; exact half_word l
theorem pay24_at (v : IVec S512x128 32) (r : Fin 512) (l : Fin 128) (h : v (ix2 r l) = BitVec.ofNat 32 l.val) :
    k0_pay24 v 64#32 (ix2 r l) = BitVec.ofNat 32 (half l) := by
  unfold k0_pay24; pointwise; rw [h]; exact half_word l

theorem sel0 {α : Type} (l : Fin 128) (a b : α) :
    Scalar.select (IntOp.cmpi CmpIPredicate.eq (BitVec.ofNat 32 (half l)) 0#32) a b = if half l = 0 then a else b := by
  rcases half_cases l with h | h <;> rw [h] <;> rfl
theorem sel1 {α : Type} (l : Fin 128) (a b : α) :
    Scalar.select (IntOp.cmpi CmpIPredicate.eq (BitVec.ofNat 32 (half l)) 1#32) a b = if half l = 1 then a else b := by
  rcases half_cases l with h | h <;> rw [h] <;> rfl

theorem sge_word (i : Fin 4) (r c : Fin 512) {α : Type} (a b : α) :
    Scalar.select (IntOp.cmpi CmpIPredicate.sge (IntOp.addi (BitVec.ofNat 32 (512 * i.val)) (BitVec.ofNat 32 r.val))
      (IntOp.addi (BitVec.ofNat 32 (512 * i.val)) (BitVec.ofNat 32 c.val))) a b
      = if 512 * i.val + c.val ≤ 512 * i.val + r.val then a else b := by
  have hr : ∀ n : Fin 512, IntOp.addi (BitVec.ofNat 32 (512 * i.val)) (BitVec.ofNat 32 n.val)
      = BitVec.ofNat 32 (512 * i.val + n.val) := fun n => (BitVec.ofNat_add ..).symm
  have ht : ∀ n : Fin 512, (BitVec.ofNat 32 (512 * i.val + n.val)).toInt = (512 * i.val + n.val : ℕ) := fun n => by
    have := n.isLt; have := i.isLt
    rw [BitVec.toInt_eq_toNat_of_lt (by rw [BitVec.toNat_ofNat]; omega), BitVec.toNat_ofNat]
    omega
  rw [hr, hr]
  by_cases h : 512 * i.val + c.val ≤ 512 * i.val + r.val
  · rw [if_pos h]
    have : IntOp.cmpi CmpIPredicate.sge (BitVec.ofNat 32 (512 * i.val + r.val)) (BitVec.ofNat 32 (512 * i.val + c.val)) = 1#1 := by
      show BitVec.ofBool (BitVec.sle _ _) = 1#1
      rw [BitVec.sle_iff_toInt_le.mpr (by rw [ht, ht]; exact_mod_cast h)]; rfl
    rw [this]; rfl
  · rw [if_neg h]
    have : IntOp.cmpi CmpIPredicate.sge (BitVec.ofNat 32 (512 * i.val + r.val)) (BitVec.ofNat 32 (512 * i.val + c.val)) = 0#1 := by
      show BitVec.ofBool (BitVec.sle _ _) = 0#1
      have : ¬ (BitVec.sle (BitVec.ofNat 32 (512 * i.val + c.val)) (BitVec.ofNat 32 (512 * i.val + r.val)) = true) := by
        rw [BitVec.sle_iff_toInt_le, ht, ht]; exact_mod_cast h
      rw [Bool.not_eq_true] at this; rw [this]; rfl
    rw [this]; rfl

/-! ## The mathematics of one grid point -/

/-- The operands of one grid point — two heads side by side in the lanes — at natural-number rows. -/
structure In where
  q : ℕ → Fin 128 → EReal
  k : ℕ → Fin 128 → EReal
  v : ℕ → Fin 128 → EReal
  o : ℕ → Fin 128 → EReal
  d : ℕ → Fin 128 → EReal
  lse : ℕ → ℕ → EReal
  fc : ℕ → ℕ → EReal
  fr : ℕ → ℕ → EReal

/-- The score's scale, an eighth, as the printed word reads. -/
abbrev κ8 : EReal := Ideal.ofBits FTy.f32 1040187392#32

namespace In

variable (x : In)

/-- A row of the queries in the lanes of head `e`, zero in the others. -/
def qm (e r : ℕ) (l : Fin 128) : EReal := if half l = e then x.q r l else 0
/-- A row of the upstream gradient in the lanes of head `e`, zero in the others. -/
def dm (e r : ℕ) (l : Fin 128) : EReal := if half l = e then x.d r l else 0
/-- The row sum of the upstream gradient times the output, in head `e`. -/
def dl (e r : ℕ) : EReal := ∑ l : Fin 128, if half l = e then x.d r l * x.o r l else 0
/-- The score of row `r` against column `c` in head `e`. -/
def s (e r c : ℕ) : EReal := (∑ l : Fin 128, x.qm e r l * x.k c l) * κ8 + (x.fc r e - x.fr e c)
/-- The attention weight: the exponential of the score less the row's log-sum, zero past the diagonal. -/
def p (e r c : ℕ) : EReal := if c ≤ r then Ideal.exp (x.s e r c - x.lse r e) else 0
/-- The score's gradient. -/
def ds (e r c : ℕ) : EReal := x.p e r c * ((∑ l : Fin 128, x.dm e r l * x.v c l) - x.dl e r)

theorem p_zero {e r c : ℕ} (h : r < c) : x.p e r c = 0 := if_neg (by omega)
theorem ds_zero {e r c : ℕ} (h : r < c) : x.ds e r c = 0 := by rw [ds, p_zero x h, zero_mul]

end In

/-! ## One block of rows against one block of columns -/

/-- The vectors of head `e` at rows `R …` and columns `C …` read as the grid point's operands there. -/
structure Tile (x : In) (e R C : ℕ) (a a' : Vec Ideal S512x128 .bf16) (δ b d : FVec Ideal S512x1 .f32)
    (k k' : Vec Ideal S512x128 .bf16) (f : Vec Ideal S1x1x512 .f32) : Prop where
  a : ∀ (r : Fin 512) l, a (ix2 r l) = x.qm e (R + r.val) l
  a' : ∀ (r : Fin 512) l, a' (ix2 r l) = x.dm e (R + r.val) l
  δ : ∀ r : Fin 512, δ (ix2 r 0) = x.dl e (R + r.val)
  b : ∀ r : Fin 512, b (ix2 r 0) = x.lse (R + r.val) e
  d : ∀ r : Fin 512, d (ix2 r 0) = x.fc (R + r.val) e
  k : ∀ (c : Fin 512) l, k (ix2 c l) = x.k (C + c.val) l
  k' : ∀ (c : Fin 512) l, k' (ix2 c l) = x.v (C + c.val) l
  f : ∀ c : Fin 512, f (ix3 0 0 c) = x.fr e (C + c.val)

namespace Tile

variable {x : In} {e R C : ℕ} {a a' : Vec Ideal S512x128 .bf16} {δ b d : FVec Ideal S512x1 .f32}
  {k k' : Vec Ideal S512x128 .bf16} {f : Vec Ideal S1x1x512 .f32}

/-- A block wholly on or below the diagonal: the weights. -/
theorem p (T : Tile x e R C a a' δ b d k k' f) (h : C + 512 ≤ R + 1) (r c : Fin 512) :
    k0_pay7 a b d k f (ix2 r c) = x.p e (R + r.val) (C + c.val) := by
  unfold k0_pay7
  pointwise
  rw [In.p, if_pos (by omega), In.s, T.b, T.d, T.f]
  simp only [T.a, T.k]

/-- Such a block: the scores' gradients. -/
theorem ds (T : Tile x e R C a a' δ b d k k' f) (h : C + 512 ≤ R + 1) (r c : Fin 512) :
    k0_pay8 a a' δ b d k k' f (ix2 r c) = x.ds e (R + r.val) (C + c.val) := by
  unfold k0_pay8
  pointwise
  rw [T.p h, In.ds, T.δ]
  simp only [T.a', T.k']

/-- The masked block: the weights. -/
theorem pm (i : Fin 4) (T : Tile x e (512 * i.val) (512 * i.val) a a' δ b d k k' f) (r c : Fin 512) :
    k0_pay61 (BitVec.ofNat 32 (512 * i.val)) a b d (BitVec.ofNat 32 (512 * i.val)) k f (ix2 r c)
      = x.p e (512 * i.val + r.val) (512 * i.val + c.val) := by
  unfold k0_pay61
  pointwise
  rw [sge_word, In.p]
  by_cases h : 512 * i.val + c.val ≤ 512 * i.val + r.val
  · rw [if_pos h, if_pos h, In.s, T.b, T.d, T.f]
    simp only [T.a, T.k]
  · rw [if_neg h, if_neg h, IdealRules.named_const.ideal_named_scalar κ "mask" _ ⊥ rfl, EReal.bot_sub, Ideal.exp_bot]

/-- The masked block: the scores' gradients. -/
theorem dsm (i : Fin 4) (T : Tile x e (512 * i.val) (512 * i.val) a a' δ b d k k' f) (r c : Fin 512) :
    k0_pay62 (BitVec.ofNat 32 (512 * i.val)) a a' δ b d (BitVec.ofNat 32 (512 * i.val)) k k' f (ix2 r c)
      = x.ds e (512 * i.val + r.val) (512 * i.val + c.val) := by
  unfold k0_pay62
  pointwise
  rw [T.pm, In.ds, T.δ]
  simp only [T.a', T.k']

/-! What a block adds to each result, from its weights and its scores' gradients. -/

theorem col (T : Tile x e R C a a' δ b d k k' f) (h : C + 512 ≤ R + 1) (g : Vec Ideal S1x1x512 .f32) (c : Fin 512) :
    k0_pay9 a a' δ b d k k' f g (ix3 0 0 c) = g (ix3 0 0 c) - ∑ r : Fin 512, x.ds e (R + r.val) (C + c.val) := by
  unfold k0_pay9
  pointwise
  simp only [T.ds h]

theorem row (T : Tile x e R C a a' δ b d k k' f) (h : C + 512 ≤ R + 1) (g : FVec Ideal S512x1 .f32) (r : Fin 512) :
    k0_pay10 a a' δ b d g k k' f (ix2 r 0) = g (ix2 r 0) + ∑ c : Fin 512, x.ds e (R + r.val) (C + c.val) := by
  unfold k0_pay10
  pointwise
  simp only [T.ds h]

theorem dk (T : Tile x e R C a a' δ b d k k' f) (h : C + 512 ≤ R + 1) (q : Vec Ideal S512x128 .bf16) (c : Fin 512) (l : Fin 128) :
    k0_pay12 q a a' δ b d k k' f (ix2 c l) = ∑ r : Fin 512, x.ds e (R + r.val) (C + c.val) * κ8 * q (ix2 r l) := by
  unfold k0_pay12 k0_pay11
  pointwise
  simp only [T.ds h]

theorem dv (T : Tile x e R C a a' δ b d k k' f) (h : C + 512 ≤ R + 1) (w : FVec Ideal S512x128 .bf16) (c : Fin 512) (l : Fin 128) :
    k0_pay14 w (k0_pay13 a b d k f) (constant S512x128 .f32 0x00000000#32) (ix2 c l)
      = ∑ r : Fin 512, x.p e (R + r.val) (C + c.val) * w (ix2 r l) := by
  unfold k0_pay14 k0_pay13
  pointwise
  simp only [T.p h]

theorem dq (T : Tile x e R C a a' δ b d k k' f) (h : C + 512 ≤ R + 1) (g : FVec Ideal S512x128 .f32) (r : Fin 512) (l : Fin 128) :
    k0_pay15 g k (k0_pay11 a a' δ b d k k' f) (ix2 r l)
      = g (ix2 r l) + ∑ c : Fin 512, x.ds e (R + r.val) (C + c.val) * κ8 * x.k (C + c.val) l := by
  unfold k0_pay15 k0_pay11
  pointwise
  simp only [T.ds h, T.k]

end Tile

/-! ## The masked block's further steps, from its weights `w` and scores' gradients `u` -/

section Diagonal

variable (u w : FVec Ideal S512x512 .f32)

theorem pay68_at (g : FVec Ideal S512x128 .f32) (k : Vec Ideal S512x128 .bf16) (r : Fin 512) (l : Fin 128) :
    k0_pay68 g k u (Scalar.ofBits .f32 0x3E000000#32) (ix2 r l) = g (ix2 r l) + ∑ c : Fin 512, u (ix2 r c) * κ8 * k (ix2 c l) := by
  unfold k0_pay68 k0_pay65
  pointwise

theorem pay75_at (g : FVec Ideal S512x128 .f32) (k : Vec Ideal S512x128 .bf16) (r : Fin 512) (l : Fin 128) :
    k0_pay75 g k u (ix2 r l) = g (ix2 r l) + ∑ c : Fin 512, u (ix2 r c) * κ8 * k (ix2 c l) := by
  unfold k0_pay75 k0_pay73
  pointwise

theorem pay66_at (q : Vec Ideal S512x128 .bf16) (c : Fin 512) (l : Fin 128) :
    k0_pay66 q u (Scalar.ofBits .f32 0x3E000000#32) (ix2 c l) = ∑ r : Fin 512, u (ix2 r c) * κ8 * q (ix2 r l) := by
  unfold k0_pay66 k0_pay65
  pointwise

theorem pay67_at (q : FVec Ideal S512x128 .bf16) (c : Fin 512) (l : Fin 128) :
    k0_pay67 q w (ix2 c l) = ∑ r : Fin 512, w (ix2 r c) * q (ix2 r l) := by
  unfold k0_pay67
  pointwise

theorem pay74_at (q : FVec Ideal S512x128 .bf16) (c : Fin 512) (l : Fin 128) :
    k0_pay74 q w (ix2 c l) = ∑ r : Fin 512, w (ix2 r c) * q (ix2 r l) := by
  unfold k0_pay74
  pointwise

theorem pay72_at (g : FVec Ideal S512x1 .f32) (r : Fin 512) :
    k0_pay72 g u (ix2 r 0) = g (ix2 r 0) + ∑ c : Fin 512, u (ix2 r c) := by
  unfold k0_pay72
  pointwise

theorem pay77_at (q : Vec Ideal S512x128 .bf16) (y : FVec Ideal S512x128 .f32) (g : Vec Ideal S512x128 .f32) (c : Fin 512) (l : Fin 128) :
    k0_pay77 q y u g (ix2 c l)
      = g (ix2 c l) + if half l = 0 then y (ix2 c l) else ∑ r : Fin 512, u (ix2 r c) * κ8 * q (ix2 r l) := by
  unfold k0_pay77 k0_pay73
  pointwise
  rw [pay76_at, sel0]

theorem pay63_at (v43 : BitVec 32) (a : Vec Ideal S512x128 .bf16) (a' : FVec Ideal S512x128 .bf16) (δ b d : FVec Ideal S512x1 .f32)
    (v120 : BitVec 32) (k k' : Vec Ideal S512x128 .bf16) (f g : Vec Ideal S1x1x512 .f32) (c : Fin 512) :
    k0_pay63 v43 a a' δ b d v120 k k' f g (ix3 0 0 c)
      = g (ix3 0 0 c) - ∑ r : Fin 512, k0_pay62 v43 a a' δ b d v120 k k' f (ix2 r c) := by
  unfold k0_pay63
  pointwise

theorem pay64_at (v43 : BitVec 32) (a : Vec Ideal S512x128 .bf16) (a' : FVec Ideal S512x128 .bf16) (δ b d g : FVec Ideal S512x1 .f32)
    (v120 : BitVec 32) (k k' : Vec Ideal S512x128 .bf16) (f : Vec Ideal S1x1x512 .f32) (r : Fin 512) :
    k0_pay64 v43 a a' δ b d g v120 k k' f (ix2 r 0)
      = g (ix2 r 0) + ∑ c : Fin 512, k0_pay62 v43 a a' δ b d v120 k k' f (ix2 r c) := by
  unfold k0_pay64
  pointwise

end Diagonal

/-! ## The remaining payloads -/

theorem pay25_at (y z : FVec Ideal S512x128 .f32) (v : IVec S512x128 32) (g : Vec Ideal S512x128 .f32) (r : Fin 512) (l : Fin 128)
    (h : v (ix2 r l) = BitVec.ofNat 32 l.val) :
    k0_pay25 y z v 64#32 g (ix2 r l) = g (ix2 r l) + if half l = 0 then y (ix2 r l) else z (ix2 r l) := by
  unfold k0_pay25
  pointwise
  rw [pay24_at v r l h, sel0]

theorem pay26_at (y z : FVec Ideal S512x128 .f32) (v : IVec S512x128 32) (g : Vec Ideal S512x128 .f32) (r : Fin 512) (l : Fin 128)
    (h : v (ix2 r l) = BitVec.ofNat 32 l.val) :
    k0_pay26 y z v 64#32 g (ix2 r l) = g (ix2 r l) + if half l = 0 then y (ix2 r l) else z (ix2 r l) := by
  unfold k0_pay26
  pointwise
  rw [pay24_at v r l h, sel0]

theorem pay1_at (y z : FVec Ideal S512x128 .f32) (v : IVec S512x128 32) (g : Vec Ideal S512x128 .f32) (r : Fin 512) (l : Fin 128)
    (h : v (ix2 r l) = BitVec.ofNat 32 (half l)) :
    k0_pay1 y z v g (ix2 r l) = g (ix2 r l) + if half l = 0 then y (ix2 r l) else z (ix2 r l) := by
  unfold k0_pay1
  pointwise
  rw [h, sel0]

theorem pay4_at (y z : FVec Ideal S512x128 .f32) (v : IVec S512x128 32) (r : Fin 512) (l : Fin 128)
    (h : v (ix2 r l) = BitVec.ofNat 32 (half l)) :
    k0_pay4 v y z (ix2 r l) = if half l = 0 then y (ix2 r l) else z (ix2 r l) := by
  unfold k0_pay4
  pointwise
  rw [h, sel0]

theorem pay2_at (y : FVec Ideal S512x1 .f32) (r : Fin 512) : k0_pay2 y (ix3 0 r 0) = y (ix2 r 0) := by
  unfold k0_pay2
  pointwise
theorem pay3_at (y : FVec Ideal S512x1 .f32) (r : Fin 512) : k0_pay3 y (ix3 0 r 0) = y (ix2 r 0) := by
  unfold k0_pay3
  pointwise
theorem pay55_at (y : Vec Ideal S1x512x1 .f32) (r : Fin 512) : k0_pay55 y (ix2 r 0) = y (ix3 0 r 0) := by
  unfold k0_pay55
  pointwise
theorem pay47_at (y : Vec Ideal S512x128 .f32) (r : Fin 512) (l : Fin 128) : k0_pay47 y (ix2 r l) = y (ix2 r l) := by
  unfold k0_pay47
  pointwise
theorem pay59_at (r : Fin 512) (l : Fin 128) : k0_pay59 (F := Ideal) (ix2 r l) = 0 := by
  unfold k0_pay59
  pointwise
theorem pay60_at (r : Fin 512) : k0_pay60 (F := Ideal) (ix2 r 0) = 0 := by
  unfold k0_pay60
  pointwise
theorem pay78_at (r : Fin 2048) (l : Fin 128) : k0_pay78 (F := Ideal) (ix2 r l) = 0 := by
  unfold k0_pay78
  pointwise
theorem pay79_at (r : Fin 2048) (l : Fin 128) : k0_pay79 (F := Ideal) (ix2 r l) = 0 := by
  unfold k0_pay79
  pointwise
theorem pay80_at (e : Fin 2) (r : Fin 2048) : k0_pay80 (F := Ideal) (ix3 0 e r) = 0 := by
  unfold k0_pay80
  pointwise

theorem pay49_at (v : IVec S512x128 32) (y : Vec Ideal S512x128 .bf16) (r : Fin 512) (l : Fin 128)
    (h : v (ix2 r l) = BitVec.ofNat 32 (half l)) : k0_pay49 v y (ix2 r l) = if half l = 0 then y (ix2 r l) else 0 := by
  unfold k0_pay49
  pointwise
  rw [h, sel0]
theorem pay50_at (v : IVec S512x128 32) (y : Vec Ideal S512x128 .bf16) (r : Fin 512) (l : Fin 128)
    (h : v (ix2 r l) = BitVec.ofNat 32 (half l)) : k0_pay50 v y (ix2 r l) = if half l = 1 then y (ix2 r l) else 0 := by
  unfold k0_pay50
  pointwise
  rw [h, sel1]
theorem pay51_at (v : IVec S512x128 32) (y : Vec Ideal S512x128 .f32) (r : Fin 512) (l : Fin 128)
    (h : v (ix2 r l) = BitVec.ofNat 32 (half l)) : k0_pay51 v y (ix2 r l) = if half l = 0 then y (ix2 r l) else 0 := by
  unfold k0_pay51 k0_pay47
  pointwise
  rw [h, sel0]
theorem pay52_at (v : IVec S512x128 32) (y : Vec Ideal S512x128 .f32) (r : Fin 512) (l : Fin 128)
    (h : v (ix2 r l) = BitVec.ofNat 32 (half l)) : k0_pay52 v y (ix2 r l) = if half l = 1 then y (ix2 r l) else 0 := by
  unfold k0_pay52 k0_pay47
  pointwise
  rw [h, sel1]
theorem pay53_at (v : IVec S512x128 32) (y z : Vec Ideal S512x128 .f32) (r : Fin 512)
    (h : ∀ l, v (ix2 r l) = BitVec.ofNat 32 (half l)) :
    k0_pay53 v y z (ix2 r 0) = ∑ l : Fin 128, if half l = 0 then y (ix2 r l) * z (ix2 r l) else 0 := by
  unfold k0_pay53 k0_pay48 k0_pay47
  pointwise
  simp only [h, sel0]
theorem pay54_at (v : IVec S512x128 32) (y z : Vec Ideal S512x128 .f32) (r : Fin 512)
    (h : ∀ l, v (ix2 r l) = BitVec.ofNat 32 (half l)) :
    k0_pay54 v y z (ix2 r 0) = ∑ l : Fin 128, if half l = 1 then y (ix2 r l) * z (ix2 r l) else 0 := by
  unfold k0_pay54 k0_pay48 k0_pay47
  pointwise
  simp only [h, sel1]
theorem pay5_eq (y : Vec Ideal S2048x128 .f32) (r : Fin 2048) (l : Fin 128) : k0_pay5 y (ix2 r l) = y (ix2 r l) := by
  unfold k0_pay5
  pointwise
theorem pay6_eq (y : Vec Ideal S2048x128 .f32) (r : Fin 2048) (l : Fin 128) : k0_pay6 y (ix2 r l) = y (ix2 r l) := by
  unfold k0_pay6
  pointwise

end Cert.Proof.Value

end
-- ==== Proof.Inner.lean ====
/-
  The kernel's inner loop: one row block against one earlier column block, and all of them.
-/
module

public import proofs.«01_k».proof.Proof.Gen.KernelIdeal.Loops
public import proofs.«01_k».proof.Proof.Spec
public import Idealize.ShloMosaic.Lib.WritesUnit

@[expose] public section

noncomputable section

namespace Cert.Proof.Value

open Cert.KernelIdeal Cert.KernelIdeal.Gen
open Idealize.ShloMosaic Idealize.ShloMosaic.TcCoe

/-! ## Reading a block of an operand -/

/-- Rows `512 j …` of a two-dimensional operand. -/
abbrev blk4 {t : EltTy} (arg : Memref sig .tc .vmem S2048x128 t) (i : Fin k0_t1_loop.trips) (j : Fin (k0_t2_loop i).trips)
    (f : BufTy.Contents (Elt Ideal) arg.view.ty) : Vec Ideal S512x128 t :=
  View.readAt (Elt Ideal) arg.view (Rect.unit (s := S2048x128) (k0_off4 i j) S512x128.size (k0_off4_inb i j)).toLoadRect f
/-- Columns `512 j …` of row 0 of an operand of two rows. -/
abbrev blk5 (arg : Memref sig .tc .vmem S1x2x2048 .f32) (i : Fin k0_t1_loop.trips) (j : Fin (k0_t2_loop i).trips)
    (f : BufTy.Contents (Elt Ideal) arg.view.ty) : Vec Ideal S1x1x512 .f32 :=
  View.readAt (Elt Ideal) arg.view (Rect.unit (s := S1x2x2048) (k0_off5 i j) S1x1x512.size (k0_off5_inb i j)).toLoadRect f
/-- Columns `512 j …` of row 1 of such an operand. -/
abbrev blk6 (arg : Memref sig .tc .vmem S1x2x2048 .f32) (i : Fin k0_t1_loop.trips) (j : Fin (k0_t2_loop i).trips)
    (f : BufTy.Contents (Elt Ideal) arg.view.ty) : Vec Ideal S1x1x512 .f32 :=
  View.readAt (Elt Ideal) arg.view (Rect.unit (s := S1x2x2048) (k0_off6 i j) S1x1x512.size (k0_off6_inb i j)).toLoadRect f

/-- The row `512 j + r` of an operand of 2048. -/
abbrev at4 (j : ℕ) (hj : j < 4) (r : Fin 512) : Fin 2048 := ⟨512 * j + r.val, by omega⟩

theorem blk4_at {t : EltTy} (arg : Memref sig .tc .vmem S2048x128 t) (i : Fin k0_t1_loop.trips) (j : Fin (k0_t2_loop i).trips)
    (f : BufTy.Contents (Elt Ideal) arg.view.ty) (hj : j.val < 4) (r : Fin 512) (l : Fin 128) :
    blk4 arg i j f (ix2 r l) = arg.view.read (Elt Ideal) f (ix2 (at4 j.val hj r) l) := by
  rw [blk4, View.readAt_apply]
  congr 1
  ext a
  have h := congrFun (off4 i j) a
  fin_cases a <;> simp_all [Rect.emb_apply, Rect.unit]

theorem blk5_at (arg : Memref sig .tc .vmem S1x2x2048 .f32) (i : Fin k0_t1_loop.trips) (j : Fin (k0_t2_loop i).trips)
    (f : BufTy.Contents (Elt Ideal) arg.view.ty) (hj : j.val < 4) (r : Fin 512) :
    blk5 arg i j f (ix3 0 0 r) = arg.view.read (Elt Ideal) f (ix3 0 0 (at4 j.val hj r)) := by
  rw [blk5, View.readAt_apply]
  congr 1
  ext a
  have h := congrFun (off5 i j) a
  fin_cases a <;> simp_all [Rect.emb_apply, Rect.unit]

theorem blk6_at (arg : Memref sig .tc .vmem S1x2x2048 .f32) (i : Fin k0_t1_loop.trips) (j : Fin (k0_t2_loop i).trips)
    (f : BufTy.Contents (Elt Ideal) arg.view.ty) (hj : j.val < 4) (r : Fin 512) :
    blk6 arg i j f (ix3 0 0 r) = arg.view.read (Elt Ideal) f (ix3 0 1 (at4 j.val hj r)) := by
  rw [blk6, View.readAt_apply]
  congr 1
  ext a
  have h := congrFun (off6 i j) a
  fin_cases a <;> simp_all [Rect.emb_apply, Rect.unit]

/-! ## Writing such a block -/

/-- A two-dimensional buffer after a store of rows `512 j …`. -/
theorem put4 {t : EltTy} (arg : Memref sig .tc .vmem S2048x128 t) (i : Fin k0_t1_loop.trips) (j : Fin (k0_t2_loop i).trips)
    (f : BufTy.Contents (Elt Ideal) arg.view.ty) (w : Vec Ideal S512x128 t) (c : Fin 2048) (l : Fin 128) :
    arg.view.read (Elt Ideal) (arg.view.writes (Elt Ideal) f [⟨Rect.unit (s := S2048x128) (k0_off4 i j) S512x128.size (k0_off4_inb i j), w⟩]) (ix2 c l)
      = if h : 512 * j.val ≤ c.val ∧ c.val < 512 * j.val + 512 then w (ix2 ⟨c.val - 512 * j.val, by omega⟩ l)
        else arg.view.read (Elt Ideal) f (ix2 c l) := by
  split_ifs with h
  · exact View.read_writes_cons_unit_of_mem _ _ _ _ _ _ _ (off4 i j) (by intro a; fin_cases a <;> simp; omega)
  · exact View.read_writes_cons_unit_of_not_mem _ _ _ _ [] _ (off4 i j) 0 (by simp; omega)

/-- A buffer of two rows after stores of columns `512 j …` of both. -/
theorem put56 (arg : Memref sig .tc .vmem S1x2x2048 .f32) (i : Fin k0_t1_loop.trips) (j : Fin (k0_t2_loop i).trips)
    (f : BufTy.Contents (Elt Ideal) arg.view.ty) (w₀ w₁ : Vec Ideal S1x1x512 .f32) (e : Fin 2) (c : Fin 2048) :
    arg.view.read (Elt Ideal) (arg.view.writes (Elt Ideal) f
        [⟨Rect.unit (s := S1x2x2048) (k0_off6 i j) S1x1x512.size (k0_off6_inb i j), w₁⟩, ⟨Rect.unit (s := S1x2x2048) (k0_off5 i j) S1x1x512.size (k0_off5_inb i j), w₀⟩]) (ix3 0 e c)
      = if h : 512 * j.val ≤ c.val ∧ c.val < 512 * j.val + 512 then
          (if e = 0 then w₀ else w₁) (ix3 0 0 ⟨c.val - 512 * j.val, by omega⟩)
        else arg.view.read (Elt Ideal) f (ix3 0 e c) := by
  split_ifs with h he
  · subst he
    rw [View.read_writes_cons_unit_of_not_mem _ _ _ _ _ _ (off6 i j) 1 (by simp)]
    exact View.read_writes_cons_unit_of_mem _ _ _ _ _ _ _ (off5 i j) (by intro a; fin_cases a <;> simp; omega)
  · obtain rfl : e = 1 := by omega
    exact View.read_writes_cons_unit_of_mem _ _ _ _ _ _ _ (off6 i j) (by intro a; fin_cases a <;> simp; omega)
  · rw [View.read_writes_cons_unit_of_not_mem _ _ _ _ _ _ (off6 i j) 2 (by simp; omega)]
    exact View.read_writes_cons_unit_of_not_mem _ _ _ _ [] _ (off5 i j) 2 (by simp; omega)

/-! ## What is known of a row block, and of the columns -/

/-- The vectors a row block is prepared into read as the grid point's operands from row `R` on. -/
structure Rows (x : In) (R : ℕ) (v45 : Vec Ideal S512x128 .bf16) (v48 : FVec Ideal S512x128 .bf16) (v57 v61 : Vec Ideal S512x128 .bf16)
    (v65 v69 : FVec Ideal S512x128 .bf16) (v75 v81 : FVec Ideal S512x1 .f32) (v83 v86 v89 v92 : Vec Ideal S1x512x1 .f32) : Prop where
  q : ∀ (r : Fin 512) l, v45 (ix2 r l) = x.q (R + r.val) l
  d : ∀ (r : Fin 512) l, v48 (ix2 r l) = x.d (R + r.val) l
  a0 : ∀ (r : Fin 512) l, v57 (ix2 r l) = x.qm 0 (R + r.val) l
  a1 : ∀ (r : Fin 512) l, v61 (ix2 r l) = x.qm 1 (R + r.val) l
  d0 : ∀ (r : Fin 512) l, v65 (ix2 r l) = x.dm 0 (R + r.val) l
  d1 : ∀ (r : Fin 512) l, v69 (ix2 r l) = x.dm 1 (R + r.val) l
  δ0 : ∀ r : Fin 512, v75 (ix2 r 0) = x.dl 0 (R + r.val)
  δ1 : ∀ r : Fin 512, v81 (ix2 r 0) = x.dl 1 (R + r.val)
  b0 : ∀ r : Fin 512, v83 (ix3 0 r 0) = x.lse (R + r.val) 0
  b1 : ∀ r : Fin 512, v86 (ix3 0 r 0) = x.lse (R + r.val) 1
  c0 : ∀ r : Fin 512, v89 (ix3 0 r 0) = x.fc (R + r.val) 0
  c1 : ∀ r : Fin 512, v92 (ix3 0 r 0) = x.fc (R + r.val) 1

/-- The keys, values and column gates read as the grid point's. -/
structure Cols (x : In) (m2 m3 : Vec Ideal S2048x128 .bf16) (m8 : Vec Ideal S1x2x2048 .f32) : Prop where
  k : ∀ (c : Fin 2048) l, m2 (ix2 c l) = x.k c.val l
  v : ∀ (c : Fin 2048) l, m3 (ix2 c l) = x.v c.val l
  f : ∀ (e : Fin 2) (c : Fin 2048), m8 (ix3 0 e c) = x.fr e.val c.val

/-- What row block `R` adds to the key gradient at column `c`. -/
def addK (x : In) (R c : ℕ) (l : Fin 128) : EReal := ∑ r : Fin 512, x.ds (half l) (R + r.val) c * κ8 * x.q (R + r.val) l
/-- What it adds to the value gradient there. -/
def addV (x : In) (R c : ℕ) (l : Fin 128) : EReal := ∑ r : Fin 512, x.p (half l) (R + r.val) c * x.d (R + r.val) l
/-- What it takes from the column gate's gradient. -/
def subF (x : In) (R e c : ℕ) : EReal := ∑ r : Fin 512, x.ds e (R + r.val) c

/-- The inner loop's state once columns below `n` have been met: the row sums so far and the three buffers, which held
    `g12`, `g14`, `g15` at the loop's entry. -/
structure Inner (x : In) (R : ℕ) (g12 : Vec Ideal S1x2x2048 .f32) (g14 g15 : Vec Ideal S2048x128 .f32) (n : ℕ)
    (acc : FVec Ideal S512x128 .f32 × FVec Ideal S512x128 .f32 × FVec Ideal S512x1 .f32 × FVec Ideal S512x1 .f32)
    (m12 : Vec Ideal S1x2x2048 .f32) (m14 m15 : Vec Ideal S2048x128 .f32) : Prop where
  q0 : ∀ (r : Fin 512) l, acc.1 (ix2 r l) = ∑ c ∈ Finset.range n, x.ds 0 (R + r.val) c * κ8 * x.k c l
  q1 : ∀ (r : Fin 512) l, acc.2.1 (ix2 r l) = ∑ c ∈ Finset.range n, x.ds 1 (R + r.val) c * κ8 * x.k c l
  s0 : ∀ r : Fin 512, acc.2.2.1 (ix2 r 0) = ∑ c ∈ Finset.range n, x.ds 0 (R + r.val) c
  s1 : ∀ r : Fin 512, acc.2.2.2 (ix2 r 0) = ∑ c ∈ Finset.range n, x.ds 1 (R + r.val) c
  f : ∀ (e : Fin 2) (c : Fin 2048), m12 (ix3 0 e c) = if c.val < n then g12 (ix3 0 e c) - subF x R e.val c.val else g12 (ix3 0 e c)
  k : ∀ (c : Fin 2048) l, m14 (ix2 c l) = if c.val < n then g14 (ix2 c l) + addK x R c.val l else g14 (ix2 c l)
  v : ∀ (c : Fin 2048) l, m15 (ix2 c l) = if c.val < n then g15 (ix2 c l) + addV x R c.val l else g15 (ix2 c l)

/-- A block's sum after the columns before it. -/
theorem sum_step (n : ℕ) (g : ℕ → EReal) :
    (∑ c ∈ Finset.range n, g c) + ∑ c : Fin 512, g (n + c.val) = ∑ c ∈ Finset.range (n + 512), g c := by
  rw [Finset.sum_range_add, ← Finset.sum_range (fun c => g (n + c))]

theorem iota_at (r : Fin 512) (l : Fin 128) :
    (iota .tc S512x128 32 [1] iota_S512x128_d1_w32 : IVec S512x128 32) (ix2 r l) = BitVec.ofNat 32 l.val := by
  pointwise

variable (c : Dev nD)
variable (i : grid0.Coords)
variable (arg1 : Memref sig .tc .vmem S2048x128 .bf16)
variable (harg1 : arg1.IsWhole)
variable (arg2 : Memref sig .tc .vmem S2048x128 .bf16)
variable (harg2 : arg2.IsWhole)
variable (arg3 : Memref sig .tc .vmem S2048x128 .bf16)
variable (harg3 : arg3.IsWhole)
variable (arg4 : Memref sig .tc .vmem S2048x128 .f32)
variable (harg4 : arg4.IsWhole)
variable (arg5 : Memref sig .tc .vmem S2048x128 .f32)
variable (harg5 : arg5.IsWhole)
variable (arg6 : Memref sig .tc .vmem S1x2048x2 .f32)
variable (harg6 : arg6.IsWhole)
variable (arg7 : Memref sig .tc .vmem S1x2048x2 .f32)
variable (harg7 : arg7.IsWhole)
variable (arg8 : Memref sig .tc .vmem S1x2x2048 .f32)
variable (harg8 : arg8.IsWhole)
variable (arg9 : Memref sig .tc .vmem S2048x128 .bf16)
variable (harg9 : arg9.IsWhole)
variable (arg10 : Memref sig .tc .vmem S2048x128 .bf16)
variable (harg10 : arg10.IsWhole)
variable (arg11 : Memref sig .tc .vmem S2048x128 .bf16)
variable (harg11 : arg11.IsWhole)
variable (arg12 : Memref sig .tc .vmem S1x2x2048 .f32)
variable (harg12 : arg12.IsWhole)
variable (arg13 : Memref sig .tc .vmem S1x2048x2 .f32)
variable (harg13 : arg13.IsWhole)
variable (arg14 : Memref sig .tc .vmem S2048x128 .f32)
variable (harg14 : arg14.IsWhole)
variable (arg15 : Memref sig .tc .vmem S2048x128 .f32)
variable (harg15 : arg15.IsWhole)
variable (k0_t1 : Fin k0_t1_loop.trips)
variable (v43 : BitVec 32)
variable (v45 : Vec Ideal S512x128 .bf16)
variable (v48 : FVec Ideal S512x128 .bf16)
variable (v57 : Vec Ideal S512x128 .bf16)
variable (v61 : Vec Ideal S512x128 .bf16)
variable (v65 : FVec Ideal S512x128 .bf16)
variable (v69 : FVec Ideal S512x128 .bf16)
variable (v75 : FVec Ideal S512x1 .f32)
variable (v81 : FVec Ideal S512x1 .f32)
variable (v83 : Vec Ideal S1x512x1 .f32)
variable (v86 : Vec Ideal S1x512x1 .f32)
variable (v89 : Vec Ideal S1x512x1 .f32)
variable (v92 : Vec Ideal S1x512x1 .f32)
variable (X_arg2 : BufTy.Contents (Elt Ideal) arg2.view.ty)
variable (X_arg3 : BufTy.Contents (Elt Ideal) arg3.view.ty)
variable (X_arg8 : BufTy.Contents (Elt Ideal) arg8.view.ty)
variable (k : Fin (k0_t2_loop k0_t1).trips)
variable (acc : FVec Ideal S512x128 .f32 × FVec Ideal S512x128 .f32 × FVec Ideal S512x1 .f32 × FVec Ideal S512x1 .f32)
  (f12 : BufTy.Contents (Elt Ideal) arg12.view.ty) (f14 : BufTy.Contents (Elt Ideal) arg14.view.ty)
  (f15 : BufTy.Contents (Elt Ideal) arg15.view.ty)

/-! ## One trip of the inner loop, spelled out -/

theorem trip_acc : (trip_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 k0_t1 v43 v45 v48 v57 v61 v65 v69 v75 v81 v83 v86 v89 v92 X_arg2 X_arg3 X_arg8 k).1 acc f12 f14 f15
    = (k0_pay15 acc.1 (blk4 arg2 k0_t1 k X_arg2) (k0_pay11 v57 v65 v75 (k0_pay55 v83) (k0_pay55 v89) (blk4 arg2 k0_t1 k X_arg2) (blk4 arg3 k0_t1 k X_arg3) (blk5 arg8 k0_t1 k X_arg8)),
       k0_pay15 acc.2.1 (blk4 arg2 k0_t1 k X_arg2) (k0_pay11 v61 v69 v81 (k0_pay55 v86) (k0_pay55 v92) (blk4 arg2 k0_t1 k X_arg2) (blk4 arg3 k0_t1 k X_arg3) (blk6 arg8 k0_t1 k X_arg8)),
       k0_pay10 v57 v65 v75 (k0_pay55 v83) (k0_pay55 v89) acc.2.2.1 (blk4 arg2 k0_t1 k X_arg2) (blk4 arg3 k0_t1 k X_arg3) (blk5 arg8 k0_t1 k X_arg8),
       k0_pay10 v61 v69 v81 (k0_pay55 v86) (k0_pay55 v92) acc.2.2.2 (blk4 arg2 k0_t1 k X_arg2) (blk4 arg3 k0_t1 k X_arg3) (blk6 arg8 k0_t1 k X_arg8)) := by
  unfold trip_k0_t2
  dsimp only
  rfl

theorem trip_12 : (trip_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 k0_t1 v43 v45 v48 v57 v61 v65 v69 v75 v81 v83 v86 v89 v92 X_arg2 X_arg3 X_arg8 k).2.1 acc f12 f14 f15
    = [⟨Rect.unit (s := S1x2x2048) (k0_off6 k0_t1 k) S1x1x512.size (k0_off6_inb k0_t1 k),
          k0_pay9 v61 v69 v81 (k0_pay55 v86) (k0_pay55 v92) (blk4 arg2 k0_t1 k X_arg2) (blk4 arg3 k0_t1 k X_arg3) (blk6 arg8 k0_t1 k X_arg8) (blk6 arg12 k0_t1 k f12)⟩,
       ⟨Rect.unit (s := S1x2x2048) (k0_off5 k0_t1 k) S1x1x512.size (k0_off5_inb k0_t1 k),
          k0_pay9 v57 v65 v75 (k0_pay55 v83) (k0_pay55 v89) (blk4 arg2 k0_t1 k X_arg2) (blk4 arg3 k0_t1 k X_arg3) (blk5 arg8 k0_t1 k X_arg8) (blk5 arg12 k0_t1 k f12)⟩] := by
  unfold trip_k0_t2
  dsimp only
  rfl

theorem trip_14 : (trip_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 k0_t1 v43 v45 v48 v57 v61 v65 v69 v75 v81 v83 v86 v89 v92 X_arg2 X_arg3 X_arg8 k).2.2.1 acc f12 f14 f15
    = [⟨Rect.unit (s := S2048x128) (k0_off4 k0_t1 k) S512x128.size (k0_off4_inb k0_t1 k),
          k0_pay25 (k0_pay12 v45 v57 v65 v75 (k0_pay55 v83) (k0_pay55 v89) (blk4 arg2 k0_t1 k X_arg2) (blk4 arg3 k0_t1 k X_arg3) (blk5 arg8 k0_t1 k X_arg8))
            (k0_pay12 v45 v61 v69 v81 (k0_pay55 v86) (k0_pay55 v92) (blk4 arg2 k0_t1 k X_arg2) (blk4 arg3 k0_t1 k X_arg3) (blk6 arg8 k0_t1 k X_arg8))
            (iota .tc S512x128 32 [1] iota_S512x128_d1_w32) 64#32 (blk4 arg14 k0_t1 k f14)⟩] := by
  unfold trip_k0_t2
  dsimp only
  rfl

theorem trip_15 : (trip_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 k0_t1 v43 v45 v48 v57 v61 v65 v69 v75 v81 v83 v86 v89 v92 X_arg2 X_arg3 X_arg8 k).2.2.2.1 acc f12 f14 f15
    = [⟨Rect.unit (s := S2048x128) (k0_off4 k0_t1 k) S512x128.size (k0_off4_inb k0_t1 k),
          k0_pay26 (k0_pay14 v48 (k0_pay13 v57 (k0_pay55 v83) (k0_pay55 v89) (blk4 arg2 k0_t1 k X_arg2) (blk5 arg8 k0_t1 k X_arg8)) (constant S512x128 .f32 0x00000000#32))
            (k0_pay14 v48 (k0_pay13 v61 (k0_pay55 v86) (k0_pay55 v92) (blk4 arg2 k0_t1 k X_arg2) (blk6 arg8 k0_t1 k X_arg8)) (constant S512x128 .f32 0x00000000#32))
            (iota .tc S512x128 32 [1] iota_S512x128_d1_w32) 64#32 (blk4 arg15 k0_t1 k f15)⟩] := by
  unfold trip_k0_t2
  dsimp only
  rfl

/-! ## One trip of the inner loop, and all of them -/

variable {x : In} {g12 : Vec Ideal S1x2x2048 .f32} {g14 g15 : Vec Ideal S2048x128 .f32}

include c i harg1 harg2 in
theorem trip_step
    (hR : Rows x (512 * k0_t1.val) v45 v48 v57 v61 v65 v69 v75 v81 v83 v86 v89 v92)
    (hC : Cols x (arg2.view.read (Elt Ideal) X_arg2) (arg3.view.read (Elt Ideal) X_arg3) (arg8.view.read (Elt Ideal) X_arg8))
    (hI : Inner x (512 * k0_t1.val) g12 g14 g15 (512 * k.val) acc (arg12.view.read (Elt Ideal) f12)
      (arg14.view.read (Elt Ideal) f14) (arg15.view.read (Elt Ideal) f15)) :
    Inner x (512 * k0_t1.val) g12 g14 g15 (512 * (k.val + 1)) ((trip_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 k0_t1 v43 v45 v48 v57 v61 v65 v69 v75 v81 v83 v86 v89 v92 X_arg2 X_arg3 X_arg8 k).1 acc f12 f14 f15)
      (arg12.view.read (Elt Ideal) (arg12.view.writes (Elt Ideal) f12 ((trip_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 k0_t1 v43 v45 v48 v57 v61 v65 v69 v75 v81 v83 v86 v89 v92 X_arg2 X_arg3 X_arg8 k).2.1 acc f12 f14 f15)))
      (arg14.view.read (Elt Ideal) (arg14.view.writes (Elt Ideal) f14 ((trip_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 k0_t1 v43 v45 v48 v57 v61 v65 v69 v75 v81 v83 v86 v89 v92 X_arg2 X_arg3 X_arg8 k).2.2.1 acc f12 f14 f15)))
      (arg15.view.read (Elt Ideal) (arg15.view.writes (Elt Ideal) f15 ((trip_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 k0_t1 v43 v45 v48 v57 v61 v65 v69 v75 v81 v83 v86 v89 v92 X_arg2 X_arg3 X_arg8 k).2.2.2.1 acc f12 f14 f15))) := by
  have hi : k0_t1.val < 4 := t1_trips ▸ k0_t1.isLt
  have hk : k.val < k0_t1.val := (t2_trips k0_t1) ▸ k.isLt
  have hk4 : k.val < 4 := by omega
  have hle : 512 * k.val + 512 ≤ 512 * k0_t1.val + 1 := by omega
  have T0 : Tile x 0 (512 * k0_t1.val) (512 * k.val) v57 v65 v75 (k0_pay55 v83) (k0_pay55 v89)
      (blk4 arg2 k0_t1 k X_arg2) (blk4 arg3 k0_t1 k X_arg3) (blk5 arg8 k0_t1 k X_arg8) :=
    ⟨hR.a0, hR.d0, hR.δ0, fun r => (pay55_at _ r).trans (hR.b0 r), fun r => (pay55_at _ r).trans (hR.c0 r),
      fun r l => (blk4_at _ _ _ _ hk4 r l).trans (hC.k _ l), fun r l => (blk4_at _ _ _ _ hk4 r l).trans (hC.v _ l),
      fun r => (blk5_at _ _ _ _ hk4 r).trans (hC.f 0 _)⟩
  have T1 : Tile x 1 (512 * k0_t1.val) (512 * k.val) v61 v69 v81 (k0_pay55 v86) (k0_pay55 v92)
      (blk4 arg2 k0_t1 k X_arg2) (blk4 arg3 k0_t1 k X_arg3) (blk6 arg8 k0_t1 k X_arg8) :=
    ⟨hR.a1, hR.d1, hR.δ1, fun r => (pay55_at _ r).trans (hR.b1 r), fun r => (pay55_at _ r).trans (hR.c1 r),
      fun r l => (blk4_at _ _ _ _ hk4 r l).trans (hC.k _ l), fun r l => (blk4_at _ _ _ _ hk4 r l).trans (hC.v _ l),
      fun r => (blk6_at _ _ _ _ hk4 r).trans (hC.f 1 _)⟩
  rw [trip_acc, trip_12, trip_14, trip_15, show 512 * (k.val + 1) = 512 * k.val + 512 by ring]
  refine ⟨?_, ?_, ?_, ?_, ?_, ?_, ?_⟩
  · intro r l
    dsimp only
    rw [T0.dq hle, hI.q0, sum_step (512 * k.val) (fun c => x.ds 0 (512 * k0_t1.val + r.val) c * κ8 * x.k c l)]
  · intro r l
    dsimp only
    rw [T1.dq hle, hI.q1, sum_step (512 * k.val) (fun c => x.ds 1 (512 * k0_t1.val + r.val) c * κ8 * x.k c l)]
  · intro r
    dsimp only
    rw [T0.row hle, hI.s0, sum_step (512 * k.val) (fun c => x.ds 0 (512 * k0_t1.val + r.val) c)]
  · intro r
    dsimp only
    rw [T1.row hle, hI.s1, sum_step (512 * k.val) (fun c => x.ds 1 (512 * k0_t1.val + r.val) c)]
  · intro e c
    rw [put56]
    by_cases h : 512 * k.val ≤ c.val ∧ c.val < 512 * k.val + 512
    · have hc : at4 k.val hk4 ⟨c.val - 512 * k.val, by omega⟩ = c := Fin.ext (by show 512 * k.val + (c.val - 512 * k.val) = c.val; omega)
      have hc' : 512 * k.val + (c.val - 512 * k.val) = c.val := by omega
      rw [dif_pos h, if_pos h.2]
      by_cases he : e = 0
      · subst he
        rw [if_pos rfl, T0.col hle, blk5_at _ _ _ _ hk4, hc, hI.f, if_neg (by omega)]
        simp only [hc']; rfl
      · obtain rfl : e = 1 := by omega
        rw [if_neg he, T1.col hle, blk6_at _ _ _ _ hk4, hc, hI.f, if_neg (by omega)]
        simp only [hc']; rfl
    · rw [dif_neg h, hI.f]
      by_cases h' : c.val < 512 * k.val
      · rw [if_pos h', if_pos (by omega)]
      · rw [if_neg h', if_neg (by omega)]
  · intro c l
    rw [put4]
    by_cases h : 512 * k.val ≤ c.val ∧ c.val < 512 * k.val + 512
    · have hc : at4 k.val hk4 ⟨c.val - 512 * k.val, by omega⟩ = c := Fin.ext (by show 512 * k.val + (c.val - 512 * k.val) = c.val; omega)
      have hc' : 512 * k.val + (c.val - 512 * k.val) = c.val := by omega
      rw [dif_pos h, if_pos h.2, pay25_at _ _ _ _ _ _ (iota_at _ _), blk4_at _ _ _ _ hk4, hc, hI.k, if_neg (by omega), T0.dk hle, T1.dk hle]
      simp only [hc', hR.q, addK]
      rcases half_cases l with h | h <;> simp [h]
    · rw [dif_neg h, hI.k]
      by_cases h' : c.val < 512 * k.val
      · rw [if_pos h', if_pos (by omega)]
      · rw [if_neg h', if_neg (by omega)]
  · intro c l
    rw [put4]
    by_cases h : 512 * k.val ≤ c.val ∧ c.val < 512 * k.val + 512
    · have hc : at4 k.val hk4 ⟨c.val - 512 * k.val, by omega⟩ = c := Fin.ext (by show 512 * k.val + (c.val - 512 * k.val) = c.val; omega)
      have hc' : 512 * k.val + (c.val - 512 * k.val) = c.val := by omega
      rw [dif_pos h, if_pos h.2, pay26_at _ _ _ _ _ _ (iota_at _ _), blk4_at _ _ _ _ hk4, hc, hI.v, if_neg (by omega), T0.dv hle, T1.dv hle]
      simp only [hc', hR.d, addV]
      rcases half_cases l with h | h <;> simp [h]
    · rw [dif_neg h, hI.v]
      by_cases h' : c.val < 512 * k.val
      · rw [if_pos h', if_pos (by omega)]
      · rw [if_neg h', if_neg (by omega)]

omit k in
theorem inner_all
    (init : FVec Ideal S512x128 .f32 × FVec Ideal S512x128 .f32 × FVec Ideal S512x1 .f32 × FVec Ideal S512x1 .f32)
    (hR : Rows x (512 * k0_t1.val) v45 v48 v57 v61 v65 v69 v75 v81 v83 v86 v89 v92)
    (hC : Cols x (arg2.view.read (Elt Ideal) X_arg2) (arg3.view.read (Elt Ideal) X_arg3) (arg8.view.read (Elt Ideal) X_arg8))
    (hI : Inner x (512 * k0_t1.val) g12 g14 g15 0 init (arg12.view.read (Elt Ideal) f12)
      (arg14.view.read (Elt Ideal) f14) (arg15.view.read (Elt Ideal) f15)) (j : ℕ) (hj : j ≤ (k0_t2_loop k0_t1).trips) :
    Inner x (512 * k0_t1.val) g12 g14 g15 (512 * j) (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 k0_t1 v43 v45 v48 v57 v61 v65 v69 v75 v81 v83 v86 v89 v92 X_arg2 X_arg3 X_arg8 f12 f14 f15 init j).1
      (arg12.view.read (Elt Ideal) (arg12.view.writes (Elt Ideal) f12 (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 k0_t1 v43 v45 v48 v57 v61 v65 v69 v75 v81 v83 v86 v89 v92 X_arg2 X_arg3 X_arg8 f12 f14 f15 init j).2.1))
      (arg14.view.read (Elt Ideal) (arg14.view.writes (Elt Ideal) f14 (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 k0_t1 v43 v45 v48 v57 v61 v65 v69 v75 v81 v83 v86 v89 v92 X_arg2 X_arg3 X_arg8 f12 f14 f15 init j).2.2.1))
      (arg15.view.read (Elt Ideal) (arg15.view.writes (Elt Ideal) f15 (st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 k0_t1 v43 v45 v48 v57 v61 v65 v69 v75 v81 v83 v86 v89 v92 X_arg2 X_arg3 X_arg8 f12 f14 f15 init j).2.2.2)) := by
  induction j with
  | zero => exact hI
  | succ j ih =>
    rw [st_k0_t2_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 k0_t1 v43 v45 v48 v57 v61 v65 v69 v75 v81 v83 v86 v89 v92 X_arg2 X_arg3 X_arg8 f12 f14 f15 init ⟨j, hj⟩]
    simp only [View.writes_append]
    exact trip_step (k := ⟨j, hj⟩) (hR := hR) (hC := hC) (hI := ih (by omega)) ..

end Cert.Proof.Value

end
-- ==== Proof.Outer.lean ====
/-
  The loop over the row blocks: one trip, spelled out and read.
-/
module

public import proofs.«01_k».proof.Proof.Trip
public import proofs.«01_k».proof.Proof.Inner

@[expose] public section

noncomputable section

namespace Cert.Proof.Value

open Cert.KernelIdeal Cert.KernelIdeal.Gen
open Idealize.ShloMosaic Idealize.ShloMosaic.TcCoe

/-! ## The blocks of one trip -/

/-- Rows `512 i …` of a two-dimensional operand. -/
abbrev blk1 {t : EltTy} (arg : Memref sig .tc .vmem S2048x128 t) (i : Fin k0_t1_loop.trips) (f : BufTy.Contents (Elt Ideal) arg.view.ty) :
    Vec Ideal S512x128 t :=
  View.readAt (Elt Ideal) arg.view (Rect.unit (s := S2048x128) (k0_off1 i) S512x128.size (k0_off1_inb i)).toLoadRect f

theorem blk1_at {t : EltTy} (arg : Memref sig .tc .vmem S2048x128 t) (i : Fin k0_t1_loop.trips)
    (f : BufTy.Contents (Elt Ideal) arg.view.ty) (hi : i.val < 4) (r : Fin 512) (l : Fin 128) :
    blk1 arg i f (ix2 r l) = arg.view.read (Elt Ideal) f (ix2 (at4 i.val hi r) l) := by
  rw [blk1, View.readAt_apply]
  congr 1
  ext a
  have h := congrFun (off1 i) a
  fin_cases a <;> simp_all [Rect.emb_apply, Rect.unit]

/-- The same rows, of the operand the columns come from. -/
abbrev blk10 {t : EltTy} (arg : Memref sig .tc .vmem S2048x128 t) (i : Fin k0_t1_loop.trips) (f : BufTy.Contents (Elt Ideal) arg.view.ty) :
    Vec Ideal S512x128 t :=
  View.readAt (Elt Ideal) arg.view (Rect.unit (s := S2048x128) (k0_off10 i) S512x128.size (k0_off10_inb i)).toLoadRect f

theorem blk10_at {t : EltTy} (arg : Memref sig .tc .vmem S2048x128 t) (i : Fin k0_t1_loop.trips)
    (f : BufTy.Contents (Elt Ideal) arg.view.ty) (hi : i.val < 4) (r : Fin 512) (l : Fin 128) :
    blk10 arg i f (ix2 r l) = arg.view.read (Elt Ideal) f (ix2 (at4 i.val hi r) l) := by
  rw [blk10, View.readAt_apply]
  congr 1
  ext a
  have h := congrFun (off10 i) a
  fin_cases a <;> simp_all [Rect.emb_apply, Rect.unit]

/-- Rows `512 i …` of column 0 of an operand of two columns. -/
abbrev blk2 {t : EltTy} (arg : Memref sig .tc .vmem S1x2048x2 t) (i : Fin k0_t1_loop.trips) (f : BufTy.Contents (Elt Ideal) arg.view.ty) :
    Vec Ideal S1x512x1 t :=
  View.readAt (Elt Ideal) arg.view (Rect.unit (s := S1x2048x2) (k0_off2 i) S1x512x1.size (k0_off2_inb i)).toLoadRect f

theorem blk2_at {t : EltTy} (arg : Memref sig .tc .vmem S1x2048x2 t) (i : Fin k0_t1_loop.trips)
    (f : BufTy.Contents (Elt Ideal) arg.view.ty) (hi : i.val < 4) (r : Fin 512) :
    blk2 arg i f (ix3 0 r 0) = arg.view.read (Elt Ideal) f (ix3 0 (at4 i.val hi r) 0) := by
  rw [blk2, View.readAt_apply]
  congr 1
  ext a
  have h := congrFun (off2 i) a
  fin_cases a <;> simp_all [Rect.emb_apply, Rect.unit]

/-- Rows `512 i …` of column 1 of such an operand. -/
abbrev blk3 {t : EltTy} (arg : Memref sig .tc .vmem S1x2048x2 t) (i : Fin k0_t1_loop.trips) (f : BufTy.Contents (Elt Ideal) arg.view.ty) :
    Vec Ideal S1x512x1 t :=
  View.readAt (Elt Ideal) arg.view (Rect.unit (s := S1x2048x2) (k0_off3 i) S1x512x1.size (k0_off3_inb i)).toLoadRect f

theorem blk3_at {t : EltTy} (arg : Memref sig .tc .vmem S1x2048x2 t) (i : Fin k0_t1_loop.trips)
    (f : BufTy.Contents (Elt Ideal) arg.view.ty) (hi : i.val < 4) (r : Fin 512) :
    blk3 arg i f (ix3 0 r 0) = arg.view.read (Elt Ideal) f (ix3 0 (at4 i.val hi r) 1) := by
  rw [blk3, View.readAt_apply]
  congr 1
  ext a
  have h := congrFun (off3 i) a
  fin_cases a <;> simp_all [Rect.emb_apply, Rect.unit]

/-- Columns `512 i …` of row 0 of an operand of two rows. -/
abbrev blk11 {t : EltTy} (arg : Memref sig .tc .vmem S1x2x2048 t) (i : Fin k0_t1_loop.trips) (f : BufTy.Contents (Elt Ideal) arg.view.ty) :
    Vec Ideal S1x1x512 t :=
  View.readAt (Elt Ideal) arg.view (Rect.unit (s := S1x2x2048) (k0_off11 i) S1x1x512.size (k0_off11_inb i)).toLoadRect f

theorem blk11_at {t : EltTy} (arg : Memref sig .tc .vmem S1x2x2048 t) (i : Fin k0_t1_loop.trips)
    (f : BufTy.Contents (Elt Ideal) arg.view.ty) (hi : i.val < 4) (r : Fin 512) :
    blk11 arg i f (ix3 0 0 r) = arg.view.read (Elt Ideal) f (ix3 0 0 (at4 i.val hi r)) := by
  rw [blk11, View.readAt_apply]
  congr 1
  ext a
  have h := congrFun (off11 i) a
  fin_cases a <;> simp_all [Rect.emb_apply, Rect.unit]

/-- Columns `512 i …` of row 1 of such an operand. -/
abbrev blk12 {t : EltTy} (arg : Memref sig .tc .vmem S1x2x2048 t) (i : Fin k0_t1_loop.trips) (f : BufTy.Contents (Elt Ideal) arg.view.ty) :
    Vec Ideal S1x1x512 t :=
  View.readAt (Elt Ideal) arg.view (Rect.unit (s := S1x2x2048) (k0_off12 i) S1x1x512.size (k0_off12_inb i)).toLoadRect f

theorem blk12_at {t : EltTy} (arg : Memref sig .tc .vmem S1x2x2048 t) (i : Fin k0_t1_loop.trips)
    (f : BufTy.Contents (Elt Ideal) arg.view.ty) (hi : i.val < 4) (r : Fin 512) :
    blk12 arg i f (ix3 0 0 r) = arg.view.read (Elt Ideal) f (ix3 0 1 (at4 i.val hi r)) := by
  rw [blk12, View.readAt_apply]
  congr 1
  ext a
  have h := congrFun (off12 i) a
  fin_cases a <;> simp_all [Rect.emb_apply, Rect.unit]

variable (c : Dev nD)
variable (i : grid0.Coords)
variable (arg1 : Memref sig .tc .vmem S2048x128 .bf16)
variable (harg1 : arg1.IsWhole)
variable (arg2 : Memref sig .tc .vmem S2048x128 .bf16)
variable (harg2 : arg2.IsWhole)
variable (arg3 : Memref sig .tc .vmem S2048x128 .bf16)
variable (harg3 : arg3.IsWhole)
variable (arg4 : Memref sig .tc .vmem S2048x128 .f32)
variable (harg4 : arg4.IsWhole)
variable (arg5 : Memref sig .tc .vmem S2048x128 .f32)
variable (harg5 : arg5.IsWhole)
variable (arg6 : Memref sig .tc .vmem S1x2048x2 .f32)
variable (harg6 : arg6.IsWhole)
variable (arg7 : Memref sig .tc .vmem S1x2048x2 .f32)
variable (harg7 : arg7.IsWhole)
variable (arg8 : Memref sig .tc .vmem S1x2x2048 .f32)
variable (harg8 : arg8.IsWhole)
variable (arg9 : Memref sig .tc .vmem S2048x128 .bf16)
variable (harg9 : arg9.IsWhole)
variable (arg10 : Memref sig .tc .vmem S2048x128 .bf16)
variable (harg10 : arg10.IsWhole)
variable (arg11 : Memref sig .tc .vmem S2048x128 .bf16)
variable (harg11 : arg11.IsWhole)
variable (arg12 : Memref sig .tc .vmem S1x2x2048 .f32)
variable (harg12 : arg12.IsWhole)
variable (arg13 : Memref sig .tc .vmem S1x2048x2 .f32)
variable (harg13 : arg13.IsWhole)
variable (arg14 : Memref sig .tc .vmem S2048x128 .f32)
variable (harg14 : arg14.IsWhole)
variable (arg15 : Memref sig .tc .vmem S2048x128 .f32)
variable (harg15 : arg15.IsWhole)
variable (v34 : IVec S512x128 32)
variable (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty)
variable (k : Fin k0_t1_loop.trips)
variable (f9 : BufTy.Contents (Elt Ideal) arg9.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty)

/-! ## The two inner loops of a trip -/

/-- The state after the trip's inner loop. -/
abbrev S2 := st_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 k 0#32 (blk1 arg1 k X1) (k0_pay47 (blk1 arg5 k X5)) (k0_pay49 v34 (blk1 arg1 k X1)) (k0_pay50 v34 (blk1 arg1 k X1)) (k0_pay51 v34 (blk1 arg5 k X5)) (k0_pay52 v34 (blk1 arg5 k X5)) (k0_pay53 v34 (blk1 arg5 k X5) (blk1 arg4 k X4)) (k0_pay54 v34 (blk1 arg5 k X5) (blk1 arg4 k X4)) (blk2 arg6 k X6) (blk3 arg6 k X6) (blk2 arg7 k X7) (blk3 arg7 k X7) X2 X3 X8 f12 f14 f15 (k0_pay59, k0_pay59, k0_pay60, k0_pay60) (k0_t2_loop k).trips

/-- The state after the remainder loop, which has no trip. -/
abbrev S3 := st_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 k 0#32 (blk1 arg1 k X1) (k0_pay47 (blk1 arg5 k X5)) (k0_pay49 v34 (blk1 arg1 k X1)) (k0_pay50 v34 (blk1 arg1 k X1)) (k0_pay51 v34 (blk1 arg5 k X5)) (k0_pay52 v34 (blk1 arg5 k X5)) (k0_pay53 v34 (blk1 arg5 k X5) (blk1 arg4 k X4)) (k0_pay54 v34 (blk1 arg5 k X5) (blk1 arg4 k X4)) (blk2 arg6 k X6) (blk3 arg6 k X6) (blk2 arg7 k X7) (blk3 arg7 k X7) (KernelIdeal.trip.sl.v117 0#32 1#32 k) X2 X3 X8
  (arg12.view.writes (Elt Ideal) f12 (S2 c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 X1 X2 X3 X4 X5 X6 X7 X8 k f12 f14 f15).2.1) (arg14.view.writes (Elt Ideal) f14 (S2 c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 X1 X2 X3 X4 X5 X6 X7 X8 k f12 f14 f15).2.2.1) (arg15.view.writes (Elt Ideal) f15 (S2 c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 X1 X2 X3 X4 X5 X6 X7 X8 k f12 f14 f15).2.2.2)
  (S2 c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 X1 X2 X3 X4 X5 X6 X7 X8 k f12 f14 f15).1 (k0_t3_loop k).trips

theorem S3_eq : (S3 c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 X1 X2 X3 X4 X5 X6 X7 X8 k f12 f14 f15) = ((S2 c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 X1 X2 X3 X4 X5 X6 X7 X8 k f12 f14 f15).1, [], [], []) := by
  rw [S3, t3_trips k]
  rfl

/-! ## The pieces a trip leaves -/

set_option maxHeartbeats 2000000 in
theorem outer_9 : (KernelIdeal.trip c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 0#32 1#32 X1 X2 X3 X4 X5 X6 X7 X8 k).1 f9 f12 f13 f14 f15
    = [⟨Rect.unit (s := S2048x128) (k0_off1 k) S512x128.size (k0_off1_inb k),
        k0_pay4 v34 (k0_pay68 (S3 c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 X1 X2 X3 X4 X5 X6 X7 X8 k f12 f14 f15).1.1 (blk10 arg2 k X2) (k0_pay62 (k0_mult1 k) (k0_pay49 v34 (blk1 arg1 k X1)) (k0_pay51 v34 (blk1 arg5 k X5)) (k0_pay53 v34 (blk1 arg5 k X5) (blk1 arg4 k X4)) (k0_pay55 (blk2 arg6 k X6)) (k0_pay55 (blk2 arg7 k X7)) (k0_mult4 k) (blk10 arg2 k X2) (blk10 arg3 k X3) (blk11 arg8 k X8)) (Scalar.ofBits .f32 0x3E000000#32))
          (k0_pay75 (S3 c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 X1 X2 X3 X4 X5 X6 X7 X8 k f12 f14 f15).1.2.1 (blk10 arg2 k X2) (k0_pay62 (k0_mult1 k) (k0_pay50 v34 (blk1 arg1 k X1)) (k0_pay52 v34 (blk1 arg5 k X5)) (k0_pay54 v34 (blk1 arg5 k X5) (blk1 arg4 k X4)) (k0_pay55 (blk3 arg6 k X6)) (k0_pay55 (blk3 arg7 k X7)) (k0_mult4 k) (blk10 arg2 k X2) (blk10 arg3 k X3) (blk12 arg8 k X8)))⟩] := by
  unfold KernelIdeal.trip
  dsimp only
  rfl

set_option maxHeartbeats 2000000 in
theorem outer_12 : (KernelIdeal.trip c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 0#32 1#32 X1 X2 X3 X4 X5 X6 X7 X8 k).2.1 f9 f12 f13 f14 f15
    = ⟨Rect.unit (s := S1x2x2048) (k0_off12 k) S1x1x512.size (k0_off12_inb k),
        k0_pay63 (k0_mult1 k) (k0_pay50 v34 (blk1 arg1 k X1)) (k0_pay52 v34 (blk1 arg5 k X5)) (k0_pay54 v34 (blk1 arg5 k X5) (blk1 arg4 k X4)) (k0_pay55 (blk3 arg6 k X6)) (k0_pay55 (blk3 arg7 k X7)) (k0_mult4 k) (blk10 arg2 k X2) (blk10 arg3 k X3) (blk12 arg8 k X8)
          (blk12 arg12 k (arg12.view.writes (Elt Ideal) f12 (⟨Rect.unit (s := S1x2x2048) (k0_off11 k) S1x1x512.size (k0_off11_inb k),
            k0_pay63 (k0_mult1 k) (k0_pay49 v34 (blk1 arg1 k X1)) (k0_pay51 v34 (blk1 arg5 k X5)) (k0_pay53 v34 (blk1 arg5 k X5) (blk1 arg4 k X4)) (k0_pay55 (blk2 arg6 k X6)) (k0_pay55 (blk2 arg7 k X7)) (k0_mult4 k) (blk10 arg2 k X2) (blk10 arg3 k X3) (blk11 arg8 k X8) (blk11 arg12 k (arg12.view.writes (Elt Ideal) f12 ((S3 c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 X1 X2 X3 X4 X5 X6 X7 X8 k f12 f14 f15).2.1 ++ (S2 c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 X1 X2 X3 X4 X5 X6 X7 X8 k f12 f14 f15).2.1)))⟩ :: ((S3 c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 X1 X2 X3 X4 X5 X6 X7 X8 k f12 f14 f15).2.1 ++ (S2 c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 X1 X2 X3 X4 X5 X6 X7 X8 k f12 f14 f15).2.1))))⟩
      :: ⟨Rect.unit (s := S1x2x2048) (k0_off11 k) S1x1x512.size (k0_off11_inb k),
        k0_pay63 (k0_mult1 k) (k0_pay49 v34 (blk1 arg1 k X1)) (k0_pay51 v34 (blk1 arg5 k X5)) (k0_pay53 v34 (blk1 arg5 k X5) (blk1 arg4 k X4)) (k0_pay55 (blk2 arg6 k X6)) (k0_pay55 (blk2 arg7 k X7)) (k0_mult4 k) (blk10 arg2 k X2) (blk10 arg3 k X3) (blk11 arg8 k X8) (blk11 arg12 k (arg12.view.writes (Elt Ideal) f12 ((S3 c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 X1 X2 X3 X4 X5 X6 X7 X8 k f12 f14 f15).2.1 ++ (S2 c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 X1 X2 X3 X4 X5 X6 X7 X8 k f12 f14 f15).2.1)))⟩
      :: ((S3 c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 X1 X2 X3 X4 X5 X6 X7 X8 k f12 f14 f15).2.1 ++ (S2 c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 X1 X2 X3 X4 X5 X6 X7 X8 k f12 f14 f15).2.1) := by
  unfold KernelIdeal.trip
  dsimp only
  rfl

set_option maxHeartbeats 2000000 in
theorem outer_13 : (KernelIdeal.trip c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 0#32 1#32 X1 X2 X3 X4 X5 X6 X7 X8 k).2.2.1 f9 f12 f13 f14 f15
    = [⟨Rect.unit (s := S1x2048x2) (k0_off3 k) S1x512x1.size (k0_off3_inb k), k0_pay3 (k0_pay72 (S3 c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 X1 X2 X3 X4 X5 X6 X7 X8 k f12 f14 f15).1.2.2.2 (k0_pay62 (k0_mult1 k) (k0_pay50 v34 (blk1 arg1 k X1)) (k0_pay52 v34 (blk1 arg5 k X5)) (k0_pay54 v34 (blk1 arg5 k X5) (blk1 arg4 k X4)) (k0_pay55 (blk3 arg6 k X6)) (k0_pay55 (blk3 arg7 k X7)) (k0_mult4 k) (blk10 arg2 k X2) (blk10 arg3 k X3) (blk12 arg8 k X8)))⟩,
       ⟨Rect.unit (s := S1x2048x2) (k0_off2 k) S1x512x1.size (k0_off2_inb k),
        k0_pay2 (k0_pay64 (k0_mult1 k) (k0_pay49 v34 (blk1 arg1 k X1)) (k0_pay51 v34 (blk1 arg5 k X5)) (k0_pay53 v34 (blk1 arg5 k X5) (blk1 arg4 k X4)) (k0_pay55 (blk2 arg6 k X6)) (k0_pay55 (blk2 arg7 k X7)) (S3 c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 X1 X2 X3 X4 X5 X6 X7 X8 k f12 f14 f15).1.2.2.1 (k0_mult4 k) (blk10 arg2 k X2) (blk10 arg3 k X3) (blk11 arg8 k X8))⟩] := by
  unfold KernelIdeal.trip
  dsimp only
  rfl

set_option maxHeartbeats 2000000 in
theorem outer_14 : (KernelIdeal.trip c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 0#32 1#32 X1 X2 X3 X4 X5 X6 X7 X8 k).2.2.2.1 f9 f12 f13 f14 f15
    = ⟨Rect.unit (s := S2048x128) (k0_off10 k) S512x128.size (k0_off10_inb k),
        k0_pay77 (blk1 arg1 k X1) (k0_pay66 (blk1 arg1 k X1) (k0_pay62 (k0_mult1 k) (k0_pay49 v34 (blk1 arg1 k X1)) (k0_pay51 v34 (blk1 arg5 k X5)) (k0_pay53 v34 (blk1 arg5 k X5) (blk1 arg4 k X4)) (k0_pay55 (blk2 arg6 k X6)) (k0_pay55 (blk2 arg7 k X7)) (k0_mult4 k) (blk10 arg2 k X2) (blk10 arg3 k X3) (blk11 arg8 k X8)) (Scalar.ofBits .f32 0x3E000000#32)) (k0_pay62 (k0_mult1 k) (k0_pay50 v34 (blk1 arg1 k X1)) (k0_pay52 v34 (blk1 arg5 k X5)) (k0_pay54 v34 (blk1 arg5 k X5) (blk1 arg4 k X4)) (k0_pay55 (blk3 arg6 k X6)) (k0_pay55 (blk3 arg7 k X7)) (k0_mult4 k) (blk10 arg2 k X2) (blk10 arg3 k X3) (blk12 arg8 k X8))
          (blk10 arg14 k (arg14.view.writes (Elt Ideal) f14 ((S3 c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 X1 X2 X3 X4 X5 X6 X7 X8 k f12 f14 f15).2.2.1 ++ (S2 c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 X1 X2 X3 X4 X5 X6 X7 X8 k f12 f14 f15).2.2.1)))⟩
      :: ((S3 c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 X1 X2 X3 X4 X5 X6 X7 X8 k f12 f14 f15).2.2.1 ++ (S2 c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 X1 X2 X3 X4 X5 X6 X7 X8 k f12 f14 f15).2.2.1) := by
  unfold KernelIdeal.trip
  dsimp only
  rfl

set_option maxHeartbeats 2000000 in
theorem outer_15 : (KernelIdeal.trip c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 0#32 1#32 X1 X2 X3 X4 X5 X6 X7 X8 k).2.2.2.2.1 f9 f12 f13 f14 f15
    = ⟨Rect.unit (s := S2048x128) (k0_off10 k) S512x128.size (k0_off10_inb k),
        k0_pay1 (k0_pay67 (k0_pay47 (blk1 arg5 k X5)) (k0_pay61 (k0_mult1 k) (k0_pay49 v34 (blk1 arg1 k X1)) (k0_pay55 (blk2 arg6 k X6)) (k0_pay55 (blk2 arg7 k X7)) (k0_mult4 k) (blk10 arg2 k X2) (blk11 arg8 k X8))) (k0_pay74 (k0_pay47 (blk1 arg5 k X5)) (k0_pay61 (k0_mult1 k) (k0_pay50 v34 (blk1 arg1 k X1)) (k0_pay55 (blk3 arg6 k X6)) (k0_pay55 (blk3 arg7 k X7)) (k0_mult4 k) (blk10 arg2 k X2) (blk12 arg8 k X8))) k0_pay76
          (blk10 arg15 k (arg15.view.writes (Elt Ideal) f15 ((S3 c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 X1 X2 X3 X4 X5 X6 X7 X8 k f12 f14 f15).2.2.2 ++ (S2 c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 X1 X2 X3 X4 X5 X6 X7 X8 k f12 f14 f15).2.2.2)))⟩
      :: ((S3 c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 X1 X2 X3 X4 X5 X6 X7 X8 k f12 f14 f15).2.2.2 ++ (S2 c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 X1 X2 X3 X4 X5 X6 X7 X8 k f12 f14 f15).2.2.2) := by
  unfold KernelIdeal.trip
  dsimp only
  rfl

end Cert.Proof.Value

end
-- ==== Proof.State.lean ====
/-
  The loop over the row blocks: what its state reads as after each trip.
-/
module

public import proofs.«01_k».proof.Proof.Outer

@[expose] public section

noncomputable section

namespace Cert.Proof.Value

open Cert.KernelIdeal Cert.KernelIdeal.Gen
open Idealize.ShloMosaic Idealize.ShloMosaic.TcCoe

/-- The eight operands of a grid point read as `x`. -/
structure Ops (x : In) (m1 m2 m3 : Vec Ideal S2048x128 .bf16) (m4 m5 : Vec Ideal S2048x128 .f32) (m6 m7 : Vec Ideal S1x2048x2 .f32)
    (m8 : Vec Ideal S1x2x2048 .f32) : Prop extends Cols x m2 m3 m8 where
  q : ∀ (r : Fin 2048) l, m1 (ix2 r l) = x.q r.val l
  o : ∀ (r : Fin 2048) l, m4 (ix2 r l) = x.o r.val l
  d : ∀ (r : Fin 2048) l, m5 (ix2 r l) = x.d r.val l
  b : ∀ (r : Fin 2048) (e : Fin 2), m6 (ix3 0 r e) = x.lse r.val e.val
  c : ∀ (r : Fin 2048) (e : Fin 2), m7 (ix3 0 r e) = x.fc r.val e.val

namespace In

variable (x : In)

/-- The query gradient. -/
def dq (r : ℕ) (l : Fin 128) : EReal := ∑ c ∈ Finset.range 2048, x.ds (half l) r c * κ8 * x.k c l
/-- The row gates' gradient: the row sums. -/
def dfq (r e : ℕ) : EReal := ∑ c ∈ Finset.range 2048, x.ds e r c
/-- The key gradient over the first `n` rows. -/
def dk (n c : ℕ) (l : Fin 128) : EReal := ∑ r ∈ Finset.range n, x.ds (half l) r c * κ8 * x.q r l
/-- The value gradient over the first `n` rows. -/
def dv (n c : ℕ) (l : Fin 128) : EReal := ∑ r ∈ Finset.range n, x.p (half l) r c * x.d r l
/-- The column gates' gradient after `i` row blocks: the column sums, taken from zero block by block. -/
def dfk (e c : ℕ) : ℕ → EReal
  | 0 => 0
  | i + 1 => dfk e c i - subF x (512 * i) e c

variable {x}

theorem addK_zero {R c : ℕ} {l : Fin 128} (h : R + 512 ≤ c) : addK x R c l = 0 :=
  Finset.sum_eq_zero fun r _ => by rw [x.ds_zero (by omega), zero_mul, zero_mul]
theorem addV_zero {R c : ℕ} {l : Fin 128} (h : R + 512 ≤ c) : addV x R c l = 0 :=
  Finset.sum_eq_zero fun r _ => by rw [x.p_zero (by omega), zero_mul]
theorem subF_zero {R e c : ℕ} (h : R + 512 ≤ c) : subF x R e c = 0 :=
  Finset.sum_eq_zero fun r _ => x.ds_zero (by omega)

theorem dk_add (n c : ℕ) (l : Fin 128) : x.dk n c l + addK x n c l = x.dk (n + 512) c l :=
  sum_step n fun r => x.ds (half l) r c * κ8 * x.q r l
theorem dv_add (n c : ℕ) (l : Fin 128) : x.dv n c l + addV x n c l = x.dv (n + 512) c l :=
  sum_step n fun r => x.p (half l) r c * x.d r l

theorem sum_full (n : ℕ) (hn : n ≤ 2048) (g : ℕ → EReal) (h : ∀ c, n ≤ c → g c = 0) :
    ∑ c ∈ Finset.range n, g c = ∑ c ∈ Finset.range 2048, g c :=
  Finset.sum_subset (Finset.range_mono hn) fun c _ hc => h c (by simpa using hc)

end In

/-- The state after `i` row blocks: the rows done of the two row results, and the three that gather over rows. -/
structure State (x : In) (i : ℕ) (m9 : Vec Ideal S2048x128 .bf16) (m12 : Vec Ideal S1x2x2048 .f32) (m13 : Vec Ideal S1x2048x2 .f32)
    (m14 m15 : Vec Ideal S2048x128 .f32) : Prop where
  q : ∀ (r : Fin 2048) l, r.val < 512 * i → m9 (ix2 r l) = x.dq r.val l
  f : ∀ (e : Fin 2) (c : Fin 2048), m12 (ix3 0 e c) = x.dfk e.val c.val i
  s : ∀ (r : Fin 2048) (e : Fin 2), r.val < 512 * i → m13 (ix3 0 r e) = x.dfq r.val e.val
  k : ∀ (c : Fin 2048) l, m14 (ix2 c l) = x.dk (512 * i) c.val l
  v : ∀ (c : Fin 2048) l, m15 (ix2 c l) = x.dv (512 * i) c.val l

/-! ## Writing a block -/

theorem put1 {t : EltTy} (arg : Memref sig .tc .vmem S2048x128 t) (i : Fin k0_t1_loop.trips)
    (f : BufTy.Contents (Elt Ideal) arg.view.ty) (w : Vec Ideal S512x128 t) (c : Fin 2048) (l : Fin 128) :
    arg.view.read (Elt Ideal) (arg.view.writes (Elt Ideal) f [⟨Rect.unit (s := S2048x128) (k0_off1 i) S512x128.size (k0_off1_inb i), w⟩]) (ix2 c l)
      = if h : 512 * i.val ≤ c.val ∧ c.val < 512 * i.val + 512 then w (ix2 ⟨c.val - 512 * i.val, by omega⟩ l)
        else arg.view.read (Elt Ideal) f (ix2 c l) := by
  split_ifs with h
  · exact View.read_writes_cons_unit_of_mem _ _ _ _ _ _ _ (off1 i) (by intro a; fin_cases a <;> simp; omega)
  · exact View.read_writes_cons_unit_of_not_mem _ _ _ _ [] _ (off1 i) 0 (by simp; omega)

theorem put10 {t : EltTy} (arg : Memref sig .tc .vmem S2048x128 t) (i : Fin k0_t1_loop.trips)
    (f : BufTy.Contents (Elt Ideal) arg.view.ty) (w : Vec Ideal S512x128 t) (L : List (View.Piece (Elt Ideal) S2048x128 t)) (c : Fin 2048) (l : Fin 128) :
    arg.view.read (Elt Ideal) (arg.view.writes (Elt Ideal) f (⟨Rect.unit (s := S2048x128) (k0_off10 i) S512x128.size (k0_off10_inb i), w⟩ :: L)) (ix2 c l)
      = if h : 512 * i.val ≤ c.val ∧ c.val < 512 * i.val + 512 then w (ix2 ⟨c.val - 512 * i.val, by omega⟩ l)
        else arg.view.read (Elt Ideal) (arg.view.writes (Elt Ideal) f L) (ix2 c l) := by
  split_ifs with h
  · exact View.read_writes_cons_unit_of_mem _ _ _ _ _ _ _ (off10 i) (by intro a; fin_cases a <;> simp; omega)
  · exact View.read_writes_cons_unit_of_not_mem _ _ _ _ _ _ (off10 i) 0 (by simp; omega)

theorem put23 (arg : Memref sig .tc .vmem S1x2048x2 .f32) (i : Fin k0_t1_loop.trips)
    (f : BufTy.Contents (Elt Ideal) arg.view.ty) (w₀ w₁ : Vec Ideal S1x512x1 .f32) (e : Fin 2) (c : Fin 2048) :
    arg.view.read (Elt Ideal) (arg.view.writes (Elt Ideal) f
        [⟨Rect.unit (s := S1x2048x2) (k0_off3 i) S1x512x1.size (k0_off3_inb i), w₁⟩, ⟨Rect.unit (s := S1x2048x2) (k0_off2 i) S1x512x1.size (k0_off2_inb i), w₀⟩]) (ix3 0 c e)
      = if h : 512 * i.val ≤ c.val ∧ c.val < 512 * i.val + 512 then
          (if e = 0 then w₀ else w₁) (ix3 0 ⟨c.val - 512 * i.val, by omega⟩ 0)
        else arg.view.read (Elt Ideal) f (ix3 0 c e) := by
  split_ifs with h he
  · subst he
    rw [View.read_writes_cons_unit_of_not_mem _ _ _ _ _ _ (off3 i) 2 (by simp)]
    exact View.read_writes_cons_unit_of_mem _ _ _ _ _ _ _ (off2 i) (by intro a; fin_cases a <;> simp; omega)
  · obtain rfl : e = 1 := by omega
    exact View.read_writes_cons_unit_of_mem _ _ _ _ _ _ _ (off3 i) (by intro a; fin_cases a <;> simp; omega)
  · rw [View.read_writes_cons_unit_of_not_mem _ _ _ _ _ _ (off3 i) 1 (by simp; omega)]
    exact View.read_writes_cons_unit_of_not_mem _ _ _ _ [] _ (off2 i) 1 (by simp; omega)

theorem put11 (arg : Memref sig .tc .vmem S1x2x2048 .f32) (i : Fin k0_t1_loop.trips)
    (f : BufTy.Contents (Elt Ideal) arg.view.ty) (w₀ : Vec Ideal S1x1x512 .f32) (L : List (View.Piece (Elt Ideal) S1x2x2048 .f32)) (e : Fin 2) (c : Fin 2048) :
    arg.view.read (Elt Ideal) (arg.view.writes (Elt Ideal) f
        (⟨Rect.unit (s := S1x2x2048) (k0_off11 i) S1x1x512.size (k0_off11_inb i), w₀⟩ :: L)) (ix3 0 e c)
      = if h : e = 0 ∧ 512 * i.val ≤ c.val ∧ c.val < 512 * i.val + 512 then
          w₀ (ix3 0 0 ⟨c.val - 512 * i.val, by omega⟩)
        else arg.view.read (Elt Ideal) (arg.view.writes (Elt Ideal) f L) (ix3 0 e c) := by
  split_ifs with h
  · obtain ⟨rfl, h⟩ := h
    exact View.read_writes_cons_unit_of_mem _ _ _ _ _ _ _ (off11 i) (by intro a; fin_cases a <;> simp; omega)
  · by_cases he : e = 0
    · exact View.read_writes_cons_unit_of_not_mem _ _ _ _ _ _ (off11 i) 2 (by simp; omega)
    · obtain rfl : e = 1 := by omega
      exact View.read_writes_cons_unit_of_not_mem _ _ _ _ _ _ (off11 i) 1 (by simp)

theorem put12 (arg : Memref sig .tc .vmem S1x2x2048 .f32) (i : Fin k0_t1_loop.trips)
    (f : BufTy.Contents (Elt Ideal) arg.view.ty) (w₀ : Vec Ideal S1x1x512 .f32) (L : List (View.Piece (Elt Ideal) S1x2x2048 .f32)) (e : Fin 2) (c : Fin 2048) :
    arg.view.read (Elt Ideal) (arg.view.writes (Elt Ideal) f
        (⟨Rect.unit (s := S1x2x2048) (k0_off12 i) S1x1x512.size (k0_off12_inb i), w₀⟩ :: L)) (ix3 0 e c)
      = if h : e = 1 ∧ 512 * i.val ≤ c.val ∧ c.val < 512 * i.val + 512 then
          w₀ (ix3 0 0 ⟨c.val - 512 * i.val, by omega⟩)
        else arg.view.read (Elt Ideal) (arg.view.writes (Elt Ideal) f L) (ix3 0 e c) := by
  split_ifs with h
  · obtain ⟨rfl, h⟩ := h
    exact View.read_writes_cons_unit_of_mem _ _ _ _ _ _ _ (off12 i) (by intro a; fin_cases a <;> simp; omega)
  · by_cases he : e = 1
    · exact View.read_writes_cons_unit_of_not_mem _ _ _ _ _ _ (off12 i) 2 (by simp; omega)
    · obtain rfl : e = 0 := by omega
      exact View.read_writes_cons_unit_of_not_mem _ _ _ _ _ _ (off12 i) 1 (by simp)

variable (c : Dev nD)
variable (i : grid0.Coords)
variable (arg1 : Memref sig .tc .vmem S2048x128 .bf16)
variable (harg1 : arg1.IsWhole)
variable (arg2 : Memref sig .tc .vmem S2048x128 .bf16)
variable (harg2 : arg2.IsWhole)
variable (arg3 : Memref sig .tc .vmem S2048x128 .bf16)
variable (harg3 : arg3.IsWhole)
variable (arg4 : Memref sig .tc .vmem S2048x128 .f32)
variable (harg4 : arg4.IsWhole)
variable (arg5 : Memref sig .tc .vmem S2048x128 .f32)
variable (harg5 : arg5.IsWhole)
variable (arg6 : Memref sig .tc .vmem S1x2048x2 .f32)
variable (harg6 : arg6.IsWhole)
variable (arg7 : Memref sig .tc .vmem S1x2048x2 .f32)
variable (harg7 : arg7.IsWhole)
variable (arg8 : Memref sig .tc .vmem S1x2x2048 .f32)
variable (harg8 : arg8.IsWhole)
variable (arg9 : Memref sig .tc .vmem S2048x128 .bf16)
variable (harg9 : arg9.IsWhole)
variable (arg10 : Memref sig .tc .vmem S2048x128 .bf16)
variable (harg10 : arg10.IsWhole)
variable (arg11 : Memref sig .tc .vmem S2048x128 .bf16)
variable (harg11 : arg11.IsWhole)
variable (arg12 : Memref sig .tc .vmem S1x2x2048 .f32)
variable (harg12 : arg12.IsWhole)
variable (arg13 : Memref sig .tc .vmem S1x2048x2 .f32)
variable (harg13 : arg13.IsWhole)
variable (arg14 : Memref sig .tc .vmem S2048x128 .f32)
variable (harg14 : arg14.IsWhole)
variable (arg15 : Memref sig .tc .vmem S2048x128 .f32)
variable (harg15 : arg15.IsWhole)
variable (v34 : IVec S512x128 32)
variable (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty)
variable (k : Fin k0_t1_loop.trips)
variable (f9 : BufTy.Contents (Elt Ideal) arg9.view.ty) (f12 : BufTy.Contents (Elt Ideal) arg12.view.ty) (f13 : BufTy.Contents (Elt Ideal) arg13.view.ty) (f14 : BufTy.Contents (Elt Ideal) arg14.view.ty) (f15 : BufTy.Contents (Elt Ideal) arg15.view.ty)

/-! ## One trip -/

variable {x : In}

/-- The row block's vectors read as the operands' rows. -/
theorem rows (hv : ∀ r l, v34 (ix2 r l) = BitVec.ofNat 32 (half l)) (hO : Ops x (arg1.view.read (Elt Ideal) X1) (arg2.view.read (Elt Ideal) X2) (arg3.view.read (Elt Ideal) X3) (arg4.view.read (Elt Ideal) X4) (arg5.view.read (Elt Ideal) X5) (arg6.view.read (Elt Ideal) X6) (arg7.view.read (Elt Ideal) X7) (arg8.view.read (Elt Ideal) X8)) :
    Rows x (512 * k.val) (blk1 arg1 k X1) (k0_pay47 (blk1 arg5 k X5)) (k0_pay49 v34 (blk1 arg1 k X1)) (k0_pay50 v34 (blk1 arg1 k X1)) (k0_pay51 v34 (blk1 arg5 k X5)) (k0_pay52 v34 (blk1 arg5 k X5)) (k0_pay53 v34 (blk1 arg5 k X5) (blk1 arg4 k X4)) (k0_pay54 v34 (blk1 arg5 k X5) (blk1 arg4 k X4)) (blk2 arg6 k X6) (blk3 arg6 k X6) (blk2 arg7 k X7) (blk3 arg7 k X7) := by
  have hk : k.val < 4 := t1_trips ▸ k.isLt
  have hq : ∀ (r : Fin 512) l, blk1 arg1 k X1 (ix2 r l) = x.q (512 * k.val + r.val) l := fun r l => (blk1_at _ _ _ hk r l).trans (hO.q _ l)
  have hd : ∀ (r : Fin 512) l, blk1 arg5 k X5 (ix2 r l) = x.d (512 * k.val + r.val) l := fun r l => (blk1_at _ _ _ hk r l).trans (hO.d _ l)
  have ho : ∀ (r : Fin 512) l, blk1 arg4 k X4 (ix2 r l) = x.o (512 * k.val + r.val) l := fun r l => (blk1_at _ _ _ hk r l).trans (hO.o _ l)
  refine ⟨hq, fun r l => (pay47_at _ r l).trans (hd r l), fun r l => ?_, fun r l => ?_, fun r l => ?_, fun r l => ?_, fun r => ?_, fun r => ?_,
    fun r => (blk2_at _ _ _ hk r).trans (hO.b _ 0), fun r => (blk3_at _ _ _ hk r).trans (hO.b _ 1),
    fun r => (blk2_at _ _ _ hk r).trans (hO.c _ 0), fun r => (blk3_at _ _ _ hk r).trans (hO.c _ 1)⟩
  · rw [pay49_at _ _ _ _ (hv r l), hq]; rfl
  · rw [pay50_at _ _ _ _ (hv r l), hq]; rfl
  · rw [pay51_at _ _ _ _ (hv r l), hd]; rfl
  · rw [pay52_at _ _ _ _ (hv r l), hd]; rfl
  · rw [pay53_at _ _ _ _ (hv r)]; simp only [hd, ho]; rfl
  · rw [pay54_at _ _ _ _ (hv r)]; simp only [hd, ho]; rfl

set_option maxHeartbeats 2000000 in
/-- A trip takes the state one row block further. -/
theorem outer_step (hv : ∀ r l, v34 (ix2 r l) = BitVec.ofNat 32 (half l))
    (hO : Ops x (arg1.view.read (Elt Ideal) X1) (arg2.view.read (Elt Ideal) X2) (arg3.view.read (Elt Ideal) X3) (arg4.view.read (Elt Ideal) X4) (arg5.view.read (Elt Ideal) X5) (arg6.view.read (Elt Ideal) X6) (arg7.view.read (Elt Ideal) X7) (arg8.view.read (Elt Ideal) X8))
    (hI : State x k.val (arg9.view.read (Elt Ideal) f9) (arg12.view.read (Elt Ideal) f12) (arg13.view.read (Elt Ideal) f13) (arg14.view.read (Elt Ideal) f14) (arg15.view.read (Elt Ideal) f15)) :
    State x (k.val + 1)
      (arg9.view.read (Elt Ideal) (arg9.view.writes (Elt Ideal) f9 ((KernelIdeal.trip c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 0#32 1#32 X1 X2 X3 X4 X5 X6 X7 X8 k).1 f9 f12 f13 f14 f15)))
      (arg12.view.read (Elt Ideal) (arg12.view.writes (Elt Ideal) f12 ((KernelIdeal.trip c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 0#32 1#32 X1 X2 X3 X4 X5 X6 X7 X8 k).2.1 f9 f12 f13 f14 f15)))
      (arg13.view.read (Elt Ideal) (arg13.view.writes (Elt Ideal) f13 ((KernelIdeal.trip c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 0#32 1#32 X1 X2 X3 X4 X5 X6 X7 X8 k).2.2.1 f9 f12 f13 f14 f15)))
      (arg14.view.read (Elt Ideal) (arg14.view.writes (Elt Ideal) f14 ((KernelIdeal.trip c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 0#32 1#32 X1 X2 X3 X4 X5 X6 X7 X8 k).2.2.2.1 f9 f12 f13 f14 f15)))
      (arg15.view.read (Elt Ideal) (arg15.view.writes (Elt Ideal) f15 ((KernelIdeal.trip c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 0#32 1#32 X1 X2 X3 X4 X5 X6 X7 X8 k).2.2.2.2.1 f9 f12 f13 f14 f15))) := by
  have hk : k.val < 4 := t1_trips ▸ k.isLt
  have hR := rows (hv := hv) (hO := hO) (k := k)
  have hN := inner_all c i arg1 harg1 arg2 harg2 arg3 harg3 arg4 harg4 arg5 harg5 arg6 harg6 arg7 harg7 arg8 harg8 arg9 harg9 arg10 harg10 arg11 harg11 arg12 harg12 arg13 harg13 arg14 harg14 arg15 harg15 k 0#32 (blk1 arg1 k X1) (k0_pay47 (blk1 arg5 k X5)) (k0_pay49 v34 (blk1 arg1 k X1)) (k0_pay50 v34 (blk1 arg1 k X1)) (k0_pay51 v34 (blk1 arg5 k X5)) (k0_pay52 v34 (blk1 arg5 k X5)) (k0_pay53 v34 (blk1 arg5 k X5) (blk1 arg4 k X4)) (k0_pay54 v34 (blk1 arg5 k X5) (blk1 arg4 k X4)) (blk2 arg6 k X6) (blk3 arg6 k X6) (blk2 arg7 k X7) (blk3 arg7 k X7) X2 X3 X8 f12 f14 f15
    (k0_pay59, k0_pay59, k0_pay60, k0_pay60) hR hO.toCols (g12 := arg12.view.read (Elt Ideal) f12) (g14 := arg14.view.read (Elt Ideal) f14)
    (g15 := arg15.view.read (Elt Ideal) f15)
    ⟨fun r l => pay59_at r l, fun r l => pay59_at r l, fun r => pay60_at r, fun r => pay60_at r, fun e c => by simp, fun c l => by simp, fun c l => by simp⟩
    (k0_t2_loop k).trips le_rfl
  have T0 : Tile x 0 (512 * k.val) (512 * k.val) (k0_pay49 v34 (blk1 arg1 k X1)) (k0_pay51 v34 (blk1 arg5 k X5)) (k0_pay53 v34 (blk1 arg5 k X5) (blk1 arg4 k X4)) (k0_pay55 (blk2 arg6 k X6)) (k0_pay55 (blk2 arg7 k X7)) (blk10 arg2 k X2) (blk10 arg3 k X3) (blk11 arg8 k X8) :=
    ⟨hR.a0, hR.d0, hR.δ0, fun r => (pay55_at _ r).trans (hR.b0 r), fun r => (pay55_at _ r).trans (hR.c0 r),
      fun r l => (blk10_at _ _ _ hk r l).trans (hO.k _ l), fun r l => (blk10_at _ _ _ hk r l).trans (hO.v _ l),
      fun r => (blk11_at _ _ _ hk r).trans (hO.f 0 _)⟩
  have T1 : Tile x 1 (512 * k.val) (512 * k.val) (k0_pay50 v34 (blk1 arg1 k X1)) (k0_pay52 v34 (blk1 arg5 k X5)) (k0_pay54 v34 (blk1 arg5 k X5) (blk1 arg4 k X4)) (k0_pay55 (blk3 arg6 k X6)) (k0_pay55 (blk3 arg7 k X7)) (blk10 arg2 k X2) (blk10 arg3 k X3) (blk12 arg8 k X8) :=
    ⟨hR.a1, hR.d1, hR.δ1, fun r => (pay55_at _ r).trans (hR.b1 r), fun r => (pay55_at _ r).trans (hR.c1 r),
      fun r l => (blk10_at _ _ _ hk r l).trans (hO.k _ l), fun r l => (blk10_at _ _ _ hk r l).trans (hO.v _ l),
      fun r => (blk12_at _ _ _ hk r).trans (hO.f 1 _)⟩
  rw [outer_9, outer_12, outer_13, outer_14, outer_15, S3_eq]
  simp only [List.nil_append]
  change Inner _ _ _ _ _ _ (S2 c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 X1 X2 X3 X4 X5 X6 X7 X8 k f12 f14 f15).1 (arg12.view.read (Elt Ideal) (arg12.view.writes (Elt Ideal) f12 (S2 c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 X1 X2 X3 X4 X5 X6 X7 X8 k f12 f14 f15).2.1))
    (arg14.view.read (Elt Ideal) (arg14.view.writes (Elt Ideal) f14 (S2 c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 X1 X2 X3 X4 X5 X6 X7 X8 k f12 f14 f15).2.2.1))
    (arg15.view.read (Elt Ideal) (arg15.view.writes (Elt Ideal) f15 (S2 c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 X1 X2 X3 X4 X5 X6 X7 X8 k f12 f14 f15).2.2.2)) at hN
  generalize (S2 c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 X1 X2 X3 X4 X5 X6 X7 X8 k f12 f14 f15) = S at hN ⊢
  generalize k0_pay47 (blk1 arg5 k X5) = D at hR ⊢
  generalize blk1 arg1 k X1 = Q at hR T0 T1 ⊢
  rw [t2_trips k] at hN
  have hm1 := mult1 k
  have hm4 := mult4 k
  rw [hm1, hm4]
  have E : ∀ (c : Fin 2048) (h : 512 * k.val ≤ c.val ∧ c.val < 512 * k.val + 512), at4 k.val hk ⟨c.val - 512 * k.val, by omega⟩ = c :=
    fun c h => Fin.ext (by show 512 * k.val + (c.val - 512 * k.val) = c.val; omega)
  have E' : ∀ (c : Fin 2048) (h : 512 * k.val ≤ c.val ∧ c.val < 512 * k.val + 512), 512 * k.val + (c.val - 512 * k.val) = c.val :=
    fun c h => by omega
  have hn : 512 * (k.val + 1) = 512 * k.val + 512 := by ring
  refine ⟨?_, ?_, ?_, ?_, ?_⟩
  · intro r l hr
    rw [put1]
    by_cases h : 512 * k.val ≤ r.val ∧ r.val < 512 * k.val + 512
    · rw [dif_pos h, pay4_at _ _ _ _ _ (hv _ l), pay68_at, pay75_at, hN.q0, hN.q1]
      simp only [T0.dsm, T1.dsm, T0.k, E' r h]
      rw [sum_step (512 * k.val) (fun c => x.ds 0 r.val c * κ8 * x.k c l), sum_step (512 * k.val) (fun c => x.ds 1 r.val c * κ8 * x.k c l),
        In.dq, ← In.sum_full (512 * k.val + 512) (by omega) _ (fun c hc => by rw [x.ds_zero (by omega), zero_mul, zero_mul])]
      rcases half_cases l with h | h <;> simp [h]
    · rw [dif_neg h, hI.q r l (by omega)]
  · intro e c
    rw [put12]
    by_cases h : 512 * k.val ≤ c.val ∧ c.val < 512 * k.val + 512
    · by_cases he : e = 0
      · subst he
        rw [dif_neg (by simp), put11, dif_pos ⟨rfl, h⟩, pay63_at, blk11_at _ _ _ hk, E c h, hN.f, if_neg (by omega), hI.f]
        simp only [T0.dsm, E' c h]
        rfl
      · obtain rfl : e = 1 := by omega
        rw [dif_pos ⟨rfl, h⟩, pay63_at, blk12_at _ _ _ hk, E c h, put11, dif_neg (by simp), hN.f, if_neg (by omega), hI.f]
        simp only [T1.dsm, E' c h]
        rfl
    · rw [dif_neg (fun h' => h h'.2), put11, dif_neg (fun h' => h h'.2), hN.f, hI.f, In.dfk]
      by_cases h' : c.val < 512 * k.val
      · rw [if_pos h']
      · rw [if_neg h', In.subF_zero (by omega), sub_zero]
  · intro r e hr
    rw [put23]
    by_cases h : 512 * k.val ≤ r.val ∧ r.val < 512 * k.val + 512
    · rw [dif_pos h, In.dfq, ← In.sum_full (512 * k.val + 512) (by omega) _ (fun c hc => x.ds_zero (by omega))]
      by_cases he : e = 0
      · subst he
        rw [if_pos rfl, pay2_at, pay64_at, hN.s0]
        simp only [T0.dsm, E' r h]
        exact sum_step (512 * k.val) (fun c => x.ds 0 r.val c)
      · obtain rfl : e = 1 := by omega
        rw [if_neg he, pay3_at, pay72_at, hN.s1]
        simp only [T1.dsm, E' r h]
        exact sum_step (512 * k.val) (fun c => x.ds 1 r.val c)
    · rw [dif_neg h, hI.s r e (by omega)]
  · intro c l
    rw [put10, hn, ← In.dk_add]
    by_cases h : 512 * k.val ≤ c.val ∧ c.val < 512 * k.val + 512
    · rw [dif_pos h, pay77_at, blk10_at _ _ _ hk, E c h, hN.k, if_neg (by omega), hI.k, pay66_at]
      simp only [T0.dsm, T1.dsm, hR.q, E' c h, addK]
      rcases half_cases l with h | h <;> simp [h]
    · rw [dif_neg h, hN.k, hI.k]
      by_cases h' : c.val < 512 * k.val
      · rw [if_pos h']
      · rw [if_neg h', In.addK_zero (by omega), add_zero]
  · intro c l
    rw [put10, hn, ← In.dv_add]
    by_cases h : 512 * k.val ≤ c.val ∧ c.val < 512 * k.val + 512
    · rw [dif_pos h, pay1_at _ _ _ _ _ _ (pay76_at _ _), blk10_at _ _ _ hk, E c h, hN.v, if_neg (by omega), hI.v, pay67_at, pay74_at]
      simp only [T0.pm, T1.pm, hR.d, E' c h, addV]
      rcases half_cases l with h | h <;> simp [h]
    · rw [dif_neg h, hN.v, hI.v]
      by_cases h' : c.val < 512 * k.val
      · rw [if_pos h']
      · rw [if_neg h', In.addV_zero (by omega), add_zero]

end Cert.Proof.Value

end
-- ==== Proof.Loop.lean ====
/-
  What the five blocks written by the loop over row blocks hold before each trip, and that loop's invariant.
-/
module

public import proofs.«01_k».proof.Proof.State
public import Idealize.ShloMosaic.Lib.Pipeline.Frame
public import Idealize.ShloMosaic.Lib.Tactic

@[expose] public section

noncomputable section

namespace Cert.Proof.KernelIdeal

open Cert.KernelIdeal Cert.KernelIdeal.Gen Cert.Proof.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

/-- What has been stored into the five blocks the loop writes after one more trip. -/
def next (c : Dev nD) (i : grid0.Coords)
    (arg1 : Memref sig .tc .vmem S2048x128 .bf16) (harg1 : arg1.IsWhole)
    (arg2 : Memref sig .tc .vmem S2048x128 .bf16) (harg2 : arg2.IsWhole)
    (arg3 : Memref sig .tc .vmem S2048x128 .bf16) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S1x2048x2 .f32) (harg6 : arg6.IsWhole)
    (arg7 : Memref sig .tc .vmem S1x2048x2 .f32) (harg7 : arg7.IsWhole)
    (arg8 : Memref sig .tc .vmem S1x2x2048 .f32) (harg8 : arg8.IsWhole)
    (arg9 : Memref sig .tc .vmem S2048x128 .bf16) (harg9 : arg9.IsWhole)
    (arg10 : Memref sig .tc .vmem S2048x128 .bf16) (harg10 : arg10.IsWhole)
    (arg11 : Memref sig .tc .vmem S2048x128 .bf16) (harg11 : arg11.IsWhole)
    (arg12 : Memref sig .tc .vmem S1x2x2048 .f32) (harg12 : arg12.IsWhole)
    (arg13 : Memref sig .tc .vmem S1x2048x2 .f32) (harg13 : arg13.IsWhole)
    (arg14 : Memref sig .tc .vmem S2048x128 .f32) (harg14 : arg14.IsWhole)
    (arg15 : Memref sig .tc .vmem S2048x128 .f32) (harg15 : arg15.IsWhole)
    (v34 : IVec S512x128 32) (w0 w1 : BitVec 32) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty)
    (G9 : BufTy.Contents (Elt Ideal) arg9.view.ty) (G12 : BufTy.Contents (Elt Ideal) arg12.view.ty) (G13 : BufTy.Contents (Elt Ideal) arg13.view.ty) (G14 : BufTy.Contents (Elt Ideal) arg14.view.ty) (G15 : BufTy.Contents (Elt Ideal) arg15.view.ty)
    (k : Fin k0_t1_loop.trips) (p : List (View.Piece (Elt Ideal) S2048x128 .bf16) × List (View.Piece (Elt Ideal) S1x2x2048 .f32) × List (View.Piece (Elt Ideal) S1x2048x2 .f32) × List (View.Piece (Elt Ideal) S2048x128 .f32) × List (View.Piece (Elt Ideal) S2048x128 .f32)) :
    List (View.Piece (Elt Ideal) S2048x128 .bf16) × List (View.Piece (Elt Ideal) S1x2x2048 .f32) × List (View.Piece (Elt Ideal) S1x2048x2 .f32) × List (View.Piece (Elt Ideal) S2048x128 .f32) × List (View.Piece (Elt Ideal) S2048x128 .f32) :=
  ((trip c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 w0 w1 X1 X2 X3 X4 X5 X6 X7 X8 k).1 (arg9.view.writes (Elt Ideal) G9 p.1) (arg12.view.writes (Elt Ideal) G12 p.2.1) (arg13.view.writes (Elt Ideal) G13 p.2.2.1) (arg14.view.writes (Elt Ideal) G14 p.2.2.2.1) (arg15.view.writes (Elt Ideal) G15 p.2.2.2.2) ++ p.1,
    (trip c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 w0 w1 X1 X2 X3 X4 X5 X6 X7 X8 k).2.1 (arg9.view.writes (Elt Ideal) G9 p.1) (arg12.view.writes (Elt Ideal) G12 p.2.1) (arg13.view.writes (Elt Ideal) G13 p.2.2.1) (arg14.view.writes (Elt Ideal) G14 p.2.2.2.1) (arg15.view.writes (Elt Ideal) G15 p.2.2.2.2) ++ p.2.1,
    (trip c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 w0 w1 X1 X2 X3 X4 X5 X6 X7 X8 k).2.2.1 (arg9.view.writes (Elt Ideal) G9 p.1) (arg12.view.writes (Elt Ideal) G12 p.2.1) (arg13.view.writes (Elt Ideal) G13 p.2.2.1) (arg14.view.writes (Elt Ideal) G14 p.2.2.2.1) (arg15.view.writes (Elt Ideal) G15 p.2.2.2.2) ++ p.2.2.1,
    (trip c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 w0 w1 X1 X2 X3 X4 X5 X6 X7 X8 k).2.2.2.1 (arg9.view.writes (Elt Ideal) G9 p.1) (arg12.view.writes (Elt Ideal) G12 p.2.1) (arg13.view.writes (Elt Ideal) G13 p.2.2.1) (arg14.view.writes (Elt Ideal) G14 p.2.2.2.1) (arg15.view.writes (Elt Ideal) G15 p.2.2.2.2) ++ p.2.2.2.1,
    (trip c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 w0 w1 X1 X2 X3 X4 X5 X6 X7 X8 k).2.2.2.2.1 (arg9.view.writes (Elt Ideal) G9 p.1) (arg12.view.writes (Elt Ideal) G12 p.2.1) (arg13.view.writes (Elt Ideal) G13 p.2.2.1) (arg14.view.writes (Elt Ideal) G14 p.2.2.2.1) (arg15.view.writes (Elt Ideal) G15 p.2.2.2.2) ++ p.2.2.2.2)

/-- What the trips before trip `n` stored into the five blocks the loop writes, those blocks' contents at the loop's
    entry being given. -/
def mem (c : Dev nD) (i : grid0.Coords)
    (arg1 : Memref sig .tc .vmem S2048x128 .bf16) (harg1 : arg1.IsWhole)
    (arg2 : Memref sig .tc .vmem S2048x128 .bf16) (harg2 : arg2.IsWhole)
    (arg3 : Memref sig .tc .vmem S2048x128 .bf16) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S1x2048x2 .f32) (harg6 : arg6.IsWhole)
    (arg7 : Memref sig .tc .vmem S1x2048x2 .f32) (harg7 : arg7.IsWhole)
    (arg8 : Memref sig .tc .vmem S1x2x2048 .f32) (harg8 : arg8.IsWhole)
    (arg9 : Memref sig .tc .vmem S2048x128 .bf16) (harg9 : arg9.IsWhole)
    (arg10 : Memref sig .tc .vmem S2048x128 .bf16) (harg10 : arg10.IsWhole)
    (arg11 : Memref sig .tc .vmem S2048x128 .bf16) (harg11 : arg11.IsWhole)
    (arg12 : Memref sig .tc .vmem S1x2x2048 .f32) (harg12 : arg12.IsWhole)
    (arg13 : Memref sig .tc .vmem S1x2048x2 .f32) (harg13 : arg13.IsWhole)
    (arg14 : Memref sig .tc .vmem S2048x128 .f32) (harg14 : arg14.IsWhole)
    (arg15 : Memref sig .tc .vmem S2048x128 .f32) (harg15 : arg15.IsWhole)
    (v34 : IVec S512x128 32) (w0 w1 : BitVec 32) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty)
    (G9 : BufTy.Contents (Elt Ideal) arg9.view.ty) (G12 : BufTy.Contents (Elt Ideal) arg12.view.ty) (G13 : BufTy.Contents (Elt Ideal) arg13.view.ty) (G14 : BufTy.Contents (Elt Ideal) arg14.view.ty) (G15 : BufTy.Contents (Elt Ideal) arg15.view.ty) (n : ℕ) :
    List (View.Piece (Elt Ideal) S2048x128 .bf16) × List (View.Piece (Elt Ideal) S1x2x2048 .f32) × List (View.Piece (Elt Ideal) S1x2048x2 .f32) × List (View.Piece (Elt Ideal) S2048x128 .f32) × List (View.Piece (Elt Ideal) S2048x128 .f32) :=
  Nat.rec ([], [], [], [], [])
    (fun n p => if h : n < k0_t1_loop.trips then next c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 w0 w1 X1 X2 X3 X4 X5 X6 X7 X8 G9 G12 G13 G14 G15 ⟨n, h⟩ p else p) n

theorem mem_succ (c : Dev nD) (i : grid0.Coords)
    (arg1 : Memref sig .tc .vmem S2048x128 .bf16) (harg1 : arg1.IsWhole)
    (arg2 : Memref sig .tc .vmem S2048x128 .bf16) (harg2 : arg2.IsWhole)
    (arg3 : Memref sig .tc .vmem S2048x128 .bf16) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S1x2048x2 .f32) (harg6 : arg6.IsWhole)
    (arg7 : Memref sig .tc .vmem S1x2048x2 .f32) (harg7 : arg7.IsWhole)
    (arg8 : Memref sig .tc .vmem S1x2x2048 .f32) (harg8 : arg8.IsWhole)
    (arg9 : Memref sig .tc .vmem S2048x128 .bf16) (harg9 : arg9.IsWhole)
    (arg10 : Memref sig .tc .vmem S2048x128 .bf16) (harg10 : arg10.IsWhole)
    (arg11 : Memref sig .tc .vmem S2048x128 .bf16) (harg11 : arg11.IsWhole)
    (arg12 : Memref sig .tc .vmem S1x2x2048 .f32) (harg12 : arg12.IsWhole)
    (arg13 : Memref sig .tc .vmem S1x2048x2 .f32) (harg13 : arg13.IsWhole)
    (arg14 : Memref sig .tc .vmem S2048x128 .f32) (harg14 : arg14.IsWhole)
    (arg15 : Memref sig .tc .vmem S2048x128 .f32) (harg15 : arg15.IsWhole)
    (v34 : IVec S512x128 32) (w0 w1 : BitVec 32) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty)
    (G9 : BufTy.Contents (Elt Ideal) arg9.view.ty) (G12 : BufTy.Contents (Elt Ideal) arg12.view.ty) (G13 : BufTy.Contents (Elt Ideal) arg13.view.ty) (G14 : BufTy.Contents (Elt Ideal) arg14.view.ty) (G15 : BufTy.Contents (Elt Ideal) arg15.view.ty) (k : Fin k0_t1_loop.trips) :
    mem c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 w0 w1 X1 X2 X3 X4 X5 X6 X7 X8 G9 G12 G13 G14 G15 (k.val + 1) = next c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 w0 w1 X1 X2 X3 X4 X5 X6 X7 X8 G9 G12 G13 G14 G15 k (mem c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 w0 w1 X1 X2 X3 X4 X5 X6 X7 X8 G9 G12 G13 G14 G15 k.val) := by
  unfold mem
  exact dif_pos k.isLt

set_option maxHeartbeats 2000000 in
/-- Before a row block: the eight inputs as they were, the blocks the loop writes at what the trips before left. -/
@[sl_loop, instance_reducible] def loopInv_k0_t1 (c : Dev nD) (i : grid0.Coords)
    (arg1 : Memref sig .tc .vmem S2048x128 .bf16) (harg1 : arg1.IsWhole)
    (arg2 : Memref sig .tc .vmem S2048x128 .bf16) (harg2 : arg2.IsWhole)
    (arg3 : Memref sig .tc .vmem S2048x128 .bf16) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S1x2048x2 .f32) (harg6 : arg6.IsWhole)
    (arg7 : Memref sig .tc .vmem S1x2048x2 .f32) (harg7 : arg7.IsWhole)
    (arg8 : Memref sig .tc .vmem S1x2x2048 .f32) (harg8 : arg8.IsWhole)
    (arg9 : Memref sig .tc .vmem S2048x128 .bf16) (harg9 : arg9.IsWhole)
    (arg10 : Memref sig .tc .vmem S2048x128 .bf16) (harg10 : arg10.IsWhole)
    (arg11 : Memref sig .tc .vmem S2048x128 .bf16) (harg11 : arg11.IsWhole)
    (arg12 : Memref sig .tc .vmem S1x2x2048 .f32) (harg12 : arg12.IsWhole)
    (arg13 : Memref sig .tc .vmem S1x2048x2 .f32) (harg13 : arg13.IsWhole)
    (arg14 : Memref sig .tc .vmem S2048x128 .f32) (harg14 : arg14.IsWhole)
    (arg15 : Memref sig .tc .vmem S2048x128 .f32) (harg15 : arg15.IsWhole)
    (v34 : IVec S512x128 32) (w0 w1 : BitVec 32) (X1 : BufTy.Contents (Elt Ideal) arg1.view.ty) (X2 : BufTy.Contents (Elt Ideal) arg2.view.ty) (X3 : BufTy.Contents (Elt Ideal) arg3.view.ty) (X4 : BufTy.Contents (Elt Ideal) arg4.view.ty) (X5 : BufTy.Contents (Elt Ideal) arg5.view.ty) (X6 : BufTy.Contents (Elt Ideal) arg6.view.ty) (X7 : BufTy.Contents (Elt Ideal) arg7.view.ty) (X8 : BufTy.Contents (Elt Ideal) arg8.view.ty)
    (G9 : BufTy.Contents (Elt Ideal) arg9.view.ty) (G12 : BufTy.Contents (Elt Ideal) arg12.view.ty) (G13 : BufTy.Contents (Elt Ideal) arg13.view.ty) (G14 : BufTy.Contents (Elt Ideal) arg14.view.ty) (G15 : BufTy.Contents (Elt Ideal) arg15.view.ty) :
    LoopInvTy_k0_t1 (F := Ideal) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 v34 w0 w1 where
  inv := fun n _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8)
      ∗ (∃ f : BufTy.Contents (Elt Ideal) arg9.view.ty, (arg9.view.loc (c : Thread nD τ) ↦[arg9.view.set]{fullShare} f) ∗ ⌜f = arg9.view.writes (Elt Ideal) G9 (mem c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 w0 w1 X1 X2 X3 X4 X5 X6 X7 X8 G9 G12 G13 G14 G15 n).1⌝)
      ∗ (∃ f : BufTy.Contents (Elt Ideal) arg12.view.ty, (arg12.view.loc (c : Thread nD τ) ↦[arg12.view.set]{fullShare} f) ∗ ⌜f = arg12.view.writes (Elt Ideal) G12 (mem c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 w0 w1 X1 X2 X3 X4 X5 X6 X7 X8 G9 G12 G13 G14 G15 n).2.1⌝)
      ∗ (∃ f : BufTy.Contents (Elt Ideal) arg13.view.ty, (arg13.view.loc (c : Thread nD τ) ↦[arg13.view.set]{fullShare} f) ∗ ⌜f = arg13.view.writes (Elt Ideal) G13 (mem c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 w0 w1 X1 X2 X3 X4 X5 X6 X7 X8 G9 G12 G13 G14 G15 n).2.2.1⌝)
      ∗ (∃ f : BufTy.Contents (Elt Ideal) arg14.view.ty, (arg14.view.loc (c : Thread nD τ) ↦[arg14.view.set]{fullShare} f) ∗ ⌜f = arg14.view.writes (Elt Ideal) G14 (mem c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 w0 w1 X1 X2 X3 X4 X5 X6 X7 X8 G9 G12 G13 G14 G15 n).2.2.2.1⌝)
      ∗ (∃ f : BufTy.Contents (Elt Ideal) arg15.view.ty, (arg15.view.loc (c : Thread nD τ) ↦[arg15.view.set]{fullShare} f) ∗ ⌜f = arg15.view.writes (Elt Ideal) G15 (mem c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 w0 w1 X1 X2 X3 X4 X5 X6 X7 X8 G9 G12 G13 G14 G15 n).2.2.2.2⌝))
  step := fun k acc => by
    iintro ⟨H1, H2, H3, H4, H5, H6, H7, H8, ⟨%f9, H9, %h9⟩, ⟨%f12, H12, %h12⟩, ⟨%f13, H13, %h13⟩, ⟨%f14, H14, %h14⟩, ⟨%f15, H15, %h15⟩⟩
    iapply (wp_wand_r Idealize.ShloMosaic.frame (wpE (defs₀ (F := Ideal)) Variants.none (c : Thread nD τ) none) Set.univ)
    isplitl [H1 H2 H3 H4 H5 H6 H7 H8 H9 H12 H13 H14 H15]
    · iapply ((trip c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 w0 w1 X1 X2 X3 X4 X5 X6 X7 X8 k).2.2.2.2.2 f9 f12 f13 f14 f15)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H12]; · iexact H12
      isplitl [H13]; · iexact H13
      isplitl [H14]; · iexact H14
      iexact H15
    · iintro %yld ⟨H1, H2, H3, H4, H5, H6, H7, H8, H9, H12, H13, H14, H15⟩
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      rw [mem_succ]
      generalize hp : mem c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 w0 w1 X1 X2 X3 X4 X5 X6 X7 X8 G9 G12 G13 G14 G15 k.val = p at h9 h12 h13 h14 h15 ⊢
      subst h9 h12 h13 h14 h15
      unfold next
      isplitl [H9]
      · iexists _; isplitl [H9]; · iexact H9
        ipureintro; exact (View.writes_append ..).symm
      isplitl [H12]
      · iexists _; isplitl [H12]; · iexact H12
        ipureintro; exact (View.writes_append ..).symm
      isplitl [H13]
      · iexists _; isplitl [H13]; · iexact H13
        ipureintro; exact (View.writes_append ..).symm
      isplitl [H14]
      · iexists _; isplitl [H14]; · iexact H14
        ipureintro; exact (View.writes_append ..).symm
      iexists _; isplitl [H15]; · iexact H15
      ipureintro; exact (View.writes_append ..).symm

end Cert.Proof.KernelIdeal

end
-- ==== Proof.Point.lean ====
/-
  The whole body: what the loop over the row blocks leaves, as the five results of a grid point.
-/
module

public import proofs.«01_k».proof.Proof.State
public import proofs.«01_k».proof.Proof.Loop

@[expose] public section

noncomputable section

namespace Cert.Proof.Value

open Cert.KernelIdeal Cert.KernelIdeal.Gen
open Idealize.ShloMosaic Idealize.ShloMosaic.TcCoe

/-- After `n` row blocks the stores made into the five blocks read as the state after `n` blocks. -/
theorem mem_state {x : In} {c : Dev nD} {i : grid0.Coords}
    (arg1 : Memref sig .tc .vmem S2048x128 .bf16) (harg1 : arg1.IsWhole)
    (arg2 : Memref sig .tc .vmem S2048x128 .bf16) (harg2 : arg2.IsWhole)
    (arg3 : Memref sig .tc .vmem S2048x128 .bf16) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S1x2048x2 .f32) (harg6 : arg6.IsWhole)
    (arg7 : Memref sig .tc .vmem S1x2048x2 .f32) (harg7 : arg7.IsWhole)
    (arg8 : Memref sig .tc .vmem S1x2x2048 .f32) (harg8 : arg8.IsWhole)
    (arg9 : Memref sig .tc .vmem S2048x128 .bf16) (harg9 : arg9.IsWhole)
    (arg10 : Memref sig .tc .vmem S2048x128 .bf16) (harg10 : arg10.IsWhole)
    (arg11 : Memref sig .tc .vmem S2048x128 .bf16) (harg11 : arg11.IsWhole)
    (arg12 : Memref sig .tc .vmem S1x2x2048 .f32) (harg12 : arg12.IsWhole)
    (arg13 : Memref sig .tc .vmem S1x2048x2 .f32) (harg13 : arg13.IsWhole)
    (arg14 : Memref sig .tc .vmem S2048x128 .f32) (harg14 : arg14.IsWhole)
    (arg15 : Memref sig .tc .vmem S2048x128 .f32) (harg15 : arg15.IsWhole)
    {v34 : IVec S512x128 32} {X1 : BufTy.Contents (Elt Ideal) arg1.view.ty} {X2 : BufTy.Contents (Elt Ideal) arg2.view.ty} {X3 : BufTy.Contents (Elt Ideal) arg3.view.ty} {X4 : BufTy.Contents (Elt Ideal) arg4.view.ty} {X5 : BufTy.Contents (Elt Ideal) arg5.view.ty} {X6 : BufTy.Contents (Elt Ideal) arg6.view.ty} {X7 : BufTy.Contents (Elt Ideal) arg7.view.ty} {X8 : BufTy.Contents (Elt Ideal) arg8.view.ty}
    {G9 : BufTy.Contents (Elt Ideal) arg9.view.ty} {G12 : BufTy.Contents (Elt Ideal) arg12.view.ty} {G13 : BufTy.Contents (Elt Ideal) arg13.view.ty} {G14 : BufTy.Contents (Elt Ideal) arg14.view.ty} {G15 : BufTy.Contents (Elt Ideal) arg15.view.ty}
    (hv : ∀ r l, v34 (ix2 r l) = BitVec.ofNat 32 (half l))
    (hO : Ops x (arg1.view.read (Elt Ideal) X1) (arg2.view.read (Elt Ideal) X2) (arg3.view.read (Elt Ideal) X3) (arg4.view.read (Elt Ideal) X4) (arg5.view.read (Elt Ideal) X5) (arg6.view.read (Elt Ideal) X6) (arg7.view.read (Elt Ideal) X7) (arg8.view.read (Elt Ideal) X8))
    (h0 : State x 0 (arg9.view.read (Elt Ideal) G9) (arg12.view.read (Elt Ideal) G12) (arg13.view.read (Elt Ideal) G13) (arg14.view.read (Elt Ideal) G14) (arg15.view.read (Elt Ideal) G15)) (n : ℕ) (hn : n ≤ k0_t1_loop.trips) :
    State x n (arg9.view.read (Elt Ideal) (arg9.view.writes (Elt Ideal) G9 (KernelIdeal.mem c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 0#32 1#32 X1 X2 X3 X4 X5 X6 X7 X8 G9 G12 G13 G14 G15 n).1)) (arg12.view.read (Elt Ideal) (arg12.view.writes (Elt Ideal) G12 (KernelIdeal.mem c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 0#32 1#32 X1 X2 X3 X4 X5 X6 X7 X8 G9 G12 G13 G14 G15 n).2.1)) (arg13.view.read (Elt Ideal) (arg13.view.writes (Elt Ideal) G13 (KernelIdeal.mem c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 0#32 1#32 X1 X2 X3 X4 X5 X6 X7 X8 G9 G12 G13 G14 G15 n).2.2.1)) (arg14.view.read (Elt Ideal) (arg14.view.writes (Elt Ideal) G14 (KernelIdeal.mem c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 0#32 1#32 X1 X2 X3 X4 X5 X6 X7 X8 G9 G12 G13 G14 G15 n).2.2.2.1)) (arg15.view.read (Elt Ideal) (arg15.view.writes (Elt Ideal) G15 (KernelIdeal.mem c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 0#32 1#32 X1 X2 X3 X4 X5 X6 X7 X8 G9 G12 G13 G14 G15 n).2.2.2.2)) := by
  induction n with
  | zero => exact h0
  | succ n ih =>
    rw [KernelIdeal.mem_succ c i arg1 harg1 arg2 harg2 arg3 harg3 arg4 harg4 arg5 harg5 arg6 harg6 arg7 harg7 arg8 harg8 arg9 harg9 arg10 harg10 arg11 harg11 arg12 harg12 arg13 harg13 arg14 harg14 arg15 harg15 v34 0#32 1#32 X1 X2 X3 X4 X5 X6 X7 X8 G9 G12 G13 G14 G15 ⟨n, hn⟩]
    have h := outer_step (c := c) (i := i) (harg9 := harg9) (harg10 := harg10) (harg11 := harg11) (harg12 := harg12) (harg13 := harg13) (harg14 := harg14) (harg15 := harg15) (k := ⟨n, hn⟩) (hv := hv) (hO := hO) (hI := ih (by omega))
    unfold KernelIdeal.next
    simp only [View.writes_append]
    exact h harg1 harg2 harg3 harg4 harg5 harg6 harg7 harg8

/-- Row `r` of an array of rows. -/
abbrev row (r : ℕ) : Fin 2048 := Fin.ofNat 2048 r

/-- A grid point's operands read from its eight blocks. -/
def inOf (d1 d2 d3 : Vec Ideal S2048x128 .bf16) (d4 d5 : Vec Ideal S2048x128 .f32) (d6 d7 : Vec Ideal S1x2048x2 .f32)
    (d8 : Vec Ideal S1x2x2048 .f32) : In where
  q r l := d1 (ix2 (row r) l)
  k r l := d2 (ix2 (row r) l)
  v r l := d3 (ix2 (row r) l)
  o r l := d4 (ix2 (row r) l)
  d r l := d5 (ix2 (row r) l)
  lse r e := d6 (ix3 0 (row r) (Fin.ofNat 2 e))
  fc r e := d7 (ix3 0 (row r) (Fin.ofNat 2 e))
  fr e c := d8 (ix3 0 (Fin.ofNat 2 e) (row c))

theorem row_val (r : Fin 2048) : row r.val = r := Fin.ofNat_val_eq_self r

theorem ops_inOf (d1 d2 d3 : Vec Ideal S2048x128 .bf16) (d4 d5 : Vec Ideal S2048x128 .f32) (d6 d7 : Vec Ideal S1x2048x2 .f32)
    (d8 : Vec Ideal S1x2x2048 .f32) : Ops (inOf d1 d2 d3 d4 d5 d6 d7 d8) d1 d2 d3 d4 d5 d6 d7 d8 := by
  constructor
  · constructor
    all_goals intro a b; simp only [inOf, row_val, Fin.ofNat_val_eq_self]
  all_goals intro a b; simp only [inOf, row_val, Fin.ofNat_val_eq_self]

namespace In

variable (x : In)

/-- The query gradient's block. -/
def outQ : Vec Ideal S2048x128 .bf16 := fun i => x.dq (i 0).val ⟨(i 1).val, (i 1).isLt⟩
/-- The key gradient's block. -/
def outK : Vec Ideal S2048x128 .bf16 := fun i => x.dk 2048 (i 0).val ⟨(i 1).val, (i 1).isLt⟩
/-- The value gradient's block. -/
def outV : Vec Ideal S2048x128 .bf16 := fun i => x.dv 2048 (i 0).val ⟨(i 1).val, (i 1).isLt⟩
/-- The column gates' gradient's block. -/
def outF : Vec Ideal S1x2x2048 .f32 := fun i => x.dfk (i 1).val (i 2).val 4
/-- The row gates' gradient's block. -/
def outS : Vec Ideal S1x2048x2 .f32 := fun i => x.dfq (i 1).val (i 2).val

end In

/-- The state after all row blocks is the five results. -/
theorem State.done {x : In} {m9 : Vec Ideal S2048x128 .bf16} {m12 : Vec Ideal S1x2x2048 .f32} {m13 : Vec Ideal S1x2048x2 .f32}
    {m14 m15 : Vec Ideal S2048x128 .f32} {n : ℕ} (hn : n = 4) (h : State x n m9 m12 m13 m14 m15) :
    m9 = x.outQ ∧ m12 = x.outF ∧ m13 = x.outS ∧ k0_pay5 m14 = x.outK ∧ k0_pay6 m15 = x.outV := by
  subst hn
  refine ⟨?_, ?_, ?_, ?_, ?_⟩
  · funext i; obtain ⟨r, l, rfl⟩ : ∃ (r : Fin 2048) (l : Fin 128), i = ix2 r l := ⟨i 0, i 1, eq_ix2 i⟩; exact h.q r l (by omega)
  · funext i; obtain ⟨z, r, l, rfl⟩ : ∃ (z : Fin 1) (r : Fin 2) (l : Fin 2048), i = ix3 z r l := ⟨i 0, i 1, i 2, eq_ix3 i⟩; obtain rfl : z = 0 := by omega
    exact h.f r l
  · funext i; obtain ⟨z, r, l, rfl⟩ : ∃ (z : Fin 1) (r : Fin 2048) (l : Fin 2), i = ix3 z r l := ⟨i 0, i 1, i 2, eq_ix3 i⟩; obtain rfl : z = 0 := by omega
    exact h.s r l (by omega)
  · funext i; obtain ⟨r, l, rfl⟩ : ∃ (r : Fin 2048) (l : Fin 128), i = ix2 r l := ⟨i 0, i 1, eq_ix2 i⟩; rw [pay5_eq]; exact h.k r l
  · funext i; obtain ⟨r, l, rfl⟩ : ∃ (r : Fin 2048) (l : Fin 128), i = ix2 r l := ⟨i 0, i 1, eq_ix2 i⟩; rw [pay6_eq]; exact h.v r l

/-- Before the first row block: nothing is asked of the row results, the three gathered blocks are zero. -/
theorem State.start {x : In} {m9 : Vec Ideal S2048x128 .bf16} {m12 : Vec Ideal S1x2x2048 .f32} {m13 : Vec Ideal S1x2048x2 .f32}
    {m14 m15 : Vec Ideal S2048x128 .f32} (h12 : m12 = k0_pay80 (F := Ideal)) (h14 : m14 = k0_pay78 (F := Ideal)) (h15 : m15 = k0_pay78 (F := Ideal)) : State x 0 m9 m12 m13 m14 m15 := by
  subst h12 h14 h15
  exact ⟨fun r l h => by omega, fun e c => pay80_at e c, fun r e h => by omega, fun c l => pay78_at c l, fun c l => pay78_at c l⟩

end Cert.Proof.Value

end
-- ==== Proof.Run.lean ====
/-
  The kernel's body at exact values, run once: the five results named.
-/
module

public import proofs.«01_k».proof.Proof.Point
public import Idealize.ShloMosaic.Lib.Pipeline.Frame
public import Idealize.ShloMosaic.Lib.VecWindow
public import Idealize.ShloMosaic.Lib.Tactic

@[expose] public section

noncomputable section

namespace Cert.Proof.KernelIdeal

open Cert.KernelIdeal Cert.KernelIdeal.Gen Cert.Proof.Value
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

/-! ## The body, run once -/

/-- The body's triple, for any continuation: the inputs' blocks handed back as they were, the results'
    at the values named, the scratch blocks at some contents. -/
theorem kernelRun (c : Dev nD) (i : grid0.Coords)
    (arg1 : Memref sig .tc .vmem S2048x128 .bf16) (harg1 : arg1.IsWhole)
    (arg2 : Memref sig .tc .vmem S2048x128 .bf16) (harg2 : arg2.IsWhole)
    (arg3 : Memref sig .tc .vmem S2048x128 .bf16) (harg3 : arg3.IsWhole)
    (arg4 : Memref sig .tc .vmem S2048x128 .f32) (harg4 : arg4.IsWhole)
    (arg5 : Memref sig .tc .vmem S2048x128 .f32) (harg5 : arg5.IsWhole)
    (arg6 : Memref sig .tc .vmem S1x2048x2 .f32) (harg6 : arg6.IsWhole)
    (arg7 : Memref sig .tc .vmem S1x2048x2 .f32) (harg7 : arg7.IsWhole)
    (arg8 : Memref sig .tc .vmem S1x2x2048 .f32) (harg8 : arg8.IsWhole)
    (arg9 : Memref sig .tc .vmem S2048x128 .bf16) (harg9 : arg9.IsWhole)
    (arg10 : Memref sig .tc .vmem S2048x128 .bf16) (harg10 : arg10.IsWhole)
    (arg11 : Memref sig .tc .vmem S2048x128 .bf16) (harg11 : arg11.IsWhole)
    (arg12 : Memref sig .tc .vmem S1x2x2048 .f32) (harg12 : arg12.IsWhole)
    (arg13 : Memref sig .tc .vmem S1x2048x2 .f32) (harg13 : arg13.IsWhole)
    (arg14 : Memref sig .tc .vmem S2048x128 .f32) (harg14 : arg14.IsWhole)
    (arg15 : Memref sig .tc .vmem S2048x128 .f32) (harg15 : arg15.IsWhole)
    (d1 : Vec Ideal S2048x128 .bf16) (d2 : Vec Ideal S2048x128 .bf16) (d3 : Vec Ideal S2048x128 .bf16) (d4 : Vec Ideal S2048x128 .f32) (d5 : Vec Ideal S2048x128 .f32) (d6 : Vec Ideal S1x2048x2 .f32) (d7 : Vec Ideal S1x2048x2 .f32) (d8 : Vec Ideal S1x2x2048 .f32) (K : PUnit → sProp 𝕄) :
    iprop(owns (c : Thread nD τ) arg1 fullShare d1
        ∗ owns (c : Thread nD τ) arg2 fullShare d2
        ∗ owns (c : Thread nD τ) arg3 fullShare d3
        ∗ owns (c : Thread nD τ) arg4 fullShare d4
        ∗ owns (c : Thread nD τ) arg5 fullShare d5
        ∗ owns (c : Thread nD τ) arg6 fullShare d6
        ∗ owns (c : Thread nD τ) arg7 fullShare d7
        ∗ owns (c : Thread nD τ) arg8 fullShare d8
        ∗ (∃ d, owns (c : Thread nD τ) arg9 fullShare d)
        ∗ (∃ d, owns (c : Thread nD τ) arg10 fullShare d)
        ∗ (∃ d, owns (c : Thread nD τ) arg11 fullShare d)
        ∗ (∃ d, owns (c : Thread nD τ) arg12 fullShare d)
        ∗ (∃ d, owns (c : Thread nD τ) arg13 fullShare d)
        ∗ (∃ d, owns (c : Thread nD τ) arg14 fullShare d)
        ∗ (∃ d, owns (c : Thread nD τ) arg15 fullShare d)
        ∗ (iprop(owns (c : Thread nD τ) arg1 fullShare d1
        ∗ owns (c : Thread nD τ) arg2 fullShare d2
        ∗ owns (c : Thread nD τ) arg3 fullShare d3
        ∗ owns (c : Thread nD τ) arg4 fullShare d4
        ∗ owns (c : Thread nD τ) arg5 fullShare d5
        ∗ owns (c : Thread nD τ) arg6 fullShare d6
        ∗ owns (c : Thread nD τ) arg7 fullShare d7
        ∗ owns (c : Thread nD τ) arg8 fullShare d8
        ∗ owns (c : Thread nD τ) arg9 fullShare (inOf d1 d2 d3 d4 d5 d6 d7 d8).outQ
        ∗ owns (c : Thread nD τ) arg10 fullShare (inOf d1 d2 d3 d4 d5 d6 d7 d8).outK
        ∗ owns (c : Thread nD τ) arg11 fullShare (inOf d1 d2 d3 d4 d5 d6 d7 d8).outV
        ∗ owns (c : Thread nD τ) arg12 fullShare (inOf d1 d2 d3 d4 d5 d6 d7 d8).outF
        ∗ owns (c : Thread nD τ) arg13 fullShare (inOf d1 d2 d3 d4 d5 d6 d7 d8).outS
        ∗ (∃ d, owns (c : Thread nD τ) arg14 fullShare d)
        ∗ (∃ d, owns (c : Thread nD τ) arg15 fullShare d)) -∗ K ⟨⟩))
      ⊢ wp frame (wpE (defs₀ (F := Ideal)) Variants.none c none) Set.univ (cc0_fox_bwd i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_fox_bwd_eq_skeleton]; unfold cc0_fox_bwd_skel
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, Hk⟩
  have hS := fun G12 G14 G15 h12 h14 h15 => State.done (m9 := _) t1_trips
    (mem_state (c := c) (i := i) (x := inOf d1 d2 d3 d4 d5 d6 d7 d8) arg1 harg1 arg2 harg2 arg3 harg3 arg4 harg4 arg5 harg5 arg6 harg6 arg7 harg7 arg8 harg8 arg9 harg9 arg10 harg10 arg11 harg11 arg12 harg12 arg13 harg13 arg14 harg14 arg15 harg15
      (X1 := f1) (X2 := f2) (X3 := f3) (X4 := f4) (X5 := f5) (X6 := f6) (X7 := f7) (X8 := f8) (G9 := f9) (G12 := G12) (G13 := f13) (G14 := G14) (G15 := G15)
      (v34 := k0_pay81) pay81_at (by rw [h1, h2, h3, h4, h5, h6, h7, h8]; exact ops_inOf d1 d2 d3 d4 d5 d6 d7 d8) (State.start h12 h14 h15) _ le_rfl)
  sl_exec_parts
  sl_step
  unfold kernelRun.sl.v36 kernelRun.sl.v39 kernelRun.sl.H12_1 kernelRun.sl.H14_1
  have h12 := View.read_writes_full (Val := Elt Ideal) arg12.view arg12.view.junk inb_S1x2x2048_S1x2x2048_0_0_0 (k0_pay80 (F := Ideal)) []
  have h14 := View.read_writes_full (Val := Elt Ideal) arg14.view arg14.view.junk inb_S2048x128_S2048x128_0_0 (k0_pay78 (F := Ideal)) []
  have h15 := View.read_writes_full (Val := Elt Ideal) arg15.view arg15.view.junk inb_S2048x128_S2048x128_0_0 (k0_pay78 (F := Ideal)) []
  obtain ⟨e9, e12, e13, e14, e15⟩ := hS _ _ _ h12 h14 h15
  rw [← View.writes_append] at e12 e14 e15
  iapply Hk
  isplitl [H1]
  · iexists f1; isplitr; · ipureintro; exact h1
    iexact H1
  isplitl [H2]
  · iexists f2; isplitr; · ipureintro; exact h2
    iexact H2
  isplitl [H3]
  · iexists f3; isplitr; · ipureintro; exact h3
    iexact H3
  isplitl [H4]
  · iexists f4; isplitr; · ipureintro; exact h4
    iexact H4
  isplitl [H5]
  · iexists f5; isplitr; · ipureintro; exact h5
    iexact H5
  isplitl [H6]
  · iexists f6; isplitr; · ipureintro; exact h6
    iexact H6
  isplitl [H7]
  · iexists f7; isplitr; · ipureintro; exact h7
    iexact H7
  isplitl [H8]
  · iexists f8; isplitr; · ipureintro; exact h8
    iexact H8
  isplitl [H9]
  · iexists _; isplitr; swap; · iexact H9
    ipureintro
    exact e9
  isplitl [H10]
  · iexists _; isplitr; swap; · iexact H10
    ipureintro
    refine (View.read_writes_full arg10.view f10 inb_S2048x128_S2048x128_0_0 _ []).trans (Eq.trans (congrArg k0_pay5 ?_) e14)
    exact View.readAt_full _ _ _
  isplitl [H11]
  · iexists _; isplitr; swap; · iexact H11
    ipureintro
    refine (View.read_writes_full arg11.view f11 inb_S2048x128_S2048x128_0_0 _ []).trans (Eq.trans (congrArg k0_pay6 ?_) e15)
    exact View.readAt_full _ _ _
  isplitl [H12]
  · iexists _; isplitr; swap; · iexact H12
    ipureintro
    exact e12
  isplitl [H13]
  · iexists _; isplitr; swap; · iexact H13
    ipureintro
    exact e13
  isplitl [H14]
  · iexists _, _; isplitr; swap; · iexact H14
    ipureintro; rfl
  · iexists _, _; isplitr; swap; · iexact H15
    ipureintro; rfl

/-! ## The proof data and the body obligation -/

variable (m : (ℓ : Loc nD τ sig) → Buf (Elt Ideal) ℓ) (ρ : Dev nD → PrngReg)

abbrev ms0_0 (t : Fin cfg0.N) : Memref sig .tc .vmem S2048x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2048x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048x2 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x2048x2 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2048x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2048x128 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S2048x128 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x2x2048 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x2048x2 .f32 := win0_12.stage (cfg0.slots t 12)
abbrev hs0_12 (t : Fin cfg0.N) : (ms0_12 t).IsWhole := hstage0_12 ((cfg0.slots t 12).cast nbuf0_12)
abbrev sc0_0 : Memref sig .tc .vmem S2048x128 .f32 := Memref.whole cc0_scratch0
abbrev sc0_1 : Memref sig .tc .vmem S2048x128 .f32 := Memref.whole cc0_scratch1

/-- A grid point's operands, read from its blocks. -/
def pt (c : Dev nD) (t : Fin cfg0.N) : In :=
  inOf (iblk m c 0 t) (iblk m c 1 t) (iblk m c 2 t) (iblk m c 3 t) (iblk m c 4 t) (iblk m c 5 t) (iblk m c 6 t) (iblk m c 7 t)

/-- The proof data on core `c`: the arrays as the region finds them, the inputs' blocks left in place, the results at the values named,
    the scratch at anything, each array's share dealt among the windows on it, nothing owed. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (pt m c t).outQ
    | ⟨9, _⟩ => (pt m c t).outK
    | ⟨10, _⟩ => (pt m c t).outV
    | ⟨11, _⟩ => (pt m c t).outF
    | ⟨12, _⟩ => (pt m c t).outS
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  before0_7_of m (dats m 0 c) (A_eq m c 7) (after0_7 m c) t d
theorem after0_8 (c : Dev nD) (t : Fin cfg0.N) : (dats m 0 c).after 8 t = (pt m c t).outQ := by dsimp only [dats]
theorem after0_9 (c : Dev nD) (t : Fin cfg0.N) : (dats m 0 c).after 9 t = (pt m c t).outK := by dsimp only [dats]
theorem after0_10 (c : Dev nD) (t : Fin cfg0.N) : (dats m 0 c).after 10 t = (pt m c t).outV := by dsimp only [dats]
theorem after0_11 (c : Dev nD) (t : Fin cfg0.N) : (dats m 0 c).after 11 t = (pt m c t).outF := by dsimp only [dats]
theorem after0_12 (c : Dev nD) (t : Fin cfg0.N) : (dats m 0 c).after 12 t = (pt m c t).outS := by dsimp only [dats]

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t))

/-- The body at the point: the two scratch blocks taken out of the invariant, `kernelRun`, the invariant closed. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, after0_0, after0_1, after0_2, after0_3, after0_4, after0_5, after0_6, after0_7, after0_8, after0_9, after0_10, after0_11, after0_12]
  simp only [before0_0, before0_1, before0_2, before0_3, before0_4, before0_5, before0_6, before0_7]
  unfold Pipeline.ΦA
  rw [scopedRest0_eq]
  iintro ⟨⟨⟨HS0, HS1⟩, Hg⟩, HO, ⟨%e0, H0⟩, ⟨%e1, H1⟩, ⟨%e2, H2⟩, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩⟩
  iapply (kernelRun c _ (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) sc0_0 (Memref.isWhole_whole _) sc0_1 (Memref.isWhole_whole _) (iblk m c 0 t) (iblk m c 1 t) (iblk m c 2 t) (iblk m c 3 t) (iblk m c 4 t) (iblk m c 5 t) (iblk m c 6 t) (iblk m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [HS0]
  · icases HS0 with ⟨%f, HS0⟩; iexists f; simp only [sc0_0, owns_whole]; iexact HS0
  isplitl [HS1]
  · icases HS1 with ⟨%f, HS1⟩; iexists f; simp only [sc0_1, owns_whole]; iexact HS1
  iintro ⟨H0, H1, H2, H3, H4, H5, H6, H7, H8, H9, H10, H11, H12, ⟨%g0, HS0⟩, ⟨%g1, HS1⟩⟩
  isplitl [HS0 HS1 Hg]
  · isplitl [HS0 HS1]
    · isplitl [HS0]
      · iexists g0; simp only [sc0_0, owns_whole]; iexact HS0
      iexists g1; simp only [sc0_1, owns_whole]; iexact HS1
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at the point is the body as `bodyAt0` spells it. -/
theorem defs₀_row (t : Fin cfg0.N) : defs₀ (F := Ideal) .tc cfg0.body (cfg0.bodyArgs t (cfg0.slots t)) = bodyAt0 t := by
  unfold defs₀; rw [Defs.onTc_tc]

/-- The library's body obligation with the results named. -/
theorem body_obligation (c : Dev nD) :
    BodyObligation (dats m 0 c) (defs₀ (F := Ideal)) Variants.none () Set.univ := fun t => by
  rw [bigSep_W0, bigSep_W0, defs₀_row]
  exact triple_restated (sound_body m c t) rfl .rfl fun _ => .rfl

/-! ## The launch -/

-- the launch theorem's implicit arguments are found by unifying its conclusion with this statement, which unifies only
-- when unification may unfold plain definitions in a metavariable's type
set_option backward.isDefEq.respectTransparency.types false in
/-- From any memory with zero counters every weakly fair execution terminates, every window's array at what the blocks
    written into it make of what the region found there, every other buffer as the region found it, every counter at zero. -/
theorem run_main :
    θ_run defs (onTc (τ := τ) (main (F := Ideal))) (s₀ m ρ)
      (fun r => Pipeline.FramePost cfgs (dats m) (0 : Fin 1) (V m) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

variable {m ρ}

/-- After the run an input window's array holds what the region found there. -/
theorem final_in {r : PUnit × MemSt nD τ sig (Elt Ideal)}
    (h : Pipeline.FramePost cfgs (dats m) (0 : Fin 1) (V m) r) (c : Dev nD)
    (w : Fin 13) (ho : (cfg0.win w).isOut = false) :
    r.2.mem ((spec0 w).arr.view.loc (c : Thread nD τ)) = V m c (Pipeline.arrRef spec0 w) :=
  ((h c).1 w).trans (((dats m 0 c).arrAt_in w ho cfg0.N).trans (A_eq m c w))

/-- The arguments after the run are the arguments before it. -/
theorem args_kept {r : PUnit × MemSt nD τ sig (Elt Ideal)}
    (h : Pipeline.FramePost cfgs (dats m) (0 : Fin 1) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨(final_in h c 0 rfl).trans (V_main_arg0 m c),
    ((h c).2 main_arg1 (Pipeline.mem_restRefs_of main_arg1 (by decide) (by decide))).trans (V_main_arg1 m c),
    (final_in h c 4 rfl).trans (V_main_arg2 m c)⟩

/-- THE FRAME: every execution terminates, the arguments unchanged and every counter at zero. -/
theorem frame (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨args_kept h.1, h.2⟩) (run_main m ρ)

end Cert.Proof.KernelIdeal

end
-- ==== Proof.Entry.lean ====
/-
  The host lines before the kernel's call: what its operands hold when the call starts.
-/
module

public import proofs.«01_k».proof.Proof.Gen.KernelIdeal.Frame
public import proofs.«01_k».proof.Proof.Gen.ReferenceIdeal.Read
public import Idealize.ShloMosaic.Lib.Tactic
public import Idealize.ShloMosaic.Lib.Claim
public import Idealize.ShloMosaic.Lib.StableHlo.ReadAt

@[expose] public section

noncomputable section

namespace Cert.Proof.Host

open Cert.KernelIdeal Cert.KernelIdeal.Gen
open Idealize.ShloMosaic Idealize.ShloMosaic.TcCoe Idealize.ShloMosaic.Tactic
open Cert.ReferenceIdeal.Read (val_main_v8 val_main_v27_0 val_main_v28)

variable (x0 : (⟨S2048x1536, .bf16⟩ : BufTy).Contents (Elt Ideal)) (x1 : (⟨S2048x8, .f32⟩ : BufTy).Contents (Elt Ideal))

/-- The row maxima of the masked scores, one column. -/
def top : FVec Ideal S8x2048x1 .f32 := broadcastInDim S8x2048x1 ![0, 1] bcast_S8x2048_S8x2048x1_0_1 (val_main_v28 x0 x1 : FVec Ideal S8x2048 .f32)
/-- The exponentials of the masked scores less their row's maximum. -/
def ex : FVec Ideal S8x2048x2048 .f32 :=
  Host.exp (subf (val_main_v27_0 x0 x1 : FVec Ideal S8x2048x2048 .f32) (broadcastInDim S8x2048x2048 ![0, 1, 2] bcast_S8x2048x1_S8x2048x2048_0_1_2 (top x0 x1)))
/-- Their row sums, one column. -/
def tot : FVec Ideal S8x2048x1 .f32 :=
  broadcastInDim S8x2048x1 ![0, 1] bcast_S8x2048_S8x2048x1_0_1
    (Host.reduceAdd (F := Ideal) (ex x0 x1) (constant (F := Ideal) S_ .f32 0x00000000#32) reducesTo_S8x2048x2048_S8x2048_d2 h_S_)
/-- The attention's output. -/
def out : FVec Ideal S2048x512 .f32 :=
  shapeCast S2048x512 (transpose S2048x8x64 [2, 0, 1]
    (Host.dotGeneral (φ₁ := .f32) (φ₂ := .f32) dot_S2048x8x64_S8x2048x2048_S8x64x2048_0_2_2_1_1_0 none (val_main_v8 x0 : FVec Ideal S2048x8x64 .f32)
      (Host.divf (ex x0 x1) (broadcastInDim S8x2048x2048 ![0, 1, 2] bcast_S8x2048x1_S8x2048x2048_0_1_2 (tot x0 x1))))
    transposes_S8x64x2048_S2048x8x64_2_0_1) shapeCasts_S2048x8x64_S2048x512
/-- Each row's log-sum. -/
def lse : FVec Ideal S4x2048x2 .f32 :=
  transpose S4x2048x2 [0, 2, 1] (shapeCast S4x2x2048 (addf (top x0 x1) (Host.log (tot x0 x1))) shapeCasts_S8x2048x1_S4x2x2048)
    transposes_S4x2x2048_S4x2048x2_0_2_1
/-- The gates by rows. -/
def fcol : FVec Ideal S4x2048x2 .f32 :=
  transpose S4x2048x2 [1, 0, 2] (shapeCast S2048x4x2 (x1 : FVec Ideal S2048x8 .f32) shapeCasts_S2048x8_S2048x4x2) transposes_S2048x4x2_S4x2048x2_1_0_2
/-- The gates by columns. -/
def frow : FVec Ideal S4x2x2048 .f32 :=
  shapeCast S4x2x2048 (transpose S8x2048 [1, 0] (x1 : FVec Ideal S2048x8 .f32) transposes_S2048x8_S8x2048_1_0) shapeCasts_S8x2048_S4x2x2048

variable (m : (ℓ : Loc nD τ sig) → Buf (Elt Ideal) ℓ) (c : Dev nD)

set_option maxHeartbeats 4000000 in
theorem V_out : V m c main_v39 = out (m ((c : Thread nD τ).loc main_arg0)) (m ((c : Thread nD τ).loc main_arg1)) := by
  unfold V
  simp only [hostOps0, hostOps0_1, hostOps0_2, List.flatten_cons, List.flatten_nil, List.append_nil, List.cons_append, List.nil_append]
  after_reads_simp
  simp -implicitDefEqProofs only [StableHlo.TRef.toBuf, StableHlo.TRef.ofBuf, cast_cast, cast_eq]
  rfl

set_option maxHeartbeats 4000000 in
theorem V_lse : V m c main_v43 = lse (m ((c : Thread nD τ).loc main_arg0)) (m ((c : Thread nD τ).loc main_arg1)) := by
  unfold V
  simp only [hostOps0, hostOps0_1, hostOps0_2, List.flatten_cons, List.flatten_nil, List.append_nil, List.cons_append, List.nil_append]
  after_reads_simp
  simp -implicitDefEqProofs only [StableHlo.TRef.toBuf, StableHlo.TRef.ofBuf, cast_cast, cast_eq]
  rfl

set_option maxHeartbeats 4000000 in
theorem V_fcol : V m c main_v45 = fcol (m ((c : Thread nD τ).loc main_arg1)) := by
  unfold V
  simp only [hostOps0, hostOps0_1, hostOps0_2, List.flatten_cons, List.flatten_nil, List.append_nil, List.cons_append, List.nil_append]
  after_reads_simp
  rfl

set_option maxHeartbeats 4000000 in
theorem V_frow : V m c main_v47 = frow (m ((c : Thread nD τ).loc main_arg1)) := by
  unfold V
  simp only [hostOps0, hostOps0_1, hostOps0_2, List.flatten_cons, List.flatten_nil, List.append_nil, List.cons_append, List.nil_append]
  after_reads_simp
  rfl

end Cert.Proof.Host

end
-- ==== Proof.Real.lean ====
/-
  The forgetting attention's backward pass over the reals: the weights, the scores' gradient, and the two ways of writing them.
-/
module

public import Idealize.ShloMosaic.PureOps
public import Mathlib.Analysis.SpecialFunctions.Log.Basic
public import Mathlib.Algebra.BigOperators.Field

@[expose] public section

noncomputable section

namespace Cert.Proof.Math

/-- The problem's operands as real numbers, by head, row and lane, and a number subtracted from each row's scores. -/
structure Data where
  q : Fin 8 → Fin 2048 → Fin 64 → ℝ
  k : Fin 8 → Fin 2048 → Fin 64 → ℝ
  v : Fin 8 → Fin 2048 → Fin 64 → ℝ
  d : Fin 8 → Fin 2048 → Fin 64 → ℝ
  f : Fin 8 → Fin 2048 → ℝ
  top : Fin 8 → Fin 2048 → ℝ

namespace Data

variable (X : Data) (h : Fin 8) (r c : Fin 2048)

/-- The score. -/
def sc : ℝ := (∑ i, X.q h r i * X.k h c i) * (1 / 8) + X.f h r - X.f h c
/-- The exponential of the score less the row's number, zero past the diagonal. -/
def ex : ℝ := if c ≤ r then Real.exp (X.sc h r c - X.top h r) else 0
/-- The row's sum of these. -/
def tot : ℝ := ∑ c, X.ex h r c
/-- The attention weight. -/
def p : ℝ := X.ex h r c / X.tot h r
/-- The weight's gradient. -/
def dp : ℝ := ∑ i, X.d h r i * X.v h c i
/-- The attention's output. -/
def out (i : Fin 64) : ℝ := ∑ c, X.v h c i * X.p h r c
/-- The row's sum of the weights times their gradients. -/
def dl : ℝ := ∑ c, X.p h r c * X.dp h r c
/-- The score's gradient. -/
def ds : ℝ := X.p h r c * (X.dp h r c - X.dl h r)

theorem ex_nonneg : 0 ≤ X.ex h r c := by
  unfold ex; split
  · exact (Real.exp_pos _).le
  · exact le_rfl

theorem tot_pos : 0 < X.tot h r :=
  lt_of_lt_of_le (by unfold ex; rw [if_pos le_rfl]; exact Real.exp_pos _ : 0 < X.ex h r r)
    (Finset.single_le_sum (f := fun c => X.ex h r c) (fun c _ => X.ex_nonneg h r c) (Finset.mem_univ r))

theorem p_zero {r c : Fin 2048} (hc : ¬ c ≤ r) : X.p h r c = 0 := by unfold p ex; rw [if_neg hc, zero_div]
theorem ds_zero {r c : Fin 2048} (hc : ¬ c ≤ r) : X.ds h r c = 0 := by unfold ds; rw [X.p_zero h hc, zero_mul]

/-- The output gradient against the output is the row's sum of the weights times their gradients. -/
theorem dl_out : ∑ i, X.d h r i * X.out h r i = X.dl h r := by
  unfold out dl dp
  simp only [Finset.mul_sum]
  rw [Finset.sum_comm]
  exact Finset.sum_congr rfl fun c _ => Finset.sum_congr rfl fun i _ => by ring

/-- The weight from the row's log-sum. -/
theorem p_exp {r c : Fin 2048} (hc : c ≤ r) : Real.exp (X.sc h r c - (X.top h r + Real.log (X.tot h r))) = X.p h r c := by
  unfold p ex
  rw [if_pos hc, ← sub_sub, Real.exp_sub, Real.exp_log (X.tot_pos h r)]

/-- The score's gradient through the quotient of the exponential by its row's sum. -/
theorem ds_quot : (X.dp h r c / X.tot h r + -(∑ c, X.dp h r c * (1 / (X.tot h r * X.tot h r)) * X.ex h r c)) * X.ex h r c = X.ds h r c := by
  have ht := (X.tot_pos h r).ne'
  have hs : ∑ c, X.dp h r c * (1 / (X.tot h r * X.tot h r)) * X.ex h r c = X.dl h r / X.tot h r := by
    unfold dl p
    rw [Finset.sum_div]
    exact Finset.sum_congr rfl fun c _ => by field_simp
  rw [hs]
  unfold ds p
  field_simp
  ring

end Data

/-- A sum of real numbers is the same sum among the extended reals. -/
theorem coe_sum {ι : Type*} (s : Finset ι) (g : ι → ℝ) : ∑ i ∈ s, (g i : EReal) = ((∑ i ∈ s, g i : ℝ) : EReal) := by
  classical
  induction s using Finset.induction_on with
  | empty => simp
  | insert a s ha ih => rw [Finset.sum_insert ha, Finset.sum_insert ha, ih, EReal.coe_add]

end Cert.Proof.Math

end
-- ==== Proof.Ref.lean ====
/-
  The reference's stages at an index, as real numbers.
-/
module

public import proofs.«01_k».proof.Proof.Real
public import proofs.«01_k».proof.Proof.Gen.ReferenceIdeal.Read
public import Idealize.ShloMosaic.Lib.Pointwise
public import Mathlib.Data.Finset.Fold

@[expose] public section

noncomputable section

namespace Cert.Proof.Ref

open Cert.ReferenceIdeal Cert.ReferenceIdeal.Gen Cert.ReferenceIdeal.Read
open Idealize.ShloMosaic Idealize.ShloMosaic.TcCoe Idealize.ShloMosaic.Tactic
open Cert.Proof.Math

/-- Lane `i` of head `h`. -/
abbrev lane (h : Fin 8) (i : Fin 64) : Fin 512 := ⟨64 * h.val + i.val, by omega⟩
/-- Lane `i` of head `h` of the queries', the keys' and the values' part of the joined projection. -/
abbrev laneQ (h : Fin 8) (i : Fin 64) : Fin 1536 := ⟨64 * h.val + i.val, by omega⟩
abbrev laneK (h : Fin 8) (i : Fin 64) : Fin 1536 := ⟨512 + (64 * h.val + i.val), by omega⟩
abbrev laneV (h : Fin 8) (i : Fin 64) : Fin 1536 := ⟨1024 + (64 * h.val + i.val), by omega⟩

/-- The arrays hold the real numbers of `X`. -/
structure Rep (X : Data) (x0 : FVec Ideal S2048x1536 .bf16) (x1 : FVec Ideal S2048x8 .f32) (x2 : FVec Ideal S2048x512 .f32) : Prop where
  q : ∀ h r i, x0 (ix2 r (laneQ h i)) = (X.q h r i : EReal)
  k : ∀ h r i, x0 (ix2 r (laneK h i)) = (X.k h r i : EReal)
  v : ∀ h r i, x0 (ix2 r (laneV h i)) = (X.v h r i : EReal)
  f : ∀ h r, x1 (ix2 r h) = (X.f h r : EReal)
  d : ∀ h r i, x2 (ix2 r (lane h i)) = (X.d h r i : EReal)

variable {X : Data} {x0 : FVec Ideal S2048x1536 .bf16} {x1 : FVec Ideal S2048x8 .f32} {x2 : FVec Ideal S2048x512 .f32}

theorem ofBits_eighth : Ideal.ofBits .f32 0x3E000000#32 = ((1 / 8 : ℝ) : EReal) := by
  simp [Ideal.ofBits, Ideal.ieee, -EReal.coe_mul]; norm_num
theorem ofBits_zero : Ideal.ofBits .f32 0x00000000#32 = 0 := by simp [Ideal.ofBits, Ideal.ieee]
theorem ofBits_one : Ideal.ofBits .f32 0x3F800000#32 = ((1 : ℝ) : EReal) := by
  simp [Ideal.ofBits, Ideal.ieee, -EReal.coe_mul]; norm_num
theorem ofBits_bot : Ideal.ofBits .f32 0xFF800000#32 = ⊥ := by simp [Ideal.ofBits, Ideal.ieee]

section
variable (H : Rep X x0 x1 x2)
include H

theorem v2_at (h : Fin 8) (r : Fin 2048) (i : Fin 64) : val_main_v2 (F := Ideal) x0 (ix3 r h i) = (X.q h r i : EReal) := by
  rw [val_main_v2_apply, val_main_v1_apply, val_main_v0_apply]
  refine Eq.trans (congrArg x0 (funext fun a => Fin.ext ?_)) (H.q h r i)
  match a with
  | ⟨0, _⟩ => show ((r.val * 8 + h.val) * 64 + i.val) / 512 = r.val; omega
  | ⟨1, _⟩ => show ((r.val * 8 + h.val) * 64 + i.val) % 512 = 64 * h.val + i.val; omega

theorem v5_at (h : Fin 8) (r : Fin 2048) (i : Fin 64) : val_main_v5 (F := Ideal) x0 (ix3 r h i) = (X.k h r i : EReal) := by
  rw [val_main_v5_apply, val_main_v4_apply, val_main_v3_apply]
  refine Eq.trans (congrArg x0 (funext fun a => Fin.ext ?_)) (H.k h r i)
  match a with
  | ⟨0, _⟩ => show ((r.val * 8 + h.val) * 64 + i.val) / 512 = r.val; omega
  | ⟨1, _⟩ => show 512 + ((r.val * 8 + h.val) * 64 + i.val) % 512 = 512 + (64 * h.val + i.val); omega

theorem v8_at (h : Fin 8) (r : Fin 2048) (i : Fin 64) : val_main_v8 (F := Ideal) x0 (ix3 r h i) = (X.v h r i : EReal) := by
  rw [val_main_v8_apply, val_main_v7_apply, val_main_v6_apply]
  refine Eq.trans (congrArg x0 (funext fun a => Fin.ext ?_)) (H.v h r i)
  match a with
  | ⟨0, _⟩ => show ((r.val * 8 + h.val) * 64 + i.val) / 512 = r.val; omega
  | ⟨1, _⟩ => show 1024 + ((r.val * 8 + h.val) * 64 + i.val) % 512 = 1024 + (64 * h.val + i.val); omega

theorem v59_at (h : Fin 8) (r : Fin 2048) (i : Fin 64) : val_main_v59 (F := Ideal) x2 (ix3 h i r) = (X.d h r i : EReal) := by
  rw [val_main_v59_apply, val_main_v58_apply]
  refine Eq.trans (congrArg x2 (funext fun a => Fin.ext ?_)) (H.d h r i)
  match a with
  | ⟨0, _⟩ => show ((r.val * 8 + h.val) * 64 + i.val) / 512 = r.val; omega
  | ⟨1, _⟩ => show ((r.val * 8 + h.val) * 64 + i.val) % 512 = 64 * h.val + i.val; omega

theorem v9_at (h : Fin 8) (r c : Fin 2048) : val_main_v9 (F := Ideal) x0 (ix3 h r c) = ((∑ i, X.q h r i * X.k h c i : ℝ) : EReal) := by
  rw [val_main_v9_apply, ← coe_sum]
  refine Finset.sum_congr rfl fun i _ => ?_
  rw [EReal.coe_mul, ← v2_at H h r i, ← v5_at H h c i]
  exact congrArg₂ (fun a b => val_main_v2 (F := Ideal) x0 a * val_main_v5 (F := Ideal) x0 b) (eq_ix3 _) (eq_ix3 _)

theorem v19_at (h : Fin 8) (r c : Fin 2048) : val_main_v19 (F := Ideal) x0 x1 (ix3 h r c) = (X.sc h r c : EReal) := by
  rw [val_main_v19_apply, val_main_v15_apply, val_main_v11_apply, v9_at H, val_main_v10_apply, val_main_cst_apply,
    val_main_v14_apply, val_main_v13_apply, val_main_v12_apply, val_main_v18_apply, val_main_v17_apply, val_main_v16_apply]
  have e1 := (congrArg x1 (eq_ix2 (idx_main_v12 (idx_main_v13 (idx_main_v14 (ix3 h r c)))))).trans (H.f h r)
  have e2 := (congrArg x1 (eq_ix2 (idx_main_v16 (idx_main_v17 (idx_main_v18 (ix3 h r c)))))).trans (H.f h c)
  rw [e1, e2]
  show ((∑ i, X.q h r i * X.k h c i : ℝ) : EReal) * Ideal.ofBits .f32 0x3E000000#32 + (X.f h r : EReal) - (X.f h c : EReal) = _
  rw [ofBits_eighth, ← EReal.coe_mul, ← EReal.coe_add, ← EReal.coe_sub]; rfl

end

theorem mask_at (h : Fin 8) (r c : Fin 2048) {α : Type} (a b : α) :
    Scalar.select (val_main_v27_1 (F := Ideal) (ix3 h r c)) a b = if c ≤ r then a else b := by
  rw [val_main_v27_1_apply, val_main_v26_apply, val_main_v24_apply, val_main_v25_apply, val_main_v21_apply, val_main_v23_apply,
    val_main_v20_apply, val_main_v22_apply]
  show Scalar.select (IntOp.cmpi .sge (BitVec.ofNat 32 r.val) (BitVec.ofNat 32 c.val)) a b = _
  have hr : (BitVec.ofNat 32 r.val).toInt = r.val := by
    rw [BitVec.toInt_eq_toNat_of_lt (by simp only [BitVec.toNat_ofNat]; omega)]; simp only [BitVec.toNat_ofNat]; omega
  have hc : (BitVec.ofNat 32 c.val).toInt = c.val := by
    rw [BitVec.toInt_eq_toNat_of_lt (by simp only [BitVec.toNat_ofNat]; omega)]; simp only [BitVec.toNat_ofNat]; omega
  by_cases hcr : c ≤ r
  · rw [if_pos hcr]
    have : IntOp.cmpi .sge (BitVec.ofNat 32 r.val) (BitVec.ofNat 32 c.val) = 1#1 := by
      simp only [IntOp.cmpi, BitVec.sle, hr, hc]; rw [decide_eq_true (by exact_mod_cast hcr)]; rfl
    rw [this]; rfl
  · rw [if_neg hcr]
    have : IntOp.cmpi .sge (BitVec.ofNat 32 r.val) (BitVec.ofNat 32 c.val) = 0#1 := by
      simp only [IntOp.cmpi, BitVec.sle, hr, hc]; rw [decide_eq_false (by exact_mod_cast hcr)]; rfl
    rw [this]; rfl

theorem v27_at (H : Rep X x0 x1 x2) (h : Fin 8) (r c : Fin 2048) :
    val_main_v27_0 (F := Ideal) x0 x1 (ix3 h r c) = if c ≤ r then (X.sc h r c : EReal) else ⊥ := by
  rw [val_main_v27_0_apply, mask_at, v19_at H, val_main_call0_v2_apply, val_main_call0_v0_apply, val_main_cst_0_apply]
  rw [Ideal.ofBits_def, ofBits_bot]

theorem v28_at (h : Fin 8) (r : Fin 2048) : val_main_v28 (F := Ideal) x0 x1 (ix2 h r)
    = Finset.univ.fold max ⊥ fun c : Fin 2048 => val_main_v27_0 (F := Ideal) x0 x1 (ix3 h r c) := by
  unfold val_main_v28
  generalize val_main_v27_0 (F := Ideal) x0 x1 = y
  have e : val_main_cst_1 (F := Ideal) (Shape.Idx.first h_S_) = ⊥ := by rw [val_main_cst_1_apply, Ideal.ofBits_def, ofBits_bot]
  simp only [pointwise]
  rw [e]

/-- A row's maximum is a real number. -/
theorem v28_real (H : Rep X x0 x1 x2) (h : Fin 8) (r : Fin 2048) :
    val_main_v28 (F := Ideal) x0 x1 (ix2 h r) = ((val_main_v28 (F := Ideal) x0 x1 (ix2 h r) : EReal).toReal : EReal) := by
  refine (EReal.coe_toReal ?_ ?_).symm
  · rw [v28_at]
    refine ne_of_lt ((Finset.fold_max_lt _).mpr ⟨bot_lt_top, fun c _ => ?_⟩)
    rw [v27_at H]; split
    · exact EReal.coe_lt_top _
    · exact bot_lt_top
  · rw [v28_at]
    refine ne_of_gt ((Finset.lt_fold_max _).mpr (Or.inr ⟨r, Finset.mem_univ _, ?_⟩))
    rw [v27_at H, if_pos le_rfl]; exact EReal.bot_lt_coe _

section
variable (H : Rep X x0 x1 x2) (htop : ∀ h r, val_main_v28 (F := Ideal) x0 x1 (ix2 h r) = (X.top h r : EReal))
include H htop

theorem v48_at (h : Fin 8) (r c : Fin 2048) : val_main_v48 (F := Ideal) x0 x1 (ix3 h r c) = (X.ex h r c : EReal) := by
  rw [val_main_v48_apply, val_main_v47_apply, v27_at H, val_main_v46_apply, val_main_v45_apply, val_main_v35_apply,
    val_main_v34_apply, val_main_cst_3_apply]
  have e := (congrArg (val_main_v28 (F := Ideal) x0 x1) (eq_ix2 (idx_main_v45 (idx_main_v46 (ix3 h r c))))).trans (htop h r)
  rw [e]
  show Ideal.exp ((if c ≤ r then (X.sc h r c : EReal) else ⊥) - max (Ideal.ofBits .f32 0xFF800000#32) (X.top h r : EReal)) = _
  rw [ofBits_bot, max_eq_right bot_le]
  unfold Data.ex
  split
  · rw [← EReal.coe_sub, Ideal.exp_coe]
  · rw [EReal.bot_sub, Ideal.exp_bot, EReal.coe_zero]

theorem v49_at (h : Fin 8) (r : Fin 2048) : val_main_v49 (F := Ideal) x0 x1 (ix2 h r) = (X.tot h r : EReal) := by
  rw [val_main_v49_apply, val_main_cst_9_apply, Ideal.ofBits_def, ofBits_zero, zero_add]
  unfold Data.tot
  rw [← coe_sum]
  exact Finset.sum_congr rfl fun c _ => (congrArg (val_main_v48 (F := Ideal) x0 x1) (eq_ix3 _)).trans (v48_at H htop h r c)

theorem v50_at (h : Fin 8) (r : Fin 2048) : val_main_v50 (F := Ideal) x0 x1 (ix3 h r 0) = (X.tot h r : EReal) := by
  rw [val_main_v50_apply]
  exact (congrArg (val_main_v49 (F := Ideal) x0 x1) (eq_ix2 _)).trans (v49_at H htop h r)

theorem v52_at (h : Fin 8) (r c : Fin 2048) : val_main_v52 (F := Ideal) x0 x1 (ix3 h r c) = (X.p h r c : EReal) := by
  rw [val_main_v52_apply, v48_at H htop, val_main_v51_apply]
  rw [(congrArg (val_main_v50 (F := Ideal) x0 x1) (eq_ix3 (idx_main_v51 (ix3 h r c)))).trans (v50_at H htop h r)]
  show Ideal.div (X.ex h r c : EReal) (X.tot h r : EReal) = _
  rw [Ideal.div_coe (X.tot_pos h r).ne', ← EReal.coe_mul, mul_one_div]; rfl

theorem v60_at (h : Fin 8) (r c : Fin 2048) : val_main_v60 (F := Ideal) x0 x2 (ix3 h r c) = (X.dp h r c : EReal) := by
  rw [val_main_v60_apply]
  unfold Data.dp
  rw [← coe_sum]
  refine Finset.sum_congr rfl fun i _ => ?_
  rw [EReal.coe_mul, ← v59_at H h r i, ← v8_at H h c i]
  exact congrArg₂ (fun a b => val_main_v59 (F := Ideal) x2 a * val_main_v8 (F := Ideal) x0 b) (eq_ix3 _) (eq_ix3 _)

theorem v55_at (h : Fin 8) (r : Fin 2048) : val_main_v55 (F := Ideal) x0 x1 (ix3 h r 0) = ((1 / (X.tot h r * X.tot h r) : ℝ) : EReal) := by
  rw [val_main_v55_apply, val_main_v54_apply, val_main_cst_10_apply, val_main_v53_apply, v50_at H htop]
  show Ideal.div (Ideal.ofBits .f32 0x3F800000#32) ((X.tot h r : EReal) * (X.tot h r : EReal)) = _
  rw [ofBits_one, ← EReal.coe_mul, Ideal.div_coe (mul_pos (X.tot_pos h r) (X.tot_pos h r)).ne', ← EReal.coe_mul, one_mul]

theorem v66_at (h : Fin 8) (r : Fin 2048) : val_main_v66 (F := Ideal) x0 x1 x2 (ix2 h r)
    = ((∑ c, X.dp h r c * (1 / (X.tot h r * X.tot h r)) * X.ex h r c : ℝ) : EReal) := by
  rw [val_main_v66_apply, val_main_cst_11_apply, Ideal.ofBits_def, ofBits_zero, zero_add, ← coe_sum]
  refine Finset.sum_congr rfl fun c _ => ?_
  refine (congrArg (val_main_v65 (F := Ideal) x0 x1 x2) (eq_ix3 _)).trans ?_
  show val_main_v65 (F := Ideal) x0 x1 x2 (ix3 h r c) = _
  rw [val_main_v65_apply, v48_at H htop, val_main_v64_apply, v60_at H htop, val_main_v63_apply]
  rw [(congrArg (val_main_v55 (F := Ideal) x0 x1) (eq_ix3 (idx_main_v63 (ix3 h r c)))).trans (v55_at H htop h r)]
  rw [EReal.coe_mul, EReal.coe_mul]; rfl

theorem v71_at (h : Fin 8) (r : Fin 2048) : val_main_v71 (F := Ideal) x0 x1 x2 (ix2 h r)
    = ((-(∑ c, X.dp h r c * (1 / (X.tot h r * X.tot h r)) * X.ex h r c) : ℝ) : EReal) := by
  rw [val_main_v71_apply, val_main_cst_12_apply, Ideal.ofBits_def, ofBits_zero, zero_add, Fin.sum_univ_one, val_main_v68_apply,
    val_main_v67_apply]
  have e := (congrArg (val_main_v66 (F := Ideal) x0 x1 x2) (a₁ := idx_main_v67 (idx_main_v71 (ix2 h r) 0)) (a₂ := ix2 h r) (funext fun a => Fin.ext (match a with
    | ⟨0, _⟩ => by show ((h.val * 2048 + r.val) * 1 + 0) / 2048 = h.val; omega
    | ⟨1, _⟩ => by show ((h.val * 2048 + r.val) * 1 + 0) % 2048 = r.val; omega))).trans (v66_at H htop h r)
  refine (congrArg _ e).trans ?_
  rw [EReal.coe_neg]; rfl

theorem v74_at (h : Fin 8) (r c : Fin 2048) : val_main_v74 (F := Ideal) x0 x1 x2 (ix3 h r c) = (X.ds h r c : EReal) := by
  rw [val_main_v74_apply, v48_at H htop, val_main_v73_apply, val_main_v70_apply, v60_at H htop, val_main_v69_apply, val_main_v72_apply]
  rw [(congrArg (val_main_v50 (F := Ideal) x0 x1) (eq_ix3 (idx_main_v69 (ix3 h r c)))).trans (v50_at H htop h r)]
  rw [(congrArg (val_main_v71 (F := Ideal) x0 x1 x2) (eq_ix2 (idx_main_v72 (ix3 h r c)))).trans (v71_at H htop h r)]
  show (Ideal.div (X.dp h r c : EReal) (X.tot h r : EReal) + _) * (X.ex h r c : EReal) = _
  rw [Ideal.div_coe (X.tot_pos h r).ne', ← EReal.coe_mul, ← EReal.coe_add, ← EReal.coe_mul, mul_one_div, X.ds_quot]

theorem v75_at (h : Fin 8) (r c : Fin 2048) : val_main_v75 (F := Ideal) x0 x1 x2 (ix3 h r c) = (X.ds h r c : EReal) := by
  rw [val_main_v75_apply, mask_at, v74_at H htop, val_main_call1_v0_apply, val_main_call1_cst_apply, Ideal.ofBits_def, ofBits_zero]
  split
  · rfl
  · next hc => rw [X.ds_zero h hc, EReal.coe_zero]

/-- The value gradient. -/
theorem v96_at (h : Fin 8) (c : Fin 2048) (i : Fin 64) : val_main_v96 (F := Ideal) x0 x1 x2 (ix2 c (lane h i))
    = ((∑ r, X.d h r i * X.p h r c : ℝ) : EReal) := by
  rw [val_main_v96_apply, val_main_v95_apply, val_main_v62_apply]
  refine (congrArg (val_main_v61 (F := Ideal) x0 x1 x2) (a₂ := ix3 h i c) (funext fun a => Fin.ext (match a with
    | ⟨0, _⟩ => by show (c.val * 512 + (64 * h.val + i.val)) / 64 % 8 = h.val; omega
    | ⟨1, _⟩ => by show (c.val * 512 + (64 * h.val + i.val)) % 64 = i.val; omega
    | ⟨2, _⟩ => by show (c.val * 512 + (64 * h.val + i.val)) / 512 = c.val; omega))).trans ?_
  rw [val_main_v61_apply, ← coe_sum]
  refine Finset.sum_congr rfl fun r _ => ?_
  rw [EReal.coe_mul, ← v59_at H h r i, ← v52_at H htop h r c]
  exact congrArg₂ (fun a b => val_main_v59 (F := Ideal) x2 a * val_main_v52 (F := Ideal) x0 x1 b) (eq_ix3 _) (eq_ix3 _)

theorem v86_at (h : Fin 8) (r c : Fin 2048) : val_main_v86 (F := Ideal) x0 x1 x2 (ix3 h r c) = ((X.ds h r c * (1 / 8) : ℝ) : EReal) := by
  rw [val_main_v86_apply, v75_at H htop, val_main_v85_apply, val_main_cst_17_apply, Ideal.ofBits_def, ofBits_eighth, EReal.coe_mul]; rfl

/-- The query gradient. -/
theorem v92_at (h : Fin 8) (r : Fin 2048) (i : Fin 64) : val_main_v92 (F := Ideal) x0 x1 x2 (ix2 r (lane h i))
    = ((∑ c, X.ds h r c * (1 / 8) * X.k h c i : ℝ) : EReal) := by
  rw [val_main_v92_apply, val_main_v91_apply, val_main_v90_apply]
  refine (congrArg (val_main_v89 (F := Ideal) x0 x1 x2) (a₂ := ix3 h r i) (funext fun a => Fin.ext (match a with
    | ⟨0, _⟩ => by show (r.val * 512 + (64 * h.val + i.val)) / 64 % 8 = h.val; omega
    | ⟨1, _⟩ => by show (r.val * 512 + (64 * h.val + i.val)) / 512 = r.val; omega
    | ⟨2, _⟩ => by show (r.val * 512 + (64 * h.val + i.val)) % 64 = i.val; omega))).trans ?_
  rw [val_main_v89_apply, ← coe_sum]
  refine Finset.sum_congr rfl fun c _ => ?_
  rw [EReal.coe_mul, ← v86_at H htop h r c, ← v5_at H h c i]
  exact congrArg₂ (fun a b => val_main_v86 (F := Ideal) x0 x1 x2 a * val_main_v5 (F := Ideal) x0 b) (eq_ix3 _) (eq_ix3 _)

/-- The key gradient. -/
theorem v94_at (h : Fin 8) (c : Fin 2048) (i : Fin 64) : val_main_v94 (F := Ideal) x0 x1 x2 (ix2 c (lane h i))
    = ((∑ r, X.ds h r c * (1 / 8) * X.q h r i : ℝ) : EReal) := by
  rw [val_main_v94_apply, val_main_v93_apply, val_main_v88_apply]
  refine (congrArg (val_main_v87 (F := Ideal) x0 x1 x2) (a₂ := ix3 h c i) (funext fun a => Fin.ext (match a with
    | ⟨0, _⟩ => by show (c.val * 512 + (64 * h.val + i.val)) / 64 % 8 = h.val; omega
    | ⟨1, _⟩ => by show (c.val * 512 + (64 * h.val + i.val)) / 512 = c.val; omega
    | ⟨2, _⟩ => by show (c.val * 512 + (64 * h.val + i.val)) % 64 = i.val; omega))).trans ?_
  rw [val_main_v87_apply, ← coe_sum]
  refine Finset.sum_congr rfl fun r _ => ?_
  rw [EReal.coe_mul, ← v86_at H htop h r c, ← v2_at H h r i]
  exact congrArg₂ (fun a b => val_main_v86 (F := Ideal) x0 x1 x2 a * val_main_v2 (F := Ideal) x0 b) (eq_ix3 _) (eq_ix3 _)

/-- Two heads make a group: head `e` of group `g`. -/
abbrev head (g : Fin 4) (e : Fin 2) : Fin 8 := ⟨2 * g.val + e.val, by omega⟩

theorem v77_at (h : Fin 8) (c : Fin 2048) : val_main_v77 (F := Ideal) x0 x1 x2 (ix2 h c) = ((-∑ r, X.ds h r c : ℝ) : EReal) := by
  rw [val_main_v77_apply, val_main_cst_13_apply, Ideal.ofBits_def, ofBits_zero, zero_add, ← Finset.sum_neg_distrib, ← coe_sum]
  refine Finset.sum_congr rfl fun r _ => ?_
  refine (congrArg (val_main_v76 (F := Ideal) x0 x1 x2) (eq_ix3 _)).trans ?_
  show val_main_v76 (F := Ideal) x0 x1 x2 (ix3 h r c) = _
  rw [val_main_v76_apply, v75_at H htop, EReal.coe_neg]; rfl

/-- The column gates' gradient. -/
theorem v98_at (g : Fin 4) (e : Fin 2) (c : Fin 2048) : val_main_v98 (F := Ideal) x0 x1 x2 (ix3 g e c)
    = ((-∑ r, X.ds (head g e) r c : ℝ) : EReal) := by
  rw [val_main_v98_apply, val_main_v97_apply, val_main_v80_apply]
  refine (congrArg (val_main_v79 (F := Ideal) x0 x1 x2) (a₂ := ix2 (head g e) c) (funext fun a => Fin.ext (match a with
    | ⟨0, _⟩ => by show ((g.val * 2 + e.val) * 2048 + c.val) / 2048 = 2 * g.val + e.val; omega
    | ⟨1, _⟩ => by show ((g.val * 2 + e.val) * 2048 + c.val) % 2048 = c.val; omega))).trans ?_
  rw [val_main_v79_apply, val_main_cst_14_apply, Ideal.ofBits_def, ofBits_zero, zero_add, Fin.sum_univ_one, val_main_v78_apply]
  refine (congrArg (val_main_v77 (F := Ideal) x0 x1 x2) (a₂ := ix2 (head g e) c) (funext fun a => Fin.ext (match a with
    | ⟨0, _⟩ => by show (((2 * g.val + e.val) * 1 + 0) * 2048 + c.val) / 2048 = 2 * g.val + e.val; omega
    | ⟨1, _⟩ => by show (((2 * g.val + e.val) * 1 + 0) * 2048 + c.val) % 2048 = c.val; omega))).trans ?_
  exact v77_at H htop _ c

theorem v81_at (h : Fin 8) (r : Fin 2048) : val_main_v81 (F := Ideal) x0 x1 x2 (ix2 h r) = ((∑ c, X.ds h r c : ℝ) : EReal) := by
  rw [val_main_v81_apply, val_main_cst_15_apply, Ideal.ofBits_def, ofBits_zero, zero_add, ← coe_sum]
  exact Finset.sum_congr rfl fun c _ => (congrArg (val_main_v75 (F := Ideal) x0 x1 x2) (eq_ix3 _)).trans (v75_at H htop h r c)

/-- The row gates' gradient. -/
theorem v100_at (g : Fin 4) (r : Fin 2048) (e : Fin 2) : val_main_v100 (F := Ideal) x0 x1 x2 (ix3 g r e)
    = ((∑ c, X.ds (head g e) r c : ℝ) : EReal) := by
  rw [val_main_v100_apply, val_main_v99_apply, val_main_v84_apply]
  refine (congrArg (val_main_v83 (F := Ideal) x0 x1 x2) (a₂ := ix2 (head g e) r) (funext fun a => Fin.ext (match a with
    | ⟨0, _⟩ => by show ((r.val * 4 + g.val) * 2 + e.val) % 8 = 2 * g.val + e.val; omega
    | ⟨1, _⟩ => by show ((r.val * 4 + g.val) * 2 + e.val) / 8 = r.val; omega))).trans ?_
  rw [val_main_v83_apply, val_main_cst_16_apply, Ideal.ofBits_def, ofBits_zero, zero_add, Fin.sum_univ_one, val_main_v82_apply]
  refine (congrArg (val_main_v81 (F := Ideal) x0 x1 x2) (a₂ := ix2 (head g e) r) (funext fun a => Fin.ext (match a with
    | ⟨0, _⟩ => by show (((2 * g.val + e.val) * 2048 + r.val) * 1 + 0) / 2048 = 2 * g.val + e.val; omega
    | ⟨1, _⟩ => by show (((2 * g.val + e.val) * 2048 + r.val) * 1 + 0) % 2048 = r.val; omega))).trans ?_
  exact v81_at H htop _ r

end

end Cert.Proof.Ref

end
-- ==== Proof.Operand.lean ====
/-
  The kernel's operands at an index, as real numbers.
-/
module

public import proofs.«01_k».proof.Proof.Entry
public import proofs.«01_k».proof.Proof.Ref

@[expose] public section

noncomputable section

namespace Cert.Proof.Host

open Cert.KernelIdeal Cert.KernelIdeal.Gen
open Idealize.ShloMosaic Idealize.ShloMosaic.TcCoe Idealize.ShloMosaic.Tactic
open Cert.ReferenceIdeal.Read (val_main_v8 val_main_v27_0 val_main_v28 val_main_v52 val_main_v56 val_main_v57 val_main_v56_apply val_main_v57_apply)
open Cert.Proof.Math Cert.Proof.Ref

variable {X : Data} {x0 : FVec Ideal S2048x1536 .bf16} {x1 : FVec Ideal S2048x8 .f32} {x2 : FVec Ideal S2048x512 .f32}

theorem fcol_at (H : Rep X x0 x1 x2) (g : Fin 4) (r : Fin 2048) (e : Fin 2) : fcol x1 (ix3 g r e) = (X.f (head g e) r : EReal) := by
  unfold fcol
  rw [transpose_apply [1, 0, 2] _ transposes_S2048x4x2_S4x2048x2_1_0_2 (ix3 g r e) (ix3 r g e) (fun b => match b with
    | ⟨0, _⟩ => rfl
    | ⟨1, _⟩ => rfl
    | ⟨2, _⟩ => rfl)]
  rw [shapeCast_apply _ shapeCasts_S2048x8_S2048x4x2 (ix3 r g e) (ix2 r (head g e))
    (by rewrite [Shape.rowMajor_val_three, Shape.rowMajor_val_two]; show r.val * 8 + (2 * g.val + e.val) = (r.val * 4 + g.val) * 2 + e.val; omega)]
  exact H.f _ r

theorem frow_at (H : Rep X x0 x1 x2) (g : Fin 4) (e : Fin 2) (c : Fin 2048) : frow x1 (ix3 g e c) = (X.f (head g e) c : EReal) := by
  unfold frow
  rw [shapeCast_apply _ shapeCasts_S8x2048_S4x2x2048 (ix3 g e c) (ix2 (head g e) c)
    (by rewrite [Shape.rowMajor_val_three, Shape.rowMajor_val_two]; show (2 * g.val + e.val) * 2048 + c.val = (g.val * 2 + e.val) * 2048 + c.val; omega)]
  rw [transpose_apply [1, 0] _ transposes_S2048x8_S8x2048_1_0 (ix2 (head g e) c) (ix2 c (head g e)) (fun b => match b with
    | ⟨0, _⟩ => rfl
    | ⟨1, _⟩ => rfl)]
  exact H.f _ c

/-- A sum with a host logarithm, read at an index. -/
theorem addf_log (a b : FVec Ideal S8x2048x1 .f32) (i : S8x2048x1.Idx) : addf a (Host.log b) i = a i + Ideal.log (b i) := rfl

section
variable (H : Rep X x0 x1 x2) (htop : ∀ h r, val_main_v28 (F := Ideal) x0 x1 (ix2 h r) = (X.top h r : EReal))
include H htop

theorem top_at (h : Fin 8) (r : Fin 2048) : top x0 x1 (ix3 h r 0) = (X.top h r : EReal) := by
  unfold top
  rw [broadcastInDim_apply _ bcast_S8x2048_S8x2048x1_0_1 _ (ix3 h r 0) (ix2 h r) (fun a => match a with
    | ⟨0, _⟩ => by show h.val = if (8 : Nat) = 1 then 0 else h.val; rw [if_neg (by decide)]
    | ⟨1, _⟩ => by show r.val = if (2048 : Nat) = 1 then 0 else r.val; rw [if_neg (by decide)])]
  exact htop h r

/-- A column broadcast along the rows. -/
theorem wide_at (y : FVec Ideal S8x2048x1 .f32) (h : Fin 8) (r c : Fin 2048) :
    broadcastInDim S8x2048x2048 ![0, 1, 2] bcast_S8x2048x1_S8x2048x2048_0_1_2 y (ix3 h r c) = y (ix3 h r 0) :=
  broadcastInDim_apply _ bcast_S8x2048x1_S8x2048x2048_0_1_2 y (ix3 h r c) (ix3 h r 0) (fun a => match a with
    | ⟨0, _⟩ => by show h.val = if (8 : Nat) = 1 then 0 else h.val; rw [if_neg (by decide)]
    | ⟨1, _⟩ => by show r.val = if (2048 : Nat) = 1 then 0 else r.val; rw [if_neg (by decide)]
    | ⟨2, _⟩ => by show 0 = if (1 : Nat) = 1 then 0 else c.val; rw [if_pos rfl])

theorem ex_at (h : Fin 8) (r c : Fin 2048) : ex x0 x1 (ix3 h r c) = (X.ex h r c : EReal) := by
  show Ideal.exp (val_main_v27_0 (F := Ideal) x0 x1 (ix3 h r c) - broadcastInDim S8x2048x2048 ![0, 1, 2] bcast_S8x2048x1_S8x2048x2048_0_1_2 (top x0 x1) (ix3 h r c)) = _
  rw [wide_at H htop, top_at H htop, v27_at H]
  unfold Data.ex
  split
  · rw [← EReal.coe_sub, Ideal.exp_coe]
  · rw [EReal.bot_sub, Ideal.exp_bot, EReal.coe_zero]

theorem tot_at (h : Fin 8) (r : Fin 2048) : tot x0 x1 (ix3 h r 0) = (X.tot h r : EReal) := by
  unfold tot
  rw [broadcastInDim_apply _ bcast_S8x2048_S8x2048x1_0_1 _ (ix3 h r 0) (ix2 h r) (fun a => match a with
    | ⟨0, _⟩ => by show h.val = if (8 : Nat) = 1 then 0 else h.val; rw [if_neg (by decide)]
    | ⟨1, _⟩ => by show r.val = if (2048 : Nat) = 1 then 0 else r.val; rw [if_neg (by decide)])]
  have e := fun c => ex_at H htop h r c
  generalize ex x0 x1 = y at e
  simp only [pointwise, Ideal.hostReduceAdd_def]
  unfold Data.tot
  rw [← coe_sum]
  exact (congrArg₂ (· + ·) rfl (Finset.sum_congr rfl fun c _ => e c)).trans (zero_add _)

/-- The weights the host computes are the reference's. -/
theorem quot_eq : Host.divf (ex x0 x1) (broadcastInDim S8x2048x2048 ![0, 1, 2] bcast_S8x2048x1_S8x2048x2048_0_1_2 (tot x0 x1))
    = (val_main_v52 (F := Ideal) x0 x1 : FVec Ideal S8x2048x2048 .f32) := by
  funext i
  obtain ⟨h, r, c, rfl⟩ : ∃ (h : Fin 8) (r c : Fin 2048), i = ix3 h r c := ⟨i 0, i 1, i 2, eq_ix3 i⟩
  refine Eq.trans ?_ (v52_at H htop h r c).symm
  show Ideal.div (ex x0 x1 (ix3 h r c)) (broadcastInDim S8x2048x2048 ![0, 1, 2] bcast_S8x2048x1_S8x2048x2048_0_1_2 (tot x0 x1) (ix3 h r c)) = _
  rw [wide_at H htop, tot_at H htop, ex_at H htop, Ideal.div_coe (X.tot_pos h r).ne', ← EReal.coe_mul, mul_one_div]; rfl

theorem out_at (h : Fin 8) (r : Fin 2048) (i : Fin 64) : out x0 x1 (ix2 r (lane h i)) = (X.out h r i : EReal) := by
  unfold out
  rw [quot_eq H htop]
  rw [shapeCast_apply _ shapeCasts_S2048x8x64_S2048x512 (ix2 r (lane h i)) (ix3 r h i)
    (by rewrite [Shape.rowMajor_val_three, Shape.rowMajor_val_two]; show (r.val * 8 + h.val) * 64 + i.val = r.val * 512 + (64 * h.val + i.val); omega)]
  show val_main_v57 (F := Ideal) x0 x1 (ix3 r h i) = _
  rw [val_main_v57_apply]
  refine (congrArg (val_main_v56 (F := Ideal) x0 x1) (eq_ix3 _)).trans ?_
  show val_main_v56 (F := Ideal) x0 x1 (ix3 h i r) = _
  rw [val_main_v56_apply]
  unfold Data.out
  rw [← coe_sum]
  refine Finset.sum_congr rfl fun c _ => ?_
  rw [EReal.coe_mul, ← v8_at H h c i, ← v52_at H htop h r c]
  exact congrArg₂ (fun a b => val_main_v8 (F := Ideal) x0 a * val_main_v52 (F := Ideal) x0 x1 b) (eq_ix3 _) (eq_ix3 _)

omit H htop in
theorem lse_pos (g : Fin 4) (r : Fin 2048) (e : Fin 2) :
    (Shape.rowMajor S8x2048x1 (ix3 (head g e) r 0)).val = (Shape.rowMajor S4x2x2048 (ix3 g e r)).val := by
  rewrite [Shape.rowMajor_val_three, Shape.rowMajor_val_three]
  show ((2 * g.val + e.val) * 2048 + r.val) * 1 + 0 = (g.val * 2 + e.val) * 2048 + r.val
  omega

theorem lse_at (g : Fin 4) (r : Fin 2048) (e : Fin 2) :
    lse x0 x1 (ix3 g r e) = ((X.top (head g e) r + Real.log (X.tot (head g e) r) : ℝ) : EReal) := by
  unfold lse
  rw [transpose_apply [0, 2, 1] _ transposes_S4x2x2048_S4x2048x2_0_2_1 (ix3 g r e) (ix3 g e r) (fun b => match b with
    | ⟨0, _⟩ => rfl
    | ⟨1, _⟩ => rfl
    | ⟨2, _⟩ => rfl)]
  rw [shapeCast_apply _ shapeCasts_S8x2048x1_S4x2x2048 (ix3 g e r) (ix3 (head g e) r 0)
    (lse_pos g r e)]
  rw [addf_log, top_at H htop, tot_at H htop, Ideal.log_coe, if_neg (not_le.mpr (X.tot_pos _ r)), EReal.coe_add]

end

end Cert.Proof.Host

end
-- ==== Proof.Twin.lean ====
/-
  One grid point whose operands are real numbers: its blocks as real sums, head by head.
-/
module

public import proofs.«01_k».proof.Proof.State
public import proofs.«01_k».proof.Proof.Ref

@[expose] public section

noncomputable section

namespace Cert.Proof.Value

open Idealize.ShloMosaic
open Cert.Proof.Math Cert.Proof.Ref

/-- The head of the pair a lane belongs to, and the lane's place in it. -/
abbrev side (l : Fin 128) : Fin 2 := ⟨l.val / 64, by omega⟩
abbrev spot (l : Fin 128) : Fin 64 := ⟨l.val % 64, by omega⟩

theorem half_side (l : Fin 128) : half l = (side l).val := rfl

/-- The operands of grid point `g` hold the real numbers of `X` at the heads `2g` and `2g + 1`. -/
structure Twin (x : In) (X : Data) (g : Fin 4) : Prop where
  q : ∀ (r : Fin 2048) l, x.q r.val l = (X.q (head g (side l)) r (spot l) : EReal)
  k : ∀ (r : Fin 2048) l, x.k r.val l = (X.k (head g (side l)) r (spot l) : EReal)
  v : ∀ (r : Fin 2048) l, x.v r.val l = (X.v (head g (side l)) r (spot l) : EReal)
  d : ∀ (r : Fin 2048) l, x.d r.val l = (X.d (head g (side l)) r (spot l) : EReal)
  o : ∀ (r : Fin 2048) l, x.o r.val l = (X.out (head g (side l)) r (spot l) : EReal)
  lse : ∀ (r : Fin 2048) (e : Fin 2), x.lse r.val e.val = ((X.top (head g e) r + Real.log (X.tot (head g e) r) : ℝ) : EReal)
  fc : ∀ (r : Fin 2048) (e : Fin 2), x.fc r.val e.val = (X.f (head g e) r : EReal)
  fr : ∀ (c : Fin 2048) (e : Fin 2), x.fr e.val c.val = (X.f (head g e) c : EReal)

/-- A sum over the lanes of one head of a pair is the sum over that head's lanes. -/
theorem lanes (e : Fin 2) (u : Fin 128 → EReal) (w : Fin 64 → ℝ) (h : ∀ l, side l = e → u l = (w (spot l) : EReal)) :
    (∑ l : Fin 128, if half l = e.val then u l else 0) = ((∑ i, w i : ℝ) : EReal) := by
  rw [← (finProdFinEquiv (m := 2) (n := 64)).sum_comp, Fintype.sum_prod_type, ← coe_sum]
  have hs : ∀ (a : Fin 2) (i : Fin 64), side (finProdFinEquiv (a, i)) = a := fun a i => Fin.ext (by
    show (i.val + 64 * a.val) / 64 = a.val; omega)
  have hp : ∀ (a : Fin 2) (i : Fin 64), spot (finProdFinEquiv (a, i)) = i := fun a i => Fin.ext (by
    show (i.val + 64 * a.val) % 64 = i.val; omega)
  rw [Finset.sum_eq_single e]
  · refine Finset.sum_congr rfl fun i _ => ?_
    rw [half_side, hs, if_pos rfl, h _ (hs e i), hp]
  · intro b _ hb
    refine Finset.sum_eq_zero fun i _ => ?_
    rw [half_side, hs, if_neg fun hh => hb (Fin.ext hh)]
  · intro hh; exact absurd (Finset.mem_univ e) hh

namespace Twin

variable {x : In} {X : Data} {g : Fin 4} (T : Twin x X g)
include T

theorem s_eq (e : Fin 2) (r c : Fin 2048) : x.s e.val r.val c.val = (X.sc (head g e) r c : EReal) := by
  unfold In.s In.qm Data.sc
  simp only [ite_mul, zero_mul]
  rw [lanes e (fun l => x.q r.val l * x.k c.val l) (fun i => X.q (head g e) r i * X.k (head g e) c i)
    (fun l hl => by rw [T.q, T.k, hl, EReal.coe_mul]), T.fc, T.fr, show κ8 = ((1 / 8 : ℝ) : EReal) from ofBits_eighth,
    ← EReal.coe_mul, ← EReal.coe_sub, ← EReal.coe_add, add_sub_assoc]

theorem p_eq (e : Fin 2) (r c : Fin 2048) : x.p e.val r.val c.val = (X.p (head g e) r c : EReal) := by
  unfold In.p
  by_cases hc : c ≤ r
  · rw [if_pos (show c.val ≤ r.val from hc), T.s_eq, T.lse, ← EReal.coe_sub, Ideal.exp_coe, X.p_exp _ hc]
  · rw [if_neg (show ¬ c.val ≤ r.val from hc), X.p_zero _ hc, EReal.coe_zero]

theorem dl_eq (e : Fin 2) (r : Fin 2048) : x.dl e.val r.val = (X.dl (head g e) r : EReal) := by
  unfold In.dl
  rw [lanes e (fun l => x.d r.val l * x.o r.val l) (fun i => X.d (head g e) r i * X.out (head g e) r i)
    (fun l hl => by rw [T.d, T.o, hl, EReal.coe_mul]), X.dl_out]

theorem ds_eq (e : Fin 2) (r c : Fin 2048) : x.ds e.val r.val c.val = (X.ds (head g e) r c : EReal) := by
  unfold In.ds In.dm Data.ds Data.dp
  simp only [ite_mul, zero_mul]
  rw [lanes e (fun l => x.d r.val l * x.v c.val l) (fun i => X.d (head g e) r i * X.v (head g e) c i)
    (fun l hl => by rw [T.d, T.v, hl, EReal.coe_mul]), T.p_eq, T.dl_eq, ← EReal.coe_sub, ← EReal.coe_mul]

theorem dq_eq (r : Fin 2048) (l : Fin 128) :
    x.dq r.val l = ((∑ c, X.ds (head g (side l)) r c * (1 / 8) * X.k (head g (side l)) c (spot l) : ℝ) : EReal) := by
  unfold In.dq
  rw [Finset.sum_range, ← coe_sum]
  refine Finset.sum_congr rfl fun c _ => ?_
  rw [half_side, T.ds_eq, T.k, show κ8 = ((1 / 8 : ℝ) : EReal) from ofBits_eighth, EReal.coe_mul, EReal.coe_mul]

theorem dk_eq (c : Fin 2048) (l : Fin 128) :
    x.dk 2048 c.val l = ((∑ r, X.ds (head g (side l)) r c * (1 / 8) * X.q (head g (side l)) r (spot l) : ℝ) : EReal) := by
  unfold In.dk
  rw [Finset.sum_range, ← coe_sum]
  refine Finset.sum_congr rfl fun r _ => ?_
  rw [half_side, T.ds_eq, T.q, show κ8 = ((1 / 8 : ℝ) : EReal) from ofBits_eighth, EReal.coe_mul, EReal.coe_mul]

theorem dv_eq (c : Fin 2048) (l : Fin 128) :
    x.dv 2048 c.val l = ((∑ r, X.d (head g (side l)) r (spot l) * X.p (head g (side l)) r c : ℝ) : EReal) := by
  unfold In.dv
  rw [Finset.sum_range, ← coe_sum]
  refine Finset.sum_congr rfl fun r _ => ?_
  rw [half_side, T.p_eq, T.d, mul_comm, EReal.coe_mul]

theorem dfq_eq (r : Fin 2048) (e : Fin 2) : x.dfq r.val e.val = ((∑ c, X.ds (head g e) r c : ℝ) : EReal) := by
  unfold In.dfq
  rw [Finset.sum_range, ← coe_sum]
  exact Finset.sum_congr rfl fun c _ => T.ds_eq e r c

/-- Taking the column sums from zero block by block takes their whole sum. -/
theorem dfk_eq (e : Fin 2) (c : Fin 2048) : x.dfk e.val c.val 4 = ((-∑ r, X.ds (head g e) r c : ℝ) : EReal) := by
  have step : ∀ i : ℕ, i ≤ 4 → x.dfk e.val c.val i
      = ((-∑ r ∈ Finset.range (512 * i), (if h : r < 2048 then X.ds (head g e) ⟨r, h⟩ c else 0) : ℝ) : EReal) := by
    intro i
    induction i with
    | zero => intro _; simp [In.dfk]
    | succ i ih =>
      intro hi
      have hb : subF x (512 * i) e.val c.val
          = ((∑ r ∈ Finset.range 512, (if h : 512 * i + r < 2048 then X.ds (head g e) ⟨512 * i + r, h⟩ c else 0) : ℝ) : EReal) := by
        unfold subF
        rw [Finset.sum_range, ← coe_sum]
        refine Finset.sum_congr rfl fun r _ => ?_
        have hr : 512 * i + r.val < 2048 := by omega
        rw [dif_pos hr]
        exact T.ds_eq e ⟨512 * i + r.val, hr⟩ c
      rw [In.dfk, ih (by omega), hb, ← EReal.coe_sub, show 512 * (i + 1) = 512 * i + 512 by ring, Finset.sum_range_add, neg_add,
        sub_eq_add_neg]
  rw [step 4 le_rfl, Finset.sum_range]
  refine congrArg (fun y : ℝ => ((-y : ℝ) : EReal)) (Finset.sum_congr rfl fun r _ => ?_)
  rw [dif_pos r.isLt]

end Twin

end Cert.Proof.Value

end
-- ==== Proof.Final.lean ====
/-
  The kernel's results after the run, entry by entry, as real numbers.
-/
module

public import proofs.«01_k».proof.Proof.Run
public import proofs.«01_k».proof.Proof.Operand
public import proofs.«01_k».proof.Proof.Twin
public import Idealize.ShloMosaic.Lib.Pipeline.ValueKit

@[expose] public section

noncomputable section

namespace Cert.Proof.KernelIdeal

open Cert.KernelIdeal Cert.KernelIdeal.Gen Cert.Proof.Value
open Idealize.ShloMosaic Idealize.ShloMosaic.TcCoe Idealize.ShloMosaic.Tactic
open Cert.Proof.Math Cert.Proof.Ref

variable (m : (ℓ : Loc nD τ sig) → Buf (Elt Ideal) ℓ) (c : Dev nD)

/-- The pair of heads of a grid point. -/
abbrev gp (t : Fin cfg0.N) : Fin 4 := ⟨t.val, t.isLt⟩

/-! ## The windows' block indices -/

theorem e0 : ∀ t : Fin cfg0.N, win0_0.index t = ![0, t.val] := (by decide +kernel : ∀ t : Fin grid0.N, _)
theorem e1 : ∀ t : Fin cfg0.N, win0_1.index t = ![0, 4 + t.val] := (by decide +kernel : ∀ t : Fin grid0.N, _)
theorem e2 : ∀ t : Fin cfg0.N, win0_2.index t = ![0, 8 + t.val] := (by decide +kernel : ∀ t : Fin grid0.N, _)
theorem e3 : ∀ t : Fin cfg0.N, win0_3.index t = ![0, t.val] := (by decide +kernel : ∀ t : Fin grid0.N, _)
theorem e4 : ∀ t : Fin cfg0.N, win0_4.index t = ![0, t.val] := (by decide +kernel : ∀ t : Fin grid0.N, _)
theorem e5 : ∀ t : Fin cfg0.N, win0_5.index t = ![t.val, 0, 0] := (by decide +kernel : ∀ t : Fin grid0.N, _)
theorem e6 : ∀ t : Fin cfg0.N, win0_6.index t = ![t.val, 0, 0] := (by decide +kernel : ∀ t : Fin grid0.N, _)
theorem e7 : ∀ t : Fin cfg0.N, win0_7.index t = ![t.val, 0, 0] := (by decide +kernel : ∀ t : Fin grid0.N, _)
theorem e8 : ∀ t : Fin cfg0.N, win0_8.index t = ![0, t.val] := (by decide +kernel : ∀ t : Fin grid0.N, _)
theorem e9 : ∀ t : Fin cfg0.N, win0_9.index t = ![0, t.val] := (by decide +kernel : ∀ t : Fin grid0.N, _)
theorem e10 : ∀ t : Fin cfg0.N, win0_10.index t = ![0, t.val] := (by decide +kernel : ∀ t : Fin grid0.N, _)
theorem e11 : ∀ t : Fin cfg0.N, win0_11.index t = ![t.val, 0, 0] := (by decide +kernel : ∀ t : Fin grid0.N, _)
theorem e12 : ∀ t : Fin cfg0.N, win0_12.index t = ![t.val, 0, 0] := (by decide +kernel : ∀ t : Fin grid0.N, _)

/-! ## The blocks the grid point reads -/

theorem iblk0 (t : Fin cfg0.N) (r : Fin 2048) (l : Fin 128) : iblk m c 0 t (ix2 r l)
    = (m ((c : Thread nD τ).loc main_arg0)) (ix2 r (laneQ (head (gp t) (side l)) (spot l))) := by
  blk_simp [iblk, e0]
  refine (congrFun (V_main_arg0 m c) _).trans (congrArg _ (funext fun a => Fin.ext ?_))
  match a with
  | ⟨0, _⟩ => blk_simp [e0]
  | ⟨1, _⟩ => blk_simp [e0]; show t.val * 128 + l.val = 64 * (2 * t.val + l.val / 64) + l.val % 64; omega

theorem iblk1 (t : Fin cfg0.N) (r : Fin 2048) (l : Fin 128) : iblk m c 1 t (ix2 r l)
    = (m ((c : Thread nD τ).loc main_arg0)) (ix2 r (laneK (head (gp t) (side l)) (spot l))) := by
  blk_simp [iblk, e1]
  refine (congrFun (V_main_arg0 m c) _).trans (congrArg _ (funext fun a => Fin.ext ?_))
  match a with
  | ⟨0, _⟩ => blk_simp [e1]
  | ⟨1, _⟩ => blk_simp [e1]; show (4 + t.val) * 128 + l.val = 512 + (64 * (2 * t.val + l.val / 64) + l.val % 64); omega

theorem iblk2 (t : Fin cfg0.N) (r : Fin 2048) (l : Fin 128) : iblk m c 2 t (ix2 r l)
    = (m ((c : Thread nD τ).loc main_arg0)) (ix2 r (laneV (head (gp t) (side l)) (spot l))) := by
  blk_simp [iblk, e2]
  refine (congrFun (V_main_arg0 m c) _).trans (congrArg _ (funext fun a => Fin.ext ?_))
  match a with
  | ⟨0, _⟩ => blk_simp [e2]
  | ⟨1, _⟩ => blk_simp [e2]; show (8 + t.val) * 128 + l.val = 1024 + (64 * (2 * t.val + l.val / 64) + l.val % 64); omega

theorem iblk3 (t : Fin cfg0.N) (r : Fin 2048) (l : Fin 128) : iblk m c 3 t (ix2 r l)
    = Host.out (m ((c : Thread nD τ).loc main_arg0)) (m ((c : Thread nD τ).loc main_arg1)) (ix2 r (lane (head (gp t) (side l)) (spot l))) := by
  blk_simp [iblk, e3]
  have hV := Host.V_out m c
  generalize Host.out (m ((c : Thread nD τ).loc main_arg0)) (m ((c : Thread nD τ).loc main_arg1)) = G at hV ⊢
  refine (congrFun hV _).trans (congrArg _ (funext fun a => Fin.ext ?_))
  match a with
  | ⟨0, _⟩ => blk_simp [e3]
  | ⟨1, _⟩ => blk_simp [e3]; show t.val * 128 + l.val = 64 * (2 * t.val + l.val / 64) + l.val % 64; omega

theorem iblk4 (t : Fin cfg0.N) (r : Fin 2048) (l : Fin 128) : iblk m c 4 t (ix2 r l)
    = (m ((c : Thread nD τ).loc main_arg2)) (ix2 r (lane (head (gp t) (side l)) (spot l))) := by
  blk_simp [iblk, e4]
  refine (congrFun (V_main_arg2 m c) _).trans (congrArg _ (funext fun a => Fin.ext ?_))
  match a with
  | ⟨0, _⟩ => blk_simp [e4]
  | ⟨1, _⟩ => blk_simp [e4]; show t.val * 128 + l.val = 64 * (2 * t.val + l.val / 64) + l.val % 64; omega

/-- A block of the fifth window, read off any contents of the arrays. -/
theorem read5 (W : (b : Ref sig .tc) → Buf (Elt Ideal) ((c : Thread nD τ).loc b)) (t : Fin cfg0.N) (r : Fin 2048) (e : Fin 2) :
    ((cfg0.win 5).blk t).view.read (Elt Ideal) (W (Pipeline.arrRef spec0 5)) (ix3 0 r e) = W main_v43 (ix3 (gp t) r e) := by
  blk_simp
  refine congrArg _ (funext fun a => Fin.ext ?_)
  match a with
  | ⟨0, _⟩ => blk_simp [e5]; exact Nat.add_zero _
  | ⟨1, _⟩ => blk_simp [e5]
  | ⟨2, _⟩ => blk_simp [e5]

theorem blk5 (t : Fin cfg0.N) (r : Fin 2048) (e : Fin 2) : iblk m c 5 t (ix3 0 r e) = V m c main_v43 (ix3 (gp t) r e) := by
  unfold iblk
  generalize V m c = W
  exact read5 c W t r e

theorem iblk5 (t : Fin cfg0.N) (r : Fin 2048) (e : Fin 2) : iblk m c 5 t (ix3 0 r e)
    = Host.lse (m ((c : Thread nD τ).loc main_arg0)) (m ((c : Thread nD τ).loc main_arg1)) (ix3 (gp t) r e) :=
  (blk5 m c t r e).trans (congrFun (Host.V_lse m c) (ix3 (gp t) r e))

theorem iblk6 (t : Fin cfg0.N) (r : Fin 2048) (e : Fin 2) : iblk m c 6 t (ix3 0 r e)
    = Host.fcol (m ((c : Thread nD τ).loc main_arg1)) (ix3 (gp t) r e) := by
  blk_simp [iblk, e6]
  have hV := Host.V_fcol m c
  generalize Host.fcol (m ((c : Thread nD τ).loc main_arg1)) = G at hV ⊢
  refine (congrFun hV _).trans (congrArg _ (funext fun a => Fin.ext ?_))
  match a with
  | ⟨0, _⟩ => blk_simp [e6]; exact Nat.add_zero _
  | ⟨1, _⟩ => blk_simp [e6]
  | ⟨2, _⟩ => blk_simp [e6]

theorem iblk7 (t : Fin cfg0.N) (e : Fin 2) (r : Fin 2048) : iblk m c 7 t (ix3 0 e r)
    = Host.frow (m ((c : Thread nD τ).loc main_arg1)) (ix3 (gp t) e r) := by
  blk_simp [iblk, e7]
  have hV := Host.V_frow m c
  generalize Host.frow (m ((c : Thread nD τ).loc main_arg1)) = G at hV ⊢
  refine (congrFun hV _).trans (congrArg _ (funext fun a => Fin.ext ?_))
  match a with
  | ⟨0, _⟩ => blk_simp [e7]; exact Nat.add_zero _
  | ⟨1, _⟩ => blk_simp [e7]
  | ⟨2, _⟩ => blk_simp [e7]

/-- Where the arguments are real numbers, so are the operands of a grid point. -/
theorem twin {X : Data} (H : Rep X (m ((c : Thread nD τ).loc main_arg0)) (m ((c : Thread nD τ).loc main_arg1)) (m ((c : Thread nD τ).loc main_arg2)))
    (htop : ∀ h r, Cert.ReferenceIdeal.Read.val_main_v28 (F := Ideal) (m ((c : Thread nD τ).loc main_arg0)) (m ((c : Thread nD τ).loc main_arg1)) (ix2 h r) = (X.top h r : EReal))
    (t : Fin cfg0.N) : Twin (pt m c t) X (gp t) where
  q r l := by simp only [pt, inOf, row_val]; exact (iblk0 m c t r l).trans (H.q _ _ _)
  k r l := by simp only [pt, inOf, row_val]; exact (iblk1 m c t r l).trans (H.k _ _ _)
  v r l := by simp only [pt, inOf, row_val]; exact (iblk2 m c t r l).trans (H.v _ _ _)
  o r l := by simp only [pt, inOf, row_val]; exact (iblk3 m c t r l).trans (Host.out_at H htop _ _ _)
  d r l := by simp only [pt, inOf, row_val]; exact (iblk4 m c t r l).trans (H.d _ _ _)
  lse r e := by simp only [pt, inOf, row_val, Fin.ofNat_val_eq_self]; exact (iblk5 m c t r e).trans (Host.lse_at H htop _ _ _)
  fc r e := by simp only [pt, inOf, row_val, Fin.ofNat_val_eq_self]; exact (iblk6 m c t r e).trans (Host.fcol_at H _ _ _)
  fr r e := by simp only [pt, inOf, row_val, Fin.ofNat_val_eq_self]; exact (iblk7 m c t e r).trans (Host.frow_at H _ _ _)

/-! ## The results -/

/-- The query gradient's array, from its blocks' entries. -/
theorem final_q (G : S2048x512.Idx → EReal)
    (h : ∀ (t : Fin cfg0.N) (r : Fin 2048) l, (pt m c t).dq r.val l = G (ix2 r (lane (head (gp t) (side l)) (spot l)))) :
    (dats m 0 c).arrAt 8 cfg0.N = G := by
  refine (dats m 0 c).arrAt_eq_of_covers 8 _ (by decide +kernel) fun t hf y => ?_
  blk_simp
  rw [after0_8]
  unfold In.outQ
  refine (h t (y 0) (y 1)).trans (congrArg G (funext fun a => Fin.ext ?_))
  match a with
  | ⟨0, _⟩ => blk_simp [e8]; rfl
  | ⟨1, _⟩ => blk_simp [e8]; show 64 * (2 * t.val + (y 1).val / 64) + (y 1).val % 64 = t.val * 128 + (y 1).val; omega

/-- The key gradient's array, from its blocks' entries. -/
theorem final_k (G : S2048x512.Idx → EReal)
    (h : ∀ (t : Fin cfg0.N) (r : Fin 2048) l, (pt m c t).dk 2048 r.val l = G (ix2 r (lane (head (gp t) (side l)) (spot l)))) :
    (dats m 0 c).arrAt 9 cfg0.N = G := by
  refine (dats m 0 c).arrAt_eq_of_covers 9 _ (by decide +kernel) fun t hf y => ?_
  blk_simp
  rw [after0_9]
  unfold In.outK
  refine (h t (y 0) (y 1)).trans (congrArg G (funext fun a => Fin.ext ?_))
  match a with
  | ⟨0, _⟩ => blk_simp [e9]; rfl
  | ⟨1, _⟩ => blk_simp [e9]; show 64 * (2 * t.val + (y 1).val / 64) + (y 1).val % 64 = t.val * 128 + (y 1).val; omega

/-- The value gradient's array, from its blocks' entries. -/
theorem final_v (G : S2048x512.Idx → EReal)
    (h : ∀ (t : Fin cfg0.N) (r : Fin 2048) l, (pt m c t).dv 2048 r.val l = G (ix2 r (lane (head (gp t) (side l)) (spot l)))) :
    (dats m 0 c).arrAt 10 cfg0.N = G := by
  refine (dats m 0 c).arrAt_eq_of_covers 10 _ (by decide +kernel) fun t hf y => ?_
  blk_simp
  rw [after0_10]
  unfold In.outV
  refine (h t (y 0) (y 1)).trans (congrArg G (funext fun a => Fin.ext ?_))
  match a with
  | ⟨0, _⟩ => blk_simp [e10]; rfl
  | ⟨1, _⟩ => blk_simp [e10]; show 64 * (2 * t.val + (y 1).val / 64) + (y 1).val % 64 = t.val * 128 + (y 1).val; omega

/-- The column gates' gradient's array, from its blocks' entries. -/
theorem final_f (G : S4x2x2048.Idx → EReal)
    (h : ∀ (t : Fin cfg0.N) (e : Fin 2) (r : Fin 2048), (pt m c t).dfk e.val r.val 4 = G (ix3 (gp t) e r)) :
    (dats m 0 c).arrAt 11 cfg0.N = G := by
  refine (dats m 0 c).arrAt_eq_of_covers 11 _ (by decide +kernel) fun t hf y => ?_
  blk_simp
  rw [after0_11]
  unfold In.outF
  refine (h t (y 1) (y 2)).trans (congrArg G (funext fun a => Fin.ext ?_))
  match a with
  | ⟨0, _⟩ => blk_simp [e11]
  | ⟨1, _⟩ => blk_simp [e11]; rfl
  | ⟨2, _⟩ => blk_simp [e11]; rfl

/-- The row gates' gradient's array, from its blocks' entries. -/
theorem final_s (G : S4x2048x2.Idx → EReal)
    (h : ∀ (t : Fin cfg0.N) (r : Fin 2048) (e : Fin 2), (pt m c t).dfq r.val e.val = G (ix3 (gp t) r e)) :
    (dats m 0 c).arrAt 12 cfg0.N = G := by
  refine (dats m 0 c).arrAt_eq_of_covers 12 _ (by decide +kernel) fun t hf y => ?_
  blk_simp
  rw [after0_12]
  unfold In.outS
  refine (h t (y 1) (y 2)).trans (congrArg G (funext fun a => Fin.ext ?_))
  match a with
  | ⟨0, _⟩ => blk_simp [e12]
  | ⟨1, _⟩ => blk_simp [e12]; rfl
  | ⟨2, _⟩ => blk_simp [e12]; rfl

end Cert.Proof.KernelIdeal

end
-- ==== Proof.Finite.lean ====
/-
  Arguments whose every entry is finite, as real numbers.
-/
module

public import proofs.«01_k».proof.Proof.Ref
public import proofs.«01_k».proof.Proof.Gen.Pre_finite
public import Idealize.ShloMosaic.Lib.ReduceAll

@[expose] public section

noncomputable section

namespace Cert.Proof.Ref

open Cert.ReferenceIdeal
open Idealize.ShloMosaic Idealize.ShloMosaic.TcCoe
open Cert.Proof.Math

theorem inf_bits : Ideal.ofBits .f32 0x7F800000#32 = ⊤ := by simp [Ideal.ofBits, Ideal.ieee]

/-- A number whose magnitude is below infinity is real. -/
theorem real_of_lt (y : EReal) (h : Ideal.cmp .olt (max y (-y)) ⊤ = 1#1) : ∃ a : ℝ, y = (a : EReal) := by
  induction y with
  | bot => exact absurd h (by simp [Ideal.cmp])
  | top => exact absurd h (by simp [Ideal.cmp])
  | coe a => exact ⟨a, rfl⟩

instance : Subsingleton Cert.Pre_finite.S_.Idx := ⟨fun _ _ => funext fun a => a.elim0⟩

/-- Where the precondition's function is true, every entry of the three arguments is real. -/
theorem finite_args (x0 : FVec Ideal S2048x1536 .bf16) (x1 : FVec Ideal S2048x8 .f32) (x2 : FVec Ideal S2048x512 .f32)
    (h : letI := Cert.Pre_finite.Gen.facts; Cert.Pre_finite.fn (F := Ideal) x0 x1 x2 = fun _ => 1#1) :
    (∀ i, ∃ a : ℝ, x0 i = (a : EReal)) ∧ (∀ i, ∃ a : ℝ, x1 i = (a : EReal)) ∧ (∀ i, ∃ a : ℝ, x2 i = (a : EReal)) := by
  have h0 := congrFun h (fun a => a.elim0)
  dsimp only [Cert.Pre_finite.fn] at h0
  obtain ⟨h1, h2⟩ := IntOp.andi_eq_one.1 h0
  obtain ⟨h3, h4⟩ := IntOp.andi_eq_one.1 h1
  refine ⟨fun i => real_of_lt _ ?_, fun i => real_of_lt _ ?_, fun i => real_of_lt _ ?_⟩
  · have := Host.reduce_andi_all _ _ _ _ _ h3 i
    rw [← inf_bits]; exact this
  · have := Host.reduce_andi_all _ _ _ _ _ h4 i
    rw [← inf_bits]; exact this
  · have := Host.reduce_andi_all _ _ _ _ _ h2 i
    rw [← inf_bits]; exact this

/-- The real numbers of finite arguments, with the number `top` taken from each row's scores. -/
theorem exists_rep (x0 : FVec Ideal S2048x1536 .bf16) (x1 : FVec Ideal S2048x8 .f32) (x2 : FVec Ideal S2048x512 .f32)
    (h : letI := Cert.Pre_finite.Gen.facts; Cert.Pre_finite.fn (F := Ideal) x0 x1 x2 = fun _ => 1#1) :
    ∃ X : Data, Rep X x0 x1 x2 ∧ ∀ h r, Cert.ReferenceIdeal.Read.val_main_v28 (F := Ideal) x0 x1 (ix2 h r) = (X.top h r : EReal) := by
  obtain ⟨h0, h1, h2⟩ := finite_args x0 x1 x2 h
  choose a0 h0 using h0
  choose a1 h1 using h1
  choose a2 h2 using h2
  have H : ∀ top, Rep ⟨fun h r i => a0 (ix2 r (laneQ h i)), fun h r i => a0 (ix2 r (laneK h i)), fun h r i => a0 (ix2 r (laneV h i)),
      fun h r i => a2 (ix2 r (lane h i)), fun h r => a1 (ix2 r h), top⟩ x0 x1 x2 :=
    fun _ => ⟨fun _ _ _ => h0 _, fun _ _ _ => h0 _, fun _ _ _ => h0 _, fun _ _ => h1 _, fun _ _ _ => h2 _⟩
  have hv := fun h r => v28_real (H fun _ _ => 0) h r
  generalize Cert.ReferenceIdeal.Read.val_main_v28 (F := Ideal) x0 x1 = y at hv ⊢
  exact ⟨_, H fun h r => EReal.toReal (y (ix2 h r)), hv⟩

end Cert.Proof.Ref

end
-- ==== Proof.Value.lean ====
/-
  The kernel's five results are the reference's.
-/
module

public import proofs.«01_k».proof.Proof.Final
public import proofs.«01_k».proof.Proof.Finite

@[expose] public section

noncomputable section

namespace Cert.Proof.KernelIdeal

open Cert.KernelIdeal Cert.KernelIdeal.Gen Cert.Proof.Value
open Idealize.ShloMosaic Idealize.ShloMosaic.TcCoe
open Idealize.SL.Sem
open Cert.Proof.Math Cert.Proof.Ref
open Cert.ReferenceIdeal.Read (val_main_v92 val_main_v94 val_main_v96 val_main_v98 val_main_v100)

variable (m : (ℓ : Loc nD τ sig) → Buf (Elt Ideal) ℓ)

/-- Where every entry of the arguments is finite, the result arrays end holding the reference's stages. -/
theorem arrays (c : Dev nD)
    (h : letI := Cert.Pre_finite.Gen.facts; Cert.Pre_finite.fn (F := Ideal) (m ((c : Thread nD τ).loc main_arg0)) (m ((c : Thread nD τ).loc main_arg1))
      (m ((c : Thread nD τ).loc main_arg2)) = fun _ => 1#1) :
    (dats m 0 c).arrAt 8 cfg0.N = val_main_v92 (F := Ideal) (m ((c : Thread nD τ).loc main_arg0)) (m ((c : Thread nD τ).loc main_arg1)) (m ((c : Thread nD τ).loc main_arg2))
      ∧ (dats m 0 c).arrAt 9 cfg0.N = val_main_v94 (F := Ideal) (m ((c : Thread nD τ).loc main_arg0)) (m ((c : Thread nD τ).loc main_arg1)) (m ((c : Thread nD τ).loc main_arg2))
      ∧ (dats m 0 c).arrAt 10 cfg0.N = val_main_v96 (F := Ideal) (m ((c : Thread nD τ).loc main_arg0)) (m ((c : Thread nD τ).loc main_arg1)) (m ((c : Thread nD τ).loc main_arg2))
      ∧ (dats m 0 c).arrAt 11 cfg0.N = val_main_v98 (F := Ideal) (m ((c : Thread nD τ).loc main_arg0)) (m ((c : Thread nD τ).loc main_arg1)) (m ((c : Thread nD τ).loc main_arg2))
      ∧ (dats m 0 c).arrAt 12 cfg0.N = val_main_v100 (F := Ideal) (m ((c : Thread nD τ).loc main_arg0)) (m ((c : Thread nD τ).loc main_arg1)) (m ((c : Thread nD τ).loc main_arg2)) := by
  obtain ⟨X, H, htop⟩ := exists_rep _ _ _ h
  have T := twin m c H htop
  exact ⟨final_q m c _ fun t r l => ((T t).dq_eq r l).trans (v92_at H htop _ _ _).symm,
    final_k m c _ fun t r l => ((T t).dk_eq r l).trans (v94_at H htop _ _ _).symm,
    final_v m c _ fun t r l => ((T t).dv_eq r l).trans (v96_at H htop _ _ _).symm,
    final_f m c _ fun t e r => ((T t).dfk_eq e r).trans (v98_at H htop _ _ _).symm,
    final_s m c _ fun t r e => ((T t).dfq_eq r e).trans (v100_at H htop _ _ _).symm⟩

end Cert.Proof.KernelIdeal

end
-- ==== Proof.Sums.lean ====
/-
  A sum over an axis that is walked in blocks of 1024, and the squared relu.
-/
module

public import Idealize.ShloMosaic.Lib.Pipeline.ValueKit
public import Idealize.ShloMosaic.Lib.Pointwise
public import Idealize.ShloMosaic.Lib.Pipeline.ReadBack

@[expose] public section

namespace Cert.Proof.Sums

/-- Two blocks. -/
theorem sum_two {M : Type*} [AddCommMonoid M] (g : Fin 2048 → M) :
    ∑ k, g k = (∑ k : Fin 1024, g ⟨k.val, by omega⟩) + ∑ k : Fin 1024, g ⟨1024 + k.val, by omega⟩ :=
  Fin.sum_univ_add (a := 1024) (b := 1024) g

/-- Four blocks, added one after the other. -/
theorem sum_four {M : Type*} [AddCommMonoid M] (g : Fin 4096 → M) :
    ∑ k, g k = (∑ k : Fin 1024, g ⟨k.val, by omega⟩) + (∑ k : Fin 1024, g ⟨1024 + k.val, by omega⟩)
      + (∑ k : Fin 1024, g ⟨2048 + k.val, by omega⟩) + ∑ k : Fin 1024, g ⟨3072 + k.val, by omega⟩ := by
  rw [Fin.sum_univ_add (a := 3072) (b := 1024) g, Fin.sum_univ_add (a := 2048) (b := 1024),
    Fin.sum_univ_add (a := 1024) (b := 1024)]
  rfl

/-- The squared relu. -/
noncomputable def relu2 (x : EReal) : EReal := max x 0 * max x 0

end Cert.Proof.Sums
-- ==== Proof.DwIn.lean ====
/-
  The gradient of the projection's weights: two blocks of the summed axis, added one after the other, are the whole product.
-/
module

public import proofs.«01_k».proof.Defs
public import proofs.«01_k».proof.Proof.Gen.DwIn.Frame
public import proofs.«01_k».proof.Proof.Gen.DwInIdeal.Value
public import proofs.«01_k».proof.Proof.Gen.DwInRefIdeal.Run
public import proofs.«01_k».proof.Proof.Gen.DwInRefIdeal.Read
public import proofs.«01_k».proof.Proof.Sums

@[expose] public section

noncomputable section

namespace Cert.Proof.DwIn

open Cert.DwInIdeal Cert.DwInIdeal.Gen Cert.DwInRefIdeal.Read Cert.Proof.Sums
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

theorem e0 : ∀ t : Fin cfg0.N, win0_0.index t = ![t.val % 2, t.val / 2] := (by decide +kernel : ∀ t : Fin grid0.N, _)
theorem e1 : ∀ t : Fin cfg0.N, win0_1.index t = ![t.val % 2, 0] := (by decide +kernel : ∀ t : Fin grid0.N, _)
theorem e2 : ∀ t : Fin cfg0.N, win0_2.index t = ![t.val / 2, 0] := (by decide +kernel : ∀ t : Fin grid0.N, _)

/-- An entry of the product of two blocks, over their rows. -/
def dot (x : FVec Ideal S1024x512 .bf16) (y : FVec Ideal S1024x1024 .bf16) (j : S512x1024.Idx) : EReal :=
  ∑ k : Fin 1024, x (ix2 k (j 0)) * y (ix2 k (j 1))

/-- A block's product, from a zero accumulator. -/
theorem pay_first (x : FVec Ideal S1024x512 .bf16) (y : FVec Ideal S1024x1024 .bf16) (j : S512x1024.Idx) :
    k0_pay2 (F := Ideal) x y (k0_pay1 (F := Ideal)) j = dot x y j := by
  unfold dot k0_pay2 k0_pay1
  pointwise

/-- A block's product, added to what was there. -/
theorem pay_next (x : FVec Ideal S1024x512 .bf16) (y : FVec Ideal S1024x1024 .bf16) (a : FVec Ideal S512x1024 .f32) (j : S512x1024.Idx) :
    k0_pay3 (F := Ideal) (k0_pay2 (F := Ideal) x y a) j = a j + dot x y j := by
  unfold dot k0_pay3 k0_pay2
  pointwise

/-- What the first of a block's two points leaves. -/
theorem first (t : Fin cfg0.N) (h : t.val % 2 = 0) (j : S512x1024.Idx) :
    (outsAt0 m c t.val t.isLt).2 j
      = dot (iblk m c 0 t) (iblk m c 1 t) j := by
  rw [outsAt0_A m c t h (by omega)]
  frame_out
  exact pay_first _ _ j

/-- An entry of the reference. -/
theorem ref (x : FVec Ideal S2048x5632 .bf16) (y : FVec Ideal S2048x1024 .bf16) (i : S5632x1024.Idx) :
    val_main_v7 (F := Ideal) x y i = ∑ k : Fin 2048, x (ix2 k (i 0)) * y (ix2 k (i 1)) := by
  rw [val_main_v7_apply]
  show val_main_v6 (F := Ideal) x y i = _
  rw [val_main_v6_apply, val_main_v5_apply, val_main_v4_apply]
  refine Finset.sum_congr rfl fun k _ => ?_
  rw [val_main_v3_apply, val_main_v1_apply]
  exact congrArg₂ (· * ·) (congrArg x (eq_ix2 _)) (congrArg y (eq_ix2 _))

/-- The kernel's result is the reference's. -/
theorem result : (dats m 0 c).arrAt 2 cfg0.N
    = val_main_v7 (F := Ideal) (m ((c : Thread nD τ).loc main_arg0)) (m ((c : Thread nD τ).loc main_arg1)) := by
  refine (dats m 0 c).arrAt_eq_of_covers 2 _ (by decide +kernel) fun t hf y => ?_
  have h1 : t.val % 2 = 1 := (flush0_2 t).mp hf
  have hp : t.val - 1 < cfg0.N := Nat.lt_of_le_of_lt (Nat.sub_le _ _) t.isLt
  blk_simp
  rw [after0_2, outsAt0_B m c t (by omega) h1]
  frame_out
  rw [pay_next, ref, read_unread_whole]
  refine Eq.trans ?_ (sum_two (M := EReal) _).symm
  refine congrArg₂ (· + ·) ((first m c ⟨t.val - 1, hp⟩ (by show (t.val - 1) % 2 = 0; omega) y).trans ?_) ?_
  · refine Fin.sum_fin_congr fun k => ?_
    congr 1 <;> blk_ext [iblk, V, e0, e1, e2]
  · refine Fin.sum_fin_congr fun k => ?_
    congr 1 <;> blk_ext [iblk, V, e0, e1, e2]

/-! ## The claims -/

theorem frame_kernel : letI := Cert.DwIn.Gen.facts; Cert.quiescent_DwIn := fun m ρ _ =>
  Cert.DwIn.Gen.frame (F := Bits) m ρ

theorem frame_ideal : letI := Cert.DwInIdeal.Gen.facts; Cert.quiescent_DwInIdeal := fun m ρ _ =>
  Cert.DwInIdeal.Gen.frame (F := Ideal) m ρ

/-- The reference's run read at its arguments; it declares no semaphore. -/
theorem frame_reference : letI := Cert.DwInRefIdeal.Gen.facts; Cert.quiescent_DwInRefIdeal := fun m ρ _ =>
  (θ_run Cert.DwInRefIdeal.defs _ _).mono (fun r h => ⟨fun c => (h c).2, sem_eq_zero_of_no_sems (by decide) r.2⟩)
    (Cert.DwInRefIdeal.Value.run (F := Ideal) m ρ)

/-- The kernel and the reference end with equal results. -/
theorem algebraic : letI := Cert.DwInIdeal.Gen.facts; letI := Cert.DwInRefIdeal.Gen.facts
    Cert.algebraic_DwInIdeal_DwInRefIdeal := by
  intro m g m' g' _ hargs
  refine ⟨fun c => val_main_v7 (F := Ideal) (m' ((c.tc : Thread Cert.DwInRefIdeal.nD Cert.DwInRefIdeal.τ).loc Cert.DwInRefIdeal.main_arg0))
    (m' ((c.tc : Thread Cert.DwInRefIdeal.nD Cert.DwInRefIdeal.τ).loc Cert.DwInRefIdeal.main_arg1)), ?_,
    Cert.DwInRefIdeal.Value.run (F := Ideal) m' g'⟩
  refine (θ_run _ _ _).mono (fun r h c => ⟨(h c).1.trans ?_, (h c).2⟩) (Cert.DwInIdeal.Value.run_blocks m g)
  rw [result]
  have a := hargs c
  exact congrArg₂ (val_main_v7 (F := Ideal)) a.1.symm a.2.symm

end Cert.Proof.DwIn

end
-- ==== Proof.DwFf2.lean ====
/-
  The gradient of the MLP's second weights, put into its rows of the gradients' array.
-/
module

public import proofs.«01_k».proof.Defs
public import proofs.«01_k».proof.Proof.Gen.DwFf2.Frame
public import proofs.«01_k».proof.Proof.Gen.DwFf2Ideal.Value
public import proofs.«01_k».proof.Proof.Gen.DwFf2RefIdeal.Run
public import proofs.«01_k».proof.Proof.Gen.DwFf2RefIdeal.Read
public import proofs.«01_k».proof.Proof.Sums

@[expose] public section

noncomputable section

namespace Cert.Proof.DwFf2

open Cert.DwFf2Ideal Cert.DwFf2Ideal.Gen Cert.DwFf2RefIdeal.Read Cert.Proof.Sums
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

theorem e0 : ∀ t : Fin cfg0.N, win0_0.index t = ![t.val % 2, t.val / 2] := (by decide +kernel : ∀ t : Fin grid0.N, _)
theorem e1 : ∀ t : Fin cfg0.N, win0_1.index t = ![t.val % 2, 0] := (by decide +kernel : ∀ t : Fin grid0.N, _)
theorem e2 : ∀ t : Fin cfg0.N, win0_2.index t = ![t.val / 2, 1, 0] := (by decide +kernel : ∀ t : Fin grid0.N, _)

/-- An entry of the product of two blocks, over their rows. -/
def dot (x : FVec Ideal S1024x1024 .bf16) (y : FVec Ideal S1024x1024 .f32) (j : S1024x1024.Idx) : EReal :=
  ∑ k : Fin 1024, relu2 (x (ix2 k (j 0))) * y (ix2 k (j 1))

/-- A block's product, from a zero accumulator. -/
theorem pay_first (x : FVec Ideal S1024x1024 .bf16) (y : FVec Ideal S1024x1024 .f32) (j : S1024x1024.Idx) :
    k0_pay2 (F := Ideal) x y (k0_pay1 (F := Ideal)) j = dot x y j := by
  unfold dot k0_pay2 k0_pay1 relu2
  pointwise

/-- A block's product, added to what was there. -/
theorem pay_next (x : FVec Ideal S1024x1024 .bf16) (y : FVec Ideal S1024x1024 .f32) (a : FVec Ideal S1024x1024 .f32) (j : S1x1024x1024.Idx) :
    k0_pay3 (F := Ideal) (k0_pay2 (F := Ideal) x y a) j = a (ix2 (j 1) (j 2)) + dot x y (ix2 (j 1) (j 2)) := by
  unfold k0_pay3 dot k0_pay2 relu2
  pointwise

/-- What the first of a block's two points leaves. -/
theorem first (t : Fin cfg0.N) (h : t.val % 2 = 0) (j : S1024x1024.Idx) :
    (outsAt0 m c t.val t.isLt).2 j = dot (iblk m c 0 t) (iblk m c 1 t) j := by
  rw [outsAt0_A m c t h (by omega)]
  frame_out
  exact pay_first _ _ j

/-- An entry of the whole product, laid out as four shards. -/
def grad (x : FVec Ideal S2048x4096 .bf16) (y : FVec Ideal S2048x1024 .f32) (i : S4x3072x1024.Idx) : EReal :=
  ∑ k : Fin 2048, relu2 (x (ix2 k ⟨(i 0).val * 1024 + (i 1).val % 1024, by have h : (i 0).val < 4 := (i 0).isLt; omega⟩)) * y (ix2 k (i 2))

/-- The reference's product, before it is put into the array. -/
theorem ref_grad (x : FVec Ideal S2048x4096 .bf16) (y : FVec Ideal S2048x1024 .f32) (i : Cert.DwFf2RefIdeal.S4x1024x1024.Idx) :
    val_main_v8 (F := Ideal) x y i = grad x y (ix3 (i 0) ⟨(i 1).val, by have h : (i 1).val < 1024 := (i 1).isLt; omega⟩ (i 2)) := by
  have h0 : (i 0).val < 4 := (i 0).isLt
  have h1 : (i 1).val < 1024 := (i 1).isLt
  have h2 : (i 2).val < 1024 := (i 2).isLt
  unfold grad
  rw [val_main_v8_apply]
  show val_main_v6 (F := Ideal) x y _ = _
  rw [val_main_v6_apply, val_main_v5_apply]
  refine Finset.sum_congr rfl fun k _ => ?_
  rw [mul_comm]
  refine congrArg₂ (· * ·) ?_ (congrArg y ?_)
  · unfold val_main_v3 val_main_v2 val_main_v1 val_main_call0_v0 val_main_call0_cst relu2
    pointwise
    refine congrArg (fun w : EReal => max w 0 * max w 0) (congrArg x ?_)
    refine (eq_ix2 _).trans ?_
    refine congrArg (ix2 k) (Fin.ext ?_)
    show (((i 0).val * 1024 + (i 1).val) * 1024 + (i 2).val) / 1024 = (i 0).val * 1024 + (i 1).val % 1024
    omega
  · refine (eq_ix2 _).trans ?_
    refine congrArg (ix2 k) (Fin.ext ?_)
    show (((i 0).val * 1024 + (i 1).val) * 1024 + (i 2).val) % 1024 = (i 2).val
    omega

/-- The reference at an index of the rows it sets. -/
theorem ref_in (x : FVec Ideal S2048x4096 .bf16) (y : FVec Ideal S2048x1024 .f32) (g : FVec Ideal S4x3072x1024 .bf16) (i : S4x3072x1024.Idx)
    (h : (i 1).val / 1024 = 1) : val_main_v9 (F := Ideal) x y g i = grad x y i := by
  have h0 : (i 0).val < 4 := (i 0).isLt
  have h2 : (i 2).val < 1024 := (i 2).isLt
  unfold val_main_v9
  rw [Host.dynamicUpdateSlice_eq_updateSlice _ _ _ _ ![0, 1024, 0] (by intro a; fin_cases a <;> rfl) (by decide), updateSlice_apply, dif_pos]
  · rw [ref_grad]
    unfold grad
    refine Finset.sum_congr rfl fun k _ => ?_
    refine congrArg₂ (· * ·) (congrArg relu2 (congrArg x (congrArg (ix2 k) (Fin.ext ?_)))) (congrArg y (congrArg (ix2 k) (Fin.ext ?_)))
    · show ((i 0).val - 0) * 1024 + ((i 1).val - 1024) % 1024 = (i 0).val * 1024 + (i 1).val % 1024
      omega
    · show (i 2).val - 0 = (i 2).val
      omega
  · intro a
    match a with
    | ⟨0, _⟩ => exact ⟨Nat.zero_le _, h0⟩
    | ⟨1, _⟩ => show 1024 ≤ (i 1).val ∧ (i 1).val < 1024 + 1024; omega
    | ⟨2, _⟩ => exact ⟨Nat.zero_le _, h2⟩

/-- The reference elsewhere. -/
theorem ref_out (x : FVec Ideal S2048x4096 .bf16) (y : FVec Ideal S2048x1024 .f32) (g : FVec Ideal S4x3072x1024 .bf16) (i : S4x3072x1024.Idx)
    (h : ¬(i 1).val / 1024 = 1) : val_main_v9 (F := Ideal) x y g i = g i := by
  unfold val_main_v9
  rw [Host.dynamicUpdateSlice_eq_updateSlice _ _ _ _ ![0, 1024, 0] (by intro a; fin_cases a <;> rfl) (by decide), updateSlice_apply, dif_neg]
  intro hin
  have h1 : 1024 ≤ (i 1).val ∧ (i 1).val < 1024 + 1024 := hin 1
  omega

/-- The rows the kernel sets hold the product, the others what the array held. -/
theorem written : (dats m 0 c).arrAt 2 cfg0.N
    = fun i : S4x3072x1024.Idx => if (i 1).val / 1024 = 1 then grad (m ((c : Thread nD τ).loc main_arg0)) (m ((c : Thread nD τ).loc main_arg1)) i
      else (dats m 0 c).A 2 i := by
  refine (dats m 0 c).arrAt_eq_of_coversWhere 2 (fun i => grad (m ((c : Thread nD τ).loc main_arg0)) (m ((c : Thread nD τ).loc main_arg1)) i)
    (fun β => β (1 : Fin 3) = 1) (by decide +kernel) (fun t hf y => ?_) (fun j => by blk_simp [Pipeline.Window.cell_apply]; try omega)
  have h1 : t.val % 2 = 1 := (flush0_2 t).mp hf
  have hp : t.val - 1 < cfg0.N := Nat.lt_of_le_of_lt (Nat.sub_le _ _) t.isLt
  blk_simp
  rw [after0_2, outsAt0_B m c t (by omega) h1]
  frame_out
  rw [pay_next, read_unread_whole]
  unfold grad
  refine Eq.trans ?_ (sum_two (M := EReal) _).symm
  refine congrArg₂ (· + ·) ((first m c ⟨t.val - 1, hp⟩ (by show (t.val - 1) % 2 = 0; omega) _).trans ?_) ?_
  · refine Fin.sum_fin_congr fun k => ?_
    refine congrArg₂ (· * ·) (congrArg relu2 ?_) ?_ <;> blk_ext [iblk, V, e0, e1, e2]
  · refine Fin.sum_fin_congr fun k => ?_
    refine congrArg₂ (· * ·) (congrArg relu2 ?_) ?_ <;> blk_ext [iblk, V, e0, e1, e2]

/-- The kernel's result is the reference's. -/
theorem result : (dats m 0 c).arrAt 2 cfg0.N
    = val_main_v9 (F := Ideal) (m ((c : Thread nD τ).loc main_arg0)) (m ((c : Thread nD τ).loc main_arg1)) (m ((c : Thread nD τ).loc main_arg2)) := by
  rw [written]
  funext i
  by_cases h : (i 1).val / 1024 = 1
  · rw [if_pos h]; exact (ref_in _ _ _ i h).symm
  · rw [if_neg h]
    exact (show (dats m 0 c).A 2 i = m ((c : Thread nD τ).loc main_arg2) i by rw [A_eq]; unfold V; entry_read; rfl).trans (ref_out _ _ _ i h).symm

/-! ## The claims -/

theorem frame_kernel : letI := Cert.DwFf2.Gen.facts; Cert.quiescent_DwFf2 := fun m ρ _ =>
  Cert.DwFf2.Gen.frame (F := Bits) m ρ

theorem frame_ideal : letI := Cert.DwFf2Ideal.Gen.facts; Cert.quiescent_DwFf2Ideal := fun m ρ _ =>
  Cert.DwFf2Ideal.Gen.frame (F := Ideal) m ρ

/-- The reference's run read at its arguments; it declares no semaphore. -/
theorem frame_reference : letI := Cert.DwFf2RefIdeal.Gen.facts; Cert.quiescent_DwFf2RefIdeal := fun m ρ _ =>
  (θ_run Cert.DwFf2RefIdeal.defs _ _).mono (fun r h => ⟨fun c => (h c).2, sem_eq_zero_of_no_sems (by decide) r.2⟩)
    (Cert.DwFf2RefIdeal.Value.run (F := Ideal) m ρ)

/-- The kernel and the reference end with equal results. -/
theorem algebraic : letI := Cert.DwFf2Ideal.Gen.facts; letI := Cert.DwFf2RefIdeal.Gen.facts
    Cert.algebraic_DwFf2Ideal_DwFf2RefIdeal := by
  intro m g m' g' _ hargs
  refine ⟨fun c => val_main_v9 (F := Ideal) (m' ((c.tc : Thread Cert.DwFf2RefIdeal.nD Cert.DwFf2RefIdeal.τ).loc Cert.DwFf2RefIdeal.main_arg0))
    (m' ((c.tc : Thread Cert.DwFf2RefIdeal.nD Cert.DwFf2RefIdeal.τ).loc Cert.DwFf2RefIdeal.main_arg1))
    (m' ((c.tc : Thread Cert.DwFf2RefIdeal.nD Cert.DwFf2RefIdeal.τ).loc Cert.DwFf2RefIdeal.main_arg2)), ?_,
    Cert.DwFf2RefIdeal.Value.run (F := Ideal) m' g'⟩
  refine (θ_run _ _ _).mono (fun r h c => ⟨(h c).1.trans ?_, (h c).2⟩) (Cert.DwFf2Ideal.Value.run_blocks m g)
  rw [result]
  have a := hargs c
  rw [← a.1, ← a.2.1, ← a.2.2]

end Cert.Proof.DwFf2

end
-- ==== Proof.DwFf1.lean ====
/-
  The gradient of the MLP's first weights, put into its rows of the gradients' array.
-/
module

public import proofs.«01_k».proof.Defs
public import proofs.«01_k».proof.Proof.Gen.DwFf1.Frame
public import proofs.«01_k».proof.Proof.Gen.DwFf1Ideal.Value
public import proofs.«01_k».proof.Proof.Gen.DwFf1RefIdeal.Run
public import proofs.«01_k».proof.Proof.Gen.DwFf1RefIdeal.Read
public import proofs.«01_k».proof.Proof.Sums

@[expose] public section

noncomputable section

namespace Cert.Proof.DwFf1

open Cert.DwFf1Ideal Cert.DwFf1Ideal.Gen Cert.DwFf1RefIdeal.Read Cert.Proof.Sums
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

theorem e0 : ∀ t : Fin cfg0.N, win0_0.index t = ![t.val % 2, 0] := (by decide +kernel : ∀ t : Fin grid0.N, _)
theorem e1 : ∀ t : Fin cfg0.N, win0_1.index t = ![t.val % 2, t.val / 2] := (by decide +kernel : ∀ t : Fin grid0.N, _)
theorem e2 : ∀ t : Fin cfg0.N, win0_2.index t = ![t.val / 2, 0, 0] := (by decide +kernel : ∀ t : Fin grid0.N, _)

/-- An entry of the product of two blocks, over their rows. -/
def dot (x : FVec Ideal S1024x1024 .bf16) (y : FVec Ideal S1024x1024 .bf16) (j : S1024x1024.Idx) : EReal :=
  ∑ k : Fin 1024, x (ix2 k (j 0)) * y (ix2 k (j 1))

/-- A block's product, from a zero accumulator. -/
theorem pay_first (x : FVec Ideal S1024x1024 .bf16) (y : FVec Ideal S1024x1024 .bf16) (j : S1024x1024.Idx) :
    k0_pay2 (F := Ideal) x y (k0_pay1 (F := Ideal)) j = dot x y j := by
  unfold dot k0_pay2 k0_pay1
  pointwise

/-- A block's product, added to what was there. -/
theorem pay_next (x : FVec Ideal S1024x1024 .bf16) (y : FVec Ideal S1024x1024 .bf16) (a : FVec Ideal S1024x1024 .f32) (j : S1x1024x1024.Idx) :
    k0_pay3 (F := Ideal) (k0_pay2 (F := Ideal) x y a) j = a (ix2 (j 1) (j 2)) + dot x y (ix2 (j 1) (j 2)) := by
  unfold k0_pay3 dot k0_pay2
  pointwise

/-- What the first of a block's two points leaves. -/
theorem first (t : Fin cfg0.N) (h : t.val % 2 = 0) (j : S1024x1024.Idx) :
    (outsAt0 m c t.val t.isLt).2 j = dot (iblk m c 0 t) (iblk m c 1 t) j := by
  rw [outsAt0_A m c t h (by omega)]
  frame_out
  exact pay_first _ _ j

/-- An entry of the whole product, laid out as four shards. -/
def grad (x : FVec Ideal S2048x1024 .bf16) (y : FVec Ideal S2048x4096 .bf16) (i : S4x3072x1024.Idx) : EReal :=
  ∑ k : Fin 2048, x (ix2 k ⟨(i 1).val % 1024, by omega⟩) * y (ix2 k ⟨(i 0).val * 1024 + (i 2).val, by have h : (i 0).val < 4 := (i 0).isLt; have h' : (i 2).val < 1024 := (i 2).isLt; omega⟩)

/-- The reference's product, before it is put into the array. -/
theorem ref_grad (x : FVec Ideal S2048x1024 .bf16) (y : FVec Ideal S2048x4096 .bf16) (i : Cert.DwFf1RefIdeal.S4x1024x1024.Idx) :
    val_main_v8 (F := Ideal) x y i = grad x y (ix3 (i 0) ⟨(i 1).val, by have h : (i 1).val < 1024 := (i 1).isLt; omega⟩ (i 2)) := by
  have h0 : (i 0).val < 4 := (i 0).isLt
  have h1 : (i 1).val < 1024 := (i 1).isLt
  have h2 : (i 2).val < 1024 := (i 2).isLt
  unfold grad
  rw [val_main_v8_apply, val_main_v7_apply]
  show val_main_v5 (F := Ideal) x y _ = _
  rw [val_main_v5_apply, val_main_v4_apply]
  refine Finset.sum_congr rfl fun k _ => ?_
  rw [mul_comm]
  refine congrArg₂ (· * ·) (congrArg x ?_) (congrArg y ?_)
  · refine (eq_ix2 _).trans ?_
    refine congrArg (ix2 k) (Fin.ext ?_)
    show (((i 1).val * 4 + (i 0).val) * 1024 + (i 2).val) / 4096 = (i 1).val % 1024
    omega
  · refine (eq_ix2 _).trans ?_
    refine congrArg (ix2 k) (Fin.ext ?_)
    show (((i 1).val * 4 + (i 0).val) * 1024 + (i 2).val) % 4096 = (i 0).val * 1024 + (i 2).val
    omega

/-- The reference at an index of the rows it sets. -/
theorem ref_in (x : FVec Ideal S2048x1024 .bf16) (y : FVec Ideal S2048x4096 .bf16) (g : FVec Ideal S4x3072x1024 .bf16) (i : S4x3072x1024.Idx)
    (h : (i 1).val / 1024 = 0) : val_main_v9 (F := Ideal) x y g i = grad x y i := by
  have h0 : (i 0).val < 4 := (i 0).isLt
  have h2 : (i 2).val < 1024 := (i 2).isLt
  unfold val_main_v9
  rw [Host.dynamicUpdateSlice_eq_updateSlice _ _ _ _ ![0, 0, 0] (by intro a; fin_cases a <;> rfl) (by decide), updateSlice_apply, dif_pos]
  · rw [ref_grad]
    unfold grad
    refine Finset.sum_congr rfl fun k _ => ?_
    refine congrArg₂ (· * ·) (congrArg x (congrArg (ix2 k) (Fin.ext ?_))) (congrArg y (congrArg (ix2 k) (Fin.ext ?_)))
    · show ((i 1).val - 0) % 1024 = (i 1).val % 1024
      omega
    · show ((i 0).val - 0) * 1024 + ((i 2).val - 0) = (i 0).val * 1024 + (i 2).val
      omega
  · intro a
    match a with
    | ⟨0, _⟩ => exact ⟨Nat.zero_le _, h0⟩
    | ⟨1, _⟩ => show 0 ≤ (i 1).val ∧ (i 1).val < 0 + 1024; omega
    | ⟨2, _⟩ => exact ⟨Nat.zero_le _, h2⟩

/-- The reference elsewhere. -/
theorem ref_out (x : FVec Ideal S2048x1024 .bf16) (y : FVec Ideal S2048x4096 .bf16) (g : FVec Ideal S4x3072x1024 .bf16) (i : S4x3072x1024.Idx)
    (h : ¬(i 1).val / 1024 = 0) : val_main_v9 (F := Ideal) x y g i = g i := by
  unfold val_main_v9
  rw [Host.dynamicUpdateSlice_eq_updateSlice _ _ _ _ ![0, 0, 0] (by intro a; fin_cases a <;> rfl) (by decide), updateSlice_apply, dif_neg]
  intro hin
  have h1 : 0 ≤ (i 1).val ∧ (i 1).val < 0 + 1024 := hin 1
  omega

/-- The rows the kernel sets hold the product, the others what the array held. -/
theorem written : (dats m 0 c).arrAt 2 cfg0.N
    = fun i : S4x3072x1024.Idx => if (i 1).val / 1024 = 0 then grad (m ((c : Thread nD τ).loc main_arg0)) (m ((c : Thread nD τ).loc main_arg1)) i
      else (dats m 0 c).A 2 i := by
  refine (dats m 0 c).arrAt_eq_of_coversWhere 2 (fun i => grad (m ((c : Thread nD τ).loc main_arg0)) (m ((c : Thread nD τ).loc main_arg1)) i)
    (fun β => β (1 : Fin 3) = 0) (by decide +kernel) (fun t hf y => ?_) (fun j => by blk_simp [Pipeline.Window.cell_apply]; try omega)
  have h1 : t.val % 2 = 1 := (flush0_2 t).mp hf
  have hp : t.val - 1 < cfg0.N := Nat.lt_of_le_of_lt (Nat.sub_le _ _) t.isLt
  blk_simp
  rw [after0_2, outsAt0_B m c t (by omega) h1]
  frame_out
  rw [pay_next, read_unread_whole]
  unfold grad
  refine Eq.trans ?_ (sum_two (M := EReal) _).symm
  refine congrArg₂ (· + ·) ((first m c ⟨t.val - 1, hp⟩ (by show (t.val - 1) % 2 = 0; omega) _).trans ?_) ?_
  · refine Fin.sum_fin_congr fun k => ?_
    congr 1 <;> blk_ext [iblk, V, e0, e1, e2]
  · refine Fin.sum_fin_congr fun k => ?_
    congr 1 <;> blk_ext [iblk, V, e0, e1, e2]

/-- The kernel's result is the reference's. -/
theorem result : (dats m 0 c).arrAt 2 cfg0.N
    = val_main_v9 (F := Ideal) (m ((c : Thread nD τ).loc main_arg0)) (m ((c : Thread nD τ).loc main_arg1)) (m ((c : Thread nD τ).loc main_arg2)) := by
  rw [written]
  funext i
  by_cases h : (i 1).val / 1024 = 0
  · rw [if_pos h]; exact (ref_in _ _ _ i h).symm
  · rw [if_neg h]
    exact (show (dats m 0 c).A 2 i = m ((c : Thread nD τ).loc main_arg2) i by rw [A_eq]; unfold V; entry_read; rfl).trans (ref_out _ _ _ i h).symm

/-! ## The claims -/

theorem frame_kernel : letI := Cert.DwFf1.Gen.facts; Cert.quiescent_DwFf1 := fun m ρ _ =>
  Cert.DwFf1.Gen.frame (F := Bits) m ρ

theorem frame_ideal : letI := Cert.DwFf1Ideal.Gen.facts; Cert.quiescent_DwFf1Ideal := fun m ρ _ =>
  Cert.DwFf1Ideal.Gen.frame (F := Ideal) m ρ

/-- The reference's run read at its arguments; it declares no semaphore. -/
theorem frame_reference : letI := Cert.DwFf1RefIdeal.Gen.facts; Cert.quiescent_DwFf1RefIdeal := fun m ρ _ =>
  (θ_run Cert.DwFf1RefIdeal.defs _ _).mono (fun r h => ⟨fun c => (h c).2, sem_eq_zero_of_no_sems (by decide) r.2⟩)
    (Cert.DwFf1RefIdeal.Value.run (F := Ideal) m ρ)

/-- The kernel and the reference end with equal results. -/
theorem algebraic : letI := Cert.DwFf1Ideal.Gen.facts; letI := Cert.DwFf1RefIdeal.Gen.facts
    Cert.algebraic_DwFf1Ideal_DwFf1RefIdeal := by
  intro m g m' g' _ hargs
  refine ⟨fun c => val_main_v9 (F := Ideal) (m' ((c.tc : Thread Cert.DwFf1RefIdeal.nD Cert.DwFf1RefIdeal.τ).loc Cert.DwFf1RefIdeal.main_arg0))
    (m' ((c.tc : Thread Cert.DwFf1RefIdeal.nD Cert.DwFf1RefIdeal.τ).loc Cert.DwFf1RefIdeal.main_arg1))
    (m' ((c.tc : Thread Cert.DwFf1RefIdeal.nD Cert.DwFf1RefIdeal.τ).loc Cert.DwFf1RefIdeal.main_arg2)), ?_,
    Cert.DwFf1RefIdeal.Value.run (F := Ideal) m' g'⟩
  refine (θ_run _ _ _).mono (fun r h c => ⟨(h c).1.trans ?_, (h c).2⟩) (Cert.DwFf1Ideal.Value.run_blocks m g)
  rw [result]
  have a := hargs c
  rw [← a.1, ← a.2.1, ← a.2.2]

end Cert.Proof.DwFf1

end
-- ==== Proof.DA2.lean ====
/-
  The gradient of the MLP's hidden layer: the blocked product, times the squared relu's derivative.
-/
module

public import proofs.«01_k».proof.Defs
public import proofs.«01_k».proof.Proof.Gen.DA2.Frame
public import proofs.«01_k».proof.Proof.Gen.DA2Ideal.Value
public import proofs.«01_k».proof.Proof.Gen.DA2RefIdeal.Run
public import proofs.«01_k».proof.Proof.Gen.DA2RefIdeal.Read
public import proofs.«01_k».proof.Proof.Sums

@[expose] public section

noncomputable section

namespace Cert.Proof.DA2

open Cert.DA2Ideal Cert.DA2Ideal.Gen Cert.DA2RefIdeal.Read Cert.Proof.Sums
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

theorem e0 : ∀ t : Fin cfg0.N, win0_0.index t = ![t.val / 4, 0] := (by decide +kernel : ∀ t : Fin grid0.N, _)
theorem e1 : ∀ t : Fin cfg0.N, win0_1.index t = ![t.val % 4, 1, 0] := (by decide +kernel : ∀ t : Fin grid0.N, _)
theorem e2 : ∀ t : Fin cfg0.N, win0_2.index t = ![t.val / 4, t.val % 4] := (by decide +kernel : ∀ t : Fin grid0.N, _)
theorem e3 : ∀ t : Fin cfg0.N, win0_3.index t = ![t.val / 4, t.val % 4] := (by decide +kernel : ∀ t : Fin grid0.N, _)

/-- A block's product, from a zero accumulator, times twice the relu. -/
theorem pay (x : FVec Ideal S1024x1024 .f32) (y : FVec Ideal S1x1024x1024 .bf16) (z : FVec Ideal S1024x1024 .bf16) (j : S1024x1024.Idx) :
    k0_pay3 (F := Ideal) (k0_pay2 (F := Ideal) x y (k0_pay1 (F := Ideal))) z j
      = (∑ k : Fin 1024, x (ix2 (j 0) k) * y (ix3 0 (j 1) k)) * (Ideal.ofBits .f32 0x40000000#32 * max (z j) 0) := by
  unfold k0_pay3 k0_pay2 k0_pay1
  pointwise

/-- An entry of the reference. -/
theorem ref (x : FVec Ideal S2048x1024 .f32) (y : FVec Ideal S4x3072x1024 .bf16) (z : FVec Ideal S2048x4096 .bf16) (i : S2048x4096.Idx) :
    val_main_v16 (F := Ideal) x y z i = (∑ k : Fin 1024, x (ix2 (i 0) k)
      * y (ix3 ⟨(i 1).val / 1024, by have h : (i 1).val < 4096 := (i 1).isLt; omega⟩ ⟨1024 + (i 1).val % 1024, by omega⟩ ⟨k.val, by omega⟩)) * (Ideal.ofBits .f32 0x40000000#32 * max (z i) 0) := by
  rw [val_main_v16_apply]
  show val_main_v15 (F := Ideal) x y z i = _
  rw [val_main_v15_apply]
  have hd : val_main_v12 (F := Ideal) x y i = ∑ k : Fin 1024, x (ix2 (i 0) k)
      * y (ix3 ⟨(i 1).val / 1024, by have h : (i 1).val < 4096 := (i 1).isLt; omega⟩ ⟨1024 + (i 1).val % 1024, by omega⟩ ⟨k.val, by omega⟩) := by
    rw [val_main_v12_apply]
    refine Finset.sum_congr rfl fun k _ => ?_
    rw [val_main_v2_apply, val_main_v1_apply, val_main_v0_apply]
    have h1 : (i 1).val < 4096 := (i 1).isLt
    refine congrArg₂ (· * ·) (congrArg x (eq_ix2 _)) (congrArg y (funext fun a => Fin.ext ?_))
    match a with
    | ⟨0, _⟩ => show ((i 1).val * 1024 + k.val) / 1048576 = (i 1).val / 1024; omega
    | ⟨1, _⟩ => show 1024 + ((i 1).val * 1024 + k.val) / 1024 % 1024 = 1024 + (i 1).val % 1024; omega
    | ⟨2, _⟩ => show ((i 1).val * 1024 + k.val) % 1024 = k.val; omega
  rw [val_main_v13_apply, hd]
  generalize ∑ k : Fin 1024, x (ix2 (i 0) k)
      * y (ix3 ⟨(i 1).val / 1024, by have h : (i 1).val < 4096 := (i 1).isLt; omega⟩ ⟨1024 + (i 1).val % 1024, by omega⟩ ⟨k.val, by omega⟩) = S
  unfold val_main_v6 val_main_v10 val_main_v14 val_main_v9 val_main_v5 val_main_v4 val_main_v3 val_main_cst val_main_cst_1 val_main_cst_2
    val_main_call0_v0 val_main_call0_cst
  pointwise
  split_ifs with hz
  · rfl
  · rw [max_eq_right (not_lt.mp hz), mul_zero, mul_zero]

/-- The kernel's result is the reference's. -/
theorem result : (dats m 0 c).arrAt 3 cfg0.N
    = val_main_v16 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  frame_out
  rw [pay, ref]
  refine congrArg₂ (· * ·) (Fin.sum_fin_congr fun k => ?_) ?_
  · congr 1 <;> blk_ext [iblk, V, e0, e1, e2, e3]
  · refine congrArg (fun w => Ideal.ofBits .f32 0x40000000#32 * max w 0) ?_
    blk_ext [iblk, V, e0, e1, e2, e3]

/-! ## The claims -/

theorem frame_kernel : letI := Cert.DA2.Gen.facts; Cert.quiescent_DA2 := fun m ρ _ =>
  Cert.DA2.Gen.frame (F := Bits) m ρ

theorem frame_ideal : letI := Cert.DA2Ideal.Gen.facts; Cert.quiescent_DA2Ideal := fun m ρ _ =>
  Cert.DA2Ideal.Gen.frame (F := Ideal) m ρ

/-- The reference's run read at its arguments; it declares no semaphore. -/
theorem frame_reference : letI := Cert.DA2RefIdeal.Gen.facts; Cert.quiescent_DA2RefIdeal := fun m ρ _ =>
  (θ_run Cert.DA2RefIdeal.defs _ _).mono (fun r h => ⟨fun c => (h c).2, sem_eq_zero_of_no_sems (by decide) r.2⟩)
    (Cert.DA2RefIdeal.Value.run (F := Ideal) m ρ)

/-- The kernel and the reference end with equal results. -/
theorem algebraic : letI := Cert.DA2Ideal.Gen.facts; letI := Cert.DA2RefIdeal.Gen.facts
    Cert.algebraic_DA2Ideal_DA2RefIdeal := by
  intro m g m' g' _ hargs
  refine ⟨fun c => val_main_v16 (F := Ideal) (m' ((c.tc : Thread Cert.DA2RefIdeal.nD Cert.DA2RefIdeal.τ).loc Cert.DA2RefIdeal.main_arg0))
    (m' ((c.tc : Thread Cert.DA2RefIdeal.nD Cert.DA2RefIdeal.τ).loc Cert.DA2RefIdeal.main_arg1))
    (m' ((c.tc : Thread Cert.DA2RefIdeal.nD Cert.DA2RefIdeal.τ).loc Cert.DA2RefIdeal.main_arg2)), ?_,
    Cert.DA2RefIdeal.Value.run (F := Ideal) m' g'⟩
  refine (θ_run _ _ _).mono (fun r h c => ⟨(h c).1.trans ?_, (h c).2⟩) (Cert.DA2Ideal.Value.run_blocks m g)
  rw [result]
  have a := hargs c
  rw [← a.1, ← a.2.1, ← a.2.2]

end Cert.Proof.DA2

end
-- ==== Proof.Ff1.lean ====
/-
  The MLP's hidden layer: the blocked product is the whole product.
-/
module

public import proofs.«01_k».proof.Defs
public import proofs.«01_k».proof.Proof.Gen.Ff1.Frame
public import proofs.«01_k».proof.Proof.Gen.Ff1Ideal.Value
public import proofs.«01_k».proof.Proof.Gen.Ff1RefIdeal.Run
public import proofs.«01_k».proof.Proof.Gen.Ff1RefIdeal.Read
public import proofs.«01_k».proof.Proof.Sums

@[expose] public section

noncomputable section

namespace Cert.Proof.Ff1

open Cert.Ff1Ideal Cert.Ff1Ideal.Gen Cert.Ff1RefIdeal.Read Cert.Proof.Sums
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

theorem e0 : ∀ t : Fin cfg0.N, win0_0.index t = ![t.val / 4, 0] := (by decide +kernel : ∀ t : Fin grid0.N, _)
theorem e1 : ∀ t : Fin cfg0.N, win0_1.index t = ![t.val % 4, 0, 0] := (by decide +kernel : ∀ t : Fin grid0.N, _)
theorem e2 : ∀ t : Fin cfg0.N, win0_2.index t = ![t.val / 4, t.val % 4] := (by decide +kernel : ∀ t : Fin grid0.N, _)

/-- A block's product, from a zero accumulator. -/
theorem pay (x : FVec Ideal S1024x1024 .bf16) (y : FVec Ideal S1x1024x1024 .bf16) (j : S1024x1024.Idx) :
    k0_pay3 (F := Ideal) (k0_pay2 (F := Ideal) x y (k0_pay1 (F := Ideal))) j
      = ∑ k : Fin 1024, x (ix2 (j 0) k) * y (ix3 0 k (j 1)) := by
  unfold k0_pay3 k0_pay2 k0_pay1
  pointwise

/-- An entry of the reference. -/
theorem ref (x : FVec Ideal S2048x1024 .bf16) (y : FVec Ideal S4x3072x1024 .bf16) (i : S2048x4096.Idx) :
    val_main_v6 (F := Ideal) x y i = ∑ k : Fin 1024, x (ix2 (i 0) k)
      * y (ix3 ⟨(i 1).val / 1024, by have h : (i 1).val < 4096 := (i 1).isLt; omega⟩ ⟨k.val, by omega⟩ ⟨(i 1).val % 1024, by omega⟩) := by
  rw [val_main_v6_apply]
  show val_main_v5 (F := Ideal) x y i = _
  rw [val_main_v5_apply]
  refine Finset.sum_congr rfl fun k _ => ?_
  rw [val_main_v4_apply, val_main_v3_apply, val_main_v2_apply, val_main_v1_apply, val_main_v0_apply]
  have h1 : (i 1).val < 4096 := (i 1).isLt
  refine congrArg₂ (· * ·) (congrArg x (eq_ix2 _)) (congrArg y (funext fun a => Fin.ext ?_))
  match a with
  | ⟨0, _⟩ => show (k.val * 4096 + (i 1).val) / 1024 % 4 = (i 1).val / 1024; omega
  | ⟨1, _⟩ => show (k.val * 4096 + (i 1).val) / 4096 = k.val; omega
  | ⟨2, _⟩ => show (k.val * 4096 + (i 1).val) % 1024 = (i 1).val % 1024; omega

/-- The kernel's result is the reference's. -/
theorem result : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  rw [pay, ref]
  refine Fin.sum_fin_congr fun k => ?_
  congr 1 <;> blk_ext [iblk, V, e0, e1, e2]

/-! ## The claims -/

theorem frame_kernel : letI := Cert.Ff1.Gen.facts; Cert.quiescent_Ff1 := fun m ρ _ =>
  Cert.Ff1.Gen.frame (F := Bits) m ρ

theorem frame_ideal : letI := Cert.Ff1Ideal.Gen.facts; Cert.quiescent_Ff1Ideal := fun m ρ _ =>
  Cert.Ff1Ideal.Gen.frame (F := Ideal) m ρ

/-- The reference's run read at its arguments; it declares no semaphore. -/
theorem frame_reference : letI := Cert.Ff1RefIdeal.Gen.facts; Cert.quiescent_Ff1RefIdeal := fun m ρ _ =>
  (θ_run Cert.Ff1RefIdeal.defs _ _).mono (fun r h => ⟨fun c => (h c).2, sem_eq_zero_of_no_sems (by decide) r.2⟩)
    (Cert.Ff1RefIdeal.Value.run (F := Ideal) m ρ)

/-- The kernel and the reference end with equal results. -/
theorem algebraic : letI := Cert.Ff1Ideal.Gen.facts; letI := Cert.Ff1RefIdeal.Gen.facts
    Cert.algebraic_Ff1Ideal_Ff1RefIdeal := by
  intro m g m' g' _ hargs
  refine ⟨fun c => val_main_v6 (F := Ideal) (m' ((c.tc : Thread Cert.Ff1RefIdeal.nD Cert.Ff1RefIdeal.τ).loc Cert.Ff1RefIdeal.main_arg0))
    (m' ((c.tc : Thread Cert.Ff1RefIdeal.nD Cert.Ff1RefIdeal.τ).loc Cert.Ff1RefIdeal.main_arg1)), ?_,
    Cert.Ff1RefIdeal.Value.run (F := Ideal) m' g'⟩
  refine (θ_run _ _ _).mono (fun r h c => ⟨(h c).1.trans ?_, (h c).2⟩) (Cert.Ff1Ideal.Value.run_blocks m g)
  rw [result]
  have a := hargs c
  exact congrArg₂ (val_main_v6 (F := Ideal)) a.1.symm a.2.symm

end Cert.Proof.Ff1

end
-- ==== Proof.Ff2.lean ====
/-
  The MLP's output and the residual: four blocks of the summed axis, added one after the other, are the whole product.
-/
module

public import proofs.«01_k».proof.Defs
public import proofs.«01_k».proof.Proof.Gen.Ff2.Frame
public import proofs.«01_k».proof.Proof.Gen.Ff2Ideal.Value
public import proofs.«01_k».proof.Proof.Gen.Ff2RefIdeal.Run
public import proofs.«01_k».proof.Proof.Gen.Ff2RefIdeal.Read
public import proofs.«01_k».proof.Proof.Sums

@[expose] public section

noncomputable section

namespace Cert.Proof.Ff2

open Cert.Ff2Ideal Cert.Ff2Ideal.Gen Cert.Ff2RefIdeal.Read Cert.Proof.Sums
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

theorem e0 : ∀ t : Fin cfg0.N, win0_0.index t = ![t.val / 4, t.val % 4] := (by decide +kernel : ∀ t : Fin grid0.N, _)
theorem e1 : ∀ t : Fin cfg0.N, win0_1.index t = ![t.val % 4, 1, 0] := (by decide +kernel : ∀ t : Fin grid0.N, _)
theorem e2 : ∀ t : Fin cfg0.N, win0_2.index t = ![t.val / 4, 0] := (by decide +kernel : ∀ t : Fin grid0.N, _)
theorem e3 : ∀ t : Fin cfg0.N, win0_3.index t = ![t.val / 4, 0] := (by decide +kernel : ∀ t : Fin grid0.N, _)

/-- An entry of the product of two blocks. -/
def dot (x : FVec Ideal S1024x1024 .bf16) (y : FVec Ideal S1x1024x1024 .bf16) (j : S1024x1024.Idx) : EReal :=
  ∑ k : Fin 1024, relu2 (x (ix2 (j 0) k)) * y (ix3 0 k (j 1))

/-- A block's product, from a zero accumulator. -/
theorem pay_first (x : FVec Ideal S1024x1024 .bf16) (y : FVec Ideal S1x1024x1024 .bf16) (j : S1024x1024.Idx) :
    k0_pay2 (F := Ideal) x y (k0_pay1 (F := Ideal)) j = dot x y j := by
  unfold dot k0_pay2 k0_pay1 relu2
  pointwise

/-- A block's product, added to what was there. -/
theorem pay_next (x : FVec Ideal S1024x1024 .bf16) (y : FVec Ideal S1x1024x1024 .bf16) (a : FVec Ideal S1024x1024 .f32) (j : S1024x1024.Idx) :
    k0_pay2 (F := Ideal) x y a j = a j + dot x y j := by
  unfold dot k0_pay2 relu2
  pointwise

/-- The residual added to the accumulator. -/
theorem pay_last (a b : FVec Ideal S1024x1024 .f32) (j : S1024x1024.Idx) : k0_pay3 (F := Ideal) a b j = b j + a j := by
  unfold k0_pay3
  pointwise

/-- What the first of a block's four points leaves. -/
theorem first (t : Fin cfg0.N) (h : t.val % 4 = 0) (j : S1024x1024.Idx) :
    (outsAt0 m c t.val t.isLt).2 j = dot (iblk m c 0 t) (iblk m c 1 t) j := by
  rw [outsAt0_A m c t h (by omega)]
  frame_out
  exact pay_first _ _ j

/-- What the second and the third add to it. -/
theorem next (t : Fin cfg0.N) (h : ¬t.val % 4 = 0) (h' : ¬t.val % 4 = 3) (j : S1024x1024.Idx) :
    (outsAt0 m c t.val t.isLt).2 j
      = (outsAt0 m c (t.val - 1) (Nat.lt_of_le_of_lt (Nat.sub_le _ _) t.isLt)).2 j + dot (iblk m c 0 t) (iblk m c 1 t) j := by
  rw [outsAt0_B m c t h h']
  frame_out
  rw [read_unread_whole]
  exact pay_next _ _ _ j

/-- The accumulator before a block's last point, as three products. -/
theorem before (t : Fin cfg0.N) (h : t.val % 4 = 3) (j : S1024x1024.Idx) (h1 : t.val - 1 < cfg0.N) (h2 : t.val - 2 < cfg0.N) (h3 : t.val - 3 < cfg0.N) :
    (outsAt0 m c (t.val - 1) h1).2 j = dot (iblk m c 0 ⟨t.val - 3, h3⟩) (iblk m c 1 ⟨t.val - 3, h3⟩) j
      + dot (iblk m c 0 ⟨t.val - 2, h2⟩) (iblk m c 1 ⟨t.val - 2, h2⟩) j + dot (iblk m c 0 ⟨t.val - 1, h1⟩) (iblk m c 1 ⟨t.val - 1, h1⟩) j := by
  refine (next m c ⟨t.val - 1, h1⟩ (by show ¬(t.val - 1) % 4 = 0; omega) (by show ¬(t.val - 1) % 4 = 3; omega) j).trans ?_
  refine congrArg (· + _) ?_
  refine (next m c ⟨t.val - 2, h2⟩ (by show ¬(t.val - 2) % 4 = 0; omega) (by show ¬(t.val - 2) % 4 = 3; omega) j).trans ?_
  refine congrArg (· + _) ?_
  exact first m c ⟨t.val - 3, h3⟩ (by show (t.val - 3) % 4 = 0; omega) j

/-- An entry of the reference. -/
theorem ref (x : FVec Ideal S2048x4096 .bf16) (y : FVec Ideal S4x3072x1024 .bf16) (w : FVec Ideal S2048x1024 .f32) (i : S2048x1024.Idx) :
    val_main_v7 (F := Ideal) x y w i = w i + ∑ k : Fin 4096, relu2 (x (ix2 (i 0) k))
      * y (ix3 ⟨k.val / 1024, by omega⟩ ⟨1024 + k.val % 1024, by omega⟩ (i 1)) := by
  have h1 : (i 1).val < 1024 := (i 1).isLt
  rw [val_main_v7_apply]
  show w i + val_main_v6 (F := Ideal) x y i = _
  rw [val_main_v6_apply]
  refine congrArg (w i + ·) (Finset.sum_congr rfl fun k _ => ?_)
  rw [val_main_v2_apply, val_main_v1_apply, val_main_v0_apply]
  refine congrArg₂ (· * ·) ?_ (congrArg y (funext fun a => Fin.ext ?_))
  · unfold val_main_v5 val_main_v4 val_main_v3 val_main_call0_v0 val_main_call0_cst relu2
    pointwise
    exact congrArg (fun w : EReal => max w 0 * max w 0) (congrArg x (eq_ix2 _))
  · match a with
    | ⟨0, _⟩ => show (k.val * 1024 + (i 1).val) / 1048576 = k.val / 1024; omega
    | ⟨1, _⟩ => show 1024 + (k.val * 1024 + (i 1).val) / 1024 % 1024 = 1024 + k.val % 1024; omega
    | ⟨2, _⟩ => show (k.val * 1024 + (i 1).val) % 1024 = (i 1).val; omega

/-- The kernel's result is the reference's. -/
theorem result : (dats m 0 c).arrAt 3 cfg0.N
    = val_main_v7 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have h : t.val % 4 = 3 := (flush0_3 t).mp hf
  have h1 : t.val - 1 < cfg0.N := Nat.lt_of_le_of_lt (Nat.sub_le _ _) t.isLt
  have h2 : t.val - 2 < cfg0.N := Nat.lt_of_le_of_lt (Nat.sub_le _ _) t.isLt
  have h3 : t.val - 3 < cfg0.N := Nat.lt_of_le_of_lt (Nat.sub_le _ _) t.isLt
  blk_simp
  rw [after0_3, outsAt0_C m c t (by omega) h]
  frame_out
  rw [pay_last, pay_next, read_unread_whole, ref]
  refine congrArg₂ (· + ·) (by blk_ext [iblk, V, e0, e1, e2, e3]) ?_
  refine Eq.trans ?_ (sum_four (M := EReal) _).symm
  refine congrArg₂ (· + ·) ((before m c t h _ h1 h2 h3).trans ?_) ?_
  · refine congrArg₂ (· + ·) (congrArg₂ (· + ·) ?_ ?_) ?_ <;> refine Fin.sum_fin_congr fun k => ?_ <;>
      refine congrArg₂ (· * ·) (congrArg relu2 ?_) ?_ <;> blk_ext [iblk, V, e0, e1, e2, e3]
  · refine Fin.sum_fin_congr fun k => ?_
    refine congrArg₂ (· * ·) (congrArg relu2 ?_) ?_ <;> blk_ext [iblk, V, e0, e1, e2, e3]

/-! ## The claims -/

theorem frame_kernel : letI := Cert.Ff2.Gen.facts; Cert.quiescent_Ff2 := fun m ρ _ =>
  Cert.Ff2.Gen.frame (F := Bits) m ρ

theorem frame_ideal : letI := Cert.Ff2Ideal.Gen.facts; Cert.quiescent_Ff2Ideal := fun m ρ _ =>
  Cert.Ff2Ideal.Gen.frame (F := Ideal) m ρ

/-- The reference's run read at its arguments; it declares no semaphore. -/
theorem frame_reference : letI := Cert.Ff2RefIdeal.Gen.facts; Cert.quiescent_Ff2RefIdeal := fun m ρ _ =>
  (θ_run Cert.Ff2RefIdeal.defs _ _).mono (fun r h => ⟨fun c => (h c).2, sem_eq_zero_of_no_sems (by decide) r.2⟩)
    (Cert.Ff2RefIdeal.Value.run (F := Ideal) m ρ)

/-- The kernel and the reference end with equal results. -/
theorem algebraic : letI := Cert.Ff2Ideal.Gen.facts; letI := Cert.Ff2RefIdeal.Gen.facts
    Cert.algebraic_Ff2Ideal_Ff2RefIdeal := by
  intro m g m' g' _ hargs
  refine ⟨fun c => val_main_v7 (F := Ideal) (m' ((c.tc : Thread Cert.Ff2RefIdeal.nD Cert.Ff2RefIdeal.τ).loc Cert.Ff2RefIdeal.main_arg0))
    (m' ((c.tc : Thread Cert.Ff2RefIdeal.nD Cert.Ff2RefIdeal.τ).loc Cert.Ff2RefIdeal.main_arg1))
    (m' ((c.tc : Thread Cert.Ff2RefIdeal.nD Cert.Ff2RefIdeal.τ).loc Cert.Ff2RefIdeal.main_arg2)), ?_,
    Cert.Ff2RefIdeal.Value.run (F := Ideal) m' g'⟩
  refine (θ_run _ _ _).mono (fun r h c => ⟨(h c).1.trans ?_, (h c).2⟩) (Cert.Ff2Ideal.Value.run_blocks m g)
  rw [result]
  have a := hargs c
  rw [← a.1, ← a.2.1, ← a.2.2]

end Cert.Proof.Ff2

end
-- ==== Proof.Proj.lean ====
/-
  The input projection: the blocked product is the whole product.
-/
module

public import proofs.«01_k».proof.Proof.Gen.Proj.Frame
public import proofs.«01_k».proof.Proof.Gen.ProjIdeal.Value
public import proofs.«01_k».proof.Proof.Gen.ProjRefIdeal.Run
public import proofs.«01_k».proof.Proof.Gen.ProjRefIdeal.Read
public import Idealize.ShloMosaic.Lib.Pipeline.ValueKit
public import proofs.«01_k».proof.Defs
public import Idealize.ShloMosaic.Lib.Pointwise

@[expose] public section

noncomputable section

namespace Cert.Proof.Proj

open Cert.ProjIdeal Cert.ProjIdeal.Gen Cert.ProjRefIdeal.Read
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

theorem e0 : ∀ t : Fin cfg0.N, win0_0.index t = ![t.val / 11, 0] := (by decide +kernel : ∀ t : Fin grid0.N, _)
theorem e1 : ∀ t : Fin cfg0.N, win0_1.index t = ![t.val % 11, 0] := (by decide +kernel : ∀ t : Fin grid0.N, _)
theorem e2 : ∀ t : Fin cfg0.N, win0_2.index t = ![t.val / 11, t.val % 11] := (by decide +kernel : ∀ t : Fin grid0.N, _)

/-- A block's product, from a zero accumulator. -/
theorem pay (x : FVec Ideal S1024x1024 .bf16) (y : FVec Ideal S512x1024 .bf16) (j : S1024x512.Idx) :
    k0_pay2 (F := Ideal) x y (k0_pay1 (F := Ideal)) j = ∑ k : Fin 1024, x (ix2 (j 0) k) * y (ix2 (j 1) k) := by
  unfold k0_pay2 k0_pay1
  pointwise

/-- An entry of the reference. -/
theorem ref (x : FVec Ideal S2048x1024 .bf16) (y : FVec Ideal S5632x1024 .bf16) (i : S2048x5632.Idx) :
    val_main_v3 (F := Ideal) x y i = ∑ k : Fin 1024, x (ix2 (i 0) k) * y (ix2 (i 1) k) := by
  rw [val_main_v3_apply]
  refine Finset.sum_congr rfl fun k _ => ?_
  rw [val_main_v0_apply, val_main_v2_apply, val_main_v1_apply]
  exact congrArg₂ (· * ·) (congrArg x (eq_ix2 _)) (congrArg y (eq_ix2 _))

/-- The kernel's result is the reference's. -/
theorem result : (dats m 0 c).arrAt 2 cfg0.N
    = val_main_v3 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  rw [pay, ref]
  refine Fin.sum_fin_congr fun k => ?_
  congr 1 <;> blk_ext [iblk, V, e0, e1, e2]

/-! ## The claims -/

theorem frame_kernel : letI := Cert.Proj.Gen.facts; Cert.quiescent_Proj := fun m ρ _ =>
  Cert.Proj.Gen.frame (F := Bits) m ρ

theorem frame_ideal : letI := Cert.ProjIdeal.Gen.facts; Cert.quiescent_ProjIdeal := fun m ρ _ =>
  Cert.ProjIdeal.Gen.frame (F := Ideal) m ρ

/-- The reference's run read at its arguments; it declares no semaphore. -/
theorem frame_reference : letI := Cert.ProjRefIdeal.Gen.facts; Cert.quiescent_ProjRefIdeal := fun m ρ _ =>
  (θ_run Cert.ProjRefIdeal.defs _ _).mono (fun r h => ⟨fun c => (h c).2, sem_eq_zero_of_no_sems (by decide) r.2⟩)
    (Cert.ProjRefIdeal.Value.run (F := Ideal) m ρ)

/-- The kernel and the reference end with equal results. -/
theorem algebraic : letI := Cert.ProjIdeal.Gen.facts; letI := Cert.ProjRefIdeal.Gen.facts
    Cert.algebraic_ProjIdeal_ProjRefIdeal := by
  intro m g m' g' _ hargs
  refine ⟨fun c => val_main_v3 (F := Ideal) (m' ((c.tc : Thread Cert.ProjRefIdeal.nD Cert.ProjRefIdeal.τ).loc Cert.ProjRefIdeal.main_arg0))
    (m' ((c.tc : Thread Cert.ProjRefIdeal.nD Cert.ProjRefIdeal.τ).loc Cert.ProjRefIdeal.main_arg1)), ?_, Cert.ProjRefIdeal.Value.run (F := Ideal) m' g'⟩
  refine (θ_run _ _ _).mono (fun r h c => ⟨(h c).1.trans ?_, (h c).2⟩) (Cert.ProjIdeal.Value.run_blocks m g)
  rw [result]
  have a := hargs c
  exact congrArg₂ (val_main_v3 (F := Ideal)) a.1.symm a.2.symm

end Cert.Proof.Proj

end
-- ==== Proof.Out.lean ====
/-
  The output projection of the self-attention, added to the residual.
-/
module

public import proofs.«01_k».proof.Defs
public import proofs.«01_k».proof.Proof.Gen.Out.Frame
public import proofs.«01_k».proof.Proof.Gen.OutIdeal.Value
public import proofs.«01_k».proof.Proof.Gen.OutRefIdeal.Run
public import proofs.«01_k».proof.Proof.Gen.OutRefIdeal.Read
public import proofs.«01_k».proof.Proof.Sums

@[expose] public section

noncomputable section

namespace Cert.Proof.Out

open Cert.OutIdeal Cert.OutIdeal.Gen Cert.OutRefIdeal.Read Cert.Proof.Sums
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

theorem e0 : ∀ t : Fin cfg0.N, win0_0.index t = ![t.val, 0] := (by decide +kernel : ∀ t : Fin grid0.N, _)
theorem e1 : ∀ t : Fin cfg0.N, win0_1.index t = ![0, 1, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)

/-- A block's product, from a zero accumulator, after the residual. -/
theorem pay (x : FVec Ideal S1024x1024 .bf16) (y : FVec Ideal S4x256x1024 .bf16) (z : FVec Ideal S1024x1024 .f32) (j : S1024x1024.Idx) :
    k0_pay3 (F := Ideal) (k0_pay2 (F := Ideal) x y (k0_pay1 (F := Ideal))) z j
      = z j + ∑ k : Fin 1024, x (ix2 (j 0) k) * y (ix3 ⟨k.val / 256, by omega⟩ ⟨k.val % 256, by omega⟩ (j 1)) := by
  unfold k0_pay3 k0_pay2 k0_pay1
  pointwise

/-- An entry of the reference. -/
theorem ref (x : FVec Ideal S2048x1024 .bf16) (y : FVec Ideal S4x1888x1024 .bf16) (z : FVec Ideal S2048x1024 .f32) (i : S2048x1024.Idx) :
    val_main_v5 (F := Ideal) x y z i = z i + ∑ k : Fin 1024, x (ix2 (i 0) k)
      * y (ix3 ⟨k.val / 256, by omega⟩ ⟨256 + k.val % 256, by omega⟩ ⟨(i 1).val, (i 1).isLt⟩) := by
  rw [val_main_v5_apply]
  refine congrArg (z i + ·) ?_
  rw [val_main_v4_apply]
  refine Finset.sum_congr rfl fun k _ => ?_
  rw [val_main_v3_apply, val_main_v2_apply, val_main_v1_apply, val_main_v0_apply]
  have h1 : (i 1).val < 1024 := (i 1).isLt
  refine congrArg₂ (· * ·) (congrArg x (eq_ix2 _)) (congrArg y (funext fun a => Fin.ext ?_))
  match a with
  | ⟨0, _⟩ => show (k.val * 1024 + (i 1).val) / 262144 = k.val / 256; omega
  | ⟨1, _⟩ => show 256 + (k.val * 1024 + (i 1).val) / 1024 % 256 = 256 + k.val % 256; omega
  | ⟨2, _⟩ => show (k.val * 1024 + (i 1).val) % 1024 = (i 1).val; omega

/-- The weights' block, which no transfer cuts. -/
theorem weights (t : Fin cfg0.N) (j : S4x256x1024.Idx) : X0_1 m c t j
    = m ((c : Thread nD τ).loc main_arg1) (ix3 ⟨(j 0).val, (j 0).isLt⟩ ⟨256 + (j 1).val, by have h : (j 1).val < 256 := (j 1).isLt; omega⟩ ⟨(j 2).val, (j 2).isLt⟩) := by
  unfold X0_1 Pipeline.Window.fill
  rw [dif_pos (moved0_1 t j)]
  blk_ext [iblk, V, e1]

/-- The kernel's result is the reference's. -/
theorem result : (dats m 0 c).arrAt 3 cfg0.N
    = val_main_v5 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  frame_out
  rw [pay, ref]
  refine congrArg₂ (· + ·) (by blk_ext [iblk, V, e0, e1, e2, e3]) ?_
  refine Fin.sum_fin_congr fun k => ?_
  congr 1
  · blk_ext [iblk, V, e0, e1, e2, e3]
  · rw [weights]
    blk_ext [iblk, V, e0, e1, e2, e3]

/-! ## The claims -/

theorem frame_kernel : letI := Cert.Out.Gen.facts; Cert.quiescent_Out := fun m ρ _ =>
  Cert.Out.Gen.frame (F := Bits) m ρ

theorem frame_ideal : letI := Cert.OutIdeal.Gen.facts; Cert.quiescent_OutIdeal := fun m ρ _ =>
  Cert.OutIdeal.Gen.frame (F := Ideal) m ρ

/-- The reference's run read at its arguments; it declares no semaphore. -/
theorem frame_reference : letI := Cert.OutRefIdeal.Gen.facts; Cert.quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

/-- The kernel and the reference end with equal results. -/
theorem algebraic : letI := Cert.OutIdeal.Gen.facts; letI := Cert.OutRefIdeal.Gen.facts
    Cert.algebraic_OutIdeal_OutRefIdeal := by
  intro m g m' g' _ hargs
  refine ⟨fun c => val_main_v5 (F := Ideal) (m' ((c.tc : Thread Cert.OutRefIdeal.nD Cert.OutRefIdeal.τ).loc Cert.OutRefIdeal.main_arg0))
    (m' ((c.tc : Thread Cert.OutRefIdeal.nD Cert.OutRefIdeal.τ).loc Cert.OutRefIdeal.main_arg1))
    (m' ((c.tc : Thread Cert.OutRefIdeal.nD Cert.OutRefIdeal.τ).loc Cert.OutRefIdeal.main_arg2)), ?_,
    Cert.OutRefIdeal.Value.run (F := Ideal) m' g'⟩
  refine (θ_run _ _ _).mono (fun r h c => ⟨(h c).1.trans ?_, (h c).2⟩) (Cert.OutIdeal.Value.run_blocks m g)
  rw [result]
  have a := hargs c
  rw [← a.1, ← a.2.1, ← a.2.2]

end Cert.Proof.Out

end
-- ==== Proof.Xo.lean ====
/-
  The output projection of the cross-attention, added to the residual.
-/
module

public import proofs.«01_k».proof.Defs
public import proofs.«01_k».proof.Proof.Gen.Xo.Frame
public import proofs.«01_k».proof.Proof.Gen.XoIdeal.Value
public import proofs.«01_k».proof.Proof.Gen.XoRefIdeal.Run
public import proofs.«01_k».proof.Proof.Gen.XoRefIdeal.Read
public import proofs.«01_k».proof.Proof.Sums

@[expose] public section

noncomputable section

namespace Cert.Proof.Xo

open Cert.XoIdeal Cert.XoIdeal.Gen Cert.XoRefIdeal.Read Cert.Proof.Sums
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

theorem e0 : ∀ t : Fin cfg0.N, win0_0.index t = ![t.val, 0] := (by decide +kernel : ∀ t : Fin grid0.N, _)
theorem e1 : ∀ t : Fin cfg0.N, win0_1.index t = ![0, 11, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)

/-- A block's product, from a zero accumulator, after the residual. -/
theorem pay (x : FVec Ideal S1024x1024 .bf16) (y : FVec Ideal S4x256x1024 .bf16) (z : FVec Ideal S1024x1024 .f32) (j : S1024x1024.Idx) :
    k0_pay3 (F := Ideal) (k0_pay2 (F := Ideal) x y (k0_pay1 (F := Ideal))) z j
      = z j + ∑ k : Fin 1024, x (ix2 (j 0) k) * y (ix3 ⟨k.val / 256, by omega⟩ ⟨k.val % 256, by omega⟩ (j 1)) := by
  unfold k0_pay3 k0_pay2 k0_pay1
  pointwise

/-- An entry of the reference. -/
theorem ref (x : FVec Ideal S2048x1024 .bf16) (y : FVec Ideal S4x3072x1024 .bf16) (z : FVec Ideal S2048x1024 .f32) (i : S2048x1024.Idx) :
    val_main_v5 (F := Ideal) x y z i = z i + ∑ k : Fin 1024, x (ix2 (i 0) k)
      * y (ix3 ⟨k.val / 256, by omega⟩ ⟨2816 + k.val % 256, by omega⟩ ⟨(i 1).val, (i 1).isLt⟩) := by
  rw [val_main_v5_apply]
  refine congrArg (z i + ·) ?_
  rw [val_main_v4_apply]
  refine Finset.sum_congr rfl fun k _ => ?_
  rw [val_main_v3_apply, val_main_v2_apply, val_main_v1_apply, val_main_v0_apply]
  have h1 : (i 1).val < 1024 := (i 1).isLt
  refine congrArg₂ (· * ·) (congrArg x (eq_ix2 _)) (congrArg y (funext fun a => Fin.ext ?_))
  match a with
  | ⟨0, _⟩ => show (k.val * 1024 + (i 1).val) / 262144 = k.val / 256; omega
  | ⟨1, _⟩ => show 2816 + (k.val * 1024 + (i 1).val) / 1024 % 256 = 2816 + k.val % 256; omega
  | ⟨2, _⟩ => show (k.val * 1024 + (i 1).val) % 1024 = (i 1).val; omega

/-- The kernel's result is the reference's. -/
theorem result : (dats m 0 c).arrAt 3 cfg0.N
    = val_main_v5 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  frame_out
  rw [pay, ref]
  refine congrArg₂ (· + ·) (by blk_ext [iblk, V, e0, e1, e2, e3]) ?_
  refine Fin.sum_fin_congr fun k => ?_
  congr 1 <;> blk_ext [iblk, V, e0, e1, e2, e3]

/-! ## The claims -/

theorem frame_kernel : letI := Cert.Xo.Gen.facts; Cert.quiescent_Xo := fun m ρ _ =>
  Cert.Xo.Gen.frame (F := Bits) m ρ

theorem frame_ideal : letI := Cert.XoIdeal.Gen.facts; Cert.quiescent_XoIdeal := fun m ρ _ =>
  Cert.XoIdeal.Gen.frame (F := Ideal) m ρ

/-- The reference's run read at its arguments; it declares no semaphore. -/
theorem frame_reference : letI := Cert.XoRefIdeal.Gen.facts; Cert.quiescent_XoRefIdeal := fun m ρ _ =>
  (θ_run Cert.XoRefIdeal.defs _ _).mono (fun r h => ⟨fun c => (h c).2, sem_eq_zero_of_no_sems (by decide) r.2⟩)
    (Cert.XoRefIdeal.Value.run (F := Ideal) m ρ)

/-- The kernel and the reference end with equal results. -/
theorem algebraic : letI := Cert.XoIdeal.Gen.facts; letI := Cert.XoRefIdeal.Gen.facts
    Cert.algebraic_XoIdeal_XoRefIdeal := by
  intro m g m' g' _ hargs
  refine ⟨fun c => val_main_v5 (F := Ideal) (m' ((c.tc : Thread Cert.XoRefIdeal.nD Cert.XoRefIdeal.τ).loc Cert.XoRefIdeal.main_arg0))
    (m' ((c.tc : Thread Cert.XoRefIdeal.nD Cert.XoRefIdeal.τ).loc Cert.XoRefIdeal.main_arg1))
    (m' ((c.tc : Thread Cert.XoRefIdeal.nD Cert.XoRefIdeal.τ).loc Cert.XoRefIdeal.main_arg2)), ?_,
    Cert.XoRefIdeal.Value.run (F := Ideal) m' g'⟩
  refine (θ_run _ _ _).mono (fun r h c => ⟨(h c).1.trans ?_, (h c).2⟩) (Cert.XoIdeal.Value.run_blocks m g)
  rw [result]
  have a := hargs c
  rw [← a.1, ← a.2.1, ← a.2.2]

end Cert.Proof.Xo

end
-- ==== Proof.Xq.lean ====
/-
  The query projection of the cross-attention.
-/
module

public import proofs.«01_k».proof.Defs
public import proofs.«01_k».proof.Proof.Gen.Xq.Frame
public import proofs.«01_k».proof.Proof.Gen.XqIdeal.Value
public import proofs.«01_k».proof.Proof.Gen.XqRefIdeal.Run
public import proofs.«01_k».proof.Proof.Gen.XqRefIdeal.Read
public import proofs.«01_k».proof.Proof.Sums

@[expose] public section

noncomputable section

namespace Cert.Proof.Xq

open Cert.XqIdeal Cert.XqIdeal.Gen Cert.XqRefIdeal.Read Cert.Proof.Sums
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

theorem e0 : ∀ t : Fin cfg0.N, win0_0.index t = ![t.val, 0] := (by decide +kernel : ∀ t : Fin grid0.N, _)
theorem e1 : ∀ t : Fin cfg0.N, win0_1.index t = ![0, 10, 0] := (by decide +kernel : ∀ t : Fin grid0.N, _)
theorem e2 : ∀ t : Fin cfg0.N, win0_2.index t = ![t.val, 0] := (by decide +kernel : ∀ t : Fin grid0.N, _)

/-- A block's product, from a zero accumulator. -/
theorem pay (x : FVec Ideal S1024x1024 .bf16) (y : FVec Ideal S4x256x1024 .bf16) (j : S1024x1024.Idx) :
    k0_pay3 (F := Ideal) (k0_pay2 (F := Ideal) x y (k0_pay1 (F := Ideal))) j
      = ∑ k : Fin 1024, x (ix2 (j 0) k) * y (ix3 ⟨k.val / 256, by omega⟩ ⟨k.val % 256, by omega⟩ (j 1)) := by
  unfold k0_pay3 k0_pay2 k0_pay1
  pointwise

/-- An entry of the reference. -/
theorem ref (x : FVec Ideal S2048x1024 .bf16) (y : FVec Ideal S4x3072x1024 .bf16) (i : S2048x1024.Idx) :
    val_main_v5 (F := Ideal) x y i = ∑ k : Fin 1024, x (ix2 (i 0) k)
      * y (ix3 ⟨k.val / 256, by omega⟩ ⟨2560 + k.val % 256, by omega⟩ ⟨(i 1).val, (i 1).isLt⟩) := by
  rw [val_main_v5_apply]
  show val_main_v4 (F := Ideal) x y i = _
  rw [val_main_v4_apply]
  refine Finset.sum_congr rfl fun k _ => ?_
  rw [val_main_v3_apply, val_main_v2_apply, val_main_v1_apply, val_main_v0_apply]
  have h1 : (i 1).val < 1024 := (i 1).isLt
  refine congrArg₂ (· * ·) (congrArg x (eq_ix2 _)) (congrArg y (funext fun a => Fin.ext ?_))
  match a with
  | ⟨0, _⟩ => show (k.val * 1024 + (i 1).val) / 262144 = k.val / 256; omega
  | ⟨1, _⟩ => show 2560 + (k.val * 1024 + (i 1).val) / 1024 % 256 = 2560 + k.val % 256; omega
  | ⟨2, _⟩ => show (k.val * 1024 + (i 1).val) % 1024 = (i 1).val; omega

/-- The kernel's result is the reference's. -/
theorem result : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  rw [pay, ref]
  refine Fin.sum_fin_congr fun k => ?_
  congr 1 <;> blk_ext [iblk, V, e0, e1, e2]

/-! ## The claims -/

theorem frame_kernel : letI := Cert.Xq.Gen.facts; Cert.quiescent_Xq := fun m ρ _ =>
  Cert.Xq.Gen.frame (F := Bits) m ρ

theorem frame_ideal : letI := Cert.XqIdeal.Gen.facts; Cert.quiescent_XqIdeal := fun m ρ _ =>
  Cert.XqIdeal.Gen.frame (F := Ideal) m ρ

/-- The reference's run read at its arguments; it declares no semaphore. -/
theorem frame_reference : letI := Cert.XqRefIdeal.Gen.facts; Cert.quiescent_XqRefIdeal := fun m ρ _ =>
  (θ_run Cert.XqRefIdeal.defs _ _).mono (fun r h => ⟨fun c => (h c).2, sem_eq_zero_of_no_sems (by decide) r.2⟩)
    (Cert.XqRefIdeal.Value.run (F := Ideal) m ρ)

/-- The kernel and the reference end with equal results. -/
theorem algebraic : letI := Cert.XqIdeal.Gen.facts; letI := Cert.XqRefIdeal.Gen.facts
    Cert.algebraic_XqIdeal_XqRefIdeal := by
  intro m g m' g' _ hargs
  refine ⟨fun c => val_main_v5 (F := Ideal) (m' ((c.tc : Thread Cert.XqRefIdeal.nD Cert.XqRefIdeal.τ).loc Cert.XqRefIdeal.main_arg0))
    (m' ((c.tc : Thread Cert.XqRefIdeal.nD Cert.XqRefIdeal.τ).loc Cert.XqRefIdeal.main_arg1)), ?_,
    Cert.XqRefIdeal.Value.run (F := Ideal) m' g'⟩
  refine (θ_run _ _ _).mono (fun r h c => ⟨(h c).1.trans ?_, (h c).2⟩) (Cert.XqIdeal.Value.run_blocks m g)
  rw [result]
  have a := hargs c
  exact congrArg₂ (val_main_v5 (F := Ideal)) a.1.symm a.2.symm

end Cert.Proof.Xq

end
-- ==== Proof.DO2.lean ====
/-
  The gradient of the cross-attention's merged heads.
-/
module

public import proofs.«01_k».proof.Defs
public import proofs.«01_k».proof.Proof.Gen.DO2.Frame
public import proofs.«01_k».proof.Proof.Gen.DO2Ideal.Value
public import proofs.«01_k».proof.Proof.Gen.DO2RefIdeal.Run
public import proofs.«01_k».proof.Proof.Gen.DO2RefIdeal.Read
public import proofs.«01_k».proof.Proof.Sums

@[expose] public section

noncomputable section

namespace Cert.Proof.DO2

open Cert.DO2Ideal Cert.DO2Ideal.Gen Cert.DO2RefIdeal.Read Cert.Proof.Sums
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

theorem e0 : ∀ t : Fin cfg0.N, win0_0.index t = ![t.val, 0] := (by decide +kernel : ∀ t : Fin grid0.N, _)
theorem e1 : ∀ t : Fin cfg0.N, win0_1.index t = ![0, 11, 0] := (by decide +kernel : ∀ t : Fin grid0.N, _)
theorem e2 : ∀ t : Fin cfg0.N, win0_2.index t = ![t.val, 0] := (by decide +kernel : ∀ t : Fin grid0.N, _)

/-- A block's product with the transposed weights, from a zero accumulator. -/
theorem pay (x : FVec Ideal S1024x1024 .f32) (y : FVec Ideal S4x256x1024 .bf16) (j : S1024x1024.Idx) :
    k0_pay3 (F := Ideal) (k0_pay2 (F := Ideal) x y (k0_pay1 (F := Ideal))) j
      = ∑ k : Fin 1024, x (ix2 (j 0) k) * y (ix3 ⟨(j 1).val / 256, by have h : (j 1).val < 1024 := (j 1).isLt; omega⟩ ⟨(j 1).val % 256, by omega⟩ k) := by
  unfold k0_pay3 k0_pay2 k0_pay1
  pointwise

/-- An entry of the reference. -/
theorem ref (x : FVec Ideal S2048x1024 .f32) (y : FVec Ideal S4x3072x1024 .bf16) (i : S2048x1024.Idx) :
    val_main_v6 (F := Ideal) x y i = ∑ k : Fin 1024, x (ix2 (i 0) k)
      * y (ix3 ⟨(i 1).val / 256, by have h : (i 1).val < 1024 := (i 1).isLt; omega⟩ ⟨2816 + (i 1).val % 256, by omega⟩ k) := by
  rw [val_main_v6_apply]
  show val_main_v5 (F := Ideal) x y i = _
  rw [val_main_v5_apply]
  refine Finset.sum_congr rfl fun k _ => ?_
  rw [val_main_v3_apply, val_main_v2_apply, val_main_v1_apply]
  have h1 : (i 1).val < 1024 := (i 1).isLt
  refine congrArg₂ (· * ·) (congrArg x (eq_ix2 _)) (congrArg y (funext fun a => Fin.ext ?_))
  match a with
  | ⟨0, _⟩ => show ((i 1).val * 1024 + k.val) / 262144 = (i 1).val / 256; omega
  | ⟨1, _⟩ => show 2816 + ((i 1).val * 1024 + k.val) / 1024 % 256 = 2816 + (i 1).val % 256; omega
  | ⟨2, _⟩ => show ((i 1).val * 1024 + k.val) % 1024 = k.val; omega

/-- The kernel's result is the reference's. -/
theorem result : (dats m 0 c).arrAt 2 cfg0.N
    = val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  rw [pay, ref]
  refine Fin.sum_fin_congr fun k => ?_
  congr 1 <;> blk_ext [iblk, V, e0, e1, e2]

/-! ## The claims -/

theorem frame_kernel : letI := Cert.DO2.Gen.facts; Cert.quiescent_DO2 := fun m ρ _ =>
  Cert.DO2.Gen.frame (F := Bits) m ρ

theorem frame_ideal : letI := Cert.DO2Ideal.Gen.facts; Cert.quiescent_DO2Ideal := fun m ρ _ =>
  Cert.DO2Ideal.Gen.frame (F := Ideal) m ρ

/-- The reference's run read at its arguments; it declares no semaphore. -/
theorem frame_reference : letI := Cert.DO2RefIdeal.Gen.facts; Cert.quiescent_DO2RefIdeal := fun m ρ _ =>
  (θ_run Cert.DO2RefIdeal.defs _ _).mono (fun r h => ⟨fun c => (h c).2, sem_eq_zero_of_no_sems (by decide) r.2⟩)
    (Cert.DO2RefIdeal.Value.run (F := Ideal) m ρ)

/-- The kernel and the reference end with equal results. -/
theorem algebraic : letI := Cert.DO2Ideal.Gen.facts; letI := Cert.DO2RefIdeal.Gen.facts
    Cert.algebraic_DO2Ideal_DO2RefIdeal := by
  intro m g m' g' _ hargs
  refine ⟨fun c => val_main_v6 (F := Ideal) (m' ((c.tc : Thread Cert.DO2RefIdeal.nD Cert.DO2RefIdeal.τ).loc Cert.DO2RefIdeal.main_arg0))
    (m' ((c.tc : Thread Cert.DO2RefIdeal.nD Cert.DO2RefIdeal.τ).loc Cert.DO2RefIdeal.main_arg1)), ?_,
    Cert.DO2RefIdeal.Value.run (F := Ideal) m' g'⟩
  refine (θ_run _ _ _).mono (fun r h c => ⟨(h c).1.trans ?_, (h c).2⟩) (Cert.DO2Ideal.Value.run_blocks m g)
  rw [result]
  have a := hargs c
  exact congrArg₂ (val_main_v6 (F := Ideal)) a.1.symm a.2.symm

end Cert.Proof.DO2

end
-- ==== Proof.DMerged.lean ====
/-
  The gradient of the self-attention's merged heads.
-/
module

public import proofs.«01_k».proof.Defs
public import proofs.«01_k».proof.Proof.Gen.DMerged.Frame
public import proofs.«01_k».proof.Proof.Gen.DMergedIdeal.Value
public import proofs.«01_k».proof.Proof.Gen.DMergedRefIdeal.Run
public import proofs.«01_k».proof.Proof.Gen.DMergedRefIdeal.Read
public import proofs.«01_k».proof.Proof.Sums

@[expose] public section

noncomputable section

namespace Cert.Proof.DMerged

open Cert.DMergedIdeal Cert.DMergedIdeal.Gen Cert.DMergedRefIdeal.Read Cert.Proof.Sums
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

theorem e0 : ∀ t : Fin cfg0.N, win0_0.index t = ![t.val, 0] := (by decide +kernel : ∀ t : Fin grid0.N, _)
theorem e1 : ∀ t : Fin cfg0.N, win0_1.index t = ![0, 1, 0] := (by decide +kernel : ∀ t : Fin grid0.N, _)
theorem e2 : ∀ t : Fin cfg0.N, win0_2.index t = ![t.val, 0] := (by decide +kernel : ∀ t : Fin grid0.N, _)

/-- A block's product with the transposed weights, from a zero accumulator. -/
theorem pay (x : FVec Ideal S1024x1024 .f32) (y : FVec Ideal S4x256x1024 .bf16) (j : S1024x1024.Idx) :
    k0_pay2 (F := Ideal) x y (k0_pay1 (F := Ideal)) j
      = ∑ k : Fin 1024, x (ix2 (j 0) k) * y (ix3 ⟨(j 1).val / 256, by have h : (j 1).val < 1024 := (j 1).isLt; omega⟩ ⟨(j 1).val % 256, by omega⟩ k) := by
  unfold k0_pay2 k0_pay1
  pointwise

/-- An entry of the reference. -/
theorem ref (x : FVec Ideal S2048x1024 .f32) (y : FVec Ideal S4x1888x1024 .bf16) (i : S2048x1024.Idx) :
    val_main_v5 (F := Ideal) x y i = ∑ k : Fin 1024, x (ix2 (i 0) k)
      * y (ix3 ⟨(i 1).val / 256, by have h : (i 1).val < 1024 := (i 1).isLt; omega⟩ ⟨256 + (i 1).val % 256, by omega⟩ k) := by
  rw [val_main_v5_apply]
  refine Finset.sum_congr rfl fun k _ => ?_
  rw [val_main_v3_apply, val_main_v2_apply, val_main_v1_apply]
  have h1 : (i 1).val < 1024 := (i 1).isLt
  refine congrArg₂ (· * ·) (congrArg x (eq_ix2 _)) (congrArg y (funext fun a => Fin.ext ?_))
  match a with
  | ⟨0, _⟩ => show ((i 1).val * 1024 + k.val) / 262144 = (i 1).val / 256; omega
  | ⟨1, _⟩ => show 256 + ((i 1).val * 1024 + k.val) / 1024 % 256 = 256 + (i 1).val % 256; omega
  | ⟨2, _⟩ => show ((i 1).val * 1024 + k.val) % 1024 = k.val; omega

/-- The weights' block, which no transfer cuts. -/
theorem weights (t : Fin cfg0.N) (j : S4x256x1024.Idx) : X0_1 m c t j
    = m ((c : Thread nD τ).loc main_arg1) (ix3 ⟨(j 0).val, (j 0).isLt⟩ ⟨256 + (j 1).val, by have h : (j 1).val < 256 := (j 1).isLt; omega⟩ ⟨(j 2).val, (j 2).isLt⟩) := by
  unfold X0_1 Pipeline.Window.fill
  rw [dif_pos (moved0_1 t j)]
  blk_ext [iblk, V, e1]

/-- The kernel's result is the reference's. -/
theorem result : (dats m 0 c).arrAt 2 cfg0.N
    = val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  rw [pay, ref]
  refine Fin.sum_fin_congr fun k => ?_
  congr 1
  · blk_ext [iblk, V, e0, e1, e2]
  · rw [weights]
    blk_ext [iblk, V, e0, e1, e2]

/-! ## The claims -/

theorem frame_kernel : letI := Cert.DMerged.Gen.facts; Cert.quiescent_DMerged := fun m ρ _ =>
  Cert.DMerged.Gen.frame (F := Bits) m ρ

theorem frame_ideal : letI := Cert.DMergedIdeal.Gen.facts; Cert.quiescent_DMergedIdeal := fun m ρ _ =>
  Cert.DMergedIdeal.Gen.frame (F := Ideal) m ρ

/-- The reference's run read at its arguments; it declares no semaphore. -/
theorem frame_reference : letI := Cert.DMergedRefIdeal.Gen.facts; Cert.quiescent_DMergedRefIdeal := fun m ρ _ =>
  (θ_run Cert.DMergedRefIdeal.defs _ _).mono (fun r h => ⟨fun c => (h c).2, sem_eq_zero_of_no_sems (by decide) r.2⟩)
    (Cert.DMergedRefIdeal.Value.run (F := Ideal) m ρ)

/-- The kernel and the reference end with equal results. -/
theorem algebraic : letI := Cert.DMergedIdeal.Gen.facts; letI := Cert.DMergedRefIdeal.Gen.facts
    Cert.algebraic_DMergedIdeal_DMergedRefIdeal := by
  intro m g m' g' _ hargs
  refine ⟨fun c => val_main_v5 (F := Ideal) (m' ((c.tc : Thread Cert.DMergedRefIdeal.nD Cert.DMergedRefIdeal.τ).loc Cert.DMergedRefIdeal.main_arg0))
    (m' ((c.tc : Thread Cert.DMergedRefIdeal.nD Cert.DMergedRefIdeal.τ).loc Cert.DMergedRefIdeal.main_arg1)), ?_,
    Cert.DMergedRefIdeal.Value.run (F := Ideal) m' g'⟩
  refine (θ_run _ _ _).mono (fun r h c => ⟨(h c).1.trans ?_, (h c).2⟩) (Cert.DMergedIdeal.Value.run_blocks m g)
  rw [result]
  have a := hargs c
  exact congrArg₂ (val_main_v5 (F := Ideal)) a.1.symm a.2.symm

end Cert.Proof.DMerged

end
-- ==== Proof.DwXo.lean ====
/-
  The gradient of the cross-attention's output weights, put into its rows of the gradients' array.
-/
module

public import proofs.«01_k».proof.Defs
public import proofs.«01_k».proof.Proof.Gen.DwXo.Frame
public import proofs.«01_k».proof.Proof.Gen.DwXoIdeal.Value
public import proofs.«01_k».proof.Proof.Gen.DwXoRefIdeal.Run
public import proofs.«01_k».proof.Proof.Gen.DwXoRefIdeal.Read
public import proofs.«01_k».proof.Proof.Sums

@[expose] public section

noncomputable section

namespace Cert.Proof.DwXo

open Cert.DwXoIdeal Cert.DwXoIdeal.Gen Cert.DwXoRefIdeal.Read Cert.Proof.Sums
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

theorem e0 : ∀ t : Fin cfg0.N, win0_0.index t = ![t.val % 2, 0] := (by decide +kernel : ∀ t : Fin grid0.N, _)
theorem e1 : ∀ t : Fin cfg0.N, win0_1.index t = ![t.val % 2, t.val / 2] := (by decide +kernel : ∀ t : Fin grid0.N, _)
theorem e2 : ∀ t : Fin cfg0.N, win0_2.index t = ![0, 11, t.val / 2] := (by decide +kernel : ∀ t : Fin grid0.N, _)

/-- An entry of the product of two blocks, over their rows. -/
def dot (x : FVec Ideal S1024x1024 .bf16) (y : FVec Ideal S1024x512 .f32) (j : S1024x512.Idx) : EReal :=
  ∑ k : Fin 1024, x (ix2 k (j 0)) * y (ix2 k (j 1))

/-- A block's product, from a zero accumulator. -/
theorem pay_first (x : FVec Ideal S1024x1024 .bf16) (y : FVec Ideal S1024x512 .f32) (j : S1024x512.Idx) :
    k0_pay2 (F := Ideal) x y (k0_pay1 (F := Ideal)) j = dot x y j := by
  unfold dot k0_pay2 k0_pay1
  pointwise

/-- The place in a block of the row `b` of the shard `a`. -/
def place (j : S4x256x512.Idx) : S1024x512.Idx :=
  ix2 ⟨(j 0).val * 256 + (j 1).val, by have h : (j 0).val < 4 := (j 0).isLt; have h' : (j 1).val < 256 := (j 1).isLt; omega⟩ (j 2)

/-- A block's product, added to what was there. -/
theorem pay_next (x : FVec Ideal S1024x1024 .bf16) (y : FVec Ideal S1024x512 .f32) (a : FVec Ideal S1024x512 .f32) (j : S4x256x512.Idx) :
    k0_pay3 (F := Ideal) (k0_pay2 (F := Ideal) x y a) j = a (place j) + dot x y (place j) := by
  unfold k0_pay3 dot k0_pay2 place
  pointwise

/-- What the first of a block's two points leaves. -/
theorem first (t : Fin cfg0.N) (h : t.val % 2 = 0) (j : S1024x512.Idx) :
    (outsAt0 m c t.val t.isLt).2 j = dot (iblk m c 0 t) (iblk m c 1 t) j := by
  rw [outsAt0_A m c t h (by omega)]
  frame_out
  exact pay_first _ _ j

/-- An entry of the whole product, laid out as four shards. -/
def grad (x : FVec Ideal S2048x1024 .bf16) (y : FVec Ideal S2048x1024 .f32) (i : S4x3072x1024.Idx) : EReal :=
  ∑ k : Fin 2048, x (ix2 k ⟨(i 0).val * 256 + (i 1).val % 256, by have h : (i 0).val < 4 := (i 0).isLt; omega⟩)
    * y (ix2 k ⟨(i 2).val, (i 2).isLt⟩)

/-- The reference's product, before it is put into the array. -/
theorem ref_grad (x : FVec Ideal S2048x1024 .bf16) (y : FVec Ideal S2048x1024 .f32) (i : Cert.DwXoRefIdeal.S4x256x1024.Idx) :
    val_main_v6 (F := Ideal) x y i = grad x y (ix3 (i 0) ⟨(i 1).val, by have h : (i 1).val < 256 := (i 1).isLt; omega⟩ (i 2)) := by
  have h0 : (i 0).val < 4 := (i 0).isLt
  have h1 : (i 1).val < 256 := (i 1).isLt
  have h2 : (i 2).val < 1024 := (i 2).isLt
  unfold grad
  rw [val_main_v6_apply]
  show val_main_v4 (F := Ideal) x y _ = _
  rw [val_main_v4_apply, val_main_v3_apply]
  refine Finset.sum_congr rfl fun k _ => ?_
  rw [mul_comm, val_main_v1_apply]
  refine congrArg₂ (· * ·) (congrArg x ?_) (congrArg y ?_)
  · refine (eq_ix2 _).trans ?_
    refine congrArg (ix2 k) (Fin.ext ?_)
    show (((i 0).val * 256 + (i 1).val) * 1024 + (i 2).val) / 1024 = (i 0).val * 256 + (i 1).val % 256
    omega
  · refine (eq_ix2 _).trans ?_
    refine congrArg (ix2 k) (Fin.ext ?_)
    show (((i 0).val * 256 + (i 1).val) * 1024 + (i 2).val) % 1024 = (i 2).val
    omega

/-- The reference at an index of the rows it sets. -/
theorem ref_in (x : FVec Ideal S2048x1024 .bf16) (y : FVec Ideal S2048x1024 .f32) (g : FVec Ideal S4x3072x1024 .bf16) (i : S4x3072x1024.Idx)
    (h : (i 1).val / 256 = 11) : val_main_v7 (F := Ideal) x y g i = grad x y i := by
  have h0 : (i 0).val < 4 := (i 0).isLt
  have h2 : (i 2).val < 1024 := (i 2).isLt
  unfold val_main_v7
  rw [Host.dynamicUpdateSlice_eq_updateSlice _ _ _ _ ![0, 2816, 0] (by intro a; fin_cases a <;> rfl) (by decide), updateSlice_apply, dif_pos]
  · rw [ref_grad]
    unfold grad
    refine Finset.sum_congr rfl fun k _ => ?_
    refine congrArg₂ (· * ·) (congrArg x (congrArg (ix2 k) (Fin.ext ?_))) (congrArg y (congrArg (ix2 k) (Fin.ext ?_)))
    · show ((i 0).val - 0) * 256 + ((i 1).val - 2816) % 256 = (i 0).val * 256 + (i 1).val % 256
      omega
    · show (i 2).val - 0 = (i 2).val
      omega
  · intro a
    match a with
    | ⟨0, _⟩ => exact ⟨Nat.zero_le _, h0⟩
    | ⟨1, _⟩ => show 2816 ≤ (i 1).val ∧ (i 1).val < 2816 + 256; omega
    | ⟨2, _⟩ => exact ⟨Nat.zero_le _, h2⟩

/-- The reference elsewhere. -/
theorem ref_out (x : FVec Ideal S2048x1024 .bf16) (y : FVec Ideal S2048x1024 .f32) (g : FVec Ideal S4x3072x1024 .bf16) (i : S4x3072x1024.Idx)
    (h : ¬(i 1).val / 256 = 11) : val_main_v7 (F := Ideal) x y g i = g i := by
  unfold val_main_v7
  rw [Host.dynamicUpdateSlice_eq_updateSlice _ _ _ _ ![0, 2816, 0] (by intro a; fin_cases a <;> rfl) (by decide), updateSlice_apply, dif_neg]
  intro hin
  have h1 : 2816 ≤ (i 1).val ∧ (i 1).val < 2816 + 256 := hin 1
  omega

/-- The rows the kernel sets hold the product, the others what the array held. -/
theorem written : (dats m 0 c).arrAt 2 cfg0.N
    = fun i : S4x3072x1024.Idx => if (i 1).val / 256 = 11 then grad (m ((c : Thread nD τ).loc main_arg0)) (m ((c : Thread nD τ).loc main_arg1)) i
      else (dats m 0 c).A 2 i := by
  refine (dats m 0 c).arrAt_eq_of_coversWhere 2 (fun i => grad (m ((c : Thread nD τ).loc main_arg0)) (m ((c : Thread nD τ).loc main_arg1)) i)
    (fun β => β (1 : Fin 3) = 11) (by decide +kernel) (fun t hf y => ?_) (fun j => by blk_simp [Pipeline.Window.cell_apply]; try omega)
  have h1 : t.val % 2 = 1 := (flush0_2 t).mp hf
  have hp : t.val - 1 < cfg0.N := Nat.lt_of_le_of_lt (Nat.sub_le _ _) t.isLt
  blk_simp
  rw [after0_2, outsAt0_B m c t (by omega) h1]
  frame_out
  rw [pay_next, read_unread_whole]
  unfold grad
  refine Eq.trans ?_ (sum_two (M := EReal) _).symm
  refine congrArg₂ (· + ·) ((first m c ⟨t.val - 1, hp⟩ (by show (t.val - 1) % 2 = 0; omega) _).trans ?_) ?_
  · refine Fin.sum_fin_congr fun k => ?_
    congr 1 <;> blk_ext [iblk, V, e0, e1, e2, place]
  · refine Fin.sum_fin_congr fun k => ?_
    congr 1 <;> blk_ext [iblk, V, e0, e1, e2, place]

/-- The kernel's result is the reference's. -/
theorem result : (dats m 0 c).arrAt 2 cfg0.N
    = val_main_v7 (F := Ideal) (m ((c : Thread nD τ).loc main_arg0)) (m ((c : Thread nD τ).loc main_arg1)) (m ((c : Thread nD τ).loc main_arg2)) := by
  rw [written]
  funext i
  by_cases h : (i 1).val / 256 = 11
  · rw [if_pos h]; exact (ref_in _ _ _ i h).symm
  · rw [if_neg h]
    exact (show (dats m 0 c).A 2 i = m ((c : Thread nD τ).loc main_arg2) i by rw [A_eq]; unfold V; entry_read; rfl).trans (ref_out _ _ _ i h).symm

/-! ## The claims -/

theorem frame_kernel : letI := Cert.DwXo.Gen.facts; Cert.quiescent_DwXo := fun m ρ _ =>
  Cert.DwXo.Gen.frame (F := Bits) m ρ

theorem frame_ideal : letI := Cert.DwXoIdeal.Gen.facts; Cert.quiescent_DwXoIdeal := fun m ρ _ =>
  Cert.DwXoIdeal.Gen.frame (F := Ideal) m ρ

/-- The reference's run read at its arguments; it declares no semaphore. -/
theorem frame_reference : letI := Cert.DwXoRefIdeal.Gen.facts; Cert.quiescent_DwXoRefIdeal := fun m ρ _ =>
  (θ_run Cert.DwXoRefIdeal.defs _ _).mono (fun r h => ⟨fun c => (h c).2, sem_eq_zero_of_no_sems (by decide) r.2⟩)
    (Cert.DwXoRefIdeal.Value.run (F := Ideal) m ρ)

/-- The kernel and the reference end with equal results. -/
theorem algebraic : letI := Cert.DwXoIdeal.Gen.facts; letI := Cert.DwXoRefIdeal.Gen.facts
    Cert.algebraic_DwXoIdeal_DwXoRefIdeal := by
  intro m g m' g' _ hargs
  refine ⟨fun c => val_main_v7 (F := Ideal) (m' ((c.tc : Thread Cert.DwXoRefIdeal.nD Cert.DwXoRefIdeal.τ).loc Cert.DwXoRefIdeal.main_arg0))
    (m' ((c.tc : Thread Cert.DwXoRefIdeal.nD Cert.DwXoRefIdeal.τ).loc Cert.DwXoRefIdeal.main_arg1))
    (m' ((c.tc : Thread Cert.DwXoRefIdeal.nD Cert.DwXoRefIdeal.τ).loc Cert.DwXoRefIdeal.main_arg2)), ?_,
    Cert.DwXoRefIdeal.Value.run (F := Ideal) m' g'⟩
  refine (θ_run _ _ _).mono (fun r h c => ⟨(h c).1.trans ?_, (h c).2⟩) (Cert.DwXoIdeal.Value.run_blocks m g)
  rw [result]
  have a := hargs c
  rw [← a.1, ← a.2.1, ← a.2.2]

end Cert.Proof.DwXo

end
-- ==== Proof.DwXq.lean ====
/-
  The gradient of the cross-attention's query weights, put into its rows of the gradients' array.
-/
module

public import proofs.«01_k».proof.Defs
public import proofs.«01_k».proof.Proof.Gen.DwXq.Frame
public import proofs.«01_k».proof.Proof.Gen.DwXqIdeal.Value
public import proofs.«01_k».proof.Proof.Gen.DwXqRefIdeal.Run
public import proofs.«01_k».proof.Proof.Gen.DwXqRefIdeal.Read
public import proofs.«01_k».proof.Proof.Sums

@[expose] public section

noncomputable section

namespace Cert.Proof.DwXq

open Cert.DwXqIdeal Cert.DwXqIdeal.Gen Cert.DwXqRefIdeal.Read Cert.Proof.Sums
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

theorem e0 : ∀ t : Fin cfg0.N, win0_0.index t = ![t.val % 2, 0] := (by decide +kernel : ∀ t : Fin grid0.N, _)
theorem e1 : ∀ t : Fin cfg0.N, win0_1.index t = ![t.val % 2, t.val / 2] := (by decide +kernel : ∀ t : Fin grid0.N, _)
theorem e2 : ∀ t : Fin cfg0.N, win0_2.index t = ![0, 10, t.val / 2] := (by decide +kernel : ∀ t : Fin grid0.N, _)

/-- An entry of the product of two blocks, over their rows. -/
def dot (x : FVec Ideal S1024x1024 .bf16) (y : FVec Ideal S1024x512 .bf16) (j : S1024x512.Idx) : EReal :=
  ∑ k : Fin 1024, x (ix2 k (j 0)) * y (ix2 k (j 1))

/-- A block's product, from a zero accumulator. -/
theorem pay_first (x : FVec Ideal S1024x1024 .bf16) (y : FVec Ideal S1024x512 .bf16) (j : S1024x512.Idx) :
    k0_pay2 (F := Ideal) x y (k0_pay1 (F := Ideal)) j = dot x y j := by
  unfold dot k0_pay2 k0_pay1
  pointwise

/-- The place in a block of the row `b` of the shard `a`. -/
def place (j : S4x256x512.Idx) : S1024x512.Idx :=
  ix2 ⟨(j 0).val * 256 + (j 1).val, by have h : (j 0).val < 4 := (j 0).isLt; have h' : (j 1).val < 256 := (j 1).isLt; omega⟩ (j 2)

/-- A block's product, added to what was there. -/
theorem pay_next (x : FVec Ideal S1024x1024 .bf16) (y : FVec Ideal S1024x512 .bf16) (a : FVec Ideal S1024x512 .f32) (j : S4x256x512.Idx) :
    k0_pay3 (F := Ideal) (k0_pay2 (F := Ideal) x y a) j = a (place j) + dot x y (place j) := by
  unfold k0_pay3 dot k0_pay2 place
  pointwise

/-- What the first of a block's two points leaves. -/
theorem first (t : Fin cfg0.N) (h : t.val % 2 = 0) (j : S1024x512.Idx) :
    (outsAt0 m c t.val t.isLt).2 j = dot (iblk m c 0 t) (iblk m c 1 t) j := by
  rw [outsAt0_A m c t h (by omega)]
  frame_out
  exact pay_first _ _ j

/-- An entry of the whole product, laid out as four shards. -/
def grad (x : FVec Ideal S2048x1024 .bf16) (y : FVec Ideal S2048x1024 .bf16) (i : S4x3072x1024.Idx) : EReal :=
  ∑ k : Fin 2048, x (ix2 k ⟨(i 0).val * 256 + (i 1).val % 256, by have h : (i 0).val < 4 := (i 0).isLt; omega⟩)
    * y (ix2 k ⟨(i 2).val, (i 2).isLt⟩)

/-- The reference's product, before it is put into the array. -/
theorem ref_grad (x : FVec Ideal S2048x1024 .bf16) (y : FVec Ideal S2048x1024 .bf16) (i : Cert.DwXqRefIdeal.S4x256x1024.Idx) :
    val_main_v7 (F := Ideal) x y i = grad x y (ix3 (i 0) ⟨(i 1).val, by have h : (i 1).val < 256 := (i 1).isLt; omega⟩ (i 2)) := by
  have h0 : (i 0).val < 4 := (i 0).isLt
  have h1 : (i 1).val < 256 := (i 1).isLt
  have h2 : (i 2).val < 1024 := (i 2).isLt
  unfold grad
  rw [val_main_v7_apply]
  show val_main_v5 (F := Ideal) x y _ = _
  rw [val_main_v5_apply, val_main_v4_apply]
  refine Finset.sum_congr rfl fun k _ => ?_
  rw [mul_comm, val_main_v1_apply, val_main_v3_apply]
  refine congrArg₂ (· * ·) (congrArg x ?_) (congrArg y ?_)
  · refine (eq_ix2 _).trans ?_
    refine congrArg (ix2 k) (Fin.ext ?_)
    show (((i 0).val * 256 + (i 1).val) * 1024 + (i 2).val) / 1024 = (i 0).val * 256 + (i 1).val % 256
    omega
  · refine (eq_ix2 _).trans ?_
    refine congrArg (ix2 k) (Fin.ext ?_)
    show (((i 0).val * 256 + (i 1).val) * 1024 + (i 2).val) % 1024 = (i 2).val
    omega

/-- The reference at an index of the rows it sets. -/
theorem ref_in (x : FVec Ideal S2048x1024 .bf16) (y : FVec Ideal S2048x1024 .bf16) (g : FVec Ideal S4x3072x1024 .bf16) (i : S4x3072x1024.Idx)
    (h : (i 1).val / 256 = 10) : val_main_v8 (F := Ideal) x y g i = grad x y i := by
  have h0 : (i 0).val < 4 := (i 0).isLt
  have h2 : (i 2).val < 1024 := (i 2).isLt
  unfold val_main_v8
  rw [Host.dynamicUpdateSlice_eq_updateSlice _ _ _ _ ![0, 2560, 0] (by intro a; fin_cases a <;> rfl) (by decide), updateSlice_apply, dif_pos]
  · rw [ref_grad]
    unfold grad
    refine Finset.sum_congr rfl fun k _ => ?_
    refine congrArg₂ (· * ·) (congrArg x (congrArg (ix2 k) (Fin.ext ?_))) (congrArg y (congrArg (ix2 k) (Fin.ext ?_)))
    · show ((i 0).val - 0) * 256 + ((i 1).val - 2560) % 256 = (i 0).val * 256 + (i 1).val % 256
      omega
    · show (i 2).val - 0 = (i 2).val
      omega
  · intro a
    match a with
    | ⟨0, _⟩ => exact ⟨Nat.zero_le _, h0⟩
    | ⟨1, _⟩ => show 2560 ≤ (i 1).val ∧ (i 1).val < 2560 + 256; omega
    | ⟨2, _⟩ => exact ⟨Nat.zero_le _, h2⟩

/-- The reference elsewhere. -/
theorem ref_out (x : FVec Ideal S2048x1024 .bf16) (y : FVec Ideal S2048x1024 .bf16) (g : FVec Ideal S4x3072x1024 .bf16) (i : S4x3072x1024.Idx)
    (h : ¬(i 1).val / 256 = 10) : val_main_v8 (F := Ideal) x y g i = g i := by
  unfold val_main_v8
  rw [Host.dynamicUpdateSlice_eq_updateSlice _ _ _ _ ![0, 2560, 0] (by intro a; fin_cases a <;> rfl) (by decide), updateSlice_apply, dif_neg]
  intro hin
  have h1 : 2560 ≤ (i 1).val ∧ (i 1).val < 2560 + 256 := hin 1
  omega

/-- The rows the kernel sets hold the product, the others what the array held. -/
theorem written : (dats m 0 c).arrAt 2 cfg0.N
    = fun i : S4x3072x1024.Idx => if (i 1).val / 256 = 10 then grad (m ((c : Thread nD τ).loc main_arg0)) (m ((c : Thread nD τ).loc main_arg1)) i
      else (dats m 0 c).A 2 i := by
  refine (dats m 0 c).arrAt_eq_of_coversWhere 2 (fun i => grad (m ((c : Thread nD τ).loc main_arg0)) (m ((c : Thread nD τ).loc main_arg1)) i)
    (fun β => β (1 : Fin 3) = 10) (by decide +kernel) (fun t hf y => ?_) (fun j => by blk_simp [Pipeline.Window.cell_apply]; try omega)
  have h1 : t.val % 2 = 1 := (flush0_2 t).mp hf
  have hp : t.val - 1 < cfg0.N := Nat.lt_of_le_of_lt (Nat.sub_le _ _) t.isLt
  blk_simp
  rw [after0_2, outsAt0_B m c t (by omega) h1]
  frame_out
  rw [pay_next, read_unread_whole]
  unfold grad
  refine Eq.trans ?_ (sum_two (M := EReal) _).symm
  refine congrArg₂ (· + ·) ((first m c ⟨t.val - 1, hp⟩ (by show (t.val - 1) % 2 = 0; omega) _).trans ?_) ?_
  · refine Fin.sum_fin_congr fun k => ?_
    congr 1 <;> blk_ext [iblk, V, e0, e1, e2, place]
  · refine Fin.sum_fin_congr fun k => ?_
    congr 1 <;> blk_ext [iblk, V, e0, e1, e2, place]

/-- The kernel's result is the reference's. -/
theorem result : (dats m 0 c).arrAt 2 cfg0.N
    = val_main_v8 (F := Ideal) (m ((c : Thread nD τ).loc main_arg0)) (m ((c : Thread nD τ).loc main_arg1)) (m ((c : Thread nD τ).loc main_arg2)) := by
  rw [written]
  funext i
  by_cases h : (i 1).val / 256 = 10
  · rw [if_pos h]; exact (ref_in _ _ _ i h).symm
  · rw [if_neg h]
    exact (show (dats m 0 c).A 2 i = m ((c : Thread nD τ).loc main_arg2) i by rw [A_eq]; unfold V; entry_read; rfl).trans (ref_out _ _ _ i h).symm

/-! ## The claims -/

theorem frame_kernel : letI := Cert.DwXq.Gen.facts; Cert.quiescent_DwXq := fun m ρ _ =>
  Cert.DwXq.Gen.frame (F := Bits) m ρ

theorem frame_ideal : letI := Cert.DwXqIdeal.Gen.facts; Cert.quiescent_DwXqIdeal := fun m ρ _ =>
  Cert.DwXqIdeal.Gen.frame (F := Ideal) m ρ

/-- The reference's run read at its arguments; it declares no semaphore. -/
theorem frame_reference : letI := Cert.DwXqRefIdeal.Gen.facts; Cert.quiescent_DwXqRefIdeal := fun m ρ _ =>
  (θ_run Cert.DwXqRefIdeal.defs _ _).mono (fun r h => ⟨fun c => (h c).2, sem_eq_zero_of_no_sems (by decide) r.2⟩)
    (Cert.DwXqRefIdeal.Value.run (F := Ideal) m ρ)

/-- The kernel and the reference end with equal results. -/
theorem algebraic : letI := Cert.DwXqIdeal.Gen.facts; letI := Cert.DwXqRefIdeal.Gen.facts
    Cert.algebraic_DwXqIdeal_DwXqRefIdeal := by
  intro m g m' g' _ hargs
  refine ⟨fun c => val_main_v8 (F := Ideal) (m' ((c.tc : Thread Cert.DwXqRefIdeal.nD Cert.DwXqRefIdeal.τ).loc Cert.DwXqRefIdeal.main_arg0))
    (m' ((c.tc : Thread Cert.DwXqRefIdeal.nD Cert.DwXqRefIdeal.τ).loc Cert.DwXqRefIdeal.main_arg1))
    (m' ((c.tc : Thread Cert.DwXqRefIdeal.nD Cert.DwXqRefIdeal.τ).loc Cert.DwXqRefIdeal.main_arg2)), ?_,
    Cert.DwXqRefIdeal.Value.run (F := Ideal) m' g'⟩
  refine (θ_run _ _ _).mono (fun r h c => ⟨(h c).1.trans ?_, (h c).2⟩) (Cert.DwXqIdeal.Value.run_blocks m g)
  rw [result]
  have a := hargs c
  rw [← a.1, ← a.2.1, ← a.2.2]

end Cert.Proof.DwXq

end
-- ==== Proof.DwOut.lean ====
/-
  The gradient of the self-attention's output weights, put into its rows of the gradients' array.
-/
module

public import proofs.«01_k».proof.Defs
public import proofs.«01_k».proof.Proof.Gen.DwOut.Frame
public import proofs.«01_k».proof.Proof.Gen.DwOutIdeal.Value
public import proofs.«01_k».proof.Proof.Gen.DwOutRefIdeal.Run
public import proofs.«01_k».proof.Proof.Gen.DwOutRefIdeal.Read
public import proofs.«01_k».proof.Proof.Sums

@[expose] public section

noncomputable section

namespace Cert.Proof.DwOut

open Cert.DwOutIdeal Cert.DwOutIdeal.Gen Cert.DwOutRefIdeal.Read Cert.Proof.Sums
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

theorem e0 : ∀ t : Fin cfg0.N, win0_0.index t = ![t.val % 2, 0] := (by decide +kernel : ∀ t : Fin grid0.N, _)
theorem e1 : ∀ t : Fin cfg0.N, win0_1.index t = ![t.val % 2, t.val / 2] := (by decide +kernel : ∀ t : Fin grid0.N, _)
theorem e2 : ∀ t : Fin cfg0.N, win0_2.index t = ![0, 1, t.val / 2] := (by decide +kernel : ∀ t : Fin grid0.N, _)

/-- An entry of the product of two blocks, over their rows. -/
def dot (x : FVec Ideal S1024x1024 .bf16) (y : FVec Ideal S1024x512 .f32) (j : S1024x512.Idx) : EReal :=
  ∑ k : Fin 1024, x (ix2 k (j 0)) * y (ix2 k (j 1))

/-- A block's product, from a zero accumulator. -/
theorem pay_first (x : FVec Ideal S1024x1024 .bf16) (y : FVec Ideal S1024x512 .f32) (j : S1024x512.Idx) :
    k0_pay2 (F := Ideal) x y (k0_pay1 (F := Ideal)) j = dot x y j := by
  unfold dot k0_pay2 k0_pay1
  pointwise

/-- The place in a block of the row `b` of the shard `a`. -/
def place (j : S4x256x512.Idx) : S1024x512.Idx :=
  ix2 ⟨(j 0).val * 256 + (j 1).val, by have h : (j 0).val < 4 := (j 0).isLt; have h' : (j 1).val < 256 := (j 1).isLt; omega⟩ (j 2)

/-- A block's product, added to what was there. -/
theorem pay_next (x : FVec Ideal S1024x1024 .bf16) (y : FVec Ideal S1024x512 .f32) (a : FVec Ideal S1024x512 .f32) (j : S4x256x512.Idx) :
    k0_pay3 (F := Ideal) (k0_pay2 (F := Ideal) x y a) j = a (place j) + dot x y (place j) := by
  unfold k0_pay3 dot k0_pay2 place
  pointwise

/-- What the first of a block's two points leaves. -/
theorem first (t : Fin cfg0.N) (h : t.val % 2 = 0) (j : S1024x512.Idx) :
    (outsAt0 m c t.val t.isLt).2 j = dot (iblk m c 0 t) (iblk m c 1 t) j := by
  rw [outsAt0_A m c t h (by omega)]
  frame_out
  exact pay_first _ _ j

/-- An entry of the whole product, laid out as four shards. -/
def grad (x : FVec Ideal S2048x1024 .bf16) (y : FVec Ideal S2048x1024 .f32) (i : S4x1888x1024.Idx) : EReal :=
  ∑ k : Fin 2048, x (ix2 k ⟨(i 0).val * 256 + (i 1).val % 256, by have h : (i 0).val < 4 := (i 0).isLt; omega⟩)
    * y (ix2 k ⟨(i 2).val, (i 2).isLt⟩)

/-- The reference's product, before it is put into the array. -/
theorem ref_grad (x : FVec Ideal S2048x1024 .bf16) (y : FVec Ideal S2048x1024 .f32) (i : Cert.DwOutRefIdeal.S4x256x1024.Idx) :
    val_main_v6 (F := Ideal) x y i = grad x y (ix3 (i 0) ⟨(i 1).val, by have h : (i 1).val < 256 := (i 1).isLt; omega⟩ (i 2)) := by
  have h0 : (i 0).val < 4 := (i 0).isLt
  have h1 : (i 1).val < 256 := (i 1).isLt
  have h2 : (i 2).val < 1024 := (i 2).isLt
  unfold grad
  rw [val_main_v6_apply]
  show val_main_v4 (F := Ideal) x y _ = _
  rw [val_main_v4_apply, val_main_v3_apply]
  refine Finset.sum_congr rfl fun k _ => ?_
  rw [mul_comm, val_main_v1_apply]
  refine congrArg₂ (· * ·) (congrArg x ?_) (congrArg y ?_)
  · refine (eq_ix2 _).trans ?_
    refine congrArg (ix2 k) (Fin.ext ?_)
    show (((i 0).val * 256 + (i 1).val) * 1024 + (i 2).val) / 1024 = (i 0).val * 256 + (i 1).val % 256
    omega
  · refine (eq_ix2 _).trans ?_
    refine congrArg (ix2 k) (Fin.ext ?_)
    show (((i 0).val * 256 + (i 1).val) * 1024 + (i 2).val) % 1024 = (i 2).val
    omega

/-- The reference at an index of the rows it sets. -/
theorem ref_in (x : FVec Ideal S2048x1024 .bf16) (y : FVec Ideal S2048x1024 .f32) (g : FVec Ideal S4x1888x1024 .bf16) (i : S4x1888x1024.Idx)
    (h : (i 1).val / 256 = 1) : val_main_v7 (F := Ideal) x y g i = grad x y i := by
  have h0 : (i 0).val < 4 := (i 0).isLt
  have h2 : (i 2).val < 1024 := (i 2).isLt
  unfold val_main_v7
  rw [Host.dynamicUpdateSlice_eq_updateSlice _ _ _ _ ![0, 256, 0] (by intro a; fin_cases a <;> rfl) (by decide), updateSlice_apply, dif_pos]
  · rw [ref_grad]
    unfold grad
    refine Finset.sum_congr rfl fun k _ => ?_
    refine congrArg₂ (· * ·) (congrArg x (congrArg (ix2 k) (Fin.ext ?_))) (congrArg y (congrArg (ix2 k) (Fin.ext ?_)))
    · show ((i 0).val - 0) * 256 + ((i 1).val - 256) % 256 = (i 0).val * 256 + (i 1).val % 256
      omega
    · show (i 2).val - 0 = (i 2).val
      omega
  · intro a
    match a with
    | ⟨0, _⟩ => exact ⟨Nat.zero_le _, h0⟩
    | ⟨1, _⟩ => show 256 ≤ (i 1).val ∧ (i 1).val < 256 + 256; omega
    | ⟨2, _⟩ => exact ⟨Nat.zero_le _, h2⟩

/-- The reference elsewhere. -/
theorem ref_out (x : FVec Ideal S2048x1024 .bf16) (y : FVec Ideal S2048x1024 .f32) (g : FVec Ideal S4x1888x1024 .bf16) (i : S4x1888x1024.Idx)
    (h : ¬(i 1).val / 256 = 1) : val_main_v7 (F := Ideal) x y g i = g i := by
  unfold val_main_v7
  rw [Host.dynamicUpdateSlice_eq_updateSlice _ _ _ _ ![0, 256, 0] (by intro a; fin_cases a <;> rfl) (by decide), updateSlice_apply, dif_neg]
  intro hin
  have h1 : 256 ≤ (i 1).val ∧ (i 1).val < 256 + 256 := hin 1
  omega

/-- No write-back is cut. -/
theorem rows_moved : ∀ t : Fin cfg0.N, (cfg0.win 2).xsize (cfg0.grid.coords t) (1 : Fin 3) = 256 := by decide +kernel

/-- The rows the kernel sets hold the product, the others what the array held. -/
theorem written : (dats m 0 c).arrAt 2 cfg0.N
    = fun i : S4x1888x1024.Idx => if (i 1).val / 256 = 1 then grad (m ((c : Thread nD τ).loc main_arg0)) (m ((c : Thread nD τ).loc main_arg1)) i
      else (dats m 0 c).A 2 i := by
  refine (dats m 0 c).arrAt_eq_of_coversWhere 2 (fun i => grad (m ((c : Thread nD τ).loc main_arg0)) (m ((c : Thread nD τ).loc main_arg1)) i)
    (fun β => β (1 : Fin 3) = 1) (by decide +kernel) (fun t hf y => ?_) (fun j => by blk_simp [Pipeline.Window.cell_apply]; try omega)
  have h1 : t.val % 2 = 1 := (flush0_2 t).mp hf
  have hp : t.val - 1 < cfg0.N := Nat.lt_of_le_of_lt (Nat.sub_le _ _) t.isLt
  have hy : (y (1 : Fin 3)).val < 256 := Nat.lt_of_lt_of_eq (y (1 : Fin 3)).isLt (rows_moved t)
  blk_simp
  rw [after0_2, outsAt0_B m c t (by omega) h1]
  frame_out
  rw [pay_next, read_unread_whole]
  unfold grad
  refine Eq.trans ?_ (sum_two (M := EReal) _).symm
  refine congrArg₂ (· + ·) ((first m c ⟨t.val - 1, hp⟩ (by show (t.val - 1) % 2 = 0; omega) _).trans ?_) ?_
  · refine Fin.sum_fin_congr fun k => ?_
    congr 1 <;> blk_ext [iblk, V, e0, e1, e2, place]
  · refine Fin.sum_fin_congr fun k => ?_
    congr 1 <;> blk_ext [iblk, V, e0, e1, e2, place]

/-- The kernel's result is the reference's. -/
theorem result : (dats m 0 c).arrAt 2 cfg0.N
    = val_main_v7 (F := Ideal) (m ((c : Thread nD τ).loc main_arg0)) (m ((c : Thread nD τ).loc main_arg1)) (m ((c : Thread nD τ).loc main_arg2)) := by
  rw [written]
  funext i
  by_cases h : (i 1).val / 256 = 1
  · rw [if_pos h]; exact (ref_in _ _ _ i h).symm
  · rw [if_neg h]
    exact (show (dats m 0 c).A 2 i = m ((c : Thread nD τ).loc main_arg2) i by rw [A_eq]; unfold V; entry_read; rfl).trans (ref_out _ _ _ i h).symm

/-! ## The claims -/

theorem frame_kernel : letI := Cert.DwOut.Gen.facts; Cert.quiescent_DwOut := fun m ρ _ =>
  Cert.DwOut.Gen.frame (F := Bits) m ρ

theorem frame_ideal : letI := Cert.DwOutIdeal.Gen.facts; Cert.quiescent_DwOutIdeal := fun m ρ _ =>
  Cert.DwOutIdeal.Gen.frame (F := Ideal) m ρ

/-- The reference's run read at its arguments; it declares no semaphore. -/
theorem frame_reference : letI := Cert.DwOutRefIdeal.Gen.facts; Cert.quiescent_DwOutRefIdeal := fun m ρ _ =>
  (θ_run Cert.DwOutRefIdeal.defs _ _).mono (fun r h => ⟨fun c => (h c).2, sem_eq_zero_of_no_sems (by decide) r.2⟩)
    (Cert.DwOutRefIdeal.Value.run (F := Ideal) m ρ)

/-- The kernel and the reference end with equal results. -/
theorem algebraic : letI := Cert.DwOutIdeal.Gen.facts; letI := Cert.DwOutRefIdeal.Gen.facts
    Cert.algebraic_DwOutIdeal_DwOutRefIdeal := by
  intro m g m' g' _ hargs
  refine ⟨fun c => val_main_v7 (F := Ideal) (m' ((c.tc : Thread Cert.DwOutRefIdeal.nD Cert.DwOutRefIdeal.τ).loc Cert.DwOutRefIdeal.main_arg0))
    (m' ((c.tc : Thread Cert.DwOutRefIdeal.nD Cert.DwOutRefIdeal.τ).loc Cert.DwOutRefIdeal.main_arg1))
    (m' ((c.tc : Thread Cert.DwOutRefIdeal.nD Cert.DwOutRefIdeal.τ).loc Cert.DwOutRefIdeal.main_arg2)), ?_,
    Cert.DwOutRefIdeal.Value.run (F := Ideal) m' g'⟩
  refine (θ_run _ _ _).mono (fun r h c => ⟨(h c).1.trans ?_, (h c).2⟩) (Cert.DwOutIdeal.Value.run_blocks m g)
  rw [result]
  have a := hargs c
  rw [← a.1, ← a.2.1, ← a.2.2]

end Cert.Proof.DwOut

end
-- ==== Proof.Norm.lean ====
/-
  The derivative of a root mean square norm over a row of 1024 entries: the formula a kernel uses, and the one the
  reference's derivative uses, are equal on all extended real numbers.
-/
module

public import proofs.«01_k».proof.Proof.Real
public import Idealize.ShloMosaic.PureOps.Ideal

@[expose] public section

noncomputable section

namespace Cert.Proof.Norm

open Idealize.ShloMosaic
open Cert.Proof.Math

/-- The number added under the root. -/
def eps : EReal := Ideal.ofBits .f32 0x358637BD#32
/-- The row's width. -/
def width : EReal := Ideal.ofBits .f32 0x44800000#32
/-- The exponent of the root's derivative. -/
def half : EReal := Ideal.ofBits .f32 0xBF000000#32

/-- The mean square of a row, with `eps`. -/
def under (x : Fin 1024 → EReal) : EReal := Ideal.div (∑ k, x k * x k) width + eps
/-- The reciprocal of its root. -/
def rstd (x : Fin 1024 → EReal) : EReal := Ideal.rsqrt (under x)

/-- The kernel's gradient of a row `x` normed with the gains `g`, where `d` is the gradient of the result. -/
def rowGrad (x g d : Fin 1024 → EReal) (j : Fin 1024) : EReal :=
  rstd x * (d j * g j - x j * rstd x * Ideal.div (∑ k, d k * g k * (x k * rstd x)) width)

/-- The gradient of the mean square's entries, in the reference. -/
def coef (x g d : Fin 1024 → EReal) : EReal :=
  Ideal.div ((∑ k, x k * (d k * g k)) * (half * Ideal.div (rstd x) (under x))) width

/-- The reference's gradient. -/
def rowRef (x g d : Fin 1024 → EReal) (j : Fin 1024) : EReal :=
  d j * g j * rstd x + x j * coef x g d + coef x g d * x j

theorem width_eq : width = ((1024 : ℝ) : EReal) := by
  simp [width, Ideal.ofBits, Ideal.ieee, Nat.shiftRight_eq_div_pow]
  rw [← EReal.coe_mul]
  norm_num
theorem half_eq : half = ((-1 / 2 : ℝ) : EReal) := by
  simp [half, Ideal.ofBits, Ideal.ieee, Nat.shiftRight_eq_div_pow]
  rw [← EReal.coe_mul]
  norm_num
theorem eps_eq : ∃ e : ℝ, 0 < e ∧ eps = (e : EReal) := by
  refine ⟨8796093 * 2 ^ (-43 : ℤ), by positivity, ?_⟩
  simp [eps, Ideal.ofBits, Ideal.ieee, Nat.shiftRight_eq_div_pow]

/-- A real factor that is not negative goes through a sum, -/
theorem mul_add_real {r : ℝ} (hr : 0 ≤ r) (x y : EReal) : (r : EReal) * (x + y) = r * x + r * y :=
  EReal.left_distrib_of_nonneg_of_ne_top (by exact_mod_cast hr) (EReal.coe_ne_top r) x y

/-- of any length, -/
theorem sum_mul_real {r : ℝ} (hr : 0 ≤ r) {n : ℕ} (f : Fin n → EReal) : ∑ k, f k * (r : EReal) = (∑ k, f k) * r := by
  induction n with
  | zero => simp
  | succ n ih => rw [Fin.sum_univ_succ, Fin.sum_univ_succ, ih, mul_comm (f 0 + _), mul_add_real hr, mul_comm (r : EReal), mul_comm (r : EReal)]

/-- and two halves of a real factor make the whole. -/
theorem mul_halves (s : EReal) (b : ℝ) : s * (b : EReal) + s * b = s * ((b + b : ℝ) : EReal) := by
  induction s with
  | coe s => rw [← EReal.coe_mul, ← EReal.coe_mul, ← EReal.coe_add]; congr 1; ring
  | top =>
    rcases lt_trichotomy b 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy b 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

/-- A square is not negative, of an infinite number either. -/
theorem square_nonneg (x : EReal) : 0 ≤ x * x := by
  induction x with
  | coe x => exact_mod_cast mul_self_nonneg x
  | top => simp
  | bot => simp

/-- A row with an infinite entry has an infinite mean square. -/
theorem under_top (x : Fin 1024 → EReal) (k : Fin 1024) (h : ¬∃ a : ℝ, x k = (a : EReal)) : under x = ⊤ := by
  have hk : x k * x k = ⊤ := by
    generalize x k = y at h
    induction y with
    | coe y => exact absurd ⟨y, rfl⟩ h
    | top => rfl
    | bot => rfl
  have hS : ∑ k, x k * x k = ⊤ := by
    refine top_le_iff.1 ?_
    rw [← hk]
    exact Finset.single_le_sum (f := fun k => x k * x k) (fun k _ => square_nonneg (x k)) (Finset.mem_univ k)
  obtain ⟨e, _, he⟩ := eps_eq
  rw [under, hS, width_eq, he, Ideal.div_coe (by norm_num), EReal.top_mul_coe_of_pos (by norm_num)]
  exact EReal.top_add_coe e

/-- The two agree on every row: one with an infinite entry has the root's reciprocal 0, and both are 0; on one of real
    numbers the mean square's derivative comes out as one real factor of a sum that may be infinite. -/
theorem rowGrad_eq (x g d : Fin 1024 → EReal) (j : Fin 1024) : rowGrad x g d j = rowRef x g d j := by
  by_cases hx : ∀ k, ∃ a : ℝ, x k = (a : EReal)
  · choose X hX using hx
    obtain ⟨e, he, heq⟩ := eps_eq
    have hS : 0 ≤ ∑ k, X k * X k := Finset.sum_nonneg fun k _ => mul_self_nonneg _
    have hv : 0 < (∑ k, X k * X k) * (1 / 1024) + e := by positivity
    have hu : under x = (((∑ k, X k * X k) * (1 / 1024) + e : ℝ) : EReal) := by
      simp only [under, hX, width_eq, heq, ← EReal.coe_mul, coe_sum, Ideal.div_coe (show (1024 : ℝ) ≠ 0 by norm_num), ← EReal.coe_add]
    obtain ⟨v, hvd⟩ : ∃ v, v = (∑ k, X k * X k) * (1 / 1024) + e := ⟨_, rfl⟩
    rw [← hvd] at hu hv
    have hr : rstd x = (((Real.sqrt v)⁻¹ : ℝ) : EReal) := by
      rw [rstd, hu, Ideal.rsqrt_coe, if_neg (not_lt.2 hv.le), if_neg hv.ne']
    have hs : Real.sqrt v * Real.sqrt v = v := Real.mul_self_sqrt hv.le
    have hp : 0 < Real.sqrt v := Real.sqrt_pos.2 hv
    have hS1 : ∑ k, d k * g k * (x k * rstd x) = (∑ k, x k * (d k * g k)) * (((Real.sqrt v)⁻¹ : ℝ) : EReal) := by
      rw [← sum_mul_real (inv_nonneg.2 hp.le), hr]
      exact Finset.sum_congr rfl fun k _ => by rw [← mul_assoc, mul_comm (d k * g k)]
    rw [rowGrad, rowRef, coef, hS1, hr, hu, half_eq, hX, width_eq, Ideal.div_coe (show (1024 : ℝ) ≠ 0 by norm_num),
      Ideal.div_coe (show (1024 : ℝ) ≠ 0 by norm_num), Ideal.div_coe hv.ne']
    generalize (∑ k, x k * (d k * g k)) = S
    generalize d j * g j = E
    generalize X j = y
    generalize Real.sqrt v = s at *
    subst hs
    have hb : ∀ a b : ℝ, (a : EReal) * (S * b) = S * ((a * b : ℝ) : EReal) := fun a b => by
      rw [mul_left_comm, EReal.coe_mul]
    have hc : ∀ a b : ℝ, (S * (a : EReal)) * b = S * ((a * b : ℝ) : EReal) := fun a b => by
      rw [mul_assoc, EReal.coe_mul]
    have hn : ∀ a : ℝ, -(S * (a : EReal)) = S * ((-a : ℝ) : EReal) := fun a => by
      rw [EReal.coe_neg, mul_neg]
    simp only [← EReal.coe_mul, hc, hb, hn, sub_eq_add_neg, mul_add_real (inv_nonneg.2 hp.le)]
    have hy : y * (-1 / 2 * (s⁻¹ * (1 / (s * s))) * (1 / 1024)) = -1 / 2 * (s⁻¹ * (1 / (s * s))) * (1 / 1024) * y := mul_comm _ _
    rw [add_assoc, hy, mul_halves, mul_comm E]
    have hne := hp.ne'
    congr 3
    field_simp
    ring
  · obtain ⟨k, hk⟩ := not_forall.1 hx
    have hu := under_top x k hk
    have hr : rstd x = 0 := by rw [rstd, hu]; rfl
    have hc : coef x g d = 0 := by
      rw [coef, hr, hu, width_eq, Ideal.div_coe (by norm_num), Ideal.div, if_neg (by simp)]
      simp
    rw [rowGrad, rowRef, hr, hc]
    simp

end Cert.Proof.Norm

end
-- ==== Proof.DHf.lean ====
/-
  The gradient of the MLP's input, carried back through the norm before it: the product accumulated over blocks, then the
  norm's derivative row by row, and the gains' gradient summed over the rows.
-/
module

public import proofs.«01_k».proof.Defs
public import proofs.«01_k».proof.Proof.Gen.DHf.Frame
public import proofs.«01_k».proof.Proof.Gen.DHfIdeal.Value
public import proofs.«01_k».proof.Proof.Gen.DHfRefIdeal.Run
public import proofs.«01_k».proof.Proof.Gen.DHfRefIdeal.Read
public import proofs.«01_k».proof.Proof.Sums
public import proofs.«01_k».proof.Proof.Ref
public import proofs.«01_k».proof.Proof.Norm

@[expose] public section

noncomputable section

namespace Cert.Proof.DHf

open Cert.DHfIdeal Cert.DHfIdeal.Gen Cert.DHfRefIdeal.Read Cert.Proof.Sums Cert.Proof.Norm
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

theorem e0 : ∀ t : Fin cfg0.N, win0_0.index t = ![t.val / 4, t.val % 4] := (by decide +kernel : ∀ t : Fin grid0.N, _)
theorem e1 : ∀ t : Fin cfg0.N, win0_1.index t = ![t.val % 4, 0, 0] := (by decide +kernel : ∀ t : Fin grid0.N, _)
theorem e2 : ∀ t : Fin cfg0.N, win0_2.index t = ![t.val / 4, 0] := (by decide +kernel : ∀ t : Fin grid0.N, _)
theorem e3 : ∀ t : Fin cfg0.N, win0_3.index t = ![t.val / 4, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![t.val / 4, 0] := (by decide +kernel : ∀ t : Fin grid0.N, _)
theorem e6 : ∀ t : Fin cfg0.N, win0_6.index t = ![0, 0] := (by decide +kernel : ∀ t : Fin grid0.N, _)

/-- An entry of the product of a block with transposed weights. -/
def dot (x : FVec Ideal S1024x1024 .bf16) (y : FVec Ideal S1x1024x1024 .bf16) (j : S1024x1024.Idx) : EReal :=
  ∑ k : Fin 1024, x (ix2 (j 0) k) * y (ix3 0 (j 1) k)

/-- A block's product, from a zero accumulator. -/
theorem pay_first (x : FVec Ideal S1024x1024 .bf16) (y : FVec Ideal S1x1024x1024 .bf16) (j : S1024x1024.Idx) :
    k0_pay2 (F := Ideal) x y (k0_pay1 (F := Ideal)) j = dot x y j := by
  unfold dot k0_pay2 k0_pay1
  pointwise

/-- A block's product, added to what was there. -/
theorem pay_next (x : FVec Ideal S1024x1024 .bf16) (y : FVec Ideal S1x1024x1024 .bf16) (a : FVec Ideal S1024x1024 .f32) (j : S1024x1024.Idx) :
    k0_pay2 (F := Ideal) x y a j = a j + dot x y j := by
  unfold dot k0_pay2
  pointwise

/-- A row of a block, or of an array. -/
def row {n : ℕ} (x : FVec Ideal ⟨2, ![n, 1024]⟩ .f32) (r : Fin n) : Fin 1024 → EReal := fun k => x (ix2 r k)

/-- The rows' gradients. -/
theorem pay_rows (d x res : FVec Ideal S1024x1024 .f32) (g : FVec Ideal S1x1024 .f32) (j : S1024x1024.Idx) :
    k0_pay7 (F := Ideal) d x g res j = res j + rowGrad (row x (j 0)) (row g 0) (row d (j 0)) (j 1) := by
  unfold k0_pay7 k0_pay4 k0_pay3
  pointwise
  rw [eq_ix2 j]
  rfl

/-- The gains' gradient over a block of rows, from zero. -/
theorem pay_gains_first (d x : FVec Ideal S1024x1024 .f32) (j : S1x1024.Idx) :
    k0_pay6 (F := Ideal) d x (k0_pay5 (F := Ideal)) j = ∑ r : Fin 1024, d (ix2 r (j 1)) * (x (ix2 r (j 1)) * rstd (row x r)) := by
  unfold k0_pay6 k0_pay4 k0_pay3 k0_pay5
  pointwise
  rfl

/-- The gains' gradient over a block of rows, added to what was there. -/
theorem pay_gains_next (d x : FVec Ideal S1024x1024 .f32) (a : FVec Ideal S1x1024 .f32) (j : S1x1024.Idx) :
    k0_pay6 (F := Ideal) d x a j = a j + ∑ r : Fin 1024, d (ix2 r (j 1)) * (x (ix2 r (j 1)) * rstd (row x r)) := by
  unfold k0_pay6 k0_pay4 k0_pay3
  pointwise
  rfl

/-- What the first of a row block's four points leaves in the accumulator. -/
theorem first (t : Fin cfg0.N) (h : t.val % 4 = 0) (j : S1024x1024.Idx) :
    (outsAt0 m c t.val t.isLt).2.2 j = dot (iblk m c 0 t) (iblk m c 1 t) j := by
  rw [outsAt0_A m c t h (by omega)]
  frame_out
  exact pay_first _ _ j

/-- What the next two leave. -/
theorem next (t : Fin cfg0.N) (h0 : ¬t.val % 4 = 0) (h1 : ¬t.val % 4 = 3) (j : S1024x1024.Idx) :
    (outsAt0 m c t.val t.isLt).2.2 j = (outsAt0 m c (t.val - 1) (Nat.lt_of_le_of_lt (Nat.sub_le _ _) t.isLt)).2.2 j
      + dot (iblk m c 0 t) (iblk m c 1 t) j := by
  rw [outsAt0_B m c t h0 h1]
  frame_out
  rw [pay_next, read_unread_whole]

/-- The whole product's rows at the last of a row block's points. -/
def rows (t : Fin cfg0.N) : FVec Ideal S1024x1024 .f32 :=
  k0_pay2 (F := Ideal) (iblk m c 0 t) (iblk m c 1 t) (outsAt0 m c (t.val - 1) (Nat.lt_of_le_of_lt (Nat.sub_le _ _) t.isLt)).2.2

/-- An entry of the whole product. -/
def whole (z : FVec Ideal S2048x4096 .bf16) (w : FVec Ideal S4x3072x1024 .bf16) (i : S2048x1024.Idx) : EReal :=
  ∑ f : Fin 4096, z (ix2 (i 0) f) * w (ix3 ⟨f.val / 1024, by omega⟩ ⟨(i 1).val, by have h : (i 1).val < 1024 := (i 1).isLt; omega⟩ ⟨f.val % 1024, by omega⟩)

theorem rows_eq (t : Fin cfg0.N) (h : t.val % 4 = 3) (j : S1024x1024.Idx) :
    rows m c t j = whole (m ((c : Thread nD τ).loc main_arg0)) (m ((c : Thread nD τ).loc main_arg1))
      (ix2 ⟨t.val / 4 * 1024 + (j 0).val, by have h : t.val < 8 := t.isLt; have h' : (j 0).val < 1024 := (j 0).isLt; omega⟩ (j 1)) := by
  have hp : t.val - 1 < cfg0.N := Nat.lt_of_le_of_lt (Nat.sub_le _ _) t.isLt
  have hp2 : t.val - 1 - 1 < cfg0.N := Nat.lt_of_le_of_lt (Nat.sub_le _ _) hp
  have hp3 : t.val - 1 - 1 - 1 < cfg0.N := Nat.lt_of_le_of_lt (Nat.sub_le _ _) hp2
  unfold rows
  rw [pay_next]
  rw [show (outsAt0 m c (t.val - 1) hp).2.2 j = _ from next m c ⟨t.val - 1, hp⟩ (by show ¬(t.val - 1) % 4 = 0; omega) (by show ¬(t.val - 1) % 4 = 3; omega) j,
    show (outsAt0 m c (t.val - 1 - 1) hp2).2.2 j = _ from next m c ⟨t.val - 1 - 1, hp2⟩ (by show ¬(t.val - 1 - 1) % 4 = 0; omega) (by show ¬(t.val - 1 - 1) % 4 = 3; omega) j,
    show (outsAt0 m c (t.val - 1 - 1 - 1) hp3).2.2 j = _ from first m c ⟨t.val - 1 - 1 - 1, hp3⟩ (by show (t.val - 1 - 1 - 1) % 4 = 0; omega) j]
  unfold whole
  refine Eq.trans ?_ (sum_four (M := EReal) _).symm
  refine congrArg₂ (· + ·) (congrArg₂ (· + ·) (congrArg₂ (· + ·) ?_ ?_) ?_) ?_
  all_goals
    refine Fin.sum_fin_congr fun k => ?_
    congr 1 <;> blk_ext [iblk, V, e0, e1]

/-- The reference's product. -/
theorem ref_whole (z : FVec Ideal S2048x4096 .bf16) (w : FVec Ideal S4x3072x1024 .bf16) (i : S2048x1024.Idx) :
    val_main_v21 (F := Ideal) z w i = whole z w i := by
  rw [val_main_v21_apply]
  refine Finset.sum_congr rfl fun k _ => ?_
  rw [val_main_v20_apply, val_main_v3_apply, val_main_v2_apply, val_main_v1_apply, val_main_v0_apply]
  have h1 : (i 1).val < 1024 := (i 1).isLt
  refine congrArg₂ (· * ·) (congrArg z (eq_ix2 _)) (congrArg w (funext fun a => Fin.ext ?_))
  match a with
  | ⟨0, _⟩ => simp [idx_main_v0, idx_main_v1, idx_main_v2, ridx_main_v21, ix3, Fin.lastCases]; try omega
  | ⟨1, _⟩ => simp [idx_main_v0, idx_main_v1, idx_main_v2, ridx_main_v21, ix3, Fin.lastCases]; try omega
  | ⟨2, _⟩ => simp [idx_main_v0, idx_main_v1, idx_main_v2, ridx_main_v21, ix3, Fin.lastCases]; try omega

/-- The reference's mean square plus the small constant, -/
theorem ref_under (x : FVec Ideal S2048x1024 .f32) (i : Cert.DHfRefIdeal.S2048x1.Idx) : val_main_v10 (F := Ideal) x i = under (row x (i 0)) := by
  have e : ∀ k, idx_main_v5 (idx_main_v6 i) k = ix2 (i 0) k := fun k => eq_ix2 _
  simp only [val_main_v10_apply, val_main_v8_apply, val_main_v6_apply, val_main_v5_apply, val_main_v4_apply, val_main_v7_apply, val_main_v9_apply,
    val_main_cst_apply, val_main_cst_0_apply, val_main_cst_1_apply, e]
  show Ideal.div (Ideal.ofBits .f32 0x00000000#32 + ∑ k, x (ix2 (i 0) k) * x (ix2 (i 0) k)) width + eps = _
  rw [Cert.Proof.Ref.ofBits_zero, zero_add]
  rfl

/-- and its reciprocal square root. -/
theorem ref_rstd (x : FVec Ideal S2048x1024 .f32) (i : Cert.DHfRefIdeal.S2048x1.Idx) : val_main_v11 (F := Ideal) x i = rstd (row x (i 0)) := by
  rw [val_main_v11_apply, ref_under]
  rfl

/-- The reference's coefficient of a row. -/
theorem ref_coef (z : FVec Ideal S2048x4096 .bf16) (w : FVec Ideal S4x3072x1024 .bf16) (x : FVec Ideal S2048x1024 .f32)
    (g : FVec Ideal S1x1024 .f32) (i : Cert.DHfRefIdeal.S2048.Idx) :
    val_main_v35 (F := Ideal) z w x g i = coef (row x (i 0)) (row g 0) (row (fun i => whole z w i) (i 0)) := by
  obtain ⟨r, hr⟩ : ∃ r : Fin 2048, i 0 = r := ⟨i 0, rfl⟩
  have e : ∀ l k, idx_main_v28 (idx_main_v29 (idx_main_v35 i l)) k = ix2 r k := fun l k => (eq_ix2 _).trans
    (congrArg (fun r => ix2 r k) (Fin.ext (by show (i 0).val * 1 + l.val = r.val; rw [← hr]; omega)))
  have e' : ∀ k, idx_main_v25 (ix2 r k : S2048x1024.Idx) = ix2 0 k := fun k => eq_ix2 _
  rw [val_main_v35_apply, Fin.sum_univ_one]
  simp only [val_main_v34_apply, val_main_v33_apply, val_main_v32_apply, val_main_v29_apply, val_main_v28_apply, val_main_v27_apply, val_main_v26_apply,
    val_main_v25_apply, val_main_v14_apply, val_main_v13_apply, val_main_v12_apply, ref_under, ref_rstd, ref_whole,
    val_main_cst_2_apply, val_main_cst_4_apply, val_main_cst_5_apply, val_main_cst_6_apply, e, e']
  show Ideal.ofBits .f32 0x00000000#32 + Ideal.div ((Ideal.ofBits .f32 0x00000000#32 + ∑ k, x (ix2 r k) * (whole z w (ix2 r k) * g (ix2 0 k)))
    * (half * Ideal.div (rstd (row x (i 0))) (under (row x (i 0))))) width = _
  rw [hr]
  rw [Cert.Proof.Ref.ofBits_zero, zero_add, zero_add]
  rfl

/-- The reference's first result. -/
theorem ref (z : FVec Ideal S2048x4096 .bf16) (w : FVec Ideal S4x3072x1024 .bf16) (x : FVec Ideal S2048x1024 .f32)
    (g : FVec Ideal S1x1024 .f32) (res : FVec Ideal S2048x1024 .f32) (i : S2048x1024.Idx) :
    val_main_v41 (F := Ideal) z w x g res i
      = res i + rowRef (row x (i 0)) (row g 0) (row (fun i => whole z w i) (i 0)) (i 1) := by
  obtain ⟨a, b, rfl⟩ : ∃ a b, i = ix2 a b := ⟨i 0, i 1, eq_ix2 i⟩
  have e : idx_main_v25 (ix2 a b : S2048x1024.Idx) = ix2 0 b := eq_ix2 _
  simp only [val_main_v41_apply, val_main_v40_apply, val_main_v39_apply, val_main_v38_apply, val_main_v37_apply, val_main_v36_apply,
    val_main_v31_apply, val_main_v30_apply, val_main_v26_apply, val_main_v25_apply, ref_rstd, ref_coef, ref_whole, e]
  rfl

/-- The reference's second result. -/
theorem ref_gains (z : FVec Ideal S2048x4096 .bf16) (w : FVec Ideal S4x3072x1024 .bf16) (x : FVec Ideal S2048x1024 .f32)
    (j : S1x1024.Idx) :
    val_main_v24 (F := Ideal) z w x j = ∑ r : Fin 2048, whole z w (ix2 r (j 1)) * (x (ix2 r (j 1)) * rstd (row x r)) := by
  obtain ⟨a, b, rfl⟩ : ∃ a b, j = ix2 a b := ⟨j 0, j 1, eq_ix2 j⟩
  have e : ∀ k, idx_main_v23 (idx_main_v24 (ix2 a b : Cert.DHfRefIdeal.S1x1024.Idx)) k = ix2 k b := fun k => (eq_ix2 _).trans
    (congrArg (ix2 k) (Fin.ext (by show a.val * 1024 + b.val = b.val; omega)))
  simp only [val_main_v24_apply, val_main_v23_apply, val_main_v22_apply, val_main_v16_apply, val_main_v15_apply, ref_rstd, ref_whole,
    val_main_cst_3_apply, e]
  show Ideal.ofBits .f32 0x00000000#32 + ∑ k, (x (ix2 k b) * rstd (row x k)) * whole z w (ix2 k b) = _
  rw [Cert.Proof.Ref.ofBits_zero, zero_add]
  exact Finset.sum_congr rfl fun k _ => mul_comm _ _

/-- A row of a block is a row of the array. -/
theorem row_x (t : Fin cfg0.N) (r : Fin 1024) : row (iblk m c 2 t) r
    = row (m ((c : Thread nD τ).loc main_arg2)) ⟨t.val / 4 * 1024 + r.val, by have h : t.val < 8 := t.isLt; omega⟩ := by
  funext k
  unfold row
  blk_ext [iblk, V, e2]

theorem row_g (t : Fin cfg0.N) : row (iblk m c 4 t) 0 = row (m ((c : Thread nD τ).loc main_arg3)) 0 := by
  funext k
  unfold row
  blk_ext [iblk, V, e4]

theorem row_rows (t : Fin cfg0.N) (h : t.val % 4 = 3) (r : Fin 1024) : row (rows m c t) r
    = row (fun i => whole (m ((c : Thread nD τ).loc main_arg0)) (m ((c : Thread nD τ).loc main_arg1)) i)
      ⟨t.val / 4 * 1024 + r.val, by have h : t.val < 8 := t.isLt; omega⟩ := by
  funext k
  exact rows_eq m c t h _

/-- The first result's block at the last of a row block's points. -/
theorem last (t : Fin cfg0.N) (h : t.val % 4 = 3) :
    (outsAt0 m c t.val t.isLt).1 = k0_pay7 (F := Ideal) (rows m c t) (iblk m c 2 t) (iblk m c 4 t) (iblk m c 3 t) := by
  unfold rows
  by_cases h2 : t.val < 4
  · rw [outsAt0_C m c t (by omega) h h2]
    frame_out
    rw [read_unread_whole]
  · rw [outsAt0_D m c t (by omega) h h2]
    frame_out
    rw [read_unread_whole]

/-- The gains' gradient after the first row block, -/
theorem gains_first (t : Fin cfg0.N) (h : t.val % 4 = 3) (h2 : t.val < 4) :
    (outsAt0 m c t.val t.isLt).2.1 = k0_pay6 (F := Ideal) (rows m c t) (iblk m c 2 t) (k0_pay5 (F := Ideal)) := by
  unfold rows
  rw [outsAt0_C m c t (by omega) h h2]
  frame_out
  rw [read_unread_whole]

/-- after the second, -/
theorem gains_next (t : Fin cfg0.N) (h : t.val % 4 = 3) (h2 : ¬t.val < 4) :
    (outsAt0 m c t.val t.isLt).2.1 = k0_pay6 (F := Ideal) (rows m c t) (iblk m c 2 t)
      (outsAt0 m c (t.val - 1) (Nat.lt_of_le_of_lt (Nat.sub_le _ _) t.isLt)).2.1 := by
  unfold rows
  rw [outsAt0_D m c t (by omega) h h2]
  frame_out
  rw [read_unread_whole]

/-- and at a point between, which leaves it alone. -/
theorem gains_keep (t : Fin cfg0.N) (h : ¬t.val % 4 = 3) :
    (outsAt0 m c t.val t.isLt).2.1 = (outsAt0 m c (t.val - 1) (Nat.lt_of_le_of_lt (Nat.sub_le _ _) t.isLt)).2.1 := by
  by_cases h0 : t.val % 4 = 0
  · rw [outsAt0_A m c t h0 h]
    rfl
  · rw [outsAt0_B m c t h0 h]
    rfl

/-- An entry of the first result's block. -/
theorem last_eq (t : Fin cfg0.N) (h : t.val % 4 = 3) (j : S1024x1024.Idx) : (outsAt0 m c t.val t.isLt).1 j
      = val_main_v41 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (ix2 ⟨t.val / 4 * 1024 + (j 0).val, by have h : t.val < 8 := t.isLt; have h' : (j 0).val < 1024 := (j 0).isLt; omega⟩ (j 1)) := by
  obtain ⟨a, b, rfl⟩ : ∃ a b, j = ix2 a b := ⟨j 0, j 1, eq_ix2 j⟩
  rw [last m c t h, pay_rows, ref]
  show _ + rowGrad (row (iblk m c 2 t) a) (row (iblk m c 4 t) 0) (row (rows m c t) a) b = _
  rw [row_x, row_g, row_rows m c t h]
  exact congrArg₂ (· + ·) (by blk_ext [iblk, V, e3]) (rowGrad_eq _ _ _ b)

/-- The kernel's first result is the reference's. -/
theorem result_rows :
    (dats m 0 c).arrAt 5 cfg0.N = val_main_v41 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t hf y => ?_
  have h : t.val % 4 = 3 := (flush0_5 t).mp hf
  blk_simp
  rw [after0_5]
  refine (last_eq m c t h y).trans (congrArg _ ?_)
  blk_ext [e5]

/-- The kernel's second result is the reference's. -/
theorem result_gains : (dats m 0 c).arrAt 6 cfg0.N = val_main_v24 (F := Ideal) (m ((c : Thread nD τ).loc main_arg0))
    (m ((c : Thread nD τ).loc main_arg1)) (m ((c : Thread nD τ).loc main_arg2)) := by
  refine (dats m 0 c).arrAt_eq_of_covers 6 _ (by decide +kernel) fun t hf y => ?_
  have h : t.val % 8 = 7 := (flush0_6 t).mp hf
  have hN : t.val < 8 := t.isLt
  have h6 : t.val - 1 < cfg0.N := Nat.lt_of_le_of_lt (Nat.sub_le _ _) t.isLt
  have h5 : t.val - 1 - 1 < cfg0.N := Nat.lt_of_le_of_lt (Nat.sub_le _ _) h6
  have h4 : t.val - 1 - 1 - 1 < cfg0.N := Nat.lt_of_le_of_lt (Nat.sub_le _ _) h5
  have h3 : t.val - 1 - 1 - 1 - 1 < cfg0.N := Nat.lt_of_le_of_lt (Nat.sub_le _ _) h4
  blk_simp
  rw [after0_6, gains_next m c t (by omega) (by omega),
    show (outsAt0 m c (t.val - 1) h6).2.1 = _ from gains_keep m c ⟨t.val - 1, h6⟩ (by show ¬(t.val - 1) % 4 = 3; omega),
    show (outsAt0 m c (t.val - 1 - 1) h5).2.1 = _ from gains_keep m c ⟨t.val - 1 - 1, h5⟩ (by show ¬(t.val - 1 - 1) % 4 = 3; omega),
    show (outsAt0 m c (t.val - 1 - 1 - 1) h4).2.1 = _ from gains_keep m c ⟨t.val - 1 - 1 - 1, h4⟩ (by show ¬(t.val - 1 - 1 - 1) % 4 = 3; omega),
    show (outsAt0 m c (t.val - 1 - 1 - 1 - 1) h3).2.1 = _ from gains_first m c ⟨t.val - 1 - 1 - 1 - 1, h3⟩
      (by show (t.val - 1 - 1 - 1 - 1) % 4 = 3; omega) (by show t.val - 1 - 1 - 1 - 1 < 4; omega),
    pay_gains_next, pay_gains_first, ref_gains]
  refine Eq.trans ?_ (sum_two (M := EReal) _).symm
  refine congrArg₂ (· + ·) ?_ ?_ <;> refine Fin.sum_fin_congr fun k => ?_
  · rw [rows_eq m c _ (by show (t.val - 1 - 1 - 1 - 1) % 4 = 3; omega), row_x]
    refine congrArg₂ (· * ·) (congrArg (whole _ _) ?_) (congrArg₂ (· * ·) ?_ (congrArg rstd (congrArg (row _) (Fin.ext ?_))))
    · blk_ext [e6]
    · blk_ext [iblk, V, e2, e6]
    · show (t.val - 1 - 1 - 1 - 1) / 4 * 1024 + k.val = k.val
      omega
  · rw [rows_eq m c t (by omega), row_x]
    refine congrArg₂ (· * ·) (congrArg (whole _ _) ?_) (congrArg₂ (· * ·) ?_ (congrArg rstd (congrArg (row _) (Fin.ext ?_))))
    · blk_ext [e6]
    · blk_ext [iblk, V, e2, e6]
    · show t.val / 4 * 1024 + k.val = 1024 + k.val
      omega

/-! ## The claims -/

theorem frame_kernel : letI := Cert.DHf.Gen.facts; Cert.quiescent_DHf := fun m ρ _ =>
  Cert.DHf.Gen.frame (F := Bits) m ρ

theorem frame_ideal : letI := Cert.DHfIdeal.Gen.facts; Cert.quiescent_DHfIdeal := fun m ρ _ =>
  Cert.DHfIdeal.Gen.frame (F := Ideal) m ρ

/-- The reference's run read at its arguments; it declares no semaphore. -/
theorem frame_reference : letI := Cert.DHfRefIdeal.Gen.facts; Cert.quiescent_DHfRefIdeal := fun m ρ _ =>
  (θ_run Cert.DHfRefIdeal.defs _ _).mono (fun r h => ⟨fun c => (h c).2.2, sem_eq_zero_of_no_sems (by decide) r.2⟩)
    (Cert.DHfRefIdeal.Value.run (F := Ideal) m ρ)

/-- The kernel and the reference end with equal results. -/
theorem algebraic : letI := Cert.DHfIdeal.Gen.facts; letI := Cert.DHfRefIdeal.Gen.facts
    Cert.algebraic_DHfIdeal_DHfRefIdeal := by
  intro m g m' g' _ hargs
  refine ⟨fun c => val_main_v41 (F := Ideal) (m' ((c.tc : Thread Cert.DHfRefIdeal.nD Cert.DHfRefIdeal.τ).loc Cert.DHfRefIdeal.main_arg0))
    (m' ((c.tc : Thread Cert.DHfRefIdeal.nD Cert.DHfRefIdeal.τ).loc Cert.DHfRefIdeal.main_arg1))
    (m' ((c.tc : Thread Cert.DHfRefIdeal.nD Cert.DHfRefIdeal.τ).loc Cert.DHfRefIdeal.main_arg2))
    (m' ((c.tc : Thread Cert.DHfRefIdeal.nD Cert.DHfRefIdeal.τ).loc Cert.DHfRefIdeal.main_arg3))
    (m' ((c.tc : Thread Cert.DHfRefIdeal.nD Cert.DHfRefIdeal.τ).loc Cert.DHfRefIdeal.main_arg4)),
    fun c => val_main_v24 (F := Ideal) (m' ((c.tc : Thread Cert.DHfRefIdeal.nD Cert.DHfRefIdeal.τ).loc Cert.DHfRefIdeal.main_arg0))
    (m' ((c.tc : Thread Cert.DHfRefIdeal.nD Cert.DHfRefIdeal.τ).loc Cert.DHfRefIdeal.main_arg1))
    (m' ((c.tc : Thread Cert.DHfRefIdeal.nD Cert.DHfRefIdeal.τ).loc Cert.DHfRefIdeal.main_arg2)), ?_,
    (θ_run _ _ _).mono (fun r h c => ⟨(h c).1.trans (val_main_v41_eq m' c), (h c).2⟩) (Cert.DHfRefIdeal.Value.run (F := Ideal) m' g')⟩
  refine (θ_run _ _ _).mono (fun r h c => ⟨(h c).1.trans ?_, (h c).2.1.trans ?_, (h c).2.2⟩) (Cert.DHfIdeal.Value.run_blocks m g)
  · rw [result_rows]
    have a := hargs c
    rw [← a.1, ← a.2.1, ← a.2.2.1, ← a.2.2.2.1, ← a.2.2.2.2]
  · rw [result_gains]
    have a := hargs c
    rw [← a.1, ← a.2.1, ← a.2.2.1]

end Cert.Proof.DHf

end
-- ==== Proof.DH.lean ====
/-
  The gradient of the block's input, carried back through the norm before it: the product accumulated over eleven blocks,
  then the norm's derivative row by row, and the gains' gradient summed over the rows.
-/
module

public import proofs.«01_k».proof.Defs
public import proofs.«01_k».proof.Proof.Gen.DH.Frame
public import proofs.«01_k».proof.Proof.Gen.DHIdeal.Value
public import proofs.«01_k».proof.Proof.Gen.DHRefIdeal.Run
public import proofs.«01_k».proof.Proof.Gen.DHRefIdeal.Read
public import proofs.«01_k».proof.Proof.Sums
public import proofs.«01_k».proof.Proof.Ref
public import proofs.«01_k».proof.Proof.Norm

@[expose] public section

noncomputable section

namespace Cert.Proof.DH

open Cert.DHIdeal Cert.DHIdeal.Gen Cert.DHRefIdeal.Read Cert.Proof.Sums Cert.Proof.Norm
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

theorem e0 : ∀ t : Fin cfg0.N, win0_0.index t = ![t.val / 11, t.val % 11] := (by decide +kernel : ∀ t : Fin grid0.N, _)
theorem e1 : ∀ t : Fin cfg0.N, win0_1.index t = ![t.val % 11, 0] := (by decide +kernel : ∀ t : Fin grid0.N, _)
theorem e2 : ∀ t : Fin cfg0.N, win0_2.index t = ![t.val / 11, 0] := (by decide +kernel : ∀ t : Fin grid0.N, _)
theorem e3 : ∀ t : Fin cfg0.N, win0_3.index t = ![t.val / 11, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![t.val / 11, 0] := (by decide +kernel : ∀ t : Fin grid0.N, _)
theorem e6 : ∀ t : Fin cfg0.N, win0_6.index t = ![0, 0] := (by decide +kernel : ∀ t : Fin grid0.N, _)

/-- An entry of the product of a block with the weights. -/
def dot (x : FVec Ideal S1024x512 .bf16) (y : FVec Ideal S512x1024 .bf16) (j : S1024x1024.Idx) : EReal :=
  ∑ k : Fin 512, x (ix2 (j 0) k) * y (ix2 k (j 1))

/-- A block's product, from a zero accumulator. -/
theorem pay_first (x : FVec Ideal S1024x512 .bf16) (y : FVec Ideal S512x1024 .bf16) (j : S1024x1024.Idx) :
    k0_pay2 (F := Ideal) x y (k0_pay1 (F := Ideal)) j = dot x y j := by
  unfold dot k0_pay2 k0_pay1
  pointwise

/-- A block's product, added to what was there. -/
theorem pay_next (x : FVec Ideal S1024x512 .bf16) (y : FVec Ideal S512x1024 .bf16) (a : FVec Ideal S1024x1024 .f32) (j : S1024x1024.Idx) :
    k0_pay2 (F := Ideal) x y a j = a j + dot x y j := by
  unfold dot k0_pay2
  pointwise

/-- A row of a block, or of an array. -/
def row {n : ℕ} (x : FVec Ideal ⟨2, ![n, 1024]⟩ .f32) (r : Fin n) : Fin 1024 → EReal := fun k => x (ix2 r k)

/-- The rows' gradients. -/
theorem pay_rows (d x res : FVec Ideal S1024x1024 .f32) (g : FVec Ideal S1x1024 .f32) (j : S1024x1024.Idx) :
    k0_pay7 (F := Ideal) d x g res j = res j + rowGrad (row x (j 0)) (row g 0) (row d (j 0)) (j 1) := by
  unfold k0_pay7 k0_pay4 k0_pay3
  pointwise
  rw [eq_ix2 j]
  rfl

/-- The gains' gradient over a block of rows, from zero. -/
theorem pay_gains_first (d x : FVec Ideal S1024x1024 .f32) (j : S1x1024.Idx) :
    k0_pay6 (F := Ideal) d x (k0_pay5 (F := Ideal)) j = ∑ r : Fin 1024, d (ix2 r (j 1)) * (x (ix2 r (j 1)) * rstd (row x r)) := by
  unfold k0_pay6 k0_pay4 k0_pay3 k0_pay5
  pointwise
  rfl

/-- The gains' gradient over a block of rows, added to what was there. -/
theorem pay_gains_next (d x : FVec Ideal S1024x1024 .f32) (a : FVec Ideal S1x1024 .f32) (j : S1x1024.Idx) :
    k0_pay6 (F := Ideal) d x a j = a j + ∑ r : Fin 1024, d (ix2 r (j 1)) * (x (ix2 r (j 1)) * rstd (row x r)) := by
  unfold k0_pay6 k0_pay4 k0_pay3
  pointwise
  rfl

/-- What the first of a row block's eleven points leaves in the accumulator. -/
theorem first (t : Fin cfg0.N) (h : t.val % 11 = 0) (j : S1024x1024.Idx) :
    (outsAt0 m c t.val t.isLt).2.2 j = dot (iblk m c 0 t) (iblk m c 1 t) j := by
  rw [outsAt0_A m c t h (by omega)]
  frame_out
  exact pay_first _ _ j

/-- What each of the next nine leaves. -/
theorem next (t : Fin cfg0.N) (h0 : ¬t.val % 11 = 0) (h1 : ¬t.val % 11 = 10) (j : S1024x1024.Idx) :
    (outsAt0 m c t.val t.isLt).2.2 j = (outsAt0 m c (t.val - 1) (Nat.lt_of_le_of_lt (Nat.sub_le _ _) t.isLt)).2.2 j
      + dot (iblk m c 0 t) (iblk m c 1 t) j := by
  rw [outsAt0_B m c t h0 h1]
  frame_out
  rw [pay_next, read_unread_whole]

/-- A point's product, zero past the last point. -/
def part (j : S1024x1024.Idx) (n : ℕ) : EReal := if h : n < cfg0.N then dot (iblk m c 0 ⟨n, h⟩) (iblk m c 1 ⟨n, h⟩) j else 0

/-- The accumulator is the sum of the products so far. -/
theorem sofar (n : ℕ) (hn : n % 11 = 0) (j : S1024x1024.Idx) : ∀ k : ℕ, k < 10 → ∀ h : n + k < cfg0.N,
    (outsAt0 m c (n + k) h).2.2 j = ∑ l ∈ Finset.range (k + 1), part m c j (n + l)
  | 0, _, h => by
    rw [Finset.sum_range_one, part, dif_pos h]
    exact first m c ⟨n + 0, h⟩ hn j
  | k + 1, hk, h => by
    rw [Finset.sum_range_succ, ← sofar n hn j k (by omega) (by omega), part, dif_pos h]
    exact next m c ⟨n + (k + 1), h⟩ (by show ¬(n + (k + 1)) % 11 = 0; omega) (by show ¬(n + (k + 1)) % 11 = 10; omega) j

/-- The whole product's rows at the last of a row block's points. -/
def rows (t : Fin cfg0.N) : FVec Ideal S1024x1024 .f32 :=
  k0_pay2 (F := Ideal) (iblk m c 0 t) (iblk m c 1 t) (outsAt0 m c (t.val - 1) (Nat.lt_of_le_of_lt (Nat.sub_le _ _) t.isLt)).2.2

/-- An entry of the whole product. -/
def whole (z : FVec Ideal S2048x5632 .bf16) (w : FVec Ideal S5632x1024 .bf16) (i : S2048x1024.Idx) : EReal :=
  ∑ f : Fin 5632, z (ix2 (i 0) f) * w (ix2 f ⟨(i 1).val, (i 1).isLt⟩)

/-- The same, block by block. -/
theorem whole_blocks (z : FVec Ideal S2048x5632 .bf16) (w : FVec Ideal S5632x1024 .bf16) (i : S2048x1024.Idx) :
    whole z w i = ∑ l : Fin 11, ∑ k : Fin 512, z (ix2 (i 0) ⟨l.val * 512 + k.val, by omega⟩)
      * w (ix2 ⟨l.val * 512 + k.val, by omega⟩ ⟨(i 1).val, (i 1).isLt⟩) :=
  (Fin.sum_mul_add_congr fun _ _ _ => rfl).symm

/-- What the points leave depends on the point's number alone. -/
theorem at_eq {n n' : ℕ} (e : n = n') (h : n < cfg0.N) (h' : n' < cfg0.N) : outsAt0 m c n h = outsAt0 m c n' h' := by
  subst e
  rfl

theorem rows_eq (t : Fin cfg0.N) (h : t.val % 11 = 10) (j : S1024x1024.Idx) :
    rows m c t j = whole (m ((c : Thread nD τ).loc main_arg0)) (m ((c : Thread nD τ).loc main_arg1))
      (ix2 ⟨t.val / 11 * 1024 + (j 0).val, by have h : t.val < 22 := t.isLt; have h' : (j 0).val < 1024 := (j 0).isLt; omega⟩ (j 1)) := by
  have hN : t.val < cfg0.N := t.isLt
  have h0 : t.val - 10 + 9 < cfg0.N := by omega
  have e : t.val - 10 + 10 = t.val := by omega
  have e' : t.val - 1 = t.val - 10 + 9 := by omega
  unfold rows
  rw [pay_next, at_eq m c e' _ h0, sofar m c (t.val - 10) (by omega) j 9 (by omega) h0,
    show dot (iblk m c 0 t) (iblk m c 1 t) j = part m c j (t.val - 10 + 10) by rw [e]; unfold part; rw [dif_pos hN],
    ← Finset.sum_range_succ (fun l => part m c j (t.val - 10 + l)) 10, Finset.sum_range, whole_blocks]
  refine Finset.sum_congr rfl fun (l : Fin 11) _ => ?_
  have hl : t.val - 10 + l.val < cfg0.N := by omega
  unfold part
  rw [dif_pos hl]
  refine Fin.sum_fin_congr fun k => ?_
  congr 1 <;> blk_ext [iblk, V, e0, e1]

/-- The reference's product. -/
theorem ref_whole (z : FVec Ideal S2048x5632 .bf16) (w : FVec Ideal S5632x1024 .bf16) (i : S2048x1024.Idx) :
    val_main_v19 (F := Ideal) z w i = whole z w i := by
  rw [val_main_v19_apply]
  refine Finset.sum_congr rfl fun k _ => ?_
  rw [val_main_v18_apply, val_main_v16_apply, val_main_v15_apply]
  exact congrArg₂ (· * ·) (congrArg z (eq_ix2 _)) (congrArg w (eq_ix2 _))

/-- The reference's mean square plus the small constant, -/
theorem ref_under (x : FVec Ideal S2048x1024 .f32) (i : Cert.DHRefIdeal.S2048x1.Idx) : val_main_v6 (F := Ideal) x i = under (row x (i 0)) := by
  have e : ∀ k, idx_main_v1 (idx_main_v2 i) k = ix2 (i 0) k := fun k => eq_ix2 _
  simp only [val_main_v6_apply, val_main_v4_apply, val_main_v2_apply, val_main_v1_apply, val_main_v0_apply, val_main_v3_apply, val_main_v5_apply,
    val_main_cst_apply, val_main_cst_0_apply, val_main_cst_1_apply, e]
  show Ideal.div (Ideal.ofBits .f32 0x00000000#32 + ∑ k, x (ix2 (i 0) k) * x (ix2 (i 0) k)) width + eps = _
  rw [Cert.Proof.Ref.ofBits_zero, zero_add]
  rfl

/-- and its reciprocal square root. -/
theorem ref_rstd (x : FVec Ideal S2048x1024 .f32) (i : Cert.DHRefIdeal.S2048x1.Idx) : val_main_v7 (F := Ideal) x i = rstd (row x (i 0)) := by
  rw [val_main_v7_apply, ref_under]
  rfl

/-- The reference's coefficient of a row. -/
theorem ref_coef (z : FVec Ideal S2048x5632 .bf16) (w : FVec Ideal S5632x1024 .bf16) (x : FVec Ideal S2048x1024 .f32)
    (g : FVec Ideal S1x1024 .f32) (i : Cert.DHRefIdeal.S2048.Idx) :
    val_main_v33 (F := Ideal) z w x g i = coef (row x (i 0)) (row g 0) (row (fun i => whole z w i) (i 0)) := by
  obtain ⟨r, hr⟩ : ∃ r : Fin 2048, i 0 = r := ⟨i 0, rfl⟩
  have e : ∀ l k, idx_main_v26 (idx_main_v27 (idx_main_v33 i l)) k = ix2 r k := fun l k => (eq_ix2 _).trans
    (congrArg (fun r => ix2 r k) (Fin.ext (by show (i 0).val * 1 + l.val = r.val; rw [← hr]; omega)))
  have e' : ∀ k, idx_main_v23 (ix2 r k : S2048x1024.Idx) = ix2 0 k := fun k => eq_ix2 _
  rw [val_main_v33_apply, Fin.sum_univ_one]
  simp only [val_main_v32_apply, val_main_v31_apply, val_main_v30_apply, val_main_v27_apply, val_main_v26_apply, val_main_v25_apply, val_main_v24_apply,
    val_main_v23_apply, val_main_v10_apply, val_main_v9_apply, val_main_v8_apply, ref_under, ref_rstd, ref_whole,
    val_main_cst_2_apply, val_main_cst_4_apply, val_main_cst_5_apply, val_main_cst_6_apply, e, e']
  show Ideal.ofBits .f32 0x00000000#32 + Ideal.div ((Ideal.ofBits .f32 0x00000000#32 + ∑ k, x (ix2 r k) * (whole z w (ix2 r k) * g (ix2 0 k)))
    * (half * Ideal.div (rstd (row x (i 0))) (under (row x (i 0))))) width = _
  rw [hr]
  rw [Cert.Proof.Ref.ofBits_zero, zero_add, zero_add]
  rfl

/-- The reference's first result. -/
theorem ref (z : FVec Ideal S2048x5632 .bf16) (w : FVec Ideal S5632x1024 .bf16) (x : FVec Ideal S2048x1024 .f32)
    (g : FVec Ideal S1x1024 .f32) (res : FVec Ideal S2048x1024 .f32) (i : S2048x1024.Idx) :
    val_main_v39 (F := Ideal) z w x g res i
      = res i + rowRef (row x (i 0)) (row g 0) (row (fun i => whole z w i) (i 0)) (i 1) := by
  obtain ⟨a, b, rfl⟩ : ∃ a b, i = ix2 a b := ⟨i 0, i 1, eq_ix2 i⟩
  have e : idx_main_v23 (ix2 a b : S2048x1024.Idx) = ix2 0 b := eq_ix2 _
  simp only [val_main_v39_apply, val_main_v38_apply, val_main_v37_apply, val_main_v36_apply, val_main_v35_apply, val_main_v34_apply,
    val_main_v29_apply, val_main_v28_apply, val_main_v24_apply, val_main_v23_apply, ref_rstd, ref_coef, ref_whole, e]
  rfl

/-- The reference's second result. -/
theorem ref_gains (z : FVec Ideal S2048x5632 .bf16) (w : FVec Ideal S5632x1024 .bf16) (x : FVec Ideal S2048x1024 .f32)
    (j : S1x1024.Idx) :
    val_main_v22 (F := Ideal) z w x j = ∑ r : Fin 2048, whole z w (ix2 r (j 1)) * (x (ix2 r (j 1)) * rstd (row x r)) := by
  obtain ⟨a, b, rfl⟩ : ∃ a b, j = ix2 a b := ⟨j 0, j 1, eq_ix2 j⟩
  have e : ∀ k, idx_main_v21 (idx_main_v22 (ix2 a b : Cert.DHRefIdeal.S1x1024.Idx)) k = ix2 k b := fun k => (eq_ix2 _).trans
    (congrArg (ix2 k) (Fin.ext (by show a.val * 1024 + b.val = b.val; omega)))
  simp only [val_main_v22_apply, val_main_v21_apply, val_main_v20_apply, val_main_v12_apply, val_main_v11_apply, ref_rstd, ref_whole,
    val_main_cst_3_apply, e]
  show Ideal.ofBits .f32 0x00000000#32 + ∑ k, (x (ix2 k b) * rstd (row x k)) * whole z w (ix2 k b) = _
  rw [Cert.Proof.Ref.ofBits_zero, zero_add]
  exact Finset.sum_congr rfl fun k _ => mul_comm _ _

/-- A row of a block is a row of the array. -/
theorem row_x (t : Fin cfg0.N) (r : Fin 1024) : row (iblk m c 2 t) r
    = row (m ((c : Thread nD τ).loc main_arg2)) ⟨t.val / 11 * 1024 + r.val, by have h : t.val < 22 := t.isLt; omega⟩ := by
  funext k
  unfold row
  blk_ext [iblk, V, e2]

theorem row_g (t : Fin cfg0.N) : row (iblk m c 4 t) 0 = row (m ((c : Thread nD τ).loc main_arg3)) 0 := by
  funext k
  unfold row
  blk_ext [iblk, V, e4]

theorem row_rows (t : Fin cfg0.N) (h : t.val % 11 = 10) (r : Fin 1024) : row (rows m c t) r
    = row (fun i => whole (m ((c : Thread nD τ).loc main_arg0)) (m ((c : Thread nD τ).loc main_arg1)) i)
      ⟨t.val / 11 * 1024 + r.val, by have h : t.val < 22 := t.isLt; omega⟩ := by
  funext k
  exact rows_eq m c t h _

/-- The first result's block at the last of a row block's points. -/
theorem last (t : Fin cfg0.N) (h : t.val % 11 = 10) :
    (outsAt0 m c t.val t.isLt).1 = k0_pay7 (F := Ideal) (rows m c t) (iblk m c 2 t) (iblk m c 4 t) (iblk m c 3 t) := by
  unfold rows
  by_cases h2 : t.val < 11
  · rw [outsAt0_C m c t (by omega) h h2]
    frame_out
    rw [read_unread_whole]
  · rw [outsAt0_D m c t (by omega) h h2]
    frame_out
    rw [read_unread_whole]

/-- The gains' gradient after the first row block, -/
theorem gains_first (t : Fin cfg0.N) (h : t.val % 11 = 10) (h2 : t.val < 11) :
    (outsAt0 m c t.val t.isLt).2.1 = k0_pay6 (F := Ideal) (rows m c t) (iblk m c 2 t) (k0_pay5 (F := Ideal)) := by
  unfold rows
  rw [outsAt0_C m c t (by omega) h h2]
  frame_out
  rw [read_unread_whole]

/-- after the second, -/
theorem gains_next (t : Fin cfg0.N) (h : t.val % 11 = 10) (h2 : ¬t.val < 11) :
    (outsAt0 m c t.val t.isLt).2.1 = k0_pay6 (F := Ideal) (rows m c t) (iblk m c 2 t)
      (outsAt0 m c (t.val - 1) (Nat.lt_of_le_of_lt (Nat.sub_le _ _) t.isLt)).2.1 := by
  unfold rows
  rw [outsAt0_D m c t (by omega) h h2]
  frame_out
  rw [read_unread_whole]

/-- and at a point between, which leaves it alone. -/
theorem gains_keep (t : Fin cfg0.N) (h : ¬t.val % 11 = 10) :
    (outsAt0 m c t.val t.isLt).2.1 = (outsAt0 m c (t.val - 1) (Nat.lt_of_le_of_lt (Nat.sub_le _ _) t.isLt)).2.1 := by
  by_cases h0 : t.val % 11 = 0
  · rw [outsAt0_A m c t h0 h]
    rfl
  · rw [outsAt0_B m c t h0 h]
    rfl

/-- The ten points after the first row block's last leave it alone. -/
theorem gains_between (q : Fin cfg0.N) (hq : q.val % 11 = 10) : ∀ k : ℕ, k ≤ 10 → ∀ h : q.val + k < cfg0.N,
    (outsAt0 m c (q.val + k) h).2.1 = (outsAt0 m c q.val q.isLt).2.1
  | 0, _, _ => rfl
  | k + 1, hk, h => (gains_keep m c ⟨q.val + (k + 1), h⟩ (by show ¬(q.val + (k + 1)) % 11 = 10; omega)).trans
    (gains_between q hq k (by omega) (by omega))

/-- An entry of the first result's block. -/
theorem last_eq (t : Fin cfg0.N) (h : t.val % 11 = 10) (j : S1024x1024.Idx) : (outsAt0 m c t.val t.isLt).1 j
      = val_main_v39 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (ix2 ⟨t.val / 11 * 1024 + (j 0).val, by have h : t.val < 22 := t.isLt; have h' : (j 0).val < 1024 := (j 0).isLt; omega⟩ (j 1)) := by
  obtain ⟨a, b, rfl⟩ : ∃ a b, j = ix2 a b := ⟨j 0, j 1, eq_ix2 j⟩
  rw [last m c t h, pay_rows, ref]
  show _ + rowGrad (row (iblk m c 2 t) a) (row (iblk m c 4 t) 0) (row (rows m c t) a) b = _
  rw [row_x, row_g, row_rows m c t h]
  exact congrArg₂ (· + ·) (by blk_ext [iblk, V, e3]) (rowGrad_eq _ _ _ b)

/-- The kernel's first result is the reference's. -/
theorem result_rows :
    (dats m 0 c).arrAt 5 cfg0.N = val_main_v39 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t hf y => ?_
  have h : t.val % 11 = 10 := (flush0_5 t).mp hf
  blk_simp
  rw [after0_5]
  refine (last_eq m c t h y).trans (congrArg _ ?_)
  blk_ext [e5]

/-- The kernel's second result is the reference's. -/
theorem result_gains : (dats m 0 c).arrAt 6 cfg0.N = val_main_v22 (F := Ideal) (m ((c : Thread nD τ).loc main_arg0))
    (m ((c : Thread nD τ).loc main_arg1)) (m ((c : Thread nD τ).loc main_arg2)) := by
  refine (dats m 0 c).arrAt_eq_of_covers 6 _ (by decide +kernel) fun t hf y => ?_
  have h : t.val % 22 = 21 := (flush0_6 t).mp hf
  have hN : t.val < 22 := t.isLt
  have hN' : t.val < cfg0.N := t.isLt
  obtain ⟨q, hq⟩ : ∃ q : Fin cfg0.N, q.val = 10 := ⟨⟨10, by omega⟩, rfl⟩
  have h1 : q.val + 10 < cfg0.N := by omega
  blk_simp
  rw [after0_6, gains_next m c t (by omega) (by omega), at_eq m c (show t.val - 1 = q.val + 10 by omega) _ h1,
    gains_between m c q (by omega) 10 (by omega) h1, gains_first m c q (by omega) (by omega),
    pay_gains_next, pay_gains_first, ref_gains]
  refine Eq.trans ?_ (sum_two (M := EReal) _).symm
  refine congrArg₂ (· + ·) ?_ ?_ <;> refine Fin.sum_fin_congr fun k => ?_
  · rw [rows_eq m c q (by omega), row_x]
    refine congrArg₂ (· * ·) (congrArg (whole _ _) ?_) (congrArg₂ (· * ·) ?_ (congrArg rstd (congrArg (row _) (Fin.ext ?_))))
    · blk_ext [e6]
    · blk_ext [iblk, V, e2, e6]
    · show q.val / 11 * 1024 + k.val = k.val
      omega
  · rw [rows_eq m c t (by omega), row_x]
    refine congrArg₂ (· * ·) (congrArg (whole _ _) ?_) (congrArg₂ (· * ·) ?_ (congrArg rstd (congrArg (row _) (Fin.ext ?_))))
    · blk_ext [e6]
    · blk_ext [iblk, V, e2, e6]
    · show t.val / 11 * 1024 + k.val = 1024 + k.val
      omega

/-! ## The claims -/

theorem frame_kernel : letI := Cert.DH.Gen.facts; Cert.quiescent_DH := fun m ρ _ =>
  Cert.DH.Gen.frame (F := Bits) m ρ

theorem frame_ideal : letI := Cert.DHIdeal.Gen.facts; Cert.quiescent_DHIdeal := fun m ρ _ =>
  Cert.DHIdeal.Gen.frame (F := Ideal) m ρ

/-- The reference's run read at its arguments; it declares no semaphore. -/
theorem frame_reference : letI := Cert.DHRefIdeal.Gen.facts; Cert.quiescent_DHRefIdeal := fun m ρ _ =>
  (θ_run Cert.DHRefIdeal.defs _ _).mono (fun r h => ⟨fun c => (h c).2.2, sem_eq_zero_of_no_sems (by decide) r.2⟩)
    (Cert.DHRefIdeal.Value.run (F := Ideal) m ρ)

/-- The kernel and the reference end with equal results. -/
theorem algebraic : letI := Cert.DHIdeal.Gen.facts; letI := Cert.DHRefIdeal.Gen.facts
    Cert.algebraic_DHIdeal_DHRefIdeal := by
  intro m g m' g' _ hargs
  refine ⟨fun c => val_main_v39 (F := Ideal) (m' ((c.tc : Thread Cert.DHRefIdeal.nD Cert.DHRefIdeal.τ).loc Cert.DHRefIdeal.main_arg0))
    (m' ((c.tc : Thread Cert.DHRefIdeal.nD Cert.DHRefIdeal.τ).loc Cert.DHRefIdeal.main_arg1))
    (m' ((c.tc : Thread Cert.DHRefIdeal.nD Cert.DHRefIdeal.τ).loc Cert.DHRefIdeal.main_arg2))
    (m' ((c.tc : Thread Cert.DHRefIdeal.nD Cert.DHRefIdeal.τ).loc Cert.DHRefIdeal.main_arg3))
    (m' ((c.tc : Thread Cert.DHRefIdeal.nD Cert.DHRefIdeal.τ).loc Cert.DHRefIdeal.main_arg4)),
    fun c => val_main_v22 (F := Ideal) (m' ((c.tc : Thread Cert.DHRefIdeal.nD Cert.DHRefIdeal.τ).loc Cert.DHRefIdeal.main_arg0))
    (m' ((c.tc : Thread Cert.DHRefIdeal.nD Cert.DHRefIdeal.τ).loc Cert.DHRefIdeal.main_arg1))
    (m' ((c.tc : Thread Cert.DHRefIdeal.nD Cert.DHRefIdeal.τ).loc Cert.DHRefIdeal.main_arg2)), ?_,
    (θ_run _ _ _).mono (fun r h c => ⟨(h c).1.trans (val_main_v39_eq m' c), (h c).2⟩) (Cert.DHRefIdeal.Value.run (F := Ideal) m' g')⟩
  refine (θ_run _ _ _).mono (fun r h c => ⟨(h c).1.trans ?_, (h c).2.1.trans ?_, (h c).2.2⟩) (Cert.DHIdeal.Value.run_blocks m g)
  · rw [result_rows]
    have a := hargs c
    rw [← a.1, ← a.2.1, ← a.2.2.1, ← a.2.2.2.1, ← a.2.2.2.2]
  · rw [result_gains]
    have a := hargs c
    rw [← a.1, ← a.2.1, ← a.2.2.1]

end Cert.Proof.DH

end
-- ==== Proof.DHx.lean ====
/-
  The gradient of the external memory's input, carried back through the norm before it: the product of each row block, the
  norm's derivative row by row, and the gains' gradient summed over the rows.
-/
module

public import proofs.«01_k».proof.Defs
public import proofs.«01_k».proof.Proof.Gen.DHx.Frame
public import proofs.«01_k».proof.Proof.Gen.DHxIdeal.Value
public import proofs.«01_k».proof.Proof.Gen.DHxRefIdeal.Run
public import proofs.«01_k».proof.Proof.Gen.DHxRefIdeal.Read
public import proofs.«01_k».proof.Proof.Sums
public import proofs.«01_k».proof.Proof.Ref
public import proofs.«01_k».proof.Proof.Norm

@[expose] public section

noncomputable section

namespace Cert.Proof.DHx

open Cert.DHxIdeal Cert.DHxIdeal.Gen Cert.DHxRefIdeal.Read Cert.Proof.Sums Cert.Proof.Norm
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

theorem e0 : ∀ t : Fin cfg0.N, win0_0.index t = ![t.val, 0] := (by decide +kernel : ∀ t : Fin grid0.N, _)
theorem e1 : ∀ t : Fin cfg0.N, win0_1.index t = ![0, 10, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![0, 0] := (by decide +kernel : ∀ t : Fin grid0.N, _)

/-- Four quarters of the rows, added one after the other. -/
theorem sum_quarters (g : Fin 2048 → EReal) : ∑ k, g k = (∑ k : Fin 512, g ⟨k.val, by omega⟩) + (∑ k : Fin 512, g ⟨512 + k.val, by omega⟩)
    + (∑ k : Fin 512, g ⟨1024 + k.val, by omega⟩) + ∑ k : Fin 512, g ⟨1536 + k.val, by omega⟩ := by
  rw [Fin.sum_univ_add (a := 1536) (b := 512) g, Fin.sum_univ_add (a := 1024) (b := 512), Fin.sum_univ_add (a := 512) (b := 512)]
  rfl

/-- An entry of the product of a block with transposed weights. -/
def dot (x : FVec Ideal S512x1024 .bf16) (y : FVec Ideal S4x256x1024 .bf16) (j : S512x1024.Idx) : EReal :=
  ∑ k : Fin 1024, x (ix2 (j 0) k) * y (ix3 ⟨(j 1).val / 256, by have h : (j 1).val < 1024 := (j 1).isLt; omega⟩ ⟨(j 1).val % 256, by omega⟩ k)

/-- A block's product, from a zero accumulator. -/
theorem pay_first (x : FVec Ideal S512x1024 .bf16) (y : FVec Ideal S4x256x1024 .bf16) (j : S512x1024.Idx) :
    k0_pay2 (F := Ideal) x y (k0_pay1 (F := Ideal)) j = dot x y j := by
  unfold dot k0_pay2 k0_pay1
  pointwise

/-- A row of a block, or of an array. -/
def row {n : ℕ} (x : FVec Ideal ⟨2, ![n, 1024]⟩ .f32) (r : Fin n) : Fin 1024 → EReal := fun k => x (ix2 r k)

/-- The rows' gradients. -/
theorem pay_rows (d x res : FVec Ideal S512x1024 .f32) (g : FVec Ideal S1x1024 .f32) (j : S512x1024.Idx) :
    k0_pay7 (F := Ideal) d x g res j = res j + rowGrad (row x (j 0)) (row g 0) (row d (j 0)) (j 1) := by
  unfold k0_pay7 k0_pay4 k0_pay3
  pointwise
  rw [eq_ix2 j]
  rfl

/-- The gains' gradient over a block of rows, from zero. -/
theorem pay_gains_first (d x : FVec Ideal S512x1024 .f32) (j : S1x1024.Idx) :
    k0_pay6 (F := Ideal) d x (k0_pay5 (F := Ideal)) j = ∑ r : Fin 512, d (ix2 r (j 1)) * (x (ix2 r (j 1)) * rstd (row x r)) := by
  unfold k0_pay6 k0_pay4 k0_pay3 k0_pay5
  pointwise
  rfl

/-- The gains' gradient over a block of rows, added to what was there. -/
theorem pay_gains_next (d x : FVec Ideal S512x1024 .f32) (a : FVec Ideal S1x1024 .f32) (j : S1x1024.Idx) :
    k0_pay6 (F := Ideal) d x a j = a j + ∑ r : Fin 512, d (ix2 r (j 1)) * (x (ix2 r (j 1)) * rstd (row x r)) := by
  unfold k0_pay6 k0_pay4 k0_pay3
  pointwise
  rfl

/-- The product's rows at a point. -/
def rows (t : Fin cfg0.N) : FVec Ideal S512x1024 .f32 :=
  k0_pay2 (F := Ideal) (iblk m c 0 t) (iblk m c 1 t) (k0_pay1 (F := Ideal))

/-- An entry of the whole product. -/
def whole (z : FVec Ideal S2048x1024 .bf16) (w : FVec Ideal S4x3072x1024 .bf16) (i : S2048x1024.Idx) : EReal :=
  ∑ f : Fin 1024, z (ix2 (i 0) f) * w (ix3 ⟨(i 1).val / 256, by have h : (i 1).val < 1024 := (i 1).isLt; omega⟩
    ⟨2560 + (i 1).val % 256, by omega⟩ ⟨f.val, f.isLt⟩)

theorem rows_eq (t : Fin cfg0.N) (j : S512x1024.Idx) :
    rows m c t j = whole (m ((c : Thread nD τ).loc main_arg0)) (m ((c : Thread nD τ).loc main_arg1))
      (ix2 ⟨t.val * 512 + (j 0).val, by have h : t.val < 4 := t.isLt; have h' : (j 0).val < 512 := (j 0).isLt; omega⟩ (j 1)) := by
  unfold rows
  rw [pay_first]
  refine Fin.sum_fin_congr fun k => ?_
  congr 1 <;> blk_ext [iblk, V, e0, e1]

/-- The reference's product. -/
theorem ref_whole (z : FVec Ideal S2048x1024 .bf16) (w : FVec Ideal S4x3072x1024 .bf16) (i : S2048x1024.Idx) :
    val_main_v20 (F := Ideal) z w i = whole z w i := by
  rw [val_main_v20_apply]
  refine Finset.sum_congr rfl fun k _ => ?_
  rw [val_main_v19_apply, val_main_v17_apply, val_main_v16_apply, val_main_v15_apply]
  have h1 : (i 1).val < 1024 := (i 1).isLt
  refine congrArg₂ (· * ·) (congrArg z (eq_ix2 _)) (congrArg w (funext fun a => Fin.ext ?_))
  match a with
  | ⟨0, _⟩ => show ((i 1).val * 1024 + k.val) / 262144 = (i 1).val / 256; omega
  | ⟨1, _⟩ => show 2560 + ((i 1).val * 1024 + k.val) / 1024 % 256 = 2560 + (i 1).val % 256; omega
  | ⟨2, _⟩ => show ((i 1).val * 1024 + k.val) % 1024 = k.val; omega

/-- The reference's mean square plus the small constant, -/
theorem ref_under (x : FVec Ideal S2048x1024 .f32) (i : Cert.DHxRefIdeal.S2048x1.Idx) : val_main_v6 (F := Ideal) x i = under (row x (i 0)) := by
  have e : ∀ k, idx_main_v1 (idx_main_v2 i) k = ix2 (i 0) k := fun k => eq_ix2 _
  simp only [val_main_v6_apply, val_main_v4_apply, val_main_v2_apply, val_main_v1_apply, val_main_v0_apply, val_main_v3_apply, val_main_v5_apply,
    val_main_cst_apply, val_main_cst_0_apply, val_main_cst_1_apply, e]
  show Ideal.div (Ideal.ofBits .f32 0x00000000#32 + ∑ k, x (ix2 (i 0) k) * x (ix2 (i 0) k)) width + eps = _
  rw [Cert.Proof.Ref.ofBits_zero, zero_add]
  rfl

/-- and its reciprocal square root. -/
theorem ref_rstd (x : FVec Ideal S2048x1024 .f32) (i : Cert.DHxRefIdeal.S2048x1.Idx) : val_main_v7 (F := Ideal) x i = rstd (row x (i 0)) := by
  rw [val_main_v7_apply, ref_under]
  rfl

/-- The reference's coefficient of a row. -/
theorem ref_coef (z : FVec Ideal S2048x1024 .bf16) (w : FVec Ideal S4x3072x1024 .bf16) (x : FVec Ideal S2048x1024 .f32)
    (g : FVec Ideal S1x1024 .f32) (i : Cert.DHxRefIdeal.S2048.Idx) :
    val_main_v34 (F := Ideal) z w x g i = coef (row x (i 0)) (row g 0) (row (fun i => whole z w i) (i 0)) := by
  obtain ⟨r, hr⟩ : ∃ r : Fin 2048, i 0 = r := ⟨i 0, rfl⟩
  have e : ∀ l k, idx_main_v27 (idx_main_v28 (idx_main_v34 i l)) k = ix2 r k := fun l k => (eq_ix2 _).trans
    (congrArg (fun r => ix2 r k) (Fin.ext (by show (i 0).val * 1 + l.val = r.val; rw [← hr]; omega)))
  have e' : ∀ k, idx_main_v24 (ix2 r k : S2048x1024.Idx) = ix2 0 k := fun k => eq_ix2 _
  rw [val_main_v34_apply, Fin.sum_univ_one]
  simp only [val_main_v33_apply, val_main_v32_apply, val_main_v31_apply, val_main_v28_apply, val_main_v27_apply, val_main_v26_apply, val_main_v25_apply,
    val_main_v24_apply, val_main_v10_apply, val_main_v9_apply, val_main_v8_apply, ref_under, ref_rstd, ref_whole,
    val_main_cst_2_apply, val_main_cst_4_apply, val_main_cst_5_apply, val_main_cst_6_apply, e, e']
  show Ideal.ofBits .f32 0x00000000#32 + Ideal.div ((Ideal.ofBits .f32 0x00000000#32 + ∑ k, x (ix2 r k) * (whole z w (ix2 r k) * g (ix2 0 k)))
    * (half * Ideal.div (rstd (row x (i 0))) (under (row x (i 0))))) width = _
  rw [hr]
  rw [Cert.Proof.Ref.ofBits_zero, zero_add, zero_add]
  rfl

/-- The reference's first result. -/
theorem ref (z : FVec Ideal S2048x1024 .bf16) (w : FVec Ideal S4x3072x1024 .bf16) (x : FVec Ideal S2048x1024 .f32)
    (g : FVec Ideal S1x1024 .f32) (res : FVec Ideal S2048x1024 .f32) (i : S2048x1024.Idx) :
    val_main_v40 (F := Ideal) z w x g res i
      = res i + rowRef (row x (i 0)) (row g 0) (row (fun i => whole z w i) (i 0)) (i 1) := by
  obtain ⟨a, b, rfl⟩ : ∃ a b, i = ix2 a b := ⟨i 0, i 1, eq_ix2 i⟩
  have e : idx_main_v24 (ix2 a b : S2048x1024.Idx) = ix2 0 b := eq_ix2 _
  simp only [val_main_v40_apply, val_main_v39_apply, val_main_v38_apply, val_main_v37_apply, val_main_v36_apply, val_main_v35_apply,
    val_main_v30_apply, val_main_v29_apply, val_main_v25_apply, val_main_v24_apply, ref_rstd, ref_coef, ref_whole, e]
  rfl

/-- The reference's second result. -/
theorem ref_gains (z : FVec Ideal S2048x1024 .bf16) (w : FVec Ideal S4x3072x1024 .bf16) (x : FVec Ideal S2048x1024 .f32)
    (j : S1x1024.Idx) :
    val_main_v23 (F := Ideal) z w x j = ∑ r : Fin 2048, whole z w (ix2 r (j 1)) * (x (ix2 r (j 1)) * rstd (row x r)) := by
  obtain ⟨a, b, rfl⟩ : ∃ a b, j = ix2 a b := ⟨j 0, j 1, eq_ix2 j⟩
  have e : ∀ k, idx_main_v22 (idx_main_v23 (ix2 a b : Cert.DHxRefIdeal.S1x1024.Idx)) k = ix2 k b := fun k => (eq_ix2 _).trans
    (congrArg (ix2 k) (Fin.ext (by show a.val * 1024 + b.val = b.val; omega)))
  simp only [val_main_v23_apply, val_main_v22_apply, val_main_v21_apply, val_main_v12_apply, val_main_v11_apply, ref_rstd, ref_whole,
    val_main_cst_3_apply, e]
  show Ideal.ofBits .f32 0x00000000#32 + ∑ k, (x (ix2 k b) * rstd (row x k)) * whole z w (ix2 k b) = _
  rw [Cert.Proof.Ref.ofBits_zero, zero_add]
  exact Finset.sum_congr rfl fun k _ => mul_comm _ _

/-- A row of a block is a row of the array. -/
theorem row_x (t : Fin cfg0.N) (r : Fin 512) : row (iblk m c 2 t) r
    = row (m ((c : Thread nD τ).loc main_arg2)) ⟨t.val * 512 + r.val, by have h : t.val < 4 := t.isLt; omega⟩ := by
  funext k
  unfold row
  blk_ext [iblk, V, e2]

theorem row_g (t : Fin cfg0.N) : row (iblk m c 4 t) 0 = row (m ((c : Thread nD τ).loc main_arg3)) 0 := by
  funext k
  unfold row
  blk_ext [iblk, V, e4]

theorem row_rows (t : Fin cfg0.N) (r : Fin 512) : row (rows m c t) r
    = row (fun i => whole (m ((c : Thread nD τ).loc main_arg0)) (m ((c : Thread nD τ).loc main_arg1)) i)
      ⟨t.val * 512 + r.val, by have h : t.val < 4 := t.isLt; omega⟩ := by
  funext k
  exact rows_eq m c t _

/-- The first result's block at a point. -/
theorem last (t : Fin cfg0.N) :
    (outsAt0 m c t.val t.isLt).1 = k0_pay7 (F := Ideal) (rows m c t) (iblk m c 2 t) (iblk m c 4 t) (iblk m c 3 t) := by
  unfold rows
  by_cases h : t.val % 4 = 0
  · rw [outsAt0_A m c t h]
    frame_out
  · rw [outsAt0_B m c t h]
    frame_out

/-- The gains' gradient after the first row block, -/
theorem gains_first (t : Fin cfg0.N) (h : t.val % 4 = 0) :
    (outsAt0 m c t.val t.isLt).2 = k0_pay6 (F := Ideal) (rows m c t) (iblk m c 2 t) (k0_pay5 (F := Ideal)) := by
  unfold rows
  rw [outsAt0_A m c t h]
  frame_out

/-- and after each of the next. -/
theorem gains_next (t : Fin cfg0.N) (h : ¬t.val % 4 = 0) :
    (outsAt0 m c t.val t.isLt).2 = k0_pay6 (F := Ideal) (rows m c t) (iblk m c 2 t)
      (outsAt0 m c (t.val - 1) (Nat.lt_of_le_of_lt (Nat.sub_le _ _) t.isLt)).2 := by
  unfold rows
  rw [outsAt0_B m c t h]
  frame_out

/-- An entry of the first result's block. -/
theorem last_eq (t : Fin cfg0.N) (j : S512x1024.Idx) : (outsAt0 m c t.val t.isLt).1 j
      = val_main_v40 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (ix2 ⟨t.val * 512 + (j 0).val, by have h : t.val < 4 := t.isLt; have h' : (j 0).val < 512 := (j 0).isLt; omega⟩ (j 1)) := by
  obtain ⟨a, b, rfl⟩ : ∃ a b, j = ix2 a b := ⟨j 0, j 1, eq_ix2 j⟩
  rw [last m c t, pay_rows, ref]
  show _ + rowGrad (row (iblk m c 2 t) a) (row (iblk m c 4 t) 0) (row (rows m c t) a) b = _
  rw [row_x, row_g, row_rows m c t]
  exact congrArg₂ (· + ·) (by blk_ext [iblk, V, e3]) (rowGrad_eq _ _ _ b)

/-- The kernel's first result is the reference's. -/
theorem result_rows :
    (dats m 0 c).arrAt 5 cfg0.N = val_main_v40 (F := Ideal) (m ((c : Thread nD τ).loc main_arg0)) (m ((c : Thread nD τ).loc main_arg1))
      (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5]
  refine (last_eq m c t y).trans (congrArg _ ?_)
  blk_ext [e5]

/-- The kernel's second result is the reference's. -/
theorem result_gains : (dats m 0 c).arrAt 6 cfg0.N = val_main_v23 (F := Ideal) (m ((c : Thread nD τ).loc main_arg0))
    (m ((c : Thread nD τ).loc main_arg1)) (m ((c : Thread nD τ).loc main_arg2)) := by
  refine (dats m 0 c).arrAt_eq_of_covers 6 _ (by decide +kernel) fun t hf y => ?_
  have h : t.val % 4 = 3 := (flush0_6 t).mp hf
  have hN : t.val < 4 := t.isLt
  have h2 : t.val - 1 < cfg0.N := Nat.lt_of_le_of_lt (Nat.sub_le _ _) t.isLt
  have h1 : t.val - 1 - 1 < cfg0.N := Nat.lt_of_le_of_lt (Nat.sub_le _ _) h2
  have h0 : t.val - 1 - 1 - 1 < cfg0.N := Nat.lt_of_le_of_lt (Nat.sub_le _ _) h1
  blk_simp
  rw [after0_6, gains_next m c t (by omega),
    show (outsAt0 m c (t.val - 1) h2).2 = _ from gains_next m c ⟨t.val - 1, h2⟩ (by show ¬(t.val - 1) % 4 = 0; omega),
    show (outsAt0 m c (t.val - 1 - 1) h1).2 = _ from gains_next m c ⟨t.val - 1 - 1, h1⟩ (by show ¬(t.val - 1 - 1) % 4 = 0; omega),
    show (outsAt0 m c (t.val - 1 - 1 - 1) h0).2 = _ from gains_first m c ⟨t.val - 1 - 1 - 1, h0⟩ (by show (t.val - 1 - 1 - 1) % 4 = 0; omega),
    pay_gains_next, pay_gains_next, pay_gains_next, pay_gains_first, ref_gains]
  refine Eq.trans ?_ (sum_quarters _).symm
  refine congrArg₂ (· + ·) (congrArg₂ (· + ·) (congrArg₂ (· + ·) ?_ ?_) ?_) ?_ <;> refine Fin.sum_fin_congr fun k => ?_
  · rw [rows_eq m c ⟨t.val - 1 - 1 - 1, h0⟩, row_x]
    refine congrArg₂ (· * ·) (congrArg (whole _ _) ?_) (congrArg₂ (· * ·) ?_ (congrArg rstd (congrArg (row _) (Fin.ext ?_))))
    · blk_ext [e6]
    · blk_ext [iblk, V, e2, e6]
    · show (t.val - 1 - 1 - 1) * 512 + k.val = k.val
      omega
  · rw [rows_eq m c ⟨t.val - 1 - 1, h1⟩, row_x]
    refine congrArg₂ (· * ·) (congrArg (whole _ _) ?_) (congrArg₂ (· * ·) ?_ (congrArg rstd (congrArg (row _) (Fin.ext ?_))))
    · blk_ext [e6]
    · blk_ext [iblk, V, e2, e6]
    · show (t.val - 1 - 1) * 512 + k.val = 512 + k.val
      omega
  · rw [rows_eq m c ⟨t.val - 1, h2⟩, row_x]
    refine congrArg₂ (· * ·) (congrArg (whole _ _) ?_) (congrArg₂ (· * ·) ?_ (congrArg rstd (congrArg (row _) (Fin.ext ?_))))
    · blk_ext [e6]
    · blk_ext [iblk, V, e2, e6]
    · show (t.val - 1) * 512 + k.val = 1024 + k.val
      omega
  · rw [rows_eq m c t, row_x]
    refine congrArg₂ (· * ·) (congrArg (whole _ _) ?_) (congrArg₂ (· * ·) ?_ (congrArg rstd (congrArg (row _) (Fin.ext ?_))))
    · blk_ext [e6]
    · blk_ext [iblk, V, e2, e6]
    · show (t.val) * 512 + k.val = 1536 + k.val
      omega

/-! ## The claims -/

theorem frame_kernel : letI := Cert.DHx.Gen.facts; Cert.quiescent_DHx := fun m ρ _ =>
  Cert.DHx.Gen.frame (F := Bits) m ρ

theorem frame_ideal : letI := Cert.DHxIdeal.Gen.facts; Cert.quiescent_DHxIdeal := fun m ρ _ =>
  Cert.DHxIdeal.Gen.frame (F := Ideal) m ρ

/-- The reference's run read at its arguments; it declares no semaphore. -/
theorem frame_reference : letI := Cert.DHxRefIdeal.Gen.facts; Cert.quiescent_DHxRefIdeal := fun m ρ _ =>
  (θ_run Cert.DHxRefIdeal.defs _ _).mono (fun r h => ⟨fun c => (h c).2.2, sem_eq_zero_of_no_sems (by decide) r.2⟩)
    (Cert.DHxRefIdeal.Value.run (F := Ideal) m ρ)

/-- The kernel and the reference end with equal results. -/
theorem algebraic : letI := Cert.DHxIdeal.Gen.facts; letI := Cert.DHxRefIdeal.Gen.facts
    Cert.algebraic_DHxIdeal_DHxRefIdeal := by
  intro m g m' g' _ hargs
  refine ⟨fun c => val_main_v40 (F := Ideal) (m' ((c.tc : Thread Cert.DHxRefIdeal.nD Cert.DHxRefIdeal.τ).loc Cert.DHxRefIdeal.main_arg0))
    (m' ((c.tc : Thread Cert.DHxRefIdeal.nD Cert.DHxRefIdeal.τ).loc Cert.DHxRefIdeal.main_arg1))
    (m' ((c.tc : Thread Cert.DHxRefIdeal.nD Cert.DHxRefIdeal.τ).loc Cert.DHxRefIdeal.main_arg2))
    (m' ((c.tc : Thread Cert.DHxRefIdeal.nD Cert.DHxRefIdeal.τ).loc Cert.DHxRefIdeal.main_arg3))
    (m' ((c.tc : Thread Cert.DHxRefIdeal.nD Cert.DHxRefIdeal.τ).loc Cert.DHxRefIdeal.main_arg4)),
    fun c => val_main_v23 (F := Ideal) (m' ((c.tc : Thread Cert.DHxRefIdeal.nD Cert.DHxRefIdeal.τ).loc Cert.DHxRefIdeal.main_arg0))
    (m' ((c.tc : Thread Cert.DHxRefIdeal.nD Cert.DHxRefIdeal.τ).loc Cert.DHxRefIdeal.main_arg1))
    (m' ((c.tc : Thread Cert.DHxRefIdeal.nD Cert.DHxRefIdeal.τ).loc Cert.DHxRefIdeal.main_arg2)), ?_,
    (θ_run _ _ _).mono (fun r h c => ⟨(h c).1.trans (val_main_v40_eq m' c), (h c).2⟩) (Cert.DHxRefIdeal.Value.run (F := Ideal) m' g')⟩
  refine (θ_run _ _ _).mono (fun r h c => ⟨(h c).1.trans ?_, (h c).2.1.trans ?_, (h c).2.2⟩) (Cert.DHxIdeal.Value.run_blocks m g)
  · rw [result_rows]
    have a := hargs c
    rw [← a.1, ← a.2.1, ← a.2.2.1, ← a.2.2.2.1, ← a.2.2.2.2]
  · rw [result_gains]
    have a := hargs c
    rw [← a.1, ← a.2.1, ← a.2.2.1]

end Cert.Proof.DHx

end
-- ==== Proof.lean ====
module

public import proofs.«01_k».proof.Defs
public import proofs.«01_k».proof.Proof.Gen.Pre_finite
public import proofs.«01_k».proof.Proof.Gen.ReferenceIdeal.Run
public import proofs.«01_k».proof.Proof.Gen.ReferenceIdeal.Read
public import proofs.«01_k».proof.Proof.FrameKernel
public import proofs.«01_k».proof.Proof.Gen.KernelIdeal.Frame
public import proofs.«01_k».proof.Proof.Gen.KernelIdeal.Skeleton
public import proofs.«01_k».proof.Proof.Gen.KernelIdeal.Loops
public import proofs.«01_k».proof.Proof.Run
public import proofs.«01_k».proof.Proof.Value
public import proofs.«01_k».proof.Proof.DwIn
public import proofs.«01_k».proof.Proof.DwFf2
public import proofs.«01_k».proof.Proof.DwFf1
public import proofs.«01_k».proof.Proof.DA2
public import proofs.«01_k».proof.Proof.Ff1
public import proofs.«01_k».proof.Proof.Ff2
public import proofs.«01_k».proof.Proof.Proj
public import proofs.«01_k».proof.Proof.Out
public import proofs.«01_k».proof.Proof.Xo
public import proofs.«01_k».proof.Proof.Xq
public import proofs.«01_k».proof.Proof.DO2
public import proofs.«01_k».proof.Proof.DMerged
public import proofs.«01_k».proof.Proof.DwXo
public import proofs.«01_k».proof.Proof.DwXq
public import proofs.«01_k».proof.Proof.DwOut
public import proofs.«01_k».proof.Proof.DHf
public import proofs.«01_k».proof.Proof.DH
public import proofs.«01_k».proof.Proof.DHx

@[expose] public section

noncomputable section

namespace Cert.Proof

open Idealize.ShloMosaic Idealize.SL.Sem

/-- The reference's run read at its arguments; it declares no semaphore. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run Cert.ReferenceIdeal.defs _ _).mono (fun r h => ⟨fun c => (h c).2.2.2.2.2,
      sem_eq_zero_of_no_sems (by decide) r.2⟩)
    (Cert.ReferenceIdeal.Value.run (F := Ideal) m ρ)

/-- The reference's result from arguments equal to those in its memory. -/
theorem result_92 (m : (ℓ : Loc Cert.ReferenceIdeal.nD Cert.ReferenceIdeal.τ Cert.ReferenceIdeal.sig) → Buf (Elt Ideal) ℓ) (c : Dev Cert.ReferenceIdeal.nD)
    {x0 : FVec Ideal Cert.ReferenceIdeal.S2048x1536 .bf16} {x1 : FVec Ideal Cert.ReferenceIdeal.S2048x8 .f32} {x2 : FVec Ideal Cert.ReferenceIdeal.S2048x512 .f32}
    (a0 : m ((c.tc : Thread Cert.ReferenceIdeal.nD Cert.ReferenceIdeal.τ).loc Cert.ReferenceIdeal.main_arg0) = x0) (a1 : m ((c.tc : Thread Cert.ReferenceIdeal.nD Cert.ReferenceIdeal.τ).loc Cert.ReferenceIdeal.main_arg1) = x1)
    (a2 : m ((c.tc : Thread Cert.ReferenceIdeal.nD Cert.ReferenceIdeal.τ).loc Cert.ReferenceIdeal.main_arg2) = x2) :
    Cert.ReferenceIdeal.Read.val_main_v92 (F := Ideal) x0 x1 x2 = Cert.ReferenceIdeal.Value.res_main_v92 m c := by
  subst a0 a1 a2
  exact (Cert.ReferenceIdeal.Read.val_main_v92_eq m c).symm

/-- The reference's result from arguments equal to those in its memory. -/
theorem result_94 (m : (ℓ : Loc Cert.ReferenceIdeal.nD Cert.ReferenceIdeal.τ Cert.ReferenceIdeal.sig) → Buf (Elt Ideal) ℓ) (c : Dev Cert.ReferenceIdeal.nD)
    {x0 : FVec Ideal Cert.ReferenceIdeal.S2048x1536 .bf16} {x1 : FVec Ideal Cert.ReferenceIdeal.S2048x8 .f32} {x2 : FVec Ideal Cert.ReferenceIdeal.S2048x512 .f32}
    (a0 : m ((c.tc : Thread Cert.ReferenceIdeal.nD Cert.ReferenceIdeal.τ).loc Cert.ReferenceIdeal.main_arg0) = x0) (a1 : m ((c.tc : Thread Cert.ReferenceIdeal.nD Cert.ReferenceIdeal.τ).loc Cert.ReferenceIdeal.main_arg1) = x1)
    (a2 : m ((c.tc : Thread Cert.ReferenceIdeal.nD Cert.ReferenceIdeal.τ).loc Cert.ReferenceIdeal.main_arg2) = x2) :
    Cert.ReferenceIdeal.Read.val_main_v94 (F := Ideal) x0 x1 x2 = Cert.ReferenceIdeal.Value.res_main_v94 m c := by
  subst a0 a1 a2
  exact (Cert.ReferenceIdeal.Read.val_main_v94_eq m c).symm

/-- The reference's result from arguments equal to those in its memory. -/
theorem result_96 (m : (ℓ : Loc Cert.ReferenceIdeal.nD Cert.ReferenceIdeal.τ Cert.ReferenceIdeal.sig) → Buf (Elt Ideal) ℓ) (c : Dev Cert.ReferenceIdeal.nD)
    {x0 : FVec Ideal Cert.ReferenceIdeal.S2048x1536 .bf16} {x1 : FVec Ideal Cert.ReferenceIdeal.S2048x8 .f32} {x2 : FVec Ideal Cert.ReferenceIdeal.S2048x512 .f32}
    (a0 : m ((c.tc : Thread Cert.ReferenceIdeal.nD Cert.ReferenceIdeal.τ).loc Cert.ReferenceIdeal.main_arg0) = x0) (a1 : m ((c.tc : Thread Cert.ReferenceIdeal.nD Cert.ReferenceIdeal.τ).loc Cert.ReferenceIdeal.main_arg1) = x1)
    (a2 : m ((c.tc : Thread Cert.ReferenceIdeal.nD Cert.ReferenceIdeal.τ).loc Cert.ReferenceIdeal.main_arg2) = x2) :
    Cert.ReferenceIdeal.Read.val_main_v96 (F := Ideal) x0 x1 x2 = Cert.ReferenceIdeal.Value.res_main_v96 m c := by
  subst a0 a1 a2
  exact (Cert.ReferenceIdeal.Read.val_main_v96_eq m c).symm

/-- The reference's result from arguments equal to those in its memory. -/
theorem result_98 (m : (ℓ : Loc Cert.ReferenceIdeal.nD Cert.ReferenceIdeal.τ Cert.ReferenceIdeal.sig) → Buf (Elt Ideal) ℓ) (c : Dev Cert.ReferenceIdeal.nD)
    {x0 : FVec Ideal Cert.ReferenceIdeal.S2048x1536 .bf16} {x1 : FVec Ideal Cert.ReferenceIdeal.S2048x8 .f32} {x2 : FVec Ideal Cert.ReferenceIdeal.S2048x512 .f32}
    (a0 : m ((c.tc : Thread Cert.ReferenceIdeal.nD Cert.ReferenceIdeal.τ).loc Cert.ReferenceIdeal.main_arg0) = x0) (a1 : m ((c.tc : Thread Cert.ReferenceIdeal.nD Cert.ReferenceIdeal.τ).loc Cert.ReferenceIdeal.main_arg1) = x1)
    (a2 : m ((c.tc : Thread Cert.ReferenceIdeal.nD Cert.ReferenceIdeal.τ).loc Cert.ReferenceIdeal.main_arg2) = x2) :
    Cert.ReferenceIdeal.Read.val_main_v98 (F := Ideal) x0 x1 x2 = Cert.ReferenceIdeal.Value.res_main_v98 m c := by
  subst a0 a1 a2
  exact (Cert.ReferenceIdeal.Read.val_main_v98_eq m c).symm

/-- The reference's result from arguments equal to those in its memory. -/
theorem result_100 (m : (ℓ : Loc Cert.ReferenceIdeal.nD Cert.ReferenceIdeal.τ Cert.ReferenceIdeal.sig) → Buf (Elt Ideal) ℓ) (c : Dev Cert.ReferenceIdeal.nD)
    {x0 : FVec Ideal Cert.ReferenceIdeal.S2048x1536 .bf16} {x1 : FVec Ideal Cert.ReferenceIdeal.S2048x8 .f32} {x2 : FVec Ideal Cert.ReferenceIdeal.S2048x512 .f32}
    (a0 : m ((c.tc : Thread Cert.ReferenceIdeal.nD Cert.ReferenceIdeal.τ).loc Cert.ReferenceIdeal.main_arg0) = x0) (a1 : m ((c.tc : Thread Cert.ReferenceIdeal.nD Cert.ReferenceIdeal.τ).loc Cert.ReferenceIdeal.main_arg1) = x1)
    (a2 : m ((c.tc : Thread Cert.ReferenceIdeal.nD Cert.ReferenceIdeal.τ).loc Cert.ReferenceIdeal.main_arg2) = x2) :
    Cert.ReferenceIdeal.Read.val_main_v100 (F := Ideal) x0 x1 x2 = Cert.ReferenceIdeal.Value.res_main_v100 m c := by
  subst a0 a1 a2
  exact (Cert.ReferenceIdeal.Read.val_main_v100_eq m c).symm

set_option maxHeartbeats 4000000 in
/-- The idealized kernel and the idealized reference end with equal results. -/
theorem algebraic : letI := Cert.KernelIdeal.Gen.facts; letI := Cert.ReferenceIdeal.Gen.facts; letI := Cert.Pre_finite.Gen.facts
    Cert.algebraic_KernelIdeal_ReferenceIdeal_pre_finite := by
  intro m g m' g' hp hargs
  refine ⟨fun c => Cert.ReferenceIdeal.Value.res_main_v92 m' c, fun c => Cert.ReferenceIdeal.Value.res_main_v94 m' c,
    fun c => Cert.ReferenceIdeal.Value.res_main_v96 m' c, fun c => Cert.ReferenceIdeal.Value.res_main_v98 m' c,
    fun c => Cert.ReferenceIdeal.Value.res_main_v100 m' c, ?_, Cert.ReferenceIdeal.Value.run (F := Ideal) m' g'⟩
  refine (θ_run _ _ _).mono (fun r h c => ?_) (KernelIdeal.run_main m g)
  have a := hargs c
  have f := KernelIdeal.arrays m c (hp c)
  exact ⟨((h.1 c).1 8).trans (f.1.trans (result_92 m' c a.1 a.2.1 a.2.2)), ((h.1 c).1 9).trans (f.2.1.trans (result_94 m' c a.1 a.2.1 a.2.2)),
    ((h.1 c).1 10).trans (f.2.2.1.trans (result_96 m' c a.1 a.2.1 a.2.2)), ((h.1 c).1 11).trans (f.2.2.2.1.trans (result_98 m' c a.1 a.2.1 a.2.2)),
    ((h.1 c).1 12).trans (f.2.2.2.2.trans (result_100 m' c a.1 a.2.1 a.2.2)), KernelIdeal.args_kept h.1 c⟩

/-- The attention's backward pass and the eighteen products: every claim stated. -/
theorem claim : Cert.Claim := ⟨Cert.Kernel.Gen.facts, Cert.KernelIdeal.Gen.facts, Cert.ReferenceIdeal.Gen.facts,
  Cert.DwIn.Gen.facts, Cert.DwInIdeal.Gen.facts, Cert.DwInRefIdeal.Gen.facts,
  Cert.DwFf2.Gen.facts, Cert.DwFf2Ideal.Gen.facts, Cert.DwFf2RefIdeal.Gen.facts,
  Cert.DwFf1.Gen.facts, Cert.DwFf1Ideal.Gen.facts, Cert.DwFf1RefIdeal.Gen.facts,
  Cert.DA2.Gen.facts, Cert.DA2Ideal.Gen.facts, Cert.DA2RefIdeal.Gen.facts,
  Cert.Ff1.Gen.facts, Cert.Ff1Ideal.Gen.facts, Cert.Ff1RefIdeal.Gen.facts,
  Cert.Ff2.Gen.facts, Cert.Ff2Ideal.Gen.facts, Cert.Ff2RefIdeal.Gen.facts,
  Cert.Proj.Gen.facts, Cert.ProjIdeal.Gen.facts, Cert.ProjRefIdeal.Gen.facts,
  Cert.Out.Gen.facts, Cert.OutIdeal.Gen.facts, Cert.OutRefIdeal.Gen.facts,
  Cert.Xo.Gen.facts, Cert.XoIdeal.Gen.facts, Cert.XoRefIdeal.Gen.facts,
  Cert.Xq.Gen.facts, Cert.XqIdeal.Gen.facts, Cert.XqRefIdeal.Gen.facts,
  Cert.DO2.Gen.facts, Cert.DO2Ideal.Gen.facts, Cert.DO2RefIdeal.Gen.facts,
  Cert.DMerged.Gen.facts, Cert.DMergedIdeal.Gen.facts, Cert.DMergedRefIdeal.Gen.facts,
  Cert.DwXo.Gen.facts, Cert.DwXoIdeal.Gen.facts, Cert.DwXoRefIdeal.Gen.facts,
  Cert.DwXq.Gen.facts, Cert.DwXqIdeal.Gen.facts, Cert.DwXqRefIdeal.Gen.facts,
  Cert.DwOut.Gen.facts, Cert.DwOutIdeal.Gen.facts, Cert.DwOutRefIdeal.Gen.facts,
  Cert.DHf.Gen.facts, Cert.DHfIdeal.Gen.facts, Cert.DHfRefIdeal.Gen.facts,
  Cert.DH.Gen.facts, Cert.DHIdeal.Gen.facts, Cert.DHRefIdeal.Gen.facts,
  Cert.DHx.Gen.facts, Cert.DHxIdeal.Gen.facts, Cert.DHxRefIdeal.Gen.facts,
  Cert.Pre_finite.Gen.facts,
  fun m ρ _ => Kernel.frame m ρ, fun m ρ _ => KernelIdeal.frame m ρ, fun m ρ _ => KernelIdeal.frame m ρ,
  fun m ρ _ => frame_reference m ρ, fun m ρ _ => frame_reference m ρ,
  DwIn.frame_kernel, DwIn.frame_ideal, DwIn.frame_reference,
  DwFf2.frame_kernel, DwFf2.frame_ideal, DwFf2.frame_reference,
  DwFf1.frame_kernel, DwFf1.frame_ideal, DwFf1.frame_reference,
  DA2.frame_kernel, DA2.frame_ideal, DA2.frame_reference,
  Ff1.frame_kernel, Ff1.frame_ideal, Ff1.frame_reference,
  Ff2.frame_kernel, Ff2.frame_ideal, Ff2.frame_reference,
  Proj.frame_kernel, Proj.frame_ideal, Proj.frame_reference,
  Out.frame_kernel, Out.frame_ideal, Out.frame_reference,
  Xo.frame_kernel, Xo.frame_ideal, Xo.frame_reference,
  Xq.frame_kernel, Xq.frame_ideal, Xq.frame_reference,
  DO2.frame_kernel, DO2.frame_ideal, DO2.frame_reference,
  DMerged.frame_kernel, DMerged.frame_ideal, DMerged.frame_reference,
  DwXo.frame_kernel, DwXo.frame_ideal, DwXo.frame_reference,
  DwXq.frame_kernel, DwXq.frame_ideal, DwXq.frame_reference,
  DwOut.frame_kernel, DwOut.frame_ideal, DwOut.frame_reference,
  DHf.frame_kernel, DHf.frame_ideal, DHf.frame_reference,
  DH.frame_kernel, DH.frame_ideal, DH.frame_reference,
  DHx.frame_kernel, DHx.frame_ideal, DHx.frame_reference,
  IdealRules.named_const.statement Cert.KernelIdeal.κ "mask" .f32 0xF149F2CA#32 ⊥ rfl, algebraic,
  trivial, DwIn.algebraic,
  trivial, DwFf2.algebraic,
  trivial, DwFf1.algebraic,
  trivial, DA2.algebraic,
  trivial, Ff1.algebraic,
  trivial, Ff2.algebraic,
  trivial, Proj.algebraic,
  trivial, Out.algebraic,
  trivial, Xo.algebraic,
  trivial, Xq.algebraic,
  trivial, DO2.algebraic,
  trivial, DMerged.algebraic,
  trivial, DwXo.algebraic,
  trivial, DwXq.algebraic,
  trivial, DwOut.algebraic,
  trivial, DHf.algebraic,
  trivial, DH.algebraic,
  trivial, DHx.algebraic⟩

end Cert.Proof

end
